-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinReferenceIdeal (m : (ℓ : Loc Cert.DwinReferenceIdeal.nD Cert.DwinReferenceIdeal.τ Cert.DwinReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxReferenceIdeal (m : (ℓ : Loc Cert.DxReferenceIdeal.nD Cert.DxReferenceIdeal.τ Cert.DxReferenceIdeal.sig) → Buf (Elt Ideal) ℓ) : Prop :=
  True

def Pre_Dy (m : (ℓ : Loc Cert.Dy.nD Cert.Dy.τ Cert.Dy.sig) → Buf (Elt Bits) ℓ) : Prop :=
  True

def Pre_DyIdeal (m : (ℓ : Loc Cert.DyIdeal.nD Cert.DyIdeal.τ Cert.DyIdeal.sig) → Buf (Elt Ideal) ℓ) : Prop :=
  True

def Pre_DyIdeal_finite_dy [hPre_finite_dy : Cert.Pre_finite_dy.Facts] (m : (ℓ : Loc Cert.DyIdeal.nD Cert.DyIdeal.τ Cert.DyIdeal.sig) → Buf (Elt Ideal) ℓ) : Prop :=
  ∀ c : Dev Cert.DyIdeal.nD,
    (Cert.Pre_finite_dy.fn (F := Ideal) (m ((c.tc : Thread Cert.DyIdeal.nD Cert.DyIdeal.τ).loc Cert.DyIdeal.main_arg0)) (m ((c.tc : Thread Cert.DyIdeal.nD Cert.DyIdeal.τ).loc Cert.DyIdeal.main_arg1)) (m ((c.tc : Thread Cert.DyIdeal.nD Cert.DyIdeal.τ).loc Cert.DyIdeal.main_arg2)) (m ((c.tc : Thread Cert.DyIdeal.nD Cert.DyIdeal.τ).loc Cert.DyIdeal.main_arg3)) (m ((c.tc : Thread Cert.DyIdeal.nD Cert.DyIdeal.τ).loc Cert.DyIdeal.main_arg4)) (m ((c.tc : Thread Cert.DyIdeal.nD Cert.DyIdeal.τ).loc Cert.DyIdeal.main_arg5))) = (fun _ => 1#1)

def Pre_DyReferenceIdeal (m : (ℓ : Loc Cert.DyReferenceIdeal.nD Cert.DyReferenceIdeal.τ Cert.DyReferenceIdeal.sig) → Buf (Elt Ideal) ℓ) : Prop :=
  True

def Pre_DyReferenceIdeal_finite_dy [hPre_finite_dy : Cert.Pre_finite_dy.Facts] (m : (ℓ : Loc Cert.DyReferenceIdeal.nD Cert.DyReferenceIdeal.τ Cert.DyReferenceIdeal.sig) → Buf (Elt Ideal) ℓ) : Prop :=
  ∀ c : Dev Cert.DyReferenceIdeal.nD,
    (Cert.Pre_finite_dy.fn (F := Ideal) (m ((c.tc : Thread Cert.DyReferenceIdeal.nD Cert.DyReferenceIdeal.τ).loc Cert.DyReferenceIdeal.main_arg0)) (m ((c.tc : Thread Cert.DyReferenceIdeal.nD Cert.DyReferenceIdeal.τ).loc Cert.DyReferenceIdeal.main_arg1)) (m ((c.tc : Thread Cert.DyReferenceIdeal.nD Cert.DyReferenceIdeal.τ).loc Cert.DyReferenceIdeal.main_arg2)) (m ((c.tc : Thread Cert.DyReferenceIdeal.nD Cert.DyReferenceIdeal.τ).loc Cert.DyReferenceIdeal.main_arg3)) (m ((c.tc : Thread Cert.DyReferenceIdeal.nD Cert.DyReferenceIdeal.τ).loc Cert.DyReferenceIdeal.main_arg4)) (m ((c.tc : Thread Cert.DyReferenceIdeal.nD Cert.DyReferenceIdeal.τ).loc Cert.DyReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1)
      ∧ r.2.mem ((c.tc : Thread Cert.Dwin.nD Cert.Dwin.τ).loc Cert.Dwin.main_arg2) = m ((c.tc : Thread Cert.Dwin.nD Cert.Dwin.τ).loc Cert.Dwin.main_arg2)
      ∧ r.2.mem ((c.tc : Thread Cert.Dwin.nD Cert.Dwin.τ).loc Cert.Dwin.main_arg3) = m ((c.tc : Thread Cert.Dwin.nD Cert.Dwin.τ).loc Cert.Dwin.main_arg3)
      ∧ r.2.mem ((c.tc : Thread Cert.Dwin.nD Cert.Dwin.τ).loc Cert.Dwin.main_arg4) = m ((c.tc : Thread Cert.Dwin.nD Cert.Dwin.τ).loc Cert.Dwin.main_arg4)
      ∧ r.2.mem ((c.tc : Thread Cert.Dwin.nD Cert.Dwin.τ).loc Cert.Dwin.main_arg5) = m ((c.tc : Thread Cert.Dwin.nD Cert.Dwin.τ).loc Cert.Dwin.main_arg5)
      ∧ r.2.mem ((c.tc : Thread Cert.Dwin.nD Cert.Dwin.τ).loc Cert.Dwin.main_arg6) = m ((c.tc : Thread Cert.Dwin.nD Cert.Dwin.τ).loc Cert.Dwin.main_arg6)
      ∧ r.2.mem ((c.tc : Thread Cert.Dwin.nD Cert.Dwin.τ).loc Cert.Dwin.main_arg7) = m ((c.tc : Thread Cert.Dwin.nD Cert.Dwin.τ).loc Cert.Dwin.main_arg7)
      ∧ r.2.mem ((c.tc : Thread Cert.Dwin.nD Cert.Dwin.τ).loc Cert.Dwin.main_arg8) = m ((c.tc : Thread Cert.Dwin.nD Cert.Dwin.τ).loc Cert.Dwin.main_arg8))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1)
      ∧ r.2.mem ((c.tc : Thread Cert.DwinIdeal.nD Cert.DwinIdeal.τ).loc Cert.DwinIdeal.main_arg2) = m ((c.tc : Thread Cert.DwinIdeal.nD Cert.DwinIdeal.τ).loc Cert.DwinIdeal.main_arg2)
      ∧ r.2.mem ((c.tc : Thread Cert.DwinIdeal.nD Cert.DwinIdeal.τ).loc Cert.DwinIdeal.main_arg3) = m ((c.tc : Thread Cert.DwinIdeal.nD Cert.DwinIdeal.τ).loc Cert.DwinIdeal.main_arg3)
      ∧ r.2.mem ((c.tc : Thread Cert.DwinIdeal.nD Cert.DwinIdeal.τ).loc Cert.DwinIdeal.main_arg4) = m ((c.tc : Thread Cert.DwinIdeal.nD Cert.DwinIdeal.τ).loc Cert.DwinIdeal.main_arg4)
      ∧ r.2.mem ((c.tc : Thread Cert.DwinIdeal.nD Cert.DwinIdeal.τ).loc Cert.DwinIdeal.main_arg5) = m ((c.tc : Thread Cert.DwinIdeal.nD Cert.DwinIdeal.τ).loc Cert.DwinIdeal.main_arg5)
      ∧ r.2.mem ((c.tc : Thread Cert.DwinIdeal.nD Cert.DwinIdeal.τ).loc Cert.DwinIdeal.main_arg6) = m ((c.tc : Thread Cert.DwinIdeal.nD Cert.DwinIdeal.τ).loc Cert.DwinIdeal.main_arg6)
      ∧ r.2.mem ((c.tc : Thread Cert.DwinIdeal.nD Cert.DwinIdeal.τ).loc Cert.DwinIdeal.main_arg7) = m ((c.tc : Thread Cert.DwinIdeal.nD Cert.DwinIdeal.τ).loc Cert.DwinIdeal.main_arg7)
      ∧ r.2.mem ((c.tc : Thread Cert.DwinIdeal.nD Cert.DwinIdeal.τ).loc Cert.DwinIdeal.main_arg8) = m ((c.tc : Thread Cert.DwinIdeal.nD Cert.DwinIdeal.τ).loc Cert.DwinIdeal.main_arg8))
      ∧ r.2.sem = fun _ => 0)

def quiescent_DwinReferenceIdeal [hDwinReferenceIdeal : Cert.DwinReferenceIdeal.Facts] : Prop :=
  ∀ (m : (ℓ : Loc Cert.DwinReferenceIdeal.nD Cert.DwinReferenceIdeal.τ Cert.DwinReferenceIdeal.sig) → Buf (Elt Ideal) ℓ) (g : Dev Cert.DwinReferenceIdeal.nD → PrngReg), Pre_DwinReferenceIdeal m →
    θ_run (Cert.DwinReferenceIdeal.defs (F := Ideal)) (onTc (τ := Cert.DwinReferenceIdeal.τ) (Cert.DwinReferenceIdeal.main (F := Ideal))) ⟨m, fun _ => 0, g⟩ (fun r => (∀ c : Dev Cert.DwinReferenceIdeal.nD,
      r.2.mem ((c.tc : Thread Cert.DwinReferenceIdeal.nD Cert.DwinReferenceIdeal.τ).loc Cert.DwinReferenceIdeal.main_arg0) = m ((c.tc : Thread Cert.DwinReferenceIdeal.nD Cert.DwinReferenceIdeal.τ).loc Cert.DwinReferenceIdeal.main_arg0)
      ∧ r.2.mem ((c.tc : Thread Cert.DwinReferenceIdeal.nD Cert.DwinReferenceIdeal.τ).loc Cert.DwinReferenceIdeal.main_arg1) = m ((c.tc : Thread Cert.DwinReferenceIdeal.nD Cert.DwinReferenceIdeal.τ).loc Cert.DwinReferenceIdeal.main_arg1)
      ∧ r.2.mem ((c.tc : Thread Cert.DwinReferenceIdeal.nD Cert.DwinReferenceIdeal.τ).loc Cert.DwinReferenceIdeal.main_arg2) = m ((c.tc : Thread Cert.DwinReferenceIdeal.nD Cert.DwinReferenceIdeal.τ).loc Cert.DwinReferenceIdeal.main_arg2)
      ∧ r.2.mem ((c.tc : Thread Cert.DwinReferenceIdeal.nD Cert.DwinReferenceIdeal.τ).loc Cert.DwinReferenceIdeal.main_arg3) = m ((c.tc : Thread Cert.DwinReferenceIdeal.nD Cert.DwinReferenceIdeal.τ).loc Cert.DwinReferenceIdeal.main_arg3)
      ∧ r.2.mem ((c.tc : Thread Cert.DwinReferenceIdeal.nD Cert.DwinReferenceIdeal.τ).loc Cert.DwinReferenceIdeal.main_arg4) = m ((c.tc : Thread Cert.DwinReferenceIdeal.nD Cert.DwinReferenceIdeal.τ).loc Cert.DwinReferenceIdeal.main_arg4)
      ∧ r.2.mem ((c.tc : Thread Cert.DwinReferenceIdeal.nD Cert.DwinReferenceIdeal.τ).loc Cert.DwinReferenceIdeal.main_arg5) = m ((c.tc : Thread Cert.DwinReferenceIdeal.nD Cert.DwinReferenceIdeal.τ).loc Cert.DwinReferenceIdeal.main_arg5)
      ∧ r.2.mem ((c.tc : Thread Cert.DwinReferenceIdeal.nD Cert.DwinReferenceIdeal.τ).loc Cert.DwinReferenceIdeal.main_arg6) = m ((c.tc : Thread Cert.DwinReferenceIdeal.nD Cert.DwinReferenceIdeal.τ).loc Cert.DwinReferenceIdeal.main_arg6)
      ∧ r.2.mem ((c.tc : Thread Cert.DwinReferenceIdeal.nD Cert.DwinReferenceIdeal.τ).loc Cert.DwinReferenceIdeal.main_arg7) = m ((c.tc : Thread Cert.DwinReferenceIdeal.nD Cert.DwinReferenceIdeal.τ).loc Cert.DwinReferenceIdeal.main_arg7)
      ∧ r.2.mem ((c.tc : Thread Cert.DwinReferenceIdeal.nD Cert.DwinReferenceIdeal.τ).loc Cert.DwinReferenceIdeal.main_arg8) = m ((c.tc : Thread Cert.DwinReferenceIdeal.nD Cert.DwinReferenceIdeal.τ).loc Cert.DwinReferenceIdeal.main_arg8))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5)
      ∧ r.2.mem ((c.tc : Thread Cert.Dx.nD Cert.Dx.τ).loc Cert.Dx.main_arg6) = m ((c.tc : Thread Cert.Dx.nD Cert.Dx.τ).loc Cert.Dx.main_arg6)
      ∧ r.2.mem ((c.tc : Thread Cert.Dx.nD Cert.Dx.τ).loc Cert.Dx.main_arg7) = m ((c.tc : Thread Cert.Dx.nD Cert.Dx.τ).loc Cert.Dx.main_arg7)
      ∧ r.2.mem ((c.tc : Thread Cert.Dx.nD Cert.Dx.τ).loc Cert.Dx.main_arg8) = m ((c.tc : Thread Cert.Dx.nD Cert.Dx.τ).loc Cert.Dx.main_arg8)
      ∧ r.2.mem ((c.tc : Thread Cert.Dx.nD Cert.Dx.τ).loc Cert.Dx.main_arg9) = m ((c.tc : Thread Cert.Dx.nD Cert.Dx.τ).loc Cert.Dx.main_arg9)
      ∧ r.2.mem ((c.tc : Thread Cert.Dx.nD Cert.Dx.τ).loc Cert.Dx.main_arg10) = m ((c.tc : Thread Cert.Dx.nD Cert.Dx.τ).loc Cert.Dx.main_arg10)
      ∧ r.2.mem ((c.tc : Thread Cert.Dx.nD Cert.Dx.τ).loc Cert.Dx.main_arg11) = m ((c.tc : Thread Cert.Dx.nD Cert.Dx.τ).loc Cert.Dx.main_arg11))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
      ∧ r.2.mem ((c.tc : Thread Cert.DxIdeal.nD Cert.DxIdeal.τ).loc Cert.DxIdeal.main_arg7) = m ((c.tc : Thread Cert.DxIdeal.nD Cert.DxIdeal.τ).loc Cert.DxIdeal.main_arg7)
      ∧ r.2.mem ((c.tc : Thread Cert.DxIdeal.nD Cert.DxIdeal.τ).loc Cert.DxIdeal.main_arg8) = m ((c.tc : Thread Cert.DxIdeal.nD Cert.DxIdeal.τ).loc Cert.DxIdeal.main_arg8)
      ∧ r.2.mem ((c.tc : Thread Cert.DxIdeal.nD Cert.DxIdeal.τ).loc Cert.DxIdeal.main_arg9) = m ((c.tc : Thread Cert.DxIdeal.nD Cert.DxIdeal.τ).loc Cert.DxIdeal.main_arg9)
      ∧ r.2.mem ((c.tc : Thread Cert.DxIdeal.nD Cert.DxIdeal.τ).loc Cert.DxIdeal.main_arg10) = m ((c.tc : Thread Cert.DxIdeal.nD Cert.DxIdeal.τ).loc Cert.DxIdeal.main_arg10)
      ∧ r.2.mem ((c.tc : Thread Cert.DxIdeal.nD Cert.DxIdeal.τ).loc Cert.DxIdeal.main_arg11) = m ((c.tc : Thread Cert.DxIdeal.nD Cert.DxIdeal.τ).loc Cert.DxIdeal.main_arg11))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3)
      ∧ r.2.mem ((c.tc : Thread Cert.DxReferenceIdeal.nD Cert.DxReferenceIdeal.τ).loc Cert.DxReferenceIdeal.main_arg4) = m ((c.tc : Thread Cert.DxReferenceIdeal.nD Cert.DxReferenceIdeal.τ).loc Cert.DxReferenceIdeal.main_arg4)
      ∧ r.2.mem ((c.tc : Thread Cert.DxReferenceIdeal.nD Cert.DxReferenceIdeal.τ).loc Cert.DxReferenceIdeal.main_arg5) = m ((c.tc : Thread Cert.DxReferenceIdeal.nD Cert.DxReferenceIdeal.τ).loc Cert.DxReferenceIdeal.main_arg5)
      ∧ r.2.mem ((c.tc : Thread Cert.DxReferenceIdeal.nD Cert.DxReferenceIdeal.τ).loc Cert.DxReferenceIdeal.main_arg6) = m ((c.tc : Thread Cert.DxReferenceIdeal.nD Cert.DxReferenceIdeal.τ).loc Cert.DxReferenceIdeal.main_arg6)
      ∧ r.2.mem ((c.tc : Thread Cert.DxReferenceIdeal.nD Cert.DxReferenceIdeal.τ).loc Cert.DxReferenceIdeal.main_arg7) = m ((c.tc : Thread Cert.DxReferenceIdeal.nD Cert.DxReferenceIdeal.τ).loc Cert.DxReferenceIdeal.main_arg7)
      ∧ r.2.mem ((c.tc : Thread Cert.DxReferenceIdeal.nD Cert.DxReferenceIdeal.τ).loc Cert.DxReferenceIdeal.main_arg8) = m ((c.tc : Thread Cert.DxReferenceIdeal.nD Cert.DxReferenceIdeal.τ).loc Cert.DxReferenceIdeal.main_arg8)
      ∧ r.2.mem ((c.tc : Thread Cert.DxReferenceIdeal.nD Cert.DxReferenceIdeal.τ).loc Cert.DxReferenceIdeal.main_arg9) = m ((c.tc : Thread Cert.DxReferenceIdeal.nD Cert.DxReferenceIdeal.τ).loc Cert.DxReferenceIdeal.main_arg9)
      ∧ r.2.mem ((c.tc : Thread Cert.DxReferenceIdeal.nD Cert.DxReferenceIdeal.τ).loc Cert.DxReferenceIdeal.main_arg10) = m ((c.tc : Thread Cert.DxReferenceIdeal.nD Cert.DxReferenceIdeal.τ).loc Cert.DxReferenceIdeal.main_arg10)
      ∧ r.2.mem ((c.tc : Thread Cert.DxReferenceIdeal.nD Cert.DxReferenceIdeal.τ).loc Cert.DxReferenceIdeal.main_arg11) = m ((c.tc : Thread Cert.DxReferenceIdeal.nD Cert.DxReferenceIdeal.τ).loc Cert.DxReferenceIdeal.main_arg11))
      ∧ r.2.sem = fun _ => 0)

def quiescent_Dy [hDy : Cert.Dy.Facts] : Prop :=
  ∀ (m : (ℓ : Loc Cert.Dy.nD Cert.Dy.τ Cert.Dy.sig) → Buf (Elt Bits) ℓ) (g : Dev Cert.Dy.nD → PrngReg), Pre_Dy m →
    θ_run (Cert.Dy.defs (F := Bits)) (onTc (τ := Cert.Dy.τ) (Cert.Dy.main (F := Bits))) ⟨m, fun _ => 0, g⟩ (fun r => (∀ c : Dev Cert.Dy.nD,
      r.2.mem ((c.tc : Thread Cert.Dy.nD Cert.Dy.τ).loc Cert.Dy.main_arg0) = m ((c.tc : Thread Cert.Dy.nD Cert.Dy.τ).loc Cert.Dy.main_arg0)
      ∧ r.2.mem ((c.tc : Thread Cert.Dy.nD Cert.Dy.τ).loc Cert.Dy.main_arg1) = m ((c.tc : Thread Cert.Dy.nD Cert.Dy.τ).loc Cert.Dy.main_arg1)
      ∧ r.2.mem ((c.tc : Thread Cert.Dy.nD Cert.Dy.τ).loc Cert.Dy.main_arg2) = m ((c.tc : Thread Cert.Dy.nD Cert.Dy.τ).loc Cert.Dy.main_arg2)
      ∧ r.2.mem ((c.tc : Thread Cert.Dy.nD Cert.Dy.τ).loc Cert.Dy.main_arg3) = m ((c.tc : Thread Cert.Dy.nD Cert.Dy.τ).loc Cert.Dy.main_arg3)
      ∧ r.2.mem ((c.tc : Thread Cert.Dy.nD Cert.Dy.τ).loc Cert.Dy.main_arg4) = m ((c.tc : Thread Cert.Dy.nD Cert.Dy.τ).loc Cert.Dy.main_arg4)
      ∧ r.2.mem ((c.tc : Thread Cert.Dy.nD Cert.Dy.τ).loc Cert.Dy.main_arg5) = m ((c.tc : Thread Cert.Dy.nD Cert.Dy.τ).loc Cert.Dy.main_arg5))
      ∧ r.2.sem = fun _ => 0)

def quiescent_DyIdeal [hDyIdeal : Cert.DyIdeal.Facts] : Prop :=
  ∀ (m : (ℓ : Loc Cert.DyIdeal.nD Cert.DyIdeal.τ Cert.DyIdeal.sig) → Buf (Elt Ideal) ℓ) (g : Dev Cert.DyIdeal.nD → PrngReg), Pre_DyIdeal m →
    θ_run (Cert.DyIdeal.defs (F := Ideal)) (onTc (τ := Cert.DyIdeal.τ) (Cert.DyIdeal.main (F := Ideal))) ⟨m, fun _ => 0, g⟩ (fun r => (∀ c : Dev Cert.DyIdeal.nD,
      r.2.mem ((c.tc : Thread Cert.DyIdeal.nD Cert.DyIdeal.τ).loc Cert.DyIdeal.main_arg0) = m ((c.tc : Thread Cert.DyIdeal.nD Cert.DyIdeal.τ).loc Cert.DyIdeal.main_arg0)
      ∧ r.2.mem ((c.tc : Thread Cert.DyIdeal.nD Cert.DyIdeal.τ).loc Cert.DyIdeal.main_arg1) = m ((c.tc : Thread Cert.DyIdeal.nD Cert.DyIdeal.τ).loc Cert.DyIdeal.main_arg1)
      ∧ r.2.mem ((c.tc : Thread Cert.DyIdeal.nD Cert.DyIdeal.τ).loc Cert.DyIdeal.main_arg2) = m ((c.tc : Thread Cert.DyIdeal.nD Cert.DyIdeal.τ).loc Cert.DyIdeal.main_arg2)
      ∧ r.2.mem ((c.tc : Thread Cert.DyIdeal.nD Cert.DyIdeal.τ).loc Cert.DyIdeal.main_arg3) = m ((c.tc : Thread Cert.DyIdeal.nD Cert.DyIdeal.τ).loc Cert.DyIdeal.main_arg3)
      ∧ r.2.mem ((c.tc : Thread Cert.DyIdeal.nD Cert.DyIdeal.τ).loc Cert.DyIdeal.main_arg4) = m ((c.tc : Thread Cert.DyIdeal.nD Cert.DyIdeal.τ).loc Cert.DyIdeal.main_arg4)
      ∧ r.2.mem ((c.tc : Thread Cert.DyIdeal.nD Cert.DyIdeal.τ).loc Cert.DyIdeal.main_arg5) = m ((c.tc : Thread Cert.DyIdeal.nD Cert.DyIdeal.τ).loc Cert.DyIdeal.main_arg5))
      ∧ r.2.sem = fun _ => 0)

def quiescent_DyIdeal_pre_finite_dy [hDyIdeal : Cert.DyIdeal.Facts] [hPre_finite_dy : Cert.Pre_finite_dy.Facts] : Prop :=
  ∀ (m : (ℓ : Loc Cert.DyIdeal.nD Cert.DyIdeal.τ Cert.DyIdeal.sig) → Buf (Elt Ideal) ℓ) (g : Dev Cert.DyIdeal.nD → PrngReg), Pre_DyIdeal_finite_dy m →
    θ_run (Cert.DyIdeal.defs (F := Ideal)) (onTc (τ := Cert.DyIdeal.τ) (Cert.DyIdeal.main (F := Ideal))) ⟨m, fun _ => 0, g⟩ (fun r => (∀ c : Dev Cert.DyIdeal.nD,
      r.2.mem ((c.tc : Thread Cert.DyIdeal.nD Cert.DyIdeal.τ).loc Cert.DyIdeal.main_arg0) = m ((c.tc : Thread Cert.DyIdeal.nD Cert.DyIdeal.τ).loc Cert.DyIdeal.main_arg0)
      ∧ r.2.mem ((c.tc : Thread Cert.DyIdeal.nD Cert.DyIdeal.τ).loc Cert.DyIdeal.main_arg1) = m ((c.tc : Thread Cert.DyIdeal.nD Cert.DyIdeal.τ).loc Cert.DyIdeal.main_arg1)
      ∧ r.2.mem ((c.tc : Thread Cert.DyIdeal.nD Cert.DyIdeal.τ).loc Cert.DyIdeal.main_arg2) = m ((c.tc : Thread Cert.DyIdeal.nD Cert.DyIdeal.τ).loc Cert.DyIdeal.main_arg2)
      ∧ r.2.mem ((c.tc : Thread Cert.DyIdeal.nD Cert.DyIdeal.τ).loc Cert.DyIdeal.main_arg3) = m ((c.tc : Thread Cert.DyIdeal.nD Cert.DyIdeal.τ).loc Cert.DyIdeal.main_arg3)
      ∧ r.2.mem ((c.tc : Thread Cert.DyIdeal.nD Cert.DyIdeal.τ).loc Cert.DyIdeal.main_arg4) = m ((c.tc : Thread Cert.DyIdeal.nD Cert.DyIdeal.τ).loc Cert.DyIdeal.main_arg4)
      ∧ r.2.mem ((c.tc : Thread Cert.DyIdeal.nD Cert.DyIdeal.τ).loc Cert.DyIdeal.main_arg5) = m ((c.tc : Thread Cert.DyIdeal.nD Cert.DyIdeal.τ).loc Cert.DyIdeal.main_arg5))
      ∧ r.2.sem = fun _ => 0)

def quiescent_DyReferenceIdeal [hDyReferenceIdeal : Cert.DyReferenceIdeal.Facts] : Prop :=
  ∀ (m : (ℓ : Loc Cert.DyReferenceIdeal.nD Cert.DyReferenceIdeal.τ Cert.DyReferenceIdeal.sig) → Buf (Elt Ideal) ℓ) (g : Dev Cert.DyReferenceIdeal.nD → PrngReg), Pre_DyReferenceIdeal m →
    θ_run (Cert.DyReferenceIdeal.defs (F := Ideal)) (onTc (τ := Cert.DyReferenceIdeal.τ) (Cert.DyReferenceIdeal.main (F := Ideal))) ⟨m, fun _ => 0, g⟩ (fun r => (∀ c : Dev Cert.DyReferenceIdeal.nD,
      r.2.mem ((c.tc : Thread Cert.DyReferenceIdeal.nD Cert.DyReferenceIdeal.τ).loc Cert.DyReferenceIdeal.main_arg0) = m ((c.tc : Thread Cert.DyReferenceIdeal.nD Cert.DyReferenceIdeal.τ).loc Cert.DyReferenceIdeal.main_arg0)
      ∧ r.2.mem ((c.tc : Thread Cert.DyReferenceIdeal.nD Cert.DyReferenceIdeal.τ).loc Cert.DyReferenceIdeal.main_arg1) = m ((c.tc : Thread Cert.DyReferenceIdeal.nD Cert.DyReferenceIdeal.τ).loc Cert.DyReferenceIdeal.main_arg1)
      ∧ r.2.mem ((c.tc : Thread Cert.DyReferenceIdeal.nD Cert.DyReferenceIdeal.τ).loc Cert.DyReferenceIdeal.main_arg2) = m ((c.tc : Thread Cert.DyReferenceIdeal.nD Cert.DyReferenceIdeal.τ).loc Cert.DyReferenceIdeal.main_arg2)
      ∧ r.2.mem ((c.tc : Thread Cert.DyReferenceIdeal.nD Cert.DyReferenceIdeal.τ).loc Cert.DyReferenceIdeal.main_arg3) = m ((c.tc : Thread Cert.DyReferenceIdeal.nD Cert.DyReferenceIdeal.τ).loc Cert.DyReferenceIdeal.main_arg3)
      ∧ r.2.mem ((c.tc : Thread Cert.DyReferenceIdeal.nD Cert.DyReferenceIdeal.τ).loc Cert.DyReferenceIdeal.main_arg4) = m ((c.tc : Thread Cert.DyReferenceIdeal.nD Cert.DyReferenceIdeal.τ).loc Cert.DyReferenceIdeal.main_arg4)
      ∧ r.2.mem ((c.tc : Thread Cert.DyReferenceIdeal.nD Cert.DyReferenceIdeal.τ).loc Cert.DyReferenceIdeal.main_arg5) = m ((c.tc : Thread Cert.DyReferenceIdeal.nD Cert.DyReferenceIdeal.τ).loc Cert.DyReferenceIdeal.main_arg5))
      ∧ r.2.sem = fun _ => 0)

def quiescent_DyReferenceIdeal_pre_finite_dy [hDyReferenceIdeal : Cert.DyReferenceIdeal.Facts] [hPre_finite_dy : Cert.Pre_finite_dy.Facts] : Prop :=
  ∀ (m : (ℓ : Loc Cert.DyReferenceIdeal.nD Cert.DyReferenceIdeal.τ Cert.DyReferenceIdeal.sig) → Buf (Elt Ideal) ℓ) (g : Dev Cert.DyReferenceIdeal.nD → PrngReg), Pre_DyReferenceIdeal_finite_dy m →
    θ_run (Cert.DyReferenceIdeal.defs (F := Ideal)) (onTc (τ := Cert.DyReferenceIdeal.τ) (Cert.DyReferenceIdeal.main (F := Ideal))) ⟨m, fun _ => 0, g⟩ (fun r => (∀ c : Dev Cert.DyReferenceIdeal.nD,
      r.2.mem ((c.tc : Thread Cert.DyReferenceIdeal.nD Cert.DyReferenceIdeal.τ).loc Cert.DyReferenceIdeal.main_arg0) = m ((c.tc : Thread Cert.DyReferenceIdeal.nD Cert.DyReferenceIdeal.τ).loc Cert.DyReferenceIdeal.main_arg0)
      ∧ r.2.mem ((c.tc : Thread Cert.DyReferenceIdeal.nD Cert.DyReferenceIdeal.τ).loc Cert.DyReferenceIdeal.main_arg1) = m ((c.tc : Thread Cert.DyReferenceIdeal.nD Cert.DyReferenceIdeal.τ).loc Cert.DyReferenceIdeal.main_arg1)
      ∧ r.2.mem ((c.tc : Thread Cert.DyReferenceIdeal.nD Cert.DyReferenceIdeal.τ).loc Cert.DyReferenceIdeal.main_arg2) = m ((c.tc : Thread Cert.DyReferenceIdeal.nD Cert.DyReferenceIdeal.τ).loc Cert.DyReferenceIdeal.main_arg2)
      ∧ r.2.mem ((c.tc : Thread Cert.DyReferenceIdeal.nD Cert.DyReferenceIdeal.τ).loc Cert.DyReferenceIdeal.main_arg3) = m ((c.tc : Thread Cert.DyReferenceIdeal.nD Cert.DyReferenceIdeal.τ).loc Cert.DyReferenceIdeal.main_arg3)
      ∧ r.2.mem ((c.tc : Thread Cert.DyReferenceIdeal.nD Cert.DyReferenceIdeal.τ).loc Cert.DyReferenceIdeal.main_arg4) = m ((c.tc : Thread Cert.DyReferenceIdeal.nD Cert.DyReferenceIdeal.τ).loc Cert.DyReferenceIdeal.main_arg4)
      ∧ r.2.mem ((c.tc : Thread Cert.DyReferenceIdeal.nD Cert.DyReferenceIdeal.τ).loc Cert.DyReferenceIdeal.main_arg5) = m ((c.tc : Thread Cert.DyReferenceIdeal.nD Cert.DyReferenceIdeal.τ).loc Cert.DyReferenceIdeal.main_arg5))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "ln_2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49_0)) (v1 : (c : Dev Cert.KernelIdeal.nD) → Buf (Elt Ideal) ((c.tc : Thread Cert.KernelIdeal.nD Cert.KernelIdeal.τ).loc Cert.KernelIdeal.main_v49_1)) (v2 : (c : Dev Cert.KernelIdeal.nD) → Buf (Elt Ideal) ((c.tc : Thread Cert.KernelIdeal.nD Cert.KernelIdeal.τ).loc Cert.KernelIdeal.main_v49_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_v49_1) = v1 c
          ∧ r.2.mem ((c.tc : Thread Cert.KernelIdeal.nD Cert.KernelIdeal.τ).loc Cert.KernelIdeal.main_v49_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Dwin_DwinIdeal : Prop :=
  True

def algebraic_DwinIdeal_DwinReferenceIdeal [hDwinIdeal : Cert.DwinIdeal.Facts] [hDwinReferenceIdeal : Cert.DwinReferenceIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinReferenceIdeal.nD Cert.DwinReferenceIdeal.τ Cert.DwinReferenceIdeal.sig) → Buf (Elt Ideal) ℓ) (g' : Dev Cert.DwinReferenceIdeal.nD → PrngReg), Pre_DwinIdeal m →
    (∀ c : Dev Cert.DwinIdeal.nD,
      m' ((c.tc : Thread Cert.DwinReferenceIdeal.nD Cert.DwinReferenceIdeal.τ).loc Cert.DwinReferenceIdeal.main_arg0) = m ((c.tc : Thread Cert.DwinIdeal.nD Cert.DwinIdeal.τ).loc Cert.DwinIdeal.main_arg0)
      ∧ m' ((c.tc : Thread Cert.DwinReferenceIdeal.nD Cert.DwinReferenceIdeal.τ).loc Cert.DwinReferenceIdeal.main_arg1) = m ((c.tc : Thread Cert.DwinIdeal.nD Cert.DwinIdeal.τ).loc Cert.DwinIdeal.main_arg1)
      ∧ m' ((c.tc : Thread Cert.DwinReferenceIdeal.nD Cert.DwinReferenceIdeal.τ).loc Cert.DwinReferenceIdeal.main_arg2) = m ((c.tc : Thread Cert.DwinIdeal.nD Cert.DwinIdeal.τ).loc Cert.DwinIdeal.main_arg2)
      ∧ m' ((c.tc : Thread Cert.DwinReferenceIdeal.nD Cert.DwinReferenceIdeal.τ).loc Cert.DwinReferenceIdeal.main_arg3) = m ((c.tc : Thread Cert.DwinIdeal.nD Cert.DwinIdeal.τ).loc Cert.DwinIdeal.main_arg3)
      ∧ m' ((c.tc : Thread Cert.DwinReferenceIdeal.nD Cert.DwinReferenceIdeal.τ).loc Cert.DwinReferenceIdeal.main_arg4) = m ((c.tc : Thread Cert.DwinIdeal.nD Cert.DwinIdeal.τ).loc Cert.DwinIdeal.main_arg4)
      ∧ m' ((c.tc : Thread Cert.DwinReferenceIdeal.nD Cert.DwinReferenceIdeal.τ).loc Cert.DwinReferenceIdeal.main_arg5) = m ((c.tc : Thread Cert.DwinIdeal.nD Cert.DwinIdeal.τ).loc Cert.DwinIdeal.main_arg5)
      ∧ m' ((c.tc : Thread Cert.DwinReferenceIdeal.nD Cert.DwinReferenceIdeal.τ).loc Cert.DwinReferenceIdeal.main_arg6) = m ((c.tc : Thread Cert.DwinIdeal.nD Cert.DwinIdeal.τ).loc Cert.DwinIdeal.main_arg6)
      ∧ m' ((c.tc : Thread Cert.DwinReferenceIdeal.nD Cert.DwinReferenceIdeal.τ).loc Cert.DwinReferenceIdeal.main_arg7) = m ((c.tc : Thread Cert.DwinIdeal.nD Cert.DwinIdeal.τ).loc Cert.DwinIdeal.main_arg7)
      ∧ m' ((c.tc : Thread Cert.DwinReferenceIdeal.nD Cert.DwinReferenceIdeal.τ).loc Cert.DwinReferenceIdeal.main_arg8) = m ((c.tc : Thread Cert.DwinIdeal.nD Cert.DwinIdeal.τ).loc Cert.DwinIdeal.main_arg8)) →
    ∃ (v0 : (c : Dev Cert.DwinIdeal.nD) → Buf (Elt Ideal) ((c.tc : Thread Cert.DwinIdeal.nD Cert.DwinIdeal.τ).loc Cert.DwinIdeal.main_v9)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v9) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1)
          ∧ r.2.mem ((c.tc : Thread Cert.DwinIdeal.nD Cert.DwinIdeal.τ).loc Cert.DwinIdeal.main_arg2) = m ((c.tc : Thread Cert.DwinIdeal.nD Cert.DwinIdeal.τ).loc Cert.DwinIdeal.main_arg2)
          ∧ r.2.mem ((c.tc : Thread Cert.DwinIdeal.nD Cert.DwinIdeal.τ).loc Cert.DwinIdeal.main_arg3) = m ((c.tc : Thread Cert.DwinIdeal.nD Cert.DwinIdeal.τ).loc Cert.DwinIdeal.main_arg3)
          ∧ r.2.mem ((c.tc : Thread Cert.DwinIdeal.nD Cert.DwinIdeal.τ).loc Cert.DwinIdeal.main_arg4) = m ((c.tc : Thread Cert.DwinIdeal.nD Cert.DwinIdeal.τ).loc Cert.DwinIdeal.main_arg4)
          ∧ r.2.mem ((c.tc : Thread Cert.DwinIdeal.nD Cert.DwinIdeal.τ).loc Cert.DwinIdeal.main_arg5) = m ((c.tc : Thread Cert.DwinIdeal.nD Cert.DwinIdeal.τ).loc Cert.DwinIdeal.main_arg5)
          ∧ r.2.mem ((c.tc : Thread Cert.DwinIdeal.nD Cert.DwinIdeal.τ).loc Cert.DwinIdeal.main_arg6) = m ((c.tc : Thread Cert.DwinIdeal.nD Cert.DwinIdeal.τ).loc Cert.DwinIdeal.main_arg6)
          ∧ r.2.mem ((c.tc : Thread Cert.DwinIdeal.nD Cert.DwinIdeal.τ).loc Cert.DwinIdeal.main_arg7) = m ((c.tc : Thread Cert.DwinIdeal.nD Cert.DwinIdeal.τ).loc Cert.DwinIdeal.main_arg7)
          ∧ r.2.mem ((c.tc : Thread Cert.DwinIdeal.nD Cert.DwinIdeal.τ).loc Cert.DwinIdeal.main_arg8) = m ((c.tc : Thread Cert.DwinIdeal.nD Cert.DwinIdeal.τ).loc Cert.DwinIdeal.main_arg8))
      ∧ θ_run (Cert.DwinReferenceIdeal.defs (F := Ideal)) (onTc (τ := Cert.DwinReferenceIdeal.τ) (Cert.DwinReferenceIdeal.main (F := Ideal))) ⟨m', fun _ => 0, g'⟩ (fun r => ∀ c : Dev Cert.DwinReferenceIdeal.nD,
          r.2.mem ((c.tc : Thread Cert.DwinReferenceIdeal.nD Cert.DwinReferenceIdeal.τ).loc Cert.DwinReferenceIdeal.main_v12) = v0 c
          ∧ r.2.mem ((c.tc : Thread Cert.DwinReferenceIdeal.nD Cert.DwinReferenceIdeal.τ).loc Cert.DwinReferenceIdeal.main_arg0) = m' ((c.tc : Thread Cert.DwinReferenceIdeal.nD Cert.DwinReferenceIdeal.τ).loc Cert.DwinReferenceIdeal.main_arg0)
          ∧ r.2.mem ((c.tc : Thread Cert.DwinReferenceIdeal.nD Cert.DwinReferenceIdeal.τ).loc Cert.DwinReferenceIdeal.main_arg1) = m' ((c.tc : Thread Cert.DwinReferenceIdeal.nD Cert.DwinReferenceIdeal.τ).loc Cert.DwinReferenceIdeal.main_arg1)
          ∧ r.2.mem ((c.tc : Thread Cert.DwinReferenceIdeal.nD Cert.DwinReferenceIdeal.τ).loc Cert.DwinReferenceIdeal.main_arg2) = m' ((c.tc : Thread Cert.DwinReferenceIdeal.nD Cert.DwinReferenceIdeal.τ).loc Cert.DwinReferenceIdeal.main_arg2)
          ∧ r.2.mem ((c.tc : Thread Cert.DwinReferenceIdeal.nD Cert.DwinReferenceIdeal.τ).loc Cert.DwinReferenceIdeal.main_arg3) = m' ((c.tc : Thread Cert.DwinReferenceIdeal.nD Cert.DwinReferenceIdeal.τ).loc Cert.DwinReferenceIdeal.main_arg3)
          ∧ r.2.mem ((c.tc : Thread Cert.DwinReferenceIdeal.nD Cert.DwinReferenceIdeal.τ).loc Cert.DwinReferenceIdeal.main_arg4) = m' ((c.tc : Thread Cert.DwinReferenceIdeal.nD Cert.DwinReferenceIdeal.τ).loc Cert.DwinReferenceIdeal.main_arg4)
          ∧ r.2.mem ((c.tc : Thread Cert.DwinReferenceIdeal.nD Cert.DwinReferenceIdeal.τ).loc Cert.DwinReferenceIdeal.main_arg5) = m' ((c.tc : Thread Cert.DwinReferenceIdeal.nD Cert.DwinReferenceIdeal.τ).loc Cert.DwinReferenceIdeal.main_arg5)
          ∧ r.2.mem ((c.tc : Thread Cert.DwinReferenceIdeal.nD Cert.DwinReferenceIdeal.τ).loc Cert.DwinReferenceIdeal.main_arg6) = m' ((c.tc : Thread Cert.DwinReferenceIdeal.nD Cert.DwinReferenceIdeal.τ).loc Cert.DwinReferenceIdeal.main_arg6)
          ∧ r.2.mem ((c.tc : Thread Cert.DwinReferenceIdeal.nD Cert.DwinReferenceIdeal.τ).loc Cert.DwinReferenceIdeal.main_arg7) = m' ((c.tc : Thread Cert.DwinReferenceIdeal.nD Cert.DwinReferenceIdeal.τ).loc Cert.DwinReferenceIdeal.main_arg7)
          ∧ r.2.mem ((c.tc : Thread Cert.DwinReferenceIdeal.nD Cert.DwinReferenceIdeal.τ).loc Cert.DwinReferenceIdeal.main_arg8) = m' ((c.tc : Thread Cert.DwinReferenceIdeal.nD Cert.DwinReferenceIdeal.τ).loc Cert.DwinReferenceIdeal.main_arg8))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)
      ∧ m' ((c.tc : Thread Cert.InReferenceIdeal.nD Cert.InReferenceIdeal.τ).loc Cert.InReferenceIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v2_0)) (v1 : (c : Dev Cert.InIdeal.nD) → Buf (Elt Ideal) ((c.tc : Thread Cert.InIdeal.nD Cert.InIdeal.τ).loc Cert.InIdeal.main_v2_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v2_0) = v0 c
          ∧ r.2.mem ((c.tc : Thread Cert.InIdeal.nD Cert.InIdeal.τ).loc Cert.InIdeal.main_v2_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v15) = v0 c
          ∧ r.2.mem ((c.tc : Thread Cert.InReferenceIdeal.nD Cert.InReferenceIdeal.τ).loc Cert.InReferenceIdeal.main_v18) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v4) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def preserves_Dx_DxIdeal : Prop :=
  True

def algebraic_DxIdeal_DxReferenceIdeal [hDxIdeal : Cert.DxIdeal.Facts] [hDxReferenceIdeal : Cert.DxReferenceIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxIdeal m →
    (∀ c : Dev Cert.DxIdeal.nD,
      m' ((c.tc : Thread Cert.DxReferenceIdeal.nD Cert.DxReferenceIdeal.τ).loc Cert.DxReferenceIdeal.main_arg0) = m ((c.tc : Thread Cert.DxIdeal.nD Cert.DxIdeal.τ).loc Cert.DxIdeal.main_arg0)
      ∧ m' ((c.tc : Thread Cert.DxReferenceIdeal.nD Cert.DxReferenceIdeal.τ).loc Cert.DxReferenceIdeal.main_arg1) = m ((c.tc : Thread Cert.DxIdeal.nD Cert.DxIdeal.τ).loc Cert.DxIdeal.main_arg1)
      ∧ m' ((c.tc : Thread Cert.DxReferenceIdeal.nD Cert.DxReferenceIdeal.τ).loc Cert.DxReferenceIdeal.main_arg2) = m ((c.tc : Thread Cert.DxIdeal.nD Cert.DxIdeal.τ).loc Cert.DxIdeal.main_arg2)
      ∧ m' ((c.tc : Thread Cert.DxReferenceIdeal.nD Cert.DxReferenceIdeal.τ).loc Cert.DxReferenceIdeal.main_arg3) = m ((c.tc : Thread Cert.DxIdeal.nD Cert.DxIdeal.τ).loc Cert.DxIdeal.main_arg3)
      ∧ m' ((c.tc : Thread Cert.DxReferenceIdeal.nD Cert.DxReferenceIdeal.τ).loc Cert.DxReferenceIdeal.main_arg4) = m ((c.tc : Thread Cert.DxIdeal.nD Cert.DxIdeal.τ).loc Cert.DxIdeal.main_arg4)
      ∧ m' ((c.tc : Thread Cert.DxReferenceIdeal.nD Cert.DxReferenceIdeal.τ).loc Cert.DxReferenceIdeal.main_arg5) = m ((c.tc : Thread Cert.DxIdeal.nD Cert.DxIdeal.τ).loc Cert.DxIdeal.main_arg5)
      ∧ m' ((c.tc : Thread Cert.DxReferenceIdeal.nD Cert.DxReferenceIdeal.τ).loc Cert.DxReferenceIdeal.main_arg6) = m ((c.tc : Thread Cert.DxIdeal.nD Cert.DxIdeal.τ).loc Cert.DxIdeal.main_arg6)
      ∧ m' ((c.tc : Thread Cert.DxReferenceIdeal.nD Cert.DxReferenceIdeal.τ).loc Cert.DxReferenceIdeal.main_arg7) = m ((c.tc : Thread Cert.DxIdeal.nD Cert.DxIdeal.τ).loc Cert.DxIdeal.main_arg7)
      ∧ m' ((c.tc : Thread Cert.DxReferenceIdeal.nD Cert.DxReferenceIdeal.τ).loc Cert.DxReferenceIdeal.main_arg8) = m ((c.tc : Thread Cert.DxIdeal.nD Cert.DxIdeal.τ).loc Cert.DxIdeal.main_arg8)
      ∧ m' ((c.tc : Thread Cert.DxReferenceIdeal.nD Cert.DxReferenceIdeal.τ).loc Cert.DxReferenceIdeal.main_arg9) = m ((c.tc : Thread Cert.DxIdeal.nD Cert.DxIdeal.τ).loc Cert.DxIdeal.main_arg9)
      ∧ m' ((c.tc : Thread Cert.DxReferenceIdeal.nD Cert.DxReferenceIdeal.τ).loc Cert.DxReferenceIdeal.main_arg10) = m ((c.tc : Thread Cert.DxIdeal.nD Cert.DxIdeal.τ).loc Cert.DxIdeal.main_arg10)
      ∧ m' ((c.tc : Thread Cert.DxReferenceIdeal.nD Cert.DxReferenceIdeal.τ).loc Cert.DxReferenceIdeal.main_arg11) = m ((c.tc : Thread Cert.DxIdeal.nD Cert.DxIdeal.τ).loc Cert.DxIdeal.main_arg11)) →
    ∃ (v0 : (c : Dev Cert.DxIdeal.nD) → Buf (Elt Ideal) ((c.tc : Thread Cert.DxIdeal.nD Cert.DxIdeal.τ).loc Cert.DxIdeal.main_v10_0)) (v1 : (c : Dev Cert.DxIdeal.nD) → Buf (Elt Ideal) ((c.tc : Thread Cert.DxIdeal.nD Cert.DxIdeal.τ).loc Cert.DxIdeal.main_v10_1)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v10_0) = v0 c
          ∧ r.2.mem ((c.tc : Thread Cert.DxIdeal.nD Cert.DxIdeal.τ).loc Cert.DxIdeal.main_v10_1) = v1 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
          ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
          ∧ r.2.mem ((c.tc : Thread Cert.DxIdeal.nD Cert.DxIdeal.τ).loc Cert.DxIdeal.main_arg7) = m ((c.tc : Thread Cert.DxIdeal.nD Cert.DxIdeal.τ).loc Cert.DxIdeal.main_arg7)
          ∧ r.2.mem ((c.tc : Thread Cert.DxIdeal.nD Cert.DxIdeal.τ).loc Cert.DxIdeal.main_arg8) = m ((c.tc : Thread Cert.DxIdeal.nD Cert.DxIdeal.τ).loc Cert.DxIdeal.main_arg8)
          ∧ r.2.mem ((c.tc : Thread Cert.DxIdeal.nD Cert.DxIdeal.τ).loc Cert.DxIdeal.main_arg9) = m ((c.tc : Thread Cert.DxIdeal.nD Cert.DxIdeal.τ).loc Cert.DxIdeal.main_arg9)
          ∧ r.2.mem ((c.tc : Thread Cert.DxIdeal.nD Cert.DxIdeal.τ).loc Cert.DxIdeal.main_arg10) = m ((c.tc : Thread Cert.DxIdeal.nD Cert.DxIdeal.τ).loc Cert.DxIdeal.main_arg10)
          ∧ r.2.mem ((c.tc : Thread Cert.DxIdeal.nD Cert.DxIdeal.τ).loc Cert.DxIdeal.main_arg11) = m ((c.tc : Thread Cert.DxIdeal.nD Cert.DxIdeal.τ).loc Cert.DxIdeal.main_arg11))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v51) = v0 c
          ∧ r.2.mem ((c.tc : Thread Cert.DxReferenceIdeal.nD Cert.DxReferenceIdeal.τ).loc Cert.DxReferenceIdeal.main_v52) = v1 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1)
          ∧ r.2.mem ((c.tc : Thread Cert.DxReferenceIdeal.nD Cert.DxReferenceIdeal.τ).loc Cert.DxReferenceIdeal.main_arg2) = m' ((c.tc : Thread Cert.DxReferenceIdeal.nD Cert.DxReferenceIdeal.τ).loc Cert.DxReferenceIdeal.main_arg2)
          ∧ r.2.mem ((c.tc : Thread Cert.DxReferenceIdeal.nD Cert.DxReferenceIdeal.τ).loc Cert.DxReferenceIdeal.main_arg3) = m' ((c.tc : Thread Cert.DxReferenceIdeal.nD Cert.DxReferenceIdeal.τ).loc Cert.DxReferenceIdeal.main_arg3)
          ∧ r.2.mem ((c.tc : Thread Cert.DxReferenceIdeal.nD Cert.DxReferenceIdeal.τ).loc Cert.DxReferenceIdeal.main_arg4) = m' ((c.tc : Thread Cert.DxReferenceIdeal.nD Cert.DxReferenceIdeal.τ).loc Cert.DxReferenceIdeal.main_arg4)
          ∧ r.2.mem ((c.tc : Thread Cert.DxReferenceIdeal.nD Cert.DxReferenceIdeal.τ).loc Cert.DxReferenceIdeal.main_arg5) = m' ((c.tc : Thread Cert.DxReferenceIdeal.nD Cert.DxReferenceIdeal.τ).loc Cert.DxReferenceIdeal.main_arg5)
          ∧ r.2.mem ((c.tc : Thread Cert.DxReferenceIdeal.nD Cert.DxReferenceIdeal.τ).loc Cert.DxReferenceIdeal.main_arg6) = m' ((c.tc : Thread Cert.DxReferenceIdeal.nD Cert.DxReferenceIdeal.τ).loc Cert.DxReferenceIdeal.main_arg6)
          ∧ r.2.mem ((c.tc : Thread Cert.DxReferenceIdeal.nD Cert.DxReferenceIdeal.τ).loc Cert.DxReferenceIdeal.main_arg7) = m' ((c.tc : Thread Cert.DxReferenceIdeal.nD Cert.DxReferenceIdeal.τ).loc Cert.DxReferenceIdeal.main_arg7)
          ∧ r.2.mem ((c.tc : Thread Cert.DxReferenceIdeal.nD Cert.DxReferenceIdeal.τ).loc Cert.DxReferenceIdeal.main_arg8) = m' ((c.tc : Thread Cert.DxReferenceIdeal.nD Cert.DxReferenceIdeal.τ).loc Cert.DxReferenceIdeal.main_arg8)
          ∧ r.2.mem ((c.tc : Thread Cert.DxReferenceIdeal.nD Cert.DxReferenceIdeal.τ).loc Cert.DxReferenceIdeal.main_arg9) = m' ((c.tc : Thread Cert.DxReferenceIdeal.nD Cert.DxReferenceIdeal.τ).loc Cert.DxReferenceIdeal.main_arg9)
          ∧ r.2.mem ((c.tc : Thread Cert.DxReferenceIdeal.nD Cert.DxReferenceIdeal.τ).loc Cert.DxReferenceIdeal.main_arg10) = m' ((c.tc : Thread Cert.DxReferenceIdeal.nD Cert.DxReferenceIdeal.τ).loc Cert.DxReferenceIdeal.main_arg10)
          ∧ r.2.mem ((c.tc : Thread Cert.DxReferenceIdeal.nD Cert.DxReferenceIdeal.τ).loc Cert.DxReferenceIdeal.main_arg11) = m' ((c.tc : Thread Cert.DxReferenceIdeal.nD Cert.DxReferenceIdeal.τ).loc Cert.DxReferenceIdeal.main_arg11))

def preserves_Dy_DyIdeal : Prop :=
  True

def algebraic_DyIdeal_DyReferenceIdeal_pre_finite_dy [hDyIdeal : Cert.DyIdeal.Facts] [hDyReferenceIdeal : Cert.DyReferenceIdeal.Facts] [hPre_finite_dy : Cert.Pre_finite_dy.Facts] : Prop :=
  ∀ (m : (ℓ : Loc Cert.DyIdeal.nD Cert.DyIdeal.τ Cert.DyIdeal.sig) → Buf (Elt Ideal) ℓ) (g : Dev Cert.DyIdeal.nD → PrngReg)
    (m' : (ℓ : Loc Cert.DyReferenceIdeal.nD Cert.DyReferenceIdeal.τ Cert.DyReferenceIdeal.sig) → Buf (Elt Ideal) ℓ) (g' : Dev Cert.DyReferenceIdeal.nD → PrngReg), Pre_DyIdeal_finite_dy m →
    (∀ c : Dev Cert.DyIdeal.nD,
      m' ((c.tc : Thread Cert.DyReferenceIdeal.nD Cert.DyReferenceIdeal.τ).loc Cert.DyReferenceIdeal.main_arg0) = m ((c.tc : Thread Cert.DyIdeal.nD Cert.DyIdeal.τ).loc Cert.DyIdeal.main_arg0)
      ∧ m' ((c.tc : Thread Cert.DyReferenceIdeal.nD Cert.DyReferenceIdeal.τ).loc Cert.DyReferenceIdeal.main_arg1) = m ((c.tc : Thread Cert.DyIdeal.nD Cert.DyIdeal.τ).loc Cert.DyIdeal.main_arg1)
      ∧ m' ((c.tc : Thread Cert.DyReferenceIdeal.nD Cert.DyReferenceIdeal.τ).loc Cert.DyReferenceIdeal.main_arg2) = m ((c.tc : Thread Cert.DyIdeal.nD Cert.DyIdeal.τ).loc Cert.DyIdeal.main_arg2)
      ∧ m' ((c.tc : Thread Cert.DyReferenceIdeal.nD Cert.DyReferenceIdeal.τ).loc Cert.DyReferenceIdeal.main_arg3) = m ((c.tc : Thread Cert.DyIdeal.nD Cert.DyIdeal.τ).loc Cert.DyIdeal.main_arg3)
      ∧ m' ((c.tc : Thread Cert.DyReferenceIdeal.nD Cert.DyReferenceIdeal.τ).loc Cert.DyReferenceIdeal.main_arg4) = m ((c.tc : Thread Cert.DyIdeal.nD Cert.DyIdeal.τ).loc Cert.DyIdeal.main_arg4)
      ∧ m' ((c.tc : Thread Cert.DyReferenceIdeal.nD Cert.DyReferenceIdeal.τ).loc Cert.DyReferenceIdeal.main_arg5) = m ((c.tc : Thread Cert.DyIdeal.nD Cert.DyIdeal.τ).loc Cert.DyIdeal.main_arg5)) →
    ∃ (v0 : (c : Dev Cert.DyIdeal.nD) → Buf (Elt Ideal) ((c.tc : Thread Cert.DyIdeal.nD Cert.DyIdeal.τ).loc Cert.DyIdeal.main_v7_0)) (v1 : (c : Dev Cert.DyIdeal.nD) → Buf (Elt Ideal) ((c.tc : Thread Cert.DyIdeal.nD Cert.DyIdeal.τ).loc Cert.DyIdeal.main_v7_1)) (v2 : (c : Dev Cert.DyIdeal.nD) → Buf (Elt Ideal) ((c.tc : Thread Cert.DyIdeal.nD Cert.DyIdeal.τ).loc Cert.DyIdeal.main_v7_2)) (v3 : (c : Dev Cert.DyIdeal.nD) → Buf (Elt Ideal) ((c.tc : Thread Cert.DyIdeal.nD Cert.DyIdeal.τ).loc Cert.DyIdeal.main_v7_3)) (v4 : (c : Dev Cert.DyIdeal.nD) → Buf (Elt Ideal) ((c.tc : Thread Cert.DyIdeal.nD Cert.DyIdeal.τ).loc Cert.DyIdeal.main_v7_4)) (v5 : (c : Dev Cert.DyIdeal.nD) → Buf (Elt Ideal) ((c.tc : Thread Cert.DyIdeal.nD Cert.DyIdeal.τ).loc Cert.DyIdeal.main_v7_5)),
      θ_run (Cert.DyIdeal.defs (F := Ideal)) (onTc (τ := Cert.DyIdeal.τ) (Cert.DyIdeal.main (F := Ideal))) ⟨m, fun _ => 0, g⟩ (fun r => ∀ c : Dev Cert.DyIdeal.nD,
          r.2.mem ((c.tc : Thread Cert.DyIdeal.nD Cert.DyIdeal.τ).loc Cert.DyIdeal.main_v7_0) = v0 c
          ∧ r.2.mem ((c.tc : Thread Cert.DyIdeal.nD Cert.DyIdeal.τ).loc Cert.DyIdeal.main_v7_1) = v1 c
          ∧ r.2.mem ((c.tc : Thread Cert.DyIdeal.nD Cert.DyIdeal.τ).loc Cert.DyIdeal.main_v7_2) = v2 c
          ∧ r.2.mem ((c.tc : Thread Cert.DyIdeal.nD Cert.DyIdeal.τ).loc Cert.DyIdeal.main_v7_3) = v3 c
          ∧ r.2.mem ((c.tc : Thread Cert.DyIdeal.nD Cert.DyIdeal.τ).loc Cert.DyIdeal.main_v7_4) = v4 c
          ∧ r.2.mem ((c.tc : Thread Cert.DyIdeal.nD Cert.DyIdeal.τ).loc Cert.DyIdeal.main_v7_5) = v5 c
          ∧ r.2.mem ((c.tc : Thread Cert.DyIdeal.nD Cert.DyIdeal.τ).loc Cert.DyIdeal.main_arg0) = m ((c.tc : Thread Cert.DyIdeal.nD Cert.DyIdeal.τ).loc Cert.DyIdeal.main_arg0)
          ∧ r.2.mem ((c.tc : Thread Cert.DyIdeal.nD Cert.DyIdeal.τ).loc Cert.DyIdeal.main_arg1) = m ((c.tc : Thread Cert.DyIdeal.nD Cert.DyIdeal.τ).loc Cert.DyIdeal.main_arg1)
          ∧ r.2.mem ((c.tc : Thread Cert.DyIdeal.nD Cert.DyIdeal.τ).loc Cert.DyIdeal.main_arg2) = m ((c.tc : Thread Cert.DyIdeal.nD Cert.DyIdeal.τ).loc Cert.DyIdeal.main_arg2)
          ∧ r.2.mem ((c.tc : Thread Cert.DyIdeal.nD Cert.DyIdeal.τ).loc Cert.DyIdeal.main_arg3) = m ((c.tc : Thread Cert.DyIdeal.nD Cert.DyIdeal.τ).loc Cert.DyIdeal.main_arg3)
          ∧ r.2.mem ((c.tc : Thread Cert.DyIdeal.nD Cert.DyIdeal.τ).loc Cert.DyIdeal.main_arg4) = m ((c.tc : Thread Cert.DyIdeal.nD Cert.DyIdeal.τ).loc Cert.DyIdeal.main_arg4)
          ∧ r.2.mem ((c.tc : Thread Cert.DyIdeal.nD Cert.DyIdeal.τ).loc Cert.DyIdeal.main_arg5) = m ((c.tc : Thread Cert.DyIdeal.nD Cert.DyIdeal.τ).loc Cert.DyIdeal.main_arg5))
      ∧ θ_run (Cert.DyReferenceIdeal.defs (F := Ideal)) (onTc (τ := Cert.DyReferenceIdeal.τ) (Cert.DyReferenceIdeal.main (F := Ideal))) ⟨m', fun _ => 0, g'⟩ (fun r => ∀ c : Dev Cert.DyReferenceIdeal.nD,
          r.2.mem ((c.tc : Thread Cert.DyReferenceIdeal.nD Cert.DyReferenceIdeal.τ).loc Cert.DyReferenceIdeal.main_v10) = v0 c
          ∧ r.2.mem ((c.tc : Thread Cert.DyReferenceIdeal.nD Cert.DyReferenceIdeal.τ).loc Cert.DyReferenceIdeal.main_v12) = v1 c
          ∧ r.2.mem ((c.tc : Thread Cert.DyReferenceIdeal.nD Cert.DyReferenceIdeal.τ).loc Cert.DyReferenceIdeal.main_v22) = v2 c
          ∧ r.2.mem ((c.tc : Thread Cert.DyReferenceIdeal.nD Cert.DyReferenceIdeal.τ).loc Cert.DyReferenceIdeal.main_v23) = v3 c
          ∧ r.2.mem ((c.tc : Thread Cert.DyReferenceIdeal.nD Cert.DyReferenceIdeal.τ).loc Cert.DyReferenceIdeal.main_v21) = v4 c
          ∧ r.2.mem ((c.tc : Thread Cert.DyReferenceIdeal.nD Cert.DyReferenceIdeal.τ).loc Cert.DyReferenceIdeal.main_v8) = v5 c
          ∧ r.2.mem ((c.tc : Thread Cert.DyReferenceIdeal.nD Cert.DyReferenceIdeal.τ).loc Cert.DyReferenceIdeal.main_arg0) = m' ((c.tc : Thread Cert.DyReferenceIdeal.nD Cert.DyReferenceIdeal.τ).loc Cert.DyReferenceIdeal.main_arg0)
          ∧ r.2.mem ((c.tc : Thread Cert.DyReferenceIdeal.nD Cert.DyReferenceIdeal.τ).loc Cert.DyReferenceIdeal.main_arg1) = m' ((c.tc : Thread Cert.DyReferenceIdeal.nD Cert.DyReferenceIdeal.τ).loc Cert.DyReferenceIdeal.main_arg1)
          ∧ r.2.mem ((c.tc : Thread Cert.DyReferenceIdeal.nD Cert.DyReferenceIdeal.τ).loc Cert.DyReferenceIdeal.main_arg2) = m' ((c.tc : Thread Cert.DyReferenceIdeal.nD Cert.DyReferenceIdeal.τ).loc Cert.DyReferenceIdeal.main_arg2)
          ∧ r.2.mem ((c.tc : Thread Cert.DyReferenceIdeal.nD Cert.DyReferenceIdeal.τ).loc Cert.DyReferenceIdeal.main_arg3) = m' ((c.tc : Thread Cert.DyReferenceIdeal.nD Cert.DyReferenceIdeal.τ).loc Cert.DyReferenceIdeal.main_arg3)
          ∧ r.2.mem ((c.tc : Thread Cert.DyReferenceIdeal.nD Cert.DyReferenceIdeal.τ).loc Cert.DyReferenceIdeal.main_arg4) = m' ((c.tc : Thread Cert.DyReferenceIdeal.nD Cert.DyReferenceIdeal.τ).loc Cert.DyReferenceIdeal.main_arg4)
          ∧ r.2.mem ((c.tc : Thread Cert.DyReferenceIdeal.nD Cert.DyReferenceIdeal.τ).loc Cert.DyReferenceIdeal.main_arg5) = m' ((c.tc : Thread Cert.DyReferenceIdeal.nD Cert.DyReferenceIdeal.τ).loc Cert.DyReferenceIdeal.main_arg5))

def Claim : Prop :=
  ∃ (hKernel : Cert.Kernel.Facts) (hKernelIdeal : Cert.KernelIdeal.Facts) (hReferenceIdeal : Cert.ReferenceIdeal.Facts) (hDwin : Cert.Dwin.Facts) (hDwinIdeal : Cert.DwinIdeal.Facts) (hDwinReferenceIdeal : Cert.DwinReferenceIdeal.Facts) (hIn : Cert.In.Facts) (hInIdeal : Cert.InIdeal.Facts) (hInReferenceIdeal : Cert.InReferenceIdeal.Facts) (hOut : Cert.Out.Facts) (hOutIdeal : Cert.OutIdeal.Facts) (hOutReferenceIdeal : Cert.OutReferenceIdeal.Facts) (hDx : Cert.Dx.Facts) (hDxIdeal : Cert.DxIdeal.Facts) (hDxReferenceIdeal : Cert.DxReferenceIdeal.Facts) (hDy : Cert.Dy.Facts) (hDyIdeal : Cert.DyIdeal.Facts) (hDyReferenceIdeal : Cert.DyReferenceIdeal.Facts) (hPre_finite : Cert.Pre_finite.Facts) (hPre_finite_dy : Cert.Pre_finite_dy.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dwin (hDwin := hDwin)
    ∧ quiescent_DwinIdeal (hDwinIdeal := hDwinIdeal)
    ∧ quiescent_DwinReferenceIdeal (hDwinReferenceIdeal := hDwinReferenceIdeal)
    ∧ quiescent_In (hIn := hIn)
    ∧ quiescent_InIdeal (hInIdeal := hInIdeal)
    ∧ quiescent_InReferenceIdeal (hInReferenceIdeal := hInReferenceIdeal)
    ∧ quiescent_Out (hOut := hOut)
    ∧ quiescent_OutIdeal (hOutIdeal := hOutIdeal)
    ∧ quiescent_OutReferenceIdeal (hOutReferenceIdeal := hOutReferenceIdeal)
    ∧ quiescent_Dx (hDx := hDx)
    ∧ quiescent_DxIdeal (hDxIdeal := hDxIdeal)
    ∧ quiescent_DxReferenceIdeal (hDxReferenceIdeal := hDxReferenceIdeal)
    ∧ quiescent_Dy (hDy := hDy)
    ∧ quiescent_DyIdeal (hDyIdeal := hDyIdeal)
    ∧ quiescent_DyIdeal_pre_finite_dy (hDyIdeal := hDyIdeal) (hPre_finite_dy := hPre_finite_dy)
    ∧ quiescent_DyReferenceIdeal (hDyReferenceIdeal := hDyReferenceIdeal)
    ∧ quiescent_DyReferenceIdeal_pre_finite_dy (hDyReferenceIdeal := hDyReferenceIdeal) (hPre_finite_dy := hPre_finite_dy)
    ∧ preserves_Kernel_KernelIdeal
    ∧ algebraic_KernelIdeal_ReferenceIdeal_pre_finite (hKernelIdeal := hKernelIdeal) (hReferenceIdeal := hReferenceIdeal) (hPre_finite := hPre_finite)
    ∧ preserves_Dwin_DwinIdeal
    ∧ algebraic_DwinIdeal_DwinReferenceIdeal (hDwinIdeal := hDwinIdeal) (hDwinReferenceIdeal := hDwinReferenceIdeal)
    ∧ preserves_In_InIdeal
    ∧ algebraic_InIdeal_InReferenceIdeal (hInIdeal := hInIdeal) (hInReferenceIdeal := hInReferenceIdeal)
    ∧ preserves_Out_OutIdeal
    ∧ algebraic_OutIdeal_OutReferenceIdeal (hOutIdeal := hOutIdeal) (hOutReferenceIdeal := hOutReferenceIdeal)
    ∧ preserves_Dx_DxIdeal
    ∧ algebraic_DxIdeal_DxReferenceIdeal (hDxIdeal := hDxIdeal) (hDxReferenceIdeal := hDxReferenceIdeal)
    ∧ preserves_Dy_DyIdeal
    ∧ algebraic_DyIdeal_DyReferenceIdeal_pre_finite_dy (hDyIdeal := hDyIdeal) (hDyReferenceIdeal := hDyReferenceIdeal) (hPre_finite_dy := hPre_finite_dy)
-- ==== Pre_finite.lean ====
abbrev S8192x768 : Shape := ⟨2, ![8192, 768]⟩
abbrev S8192x384 : Shape := ⟨2, ![8192, 384]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel
  bcast_S_S8192x384 : S_.BroadcastsInDim S8192x384 (![] : Fin 0 → Fin S8192x384.rank)
  reducesTo_S8192x384_S_d0_1 : S8192x384.ReducesTo [0, 1] S_

variable [Facts]

def fn_part1 {F : FTy → Type} [FloatOps F] (main_v13 : IVec S_ 1) (main_v16 : IVec S8192x384 1) : IVec S_ 1 :=
  let main_c_5 : IVec S_ 1 := constantI S_ 1 1#1
  let main_v17 : IVec S_ 1 := (fun x v => Host.reduce IntOp.andi x v reducesTo_S8192x384_S_d0_1 h_S_) main_v16 main_c_5
  let main_v18 : IVec S_ 1 := andi main_v13 main_v17
  main_v18

def fn {F : FTy → Type} [FloatOps F] (main_arg0 : FVec F S8192x768 .f32) (main_arg1 : FVec F S8192x768 .f32) (main_arg2 : FVec F S8192x384 .f32) (main_arg3 : FVec F S8192x384 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S8192x768 .f32 := Host.absf main_arg1
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  let main_v9 : FVec F S8192x384 .f32 := Host.absf main_arg2
  let main_cst_2 : FVec F S_ .f32 := constant S_ .f32 0x7F800000#32
  let main_v10 : FVec F S8192x384 .f32 := broadcastInDim S8192x384 ![] bcast_S_S8192x384 main_cst_2
  let main_v11 : IVec S8192x384 1 := cmpf .olt main_v9 main_v10
  let main_c_3 : IVec S_ 1 := constantI S_ 1 1#1
  let main_v12 : IVec S_ 1 := (fun x v => Host.reduce IntOp.andi x v reducesTo_S8192x384_S_d0_1 h_S_) main_v11 main_c_3
  let main_v13 : IVec S_ 1 := andi main_v8 main_v12
  let main_v14 : FVec F S8192x384 .f32 := Host.absf main_arg3
  let main_cst_4 : FVec F S_ .f32 := constant S_ .f32 0x7F800000#32
  let main_v15 : FVec F S8192x384 .f32 := broadcastInDim S8192x384 ![] bcast_S_S8192x384 main_cst_4
  let main_v16 : IVec S8192x384 1 := cmpf .olt main_v14 main_v15
  fn_part1 (F := F) main_v13 main_v16
-- ==== Pre_finite_dy.lean ====
abbrev S8192x1024 : Shape := ⟨2, ![8192, 1024]⟩
abbrev S8192x384 : Shape := ⟨2, ![8192, 384]⟩
abbrev S8192x256 : Shape := ⟨2, ![8192, 256]⟩
abbrev S8192x2432 : Shape := ⟨2, ![8192, 2432]⟩
abbrev S4x1024x1024 : Shape := ⟨3, ![4, 1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x384 : S_.BroadcastsInDim S8192x384 (![] : Fin 0 → Fin S8192x384.rank)
  reducesTo_S8192x384_S_d0_1 : S8192x384.ReducesTo [0, 1] S_
  bcast_S_S4x1024x1024 : S_.BroadcastsInDim S4x1024x1024 (![] : Fin 0 → Fin S4x1024x1024.rank)
  reducesTo_S4x1024x1024_S_d0_1_2 : S4x1024x1024.ReducesTo [0, 1, 2] S_

variable [Facts]

def fn {F : FTy → Type} [FloatOps F] (main_arg0 : FVec F S8192x1024 .f32) (main_arg1 : FVec F S8192x384 .f32) (main_arg2 : FVec F S8192x384 .f32) (main_arg3 : FVec F S8192x256 .f32) (main_arg4 : FVec F S8192x2432 .f32) (main_arg5 : FVec F S4x1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S8192x384 .f32 := Host.absf main_arg2
  let main_cst_1 : FVec F S_ .f32 := constant S_ .f32 0x7F800000#32
  let main_v6 : FVec F S8192x384 .f32 := broadcastInDim S8192x384 ![] bcast_S_S8192x384 main_cst_1
  let main_v7 : IVec S8192x384 1 := cmpf .olt main_v5 main_v6
  let main_c_2 : IVec S_ 1 := constantI S_ 1 1#1
  let main_v8 : IVec S_ 1 := (fun x v => Host.reduce IntOp.andi x v reducesTo_S8192x384_S_d0_1 h_S_) main_v7 main_c_2
  let main_v9 : IVec S_ 1 := andi main_v4 main_v8
  let main_v10 : FVec F S4x1024x1024 .f32 := Host.absf main_arg5
  let main_cst_3 : FVec F S_ .f32 := constant S_ .f32 0x7F800000#32
  let main_v11 : FVec F S4x1024x1024 .f32 := broadcastInDim S4x1024x1024 ![] bcast_S_S4x1024x1024 main_cst_3
  let main_v12 : IVec S4x1024x1024 1 := cmpf .olt main_v10 main_v11
  let main_c_4 : IVec S_ 1 := constantI S_ 1 1#1
  let main_v13 : IVec S_ 1 := (fun x v => Host.reduce IntOp.andi x v reducesTo_S4x1024x1024_S_d0_1_2 h_S_) main_v12 main_c_4
  let main_v14 : IVec S_ 1 := andi main_v9 main_v13
  main_v14
-- ==== Kernel.lean ====
abbrev S8192x768 : Shape := ⟨2, ![8192, 768]⟩
abbrev S8192x384 : Shape := ⟨2, ![8192, 384]⟩
abbrev S_ : Shape := ⟨0, ![]⟩
abbrev S8192x6x128 : Shape := ⟨3, ![8192, 6, 128]⟩
abbrev S6x8192x8192 : Shape := ⟨3, ![6, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S6x8192 : Shape := ⟨2, ![6, 8192]⟩
abbrev S6x8192x1 : Shape := ⟨3, ![6, 8192, 1]⟩
abbrev S8192x6x64 : Shape := ⟨3, ![8192, 6, 64]⟩
abbrev S6x64x8192 : Shape := ⟨3, ![6, 64, 8192]⟩
abbrev S8192x6 : Shape := ⟨2, ![8192, 6]⟩
abbrev S3x2x16x512 : Shape := ⟨4, ![3, 2, 16, 512]⟩
abbrev S3x16x2x512 : Shape := ⟨4, ![3, 16, 2, 512]⟩
abbrev S3x16x8x512 : Shape := ⟨4, ![3, 16, 8, 512]⟩
abbrev S8192x256 : Shape := ⟨2, ![8192, 256]⟩
abbrev S8192x128 : Shape := ⟨2, ![8192, 128]⟩
abbrev S1x16x8x512 : Shape := ⟨4, ![1, 16, 8, 512]⟩
abbrev S512x256 : Shape := ⟨2, ![512, 256]⟩
abbrev S512x128 : Shape := ⟨2, ![512, 128]⟩
abbrev S1x1x1x512 : Shape := ⟨4, ![1, 1, 1, 512]⟩
abbrev S1x512 : Shape := ⟨2, ![1, 512]⟩
abbrev S512x512 : Shape := ⟨2, ![512, 512]⟩

abbrev nBuf : Space → Nat
  | .hbm => 71
  | .vmem => 18
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S8192x384, .f32⟩
  | .hbm, ⟨3, _⟩ => ⟨S8192x384, .f32⟩
  | .hbm, ⟨4, _⟩ => ⟨S_, .f32⟩
  | .hbm, ⟨5, _⟩ => ⟨S8192x768, .f32⟩
  | .hbm, ⟨6, _⟩ => ⟨S8192x768, .f32⟩
  | .hbm, ⟨7, _⟩ => ⟨S8192x6x128, .f32⟩
  | .hbm, ⟨8, _⟩ => ⟨S8192x6x128, .f32⟩
  | .hbm, ⟨9, _⟩ => ⟨S6x8192x8192, .f32⟩
  | .hbm, ⟨10, _⟩ => ⟨S8192, .i32⟩
  | .hbm, ⟨11, _⟩ => ⟨S1x8192, .i32⟩
  | .hbm, ⟨12, _⟩ => ⟨S8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S_, .f32⟩
  | .hbm, ⟨18, _⟩ => ⟨S_, .f32⟩
  | .hbm, ⟨19, _⟩ => ⟨S6x8192x8192, .i1⟩
  | .hbm, ⟨20, _⟩ => ⟨S6x8192x8192, .f32⟩
  | .hbm, ⟨21, _⟩ => ⟨S6x8192x8192, .f32⟩
  | .hbm, ⟨22, _⟩ => ⟨S_, .f32⟩
  | .hbm, ⟨23, _⟩ => ⟨S6x8192, .f32⟩
  | .hbm, ⟨24, _⟩ => ⟨S6x8192x1, .f32⟩
  | .hbm, ⟨25, _⟩ => ⟨S6x8192x8192, .f32⟩
  | .hbm, ⟨26, _⟩ => ⟨S6x8192x8192, .f32⟩
  | .hbm, ⟨27, _⟩ => ⟨S6x8192x8192, .f32⟩
  | .hbm, ⟨28, _⟩ => ⟨S_, .f32⟩
  | .hbm, ⟨29, _⟩ => ⟨S6x8192, .f32⟩
  | .hbm, ⟨30, _⟩ => ⟨S6x8192, .f32⟩
  | .hbm, ⟨31, _⟩ => ⟨S6x8192, .f32⟩
  | .hbm, ⟨32, _⟩ => ⟨S_, .f32⟩
  | .hbm, ⟨33, _⟩ => ⟨S_, .f32⟩
  | .hbm, ⟨34, _⟩ => ⟨S6x8192, .f32⟩
  | .hbm, ⟨35, _⟩ => ⟨S6x8192, .f32⟩
  | .hbm, ⟨36, _⟩ => ⟨S6x8192x1, .f32⟩
  | .hbm, ⟨37, _⟩ => ⟨S6x8192x8192, .f32⟩
  | .hbm, ⟨38, _⟩ => ⟨S6x8192x8192, .f32⟩
  | .hbm, ⟨39, _⟩ => ⟨S8192x6x64, .f32⟩
  | .hbm, ⟨40, _⟩ => ⟨S6x64x8192, .f32⟩
  | .hbm, ⟨41, _⟩ => ⟨S8192x6x64, .f32⟩
  | .hbm, ⟨42, _⟩ => ⟨S8192x6x64, .f32⟩
  | .hbm, ⟨43, _⟩ => ⟨S8192x6x64, .f32⟩
  | .hbm, ⟨44, _⟩ => ⟨S_, .f32⟩
  | .hbm, ⟨45, _⟩ => ⟨S8192x6, .f32⟩
  | .hbm, ⟨46, _⟩ => ⟨S6x8192, .f32⟩
  | .hbm, ⟨47, _⟩ => ⟨S_, .f32⟩
  | .hbm, ⟨48, _⟩ => ⟨S8192x768, .f32⟩
  | .hbm, ⟨49, _⟩ => ⟨S8192x768, .f32⟩
  | .hbm, ⟨50, _⟩ => ⟨S_, .f32⟩
  | .hbm, ⟨51, _⟩ => ⟨S_, .f32⟩
  | .hbm, ⟨52, _⟩ => ⟨S8192x768, .f32⟩
  | .hbm, ⟨53, _⟩ => ⟨S8192x768, .f32⟩
  | .hbm, ⟨54, _⟩ => ⟨S8192x768, .bf16⟩
  | .hbm, ⟨55, _⟩ => ⟨S8192x768, .bf16⟩
  | .hbm, ⟨56, _⟩ => ⟨S8192x384, .bf16⟩
  | .hbm, ⟨57, _⟩ => ⟨S8192x384, .bf16⟩
  | .hbm, ⟨58, _⟩ => ⟨S3x2x16x512, .f32⟩
  | .hbm, ⟨59, _⟩ => ⟨S3x16x2x512, .f32⟩
  | .hbm, ⟨60, _⟩ => ⟨S_, .i32⟩
  | .hbm, ⟨61, _⟩ => ⟨S_, .f32⟩
  | .hbm, ⟨62, _⟩ => ⟨S3x16x8x512, .f32⟩
  | .hbm, ⟨63, _⟩ => ⟨S3x2x16x512, .f32⟩
  | .hbm, ⟨64, _⟩ => ⟨S3x16x2x512, .f32⟩
  | .hbm, ⟨65, _⟩ => ⟨S_, .i32⟩
  | .hbm, ⟨66, _⟩ => ⟨S_, .f32⟩
  | .hbm, ⟨67, _⟩ => ⟨S3x16x8x512, .f32⟩
  | .hbm, ⟨68, _⟩ => ⟨S8192x768, .f32⟩
  | .hbm, ⟨69, _⟩ => ⟨S8192x768, .f32⟩
  | .hbm, ⟨70, _⟩ => ⟨S8192x384, .bf16⟩
  | .local _ .vmem, ⟨0, _⟩ => ⟨S8192x256, .bf16⟩
  | .local _ .vmem, ⟨1, _⟩ => ⟨S8192x256, .bf16⟩
  | .local _ .vmem, ⟨2, _⟩ => ⟨S8192x128, .bf16⟩
  | .local _ .vmem, ⟨3, _⟩ => ⟨S8192x128, .bf16⟩
  | .local _ .vmem, ⟨4, _⟩ => ⟨S1x16x8x512, .f32⟩
  | .local _ .vmem, ⟨5, _⟩ => ⟨S1x16x8x512, .f32⟩
  | .local _ .vmem, ⟨6, _⟩ => ⟨S1x16x8x512, .f32⟩
  | .local _ .vmem, ⟨7, _⟩ => ⟨S1x16x8x512, .f32⟩
  | .local _ .vmem, ⟨8, _⟩ => ⟨S512x256, .bf16⟩
  | .local _ .vmem, ⟨9, _⟩ => ⟨S512x256, .bf16⟩
  | .local _ .vmem, ⟨10, _⟩ => ⟨S512x128, .bf16⟩
  | .local _ .vmem, ⟨11, _⟩ => ⟨S512x128, .bf16⟩
  | .local _ .vmem, ⟨12, _⟩ => ⟨S8192x256, .f32⟩
  | .local _ .vmem, ⟨13, _⟩ => ⟨S8192x256, .f32⟩
  | .local _ .vmem, ⟨14, _⟩ => ⟨S512x256, .f32⟩
  | .local _ .vmem, ⟨15, _⟩ => ⟨S512x256, .f32⟩
  | .local _ .vmem, ⟨16, _⟩ => ⟨S512x128, .bf16⟩
  | .local _ .vmem, ⟨17, _⟩ => ⟨S512x128, .bf16⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c : Ref sig .tc := ⟨.hbm, 60, rfl⟩
abbrev main_call1_v0 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_7 : Ref sig .tc := ⟨.hbm, 65, rfl⟩
abbrev main_call2_v0 : Ref sig .tc := ⟨.hbm, 66, rfl⟩
abbrev main_v48 : Ref sig .tc := ⟨.hbm, 67, rfl⟩
abbrev main_v49_0 : Ref sig .tc := ⟨.hbm, 68, rfl⟩
abbrev main_v49_1 : Ref sig .tc := ⟨.hbm, 69, rfl⟩
abbrev main_v49_2 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![3, 16], ![false, false]⟩

def k0_mult1 (i : grid0.Coords) : BitVec 32 :=
  let arg1 : BitVec 32 := BitVec.ofNat 32 (i 1).val
  let c512_i32 : BitVec 32 := 512#32
  let v10 : BitVec 32 := Scalar.muli arg1 c512_i32
  v10
def k0_off1 (i : grid0.Coords) : Fin 2 → Nat :=
  let arg1 : BitVec 32 := BitVec.ofNat 32 (i 1).val
  let c512_i32 : BitVec 32 := 512#32
  let v10 : BitVec 32 := Scalar.muli arg1 c512_i32
  let v11 : BitVec 32 := v10
  let v12 : Index := Scalar.indexCast v11
  let c0_4 : Index := 0#32
  ![v12.toNat, 0]
def k0_off2 (i : grid0.Coords) : Fin 2 → Nat :=
  let arg1 : BitVec 32 := BitVec.ofNat 32 (i 1).val
  let c512_i32 : BitVec 32 := 512#32
  let v10 : BitVec 32 := Scalar.muli arg1 c512_i32
  let v11 : BitVec 32 := v10
  let v15 : Index := Scalar.indexCast v11
  let c0_5 : Index := 0#32
  ![v15.toNat, 0]
def k0_off3 (i : grid0.Coords) : Fin 4 → Nat :=
  let c0_9 : Index := 0#32
  let arg1 : BitVec 32 := BitVec.ofNat 32 (i 1).val
  let v28 : Index := Scalar.indexCast arg1
  let c0_10 : Index := 0#32
  let c0_11 : Index := 0#32
  ![0, v28.toNat, 0, 0]
def k0_off4 (i : grid0.Coords) : Fin 4 → Nat :=
  let c0_21 : Index := 0#32
  let arg1 : BitVec 32 := BitVec.ofNat 32 (i 1).val
  let v53 : Index := Scalar.indexCast arg1
  let c1 : Index := 1#32
  let c0_22 : Index := 0#32
  ![0, v53.toNat, 1, 0]
def k0_off5 (i : grid0.Coords) : Fin 2 → Nat :=
  let arg1 : BitVec 32 := BitVec.ofNat 32 (i 1).val
  let c512_i32 : BitVec 32 := 512#32
  let v10 : BitVec 32 := Scalar.muli arg1 c512_i32
  let v11 : BitVec 32 := v10
  let v77 : Index := Scalar.indexCast v11
  let c0_32 : Index := 0#32
  ![v77.toNat, 0]
def k0_off6 (i : grid0.Coords) : Fin 2 → Nat :=
  let arg1 : BitVec 32 := BitVec.ofNat 32 (i 1).val
  let c512_i32 : BitVec 32 := 512#32
  let v10 : BitVec 32 := Scalar.muli arg1 c512_i32
  let v11 : BitVec 32 := v10
  let v83 : Index := Scalar.indexCast v11
  let c128 : Index := 128#32
  ![v83.toNat, 128]
@[reducible] def k0_t1_loop (i : grid0.Coords) : Scf.Loop 32 :=
  let c0_i32_41 : BitVec 32 := 0#32
  let c16_i32 : BitVec 32 := 16#32
  let arg1 : BitVec 32 := BitVec.ofNat 32 (i 1).val
  let c1_i32 : BitVec 32 := 1#32
  let v93 : BitVec 32 := Scalar.addi arg1 c1_i32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v112 : BitVec 32 := Scalar.subi v111 c0_i32_41
  let c1_i32_42 : BitVec 32 := 1#32
  let v114 : BitVec 32 := Scalar.divsi v112 c1_i32_42
  let v115 : BitVec 32 := Scalar.muli v114 c1_i32_42
  let v116 : BitVec 32 := Scalar.addi c0_i32_41 v115
  let c1_i32_43 : BitVec 32 := 1#32
  ⟨c0_i32_41, v116, c1_i32_43⟩
def k0_mult2 (i : grid0.Coords) (k0_t1 : Fin (k0_t1_loop i).trips) : BitVec 32 :=
  let arg1 : BitVec 32 := BitVec.ofNat 32 (i 1).val
  let c1_i32 : BitVec 32 := 1#32
  let v93 : BitVec 32 := Scalar.addi arg1 c1_i32
  let c4_i32_58 : BitVec 32 := 4#32
  let c0_i32_41 : BitVec 32 := 0#32
  let c1_i32_43 : BitVec 32 := 1#32
  let arg11 : BitVec 32 := Scf.iv c0_i32_41 c1_i32_43 k0_t1
  let v136 : BitVec 32 := Scalar.muli c4_i32_58 arg11
  let v137 : BitVec 32 := Scalar.addi v93 v136
  let c0_i32_59 : BitVec 32 := 0#32
  let v138 : BitVec 32 := Scalar.addi v137 c0_i32_59
  let c512_i32_60 : BitVec 32 := 512#32
  let v139 : BitVec 32 := Scalar.muli v138 c512_i32_60
  v139
def k0_off7 (i : grid0.Coords) (k0_t1 : Fin (k0_t1_loop i).trips) (c0_i32_59 : BitVec 32) : Fin 2 → Nat :=
  let arg1 : BitVec 32 := BitVec.ofNat 32 (i 1).val
  let c1_i32 : BitVec 32 := 1#32
  let v93 : BitVec 32 := Scalar.addi arg1 c1_i32
  let c4_i32_58 : BitVec 32 := 4#32
  let c0_i32_41 : BitVec 32 := 0#32
  let c1_i32_43 : BitVec 32 := 1#32
  let arg11 : BitVec 32 := Scf.iv c0_i32_41 c1_i32_43 k0_t1
  let v136 : BitVec 32 := Scalar.muli c4_i32_58 arg11
  let v137 : BitVec 32 := Scalar.addi v93 v136
  let v138 : BitVec 32 := Scalar.addi v137 c0_i32_59
  let c512_i32_60 : BitVec 32 := 512#32
  let v139 : BitVec 32 := Scalar.muli v138 c512_i32_60
  let v140 : BitVec 32 := v139
  let v141 : Index := Scalar.indexCast v140
  let c0_61 : Index := 0#32
  ![v141.toNat, 0]
def k0_off8 (i : grid0.Coords) (k0_t1 : Fin (k0_t1_loop i).trips) (c0_i32_59 : BitVec 32) : Fin 2 → Nat :=
  let arg1 : BitVec 32 := BitVec.ofNat 32 (i 1).val
  let c1_i32 : BitVec 32 := 1#32
  let v93 : BitVec 32 := Scalar.addi arg1 c1_i32
  let c4_i32_58 : BitVec 32 := 4#32
  let c0_i32_41 : BitVec 32 := 0#32
  let c1_i32_43 : BitVec 32 := 1#32
  let arg11 : BitVec 32 := Scf.iv c0_i32_41 c1_i32_43 k0_t1
  let v136 : BitVec 32 := Scalar.muli c4_i32_58 arg11
  let v137 : BitVec 32 := Scalar.addi v93 v136
  let v138 : BitVec 32 := Scalar.addi v137 c0_i32_59
  let c512_i32_60 : BitVec 32 := 512#32
  let v139 : BitVec 32 := Scalar.muli v138 c512_i32_60
  let v140 : BitVec 32 := v139
  let v144 : Index := Scalar.indexCast v140
  let c0_62 : Index := 0#32
  ![v144.toNat, 0]
def k0_off9 (i : grid0.Coords) (k0_t1 : Fin (k0_t1_loop i).trips) (c0_i32_59 : BitVec 32) : Fin 4 → Nat :=
  let c0_67 : Index := 0#32
  let arg1 : BitVec 32 := BitVec.ofNat 32 (i 1).val
  let c1_i32 : BitVec 32 := 1#32
  let v93 : BitVec 32 := Scalar.addi arg1 c1_i32
  let c4_i32_58 : BitVec 32 := 4#32
  let c0_i32_41 : BitVec 32 := 0#32
  let c1_i32_43 : BitVec 32 := 1#32
  let arg11 : BitVec 32 := Scf.iv c0_i32_41 c1_i32_43 k0_t1
  let v136 : BitVec 32 := Scalar.muli c4_i32_58 arg11
  let v137 : BitVec 32 := Scalar.addi v93 v136
  let v138 : BitVec 32 := Scalar.addi v137 c0_i32_59
  let v157 : Index := Scalar.indexCast v138
  let c0_68 : Index := 0#32
  let c0_69 : Index := 0#32
  ![0, v157.toNat, 0, 0]
def k0_off10 (i : grid0.Coords) (k0_t1 : Fin (k0_t1_loop i).trips) (c0_i32_59 : BitVec 32) : Fin 4 → Nat :=
  let c0_78 : Index := 0#32
  let arg1 : BitVec 32 := BitVec.ofNat 32 (i 1).val
  let c1_i32 : BitVec 32 := 1#32
  let v93 : BitVec 32 := Scalar.addi arg1 c1_i32
  let c4_i32_58 : BitVec 32 := 4#32
  let c0_i32_41 : BitVec 32 := 0#32
  let c1_i32_43 : BitVec 32 := 1#32
  let arg11 : BitVec 32 := Scf.iv c0_i32_41 c1_i32_43 k0_t1
  let v136 : BitVec 32 := Scalar.muli c4_i32_58 arg11
  let v137 : BitVec 32 := Scalar.addi v93 v136
  let v138 : BitVec 32 := Scalar.addi v137 c0_i32_59
  let v177 : Index := Scalar.indexCast v138
  let c1_79 : Index := 1#32
  let c0_80 : Index := 0#32
  ![0, v177.toNat, 1, 0]
def k0_off11 (i : grid0.Coords) (k0_t1 : Fin (k0_t1_loop i).trips) (c0_i32_59 : BitVec 32) : Fin 2 → Nat :=
  let arg1 : BitVec 32 := BitVec.ofNat 32 (i 1).val
  let c1_i32 : BitVec 32 := 1#32
  let v93 : BitVec 32 := Scalar.addi arg1 c1_i32
  let c4_i32_58 : BitVec 32 := 4#32
  let c0_i32_41 : BitVec 32 := 0#32
  let c1_i32_43 : BitVec 32 := 1#32
  let arg11 : BitVec 32 := Scf.iv c0_i32_41 c1_i32_43 k0_t1
  let v136 : BitVec 32 := Scalar.muli c4_i32_58 arg11
  let v137 : BitVec 32 := Scalar.addi v93 v136
  let v138 : BitVec 32 := Scalar.addi v137 c0_i32_59
  let c512_i32_60 : BitVec 32 := 512#32
  let v139 : BitVec 32 := Scalar.muli v138 c512_i32_60
  let v140 : BitVec 32 := v139
  let v196 : Index := Scalar.indexCast v140
  let c0_89 : Index := 0#32
  ![v196.toNat, 0]
def k0_off12 (i : grid0.Coords) (k0_t1 : Fin (k0_t1_loop i).trips) (c0_i32_59 : BitVec 32) : Fin 2 → Nat :=
  let arg1 : BitVec 32 := BitVec.ofNat 32 (i 1).val
  let c1_i32 : BitVec 32 := 1#32
  let v93 : BitVec 32 := Scalar.addi arg1 c1_i32
  let c4_i32_58 : BitVec 32 := 4#32
  let c0_i32_41 : BitVec 32 := 0#32
  let c1_i32_43 : BitVec 32 := 1#32
  let arg11 : BitVec 32 := Scf.iv c0_i32_41 c1_i32_43 k0_t1
  let v136 : BitVec 32 := Scalar.muli c4_i32_58 arg11
  let v137 : BitVec 32 := Scalar.addi v93 v136
  let v138 : BitVec 32 := Scalar.addi v137 c0_i32_59
  let c512_i32_60 : BitVec 32 := 512#32
  let v139 : BitVec 32 := Scalar.muli v138 c512_i32_60
  let v140 : BitVec 32 := v139
  let v202 : Index := Scalar.indexCast v140
  let c128_91 : Index := 128#32
  ![v202.toNat, 128]
def k0_mult3 (i : grid0.Coords) (k0_t1 : Fin (k0_t1_loop i).trips) : BitVec 32 :=
  let arg1 : BitVec 32 := BitVec.ofNat 32 (i 1).val
  let c1_i32 : BitVec 32 := 1#32
  let v93 : BitVec 32 := Scalar.addi arg1 c1_i32
  let c4_i32_93 : BitVec 32 := 4#32
  let c0_i32_41 : BitVec 32 := 0#32
  let c1_i32_43 : BitVec 32 := 1#32
  let arg11 : BitVec 32 := Scf.iv c0_i32_41 c1_i32_43 k0_t1
  let v212 : BitVec 32 := Scalar.muli c4_i32_93 arg11
  let v213 : BitVec 32 := Scalar.addi v93 v212
  let c1_i32_94 : BitVec 32 := 1#32
  let v214 : BitVec 32 := Scalar.addi v213 c1_i32_94
  let c512_i32_95 : BitVec 32 := 512#32
  let v215 : BitVec 32 := Scalar.muli v214 c512_i32_95
  v215
def k0_mult4 (i : grid0.Coords) (k0_t1 : Fin (k0_t1_loop i).trips) : BitVec 32 :=
  let arg1 : BitVec 32 := BitVec.ofNat 32 (i 1).val
  let c1_i32 : BitVec 32 := 1#32
  let v93 : BitVec 32 := Scalar.addi arg1 c1_i32
  let c4_i32_128 : BitVec 32 := 4#32
  let c0_i32_41 : BitVec 32 := 0#32
  let c1_i32_43 : BitVec 32 := 1#32
  let arg11 : BitVec 32 := Scf.iv c0_i32_41 c1_i32_43 k0_t1
  let v288 : BitVec 32 := Scalar.muli c4_i32_128 arg11
  let v289 : BitVec 32 := Scalar.addi v93 v288
  let c2_i32 : BitVec 32 := 2#32
  let v290 : BitVec 32 := Scalar.addi v289 c2_i32
  let c512_i32_129 : BitVec 32 := 512#32
  let v291 : BitVec 32 := Scalar.muli v290 c512_i32_129
  v291
def k0_mult5 (i : grid0.Coords) (k0_t1 : Fin (k0_t1_loop i).trips) : BitVec 32 :=
  let arg1 : BitVec 32 := BitVec.ofNat 32 (i 1).val
  let c1_i32 : BitVec 32 := 1#32
  let v93 : BitVec 32 := Scalar.addi arg1 c1_i32
  let c4_i32_162 : BitVec 32 := 4#32
  let c0_i32_41 : BitVec 32 := 0#32
  let c1_i32_43 : BitVec 32 := 1#32
  let arg11 : BitVec 32 := Scf.iv c0_i32_41 c1_i32_43 k0_t1
  let v364 : BitVec 32 := Scalar.muli c4_i32_162 arg11
  let v365 : BitVec 32 := Scalar.addi v93 v364
  let c3_i32 : BitVec 32 := 3#32
  let v366 : BitVec 32 := Scalar.addi v365 c3_i32
  let c512_i32_163 : BitVec 32 := 512#32
  let v367 : BitVec 32 := Scalar.muli v366 c512_i32_163
  v367
@[reducible] def k0_t2_loop (i : grid0.Coords) : Scf.Loop 32 :=
  let c0_i32_41 : BitVec 32 := 0#32
  let c16_i32 : BitVec 32 := 16#32
  let arg1 : BitVec 32 := BitVec.ofNat 32 (i 1).val
  let c1_i32 : BitVec 32 := 1#32
  let v93 : BitVec 32 := Scalar.addi arg1 c1_i32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v112 : BitVec 32 := Scalar.subi v111 c0_i32_41
  let c1_i32_42 : BitVec 32 := 1#32
  let v114 : BitVec 32 := Scalar.divsi v112 c1_i32_42
  let v115 : BitVec 32 := Scalar.muli v114 c1_i32_42
  let v116 : BitVec 32 := Scalar.addi c0_i32_41 v115
  let v113 : BitVec 32 := Scalar.addi c0_i32_41 v112
  let c1_i32_44 : BitVec 32 := 1#32
  ⟨v116, v113, c1_i32_44⟩
def k0_mult6 (i : grid0.Coords) (k0_t2 : Fin (k0_t2_loop i).trips) : BitVec 32 :=
  let arg1 : BitVec 32 := BitVec.ofNat 32 (i 1).val
  let c1_i32 : BitVec 32 := 1#32
  let v93 : BitVec 32 := Scalar.addi arg1 c1_i32
  let c4_i32_58 : BitVec 32 := 4#32
  let c0_i32_41 : BitVec 32 := 0#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v112 : BitVec 32 := Scalar.subi v111 c0_i32_41
  let c1_i32_42 : BitVec 32 := 1#32
  let v114 : BitVec 32 := Scalar.divsi v112 c1_i32_42
  let v115 : BitVec 32 := Scalar.muli v114 c1_i32_42
  let v116 : BitVec 32 := Scalar.addi c0_i32_41 v115
  let c1_i32_44 : BitVec 32 := 1#32
  let arg11 : BitVec 32 := Scf.iv v116 c1_i32_44 k0_t2
  let v136 : BitVec 32 := Scalar.muli c4_i32_58 arg11
  let v137 : BitVec 32 := Scalar.addi v93 v136
  let c0_i32_59 : BitVec 32 := 0#32
  let v138 : BitVec 32 := Scalar.addi v137 c0_i32_59
  let c512_i32_60 : BitVec 32 := 512#32
  let v139 : BitVec 32 := Scalar.muli v138 c512_i32_60
  v139
def k0_off13 (i : grid0.Coords) (k0_t2 : Fin (k0_t2_loop i).trips) (c0_i32_59 : BitVec 32) : Fin 2 → Nat :=
  let arg1 : BitVec 32 := BitVec.ofNat 32 (i 1).val
  let c1_i32 : BitVec 32 := 1#32
  let v93 : BitVec 32 := Scalar.addi arg1 c1_i32
  let c4_i32_58 : BitVec 32 := 4#32
  let c0_i32_41 : BitVec 32 := 0#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v112 : BitVec 32 := Scalar.subi v111 c0_i32_41
  let c1_i32_42 : BitVec 32 := 1#32
  let v114 : BitVec 32 := Scalar.divsi v112 c1_i32_42
  let v115 : BitVec 32 := Scalar.muli v114 c1_i32_42
  let v116 : BitVec 32 := Scalar.addi c0_i32_41 v115
  let c1_i32_44 : BitVec 32 := 1#32
  let arg11 : BitVec 32 := Scf.iv v116 c1_i32_44 k0_t2
  let v136 : BitVec 32 := Scalar.muli c4_i32_58 arg11
  let v137 : BitVec 32 := Scalar.addi v93 v136
  let v138 : BitVec 32 := Scalar.addi v137 c0_i32_59
  let c512_i32_60 : BitVec 32 := 512#32
  let v139 : BitVec 32 := Scalar.muli v138 c512_i32_60
  let v140 : BitVec 32 := v139
  let v141 : Index := Scalar.indexCast v140
  let c0_61 : Index := 0#32
  ![v141.toNat, 0]
def k0_off14 (i : grid0.Coords) (k0_t2 : Fin (k0_t2_loop i).trips) (c0_i32_59 : BitVec 32) : Fin 2 → Nat :=
  let arg1 : BitVec 32 := BitVec.ofNat 32 (i 1).val
  let c1_i32 : BitVec 32 := 1#32
  let v93 : BitVec 32 := Scalar.addi arg1 c1_i32
  let c4_i32_58 : BitVec 32 := 4#32
  let c0_i32_41 : BitVec 32 := 0#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v112 : BitVec 32 := Scalar.subi v111 c0_i32_41
  let c1_i32_42 : BitVec 32 := 1#32
  let v114 : BitVec 32 := Scalar.divsi v112 c1_i32_42
  let v115 : BitVec 32 := Scalar.muli v114 c1_i32_42
  let v116 : BitVec 32 := Scalar.addi c0_i32_41 v115
  let c1_i32_44 : BitVec 32 := 1#32
  let arg11 : BitVec 32 := Scf.iv v116 c1_i32_44 k0_t2
  let v136 : BitVec 32 := Scalar.muli c4_i32_58 arg11
  let v137 : BitVec 32 := Scalar.addi v93 v136
  let v138 : BitVec 32 := Scalar.addi v137 c0_i32_59
  let c512_i32_60 : BitVec 32 := 512#32
  let v139 : BitVec 32 := Scalar.muli v138 c512_i32_60
  let v140 : BitVec 32 := v139
  let v144 : Index := Scalar.indexCast v140
  let c0_62 : Index := 0#32
  ![v144.toNat, 0]
def k0_off15 (i : grid0.Coords) (k0_t2 : Fin (k0_t2_loop i).trips) (c0_i32_59 : BitVec 32) : Fin 4 → Nat :=
  let c0_67 : Index := 0#32
  let arg1 : BitVec 32 := BitVec.ofNat 32 (i 1).val
  let c1_i32 : BitVec 32 := 1#32
  let v93 : BitVec 32 := Scalar.addi arg1 c1_i32
  let c4_i32_58 : BitVec 32 := 4#32
  let c0_i32_41 : BitVec 32 := 0#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v112 : BitVec 32 := Scalar.subi v111 c0_i32_41
  let c1_i32_42 : BitVec 32 := 1#32
  let v114 : BitVec 32 := Scalar.divsi v112 c1_i32_42
  let v115 : BitVec 32 := Scalar.muli v114 c1_i32_42
  let v116 : BitVec 32 := Scalar.addi c0_i32_41 v115
  let c1_i32_44 : BitVec 32 := 1#32
  let arg11 : BitVec 32 := Scf.iv v116 c1_i32_44 k0_t2
  let v136 : BitVec 32 := Scalar.muli c4_i32_58 arg11
  let v137 : BitVec 32 := Scalar.addi v93 v136
  let v138 : BitVec 32 := Scalar.addi v137 c0_i32_59
  let v157 : Index := Scalar.indexCast v138
  let c0_68 : Index := 0#32
  let c0_69 : Index := 0#32
  ![0, v157.toNat, 0, 0]
def k0_off16 (i : grid0.Coords) (k0_t2 : Fin (k0_t2_loop i).trips) (c0_i32_59 : BitVec 32) : Fin 4 → Nat :=
  let c0_78 : Index := 0#32
  let arg1 : BitVec 32 := BitVec.ofNat 32 (i 1).val
  let c1_i32 : BitVec 32 := 1#32
  let v93 : BitVec 32 := Scalar.addi arg1 c1_i32
  let c4_i32_58 : BitVec 32 := 4#32
  let c0_i32_41 : BitVec 32 := 0#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v112 : BitVec 32 := Scalar.subi v111 c0_i32_41
  let c1_i32_42 : BitVec 32 := 1#32
  let v114 : BitVec 32 := Scalar.divsi v112 c1_i32_42
  let v115 : BitVec 32 := Scalar.muli v114 c1_i32_42
  let v116 : BitVec 32 := Scalar.addi c0_i32_41 v115
  let c1_i32_44 : BitVec 32 := 1#32
  let arg11 : BitVec 32 := Scf.iv v116 c1_i32_44 k0_t2
  let v136 : BitVec 32 := Scalar.muli c4_i32_58 arg11
  let v137 : BitVec 32 := Scalar.addi v93 v136
  let v138 : BitVec 32 := Scalar.addi v137 c0_i32_59
  let v177 : Index := Scalar.indexCast v138
  let c1_79 : Index := 1#32
  let c0_80 : Index := 0#32
  ![0, v177.toNat, 1, 0]
def k0_off17 (i : grid0.Coords) (k0_t2 : Fin (k0_t2_loop i).trips) (c0_i32_59 : BitVec 32) : Fin 2 → Nat :=
  let arg1 : BitVec 32 := BitVec.ofNat 32 (i 1).val
  let c1_i32 : BitVec 32 := 1#32
  let v93 : BitVec 32 := Scalar.addi arg1 c1_i32
  let c4_i32_58 : BitVec 32 := 4#32
  let c0_i32_41 : BitVec 32 := 0#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v112 : BitVec 32 := Scalar.subi v111 c0_i32_41
  let c1_i32_42 : BitVec 32 := 1#32
  let v114 : BitVec 32 := Scalar.divsi v112 c1_i32_42
  let v115 : BitVec 32 := Scalar.muli v114 c1_i32_42
  let v116 : BitVec 32 := Scalar.addi c0_i32_41 v115
  let c1_i32_44 : BitVec 32 := 1#32
  let arg11 : BitVec 32 := Scf.iv v116 c1_i32_44 k0_t2
  let v136 : BitVec 32 := Scalar.muli c4_i32_58 arg11
  let v137 : BitVec 32 := Scalar.addi v93 v136
  let v138 : BitVec 32 := Scalar.addi v137 c0_i32_59
  let c512_i32_60 : BitVec 32 := 512#32
  let v139 : BitVec 32 := Scalar.muli v138 c512_i32_60
  let v140 : BitVec 32 := v139
  let v196 : Index := Scalar.indexCast v140
  let c0_89 : Index := 0#32
  ![v196.toNat, 0]
def k0_off18 (i : grid0.Coords) (k0_t2 : Fin (k0_t2_loop i).trips) (c0_i32_59 : BitVec 32) : Fin 2 → Nat :=
  let arg1 : BitVec 32 := BitVec.ofNat 32 (i 1).val
  let c1_i32 : BitVec 32 := 1#32
  let v93 : BitVec 32 := Scalar.addi arg1 c1_i32
  let c4_i32_58 : BitVec 32 := 4#32
  let c0_i32_41 : BitVec 32 := 0#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v112 : BitVec 32 := Scalar.subi v111 c0_i32_41
  let c1_i32_42 : BitVec 32 := 1#32
  let v114 : BitVec 32 := Scalar.divsi v112 c1_i32_42
  let v115 : BitVec 32 := Scalar.muli v114 c1_i32_42
  let v116 : BitVec 32 := Scalar.addi c0_i32_41 v115
  let c1_i32_44 : BitVec 32 := 1#32
  let arg11 : BitVec 32 := Scf.iv v116 c1_i32_44 k0_t2
  let v136 : BitVec 32 := Scalar.muli c4_i32_58 arg11
  let v137 : BitVec 32 := Scalar.addi v93 v136
  let v138 : BitVec 32 := Scalar.addi v137 c0_i32_59
  let c512_i32_60 : BitVec 32 := 512#32
  let v139 : BitVec 32 := Scalar.muli v138 c512_i32_60
  let v140 : BitVec 32 := v139
  let v202 : Index := Scalar.indexCast v140
  let c128_91 : Index := 128#32
  ![v202.toNat, 128]
def k0_mult7 (i : grid0.Coords) (k0_t2 : Fin (k0_t2_loop i).trips) : BitVec 32 :=
  let arg1 : BitVec 32 := BitVec.ofNat 32 (i 1).val
  let c1_i32 : BitVec 32 := 1#32
  let v93 : BitVec 32 := Scalar.addi arg1 c1_i32
  let c4_i32_93 : BitVec 32 := 4#32
  let c0_i32_41 : BitVec 32 := 0#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v112 : BitVec 32 := Scalar.subi v111 c0_i32_41
  let c1_i32_42 : BitVec 32 := 1#32
  let v114 : BitVec 32 := Scalar.divsi v112 c1_i32_42
  let v115 : BitVec 32 := Scalar.muli v114 c1_i32_42
  let v116 : BitVec 32 := Scalar.addi c0_i32_41 v115
  let c1_i32_44 : BitVec 32 := 1#32
  let arg11 : BitVec 32 := Scf.iv v116 c1_i32_44 k0_t2
  let v212 : BitVec 32 := Scalar.muli c4_i32_93 arg11
  let v213 : BitVec 32 := Scalar.addi v93 v212
  let c1_i32_94 : BitVec 32 := 1#32
  let v214 : BitVec 32 := Scalar.addi v213 c1_i32_94
  let c512_i32_95 : BitVec 32 := 512#32
  let v215 : BitVec 32 := Scalar.muli v214 c512_i32_95
  v215
def k0_mult8 (i : grid0.Coords) (k0_t2 : Fin (k0_t2_loop i).trips) : BitVec 32 :=
  let arg1 : BitVec 32 := BitVec.ofNat 32 (i 1).val
  let c1_i32 : BitVec 32 := 1#32
  let v93 : BitVec 32 := Scalar.addi arg1 c1_i32
  let c4_i32_128 : BitVec 32 := 4#32
  let c0_i32_41 : BitVec 32 := 0#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v112 : BitVec 32 := Scalar.subi v111 c0_i32_41
  let c1_i32_42 : BitVec 32 := 1#32
  let v114 : BitVec 32 := Scalar.divsi v112 c1_i32_42
  let v115 : BitVec 32 := Scalar.muli v114 c1_i32_42
  let v116 : BitVec 32 := Scalar.addi c0_i32_41 v115
  let c1_i32_44 : BitVec 32 := 1#32
  let arg11 : BitVec 32 := Scf.iv v116 c1_i32_44 k0_t2
  let v288 : BitVec 32 := Scalar.muli c4_i32_128 arg11
  let v289 : BitVec 32 := Scalar.addi v93 v288
  let c2_i32 : BitVec 32 := 2#32
  let v290 : BitVec 32 := Scalar.addi v289 c2_i32
  let c512_i32_129 : BitVec 32 := 512#32
  let v291 : BitVec 32 := Scalar.muli v290 c512_i32_129
  v291
def k0_mult9 (i : grid0.Coords) (k0_t2 : Fin (k0_t2_loop i).trips) : BitVec 32 :=
  let arg1 : BitVec 32 := BitVec.ofNat 32 (i 1).val
  let c1_i32 : BitVec 32 := 1#32
  let v93 : BitVec 32 := Scalar.addi arg1 c1_i32
  let c4_i32_162 : BitVec 32 := 4#32
  let c0_i32_41 : BitVec 32 := 0#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v112 : BitVec 32 := Scalar.subi v111 c0_i32_41
  let c1_i32_42 : BitVec 32 := 1#32
  let v114 : BitVec 32 := Scalar.divsi v112 c1_i32_42
  let v115 : BitVec 32 := Scalar.muli v114 c1_i32_42
  let v116 : BitVec 32 := Scalar.addi c0_i32_41 v115
  let c1_i32_44 : BitVec 32 := 1#32
  let arg11 : BitVec 32 := Scf.iv v116 c1_i32_44 k0_t2
  let v364 : BitVec 32 := Scalar.muli c4_i32_162 arg11
  let v365 : BitVec 32 := Scalar.addi v93 v364
  let c3_i32 : BitVec 32 := 3#32
  let v366 : BitVec 32 := Scalar.addi v365 c3_i32
  let c512_i32_163 : BitVec 32 := 512#32
  let v367 : BitVec 32 := Scalar.muli v366 c512_i32_163
  v367
@[reducible] def k0_t3_loop (i : grid0.Coords) : Scf.Loop 32 :=
  let arg1 : BitVec 32 := BitVec.ofNat 32 (i 1).val
  let c1_i32 : BitVec 32 := 1#32
  let v93 : BitVec 32 := Scalar.addi arg1 c1_i32
  let c4_i32_45 : BitVec 32 := 4#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v119 : BitVec 32 := Scalar.muli c4_i32_45 v111
  let v120 : BitVec 32 := Scalar.addi v93 v119
  let c16_i32_46 : BitVec 32 := 16#32
  let v121 : BitVec 32 := Scalar.subi c16_i32_46 v120
  let c1_i32_47 : BitVec 32 := 1#32
  let v123 : BitVec 32 := Scalar.divsi v121 c1_i32_47
  let v124 : BitVec 32 := Scalar.muli v123 c1_i32_47
  let v125 : BitVec 32 := Scalar.addi v120 v124
  let c1_i32_48 : BitVec 32 := 1#32
  ⟨v120, v125, c1_i32_48⟩
def k0_mult10 (i : grid0.Coords) (k0_t3 : Fin (k0_t3_loop i).trips) : BitVec 32 :=
  let arg1 : BitVec 32 := BitVec.ofNat 32 (i 1).val
  let c1_i32 : BitVec 32 := 1#32
  let v93 : BitVec 32 := Scalar.addi arg1 c1_i32
  let c4_i32_45 : BitVec 32 := 4#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v119 : BitVec 32 := Scalar.muli c4_i32_45 v111
  let v120 : BitVec 32 := Scalar.addi v93 v119
  let c1_i32_48 : BitVec 32 := 1#32
  let arg11 : BitVec 32 := Scf.iv v120 c1_i32_48 k0_t3
  let c512_i32_58 : BitVec 32 := 512#32
  let v136 : BitVec 32 := Scalar.muli arg11 c512_i32_58
  v136
def k0_off19 (i : grid0.Coords) (k0_t3 : Fin (k0_t3_loop i).trips) : Fin 2 → Nat :=
  let arg1 : BitVec 32 := BitVec.ofNat 32 (i 1).val
  let c1_i32 : BitVec 32 := 1#32
  let v93 : BitVec 32 := Scalar.addi arg1 c1_i32
  let c4_i32_45 : BitVec 32 := 4#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v119 : BitVec 32 := Scalar.muli c4_i32_45 v111
  let v120 : BitVec 32 := Scalar.addi v93 v119
  let c1_i32_48 : BitVec 32 := 1#32
  let arg11 : BitVec 32 := Scf.iv v120 c1_i32_48 k0_t3
  let c512_i32_58 : BitVec 32 := 512#32
  let v136 : BitVec 32 := Scalar.muli arg11 c512_i32_58
  let v137 : BitVec 32 := v136
  let v138 : Index := Scalar.indexCast v137
  let c0_59 : Index := 0#32
  ![v138.toNat, 0]
def k0_off20 (i : grid0.Coords) (k0_t3 : Fin (k0_t3_loop i).trips) : Fin 2 → Nat :=
  let arg1 : BitVec 32 := BitVec.ofNat 32 (i 1).val
  let c1_i32 : BitVec 32 := 1#32
  let v93 : BitVec 32 := Scalar.addi arg1 c1_i32
  let c4_i32_45 : BitVec 32 := 4#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v119 : BitVec 32 := Scalar.muli c4_i32_45 v111
  let v120 : BitVec 32 := Scalar.addi v93 v119
  let c1_i32_48 : BitVec 32 := 1#32
  let arg11 : BitVec 32 := Scf.iv v120 c1_i32_48 k0_t3
  let c512_i32_58 : BitVec 32 := 512#32
  let v136 : BitVec 32 := Scalar.muli arg11 c512_i32_58
  let v137 : BitVec 32 := v136
  let v141 : Index := Scalar.indexCast v137
  let c0_60 : Index := 0#32
  ![v141.toNat, 0]
def k0_off21 (i : grid0.Coords) (k0_t3 : Fin (k0_t3_loop i).trips) : Fin 4 → Nat :=
  let c0_65 : Index := 0#32
  let arg1 : BitVec 32 := BitVec.ofNat 32 (i 1).val
  let c1_i32 : BitVec 32 := 1#32
  let v93 : BitVec 32 := Scalar.addi arg1 c1_i32
  let c4_i32_45 : BitVec 32 := 4#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v119 : BitVec 32 := Scalar.muli c4_i32_45 v111
  let v120 : BitVec 32 := Scalar.addi v93 v119
  let c1_i32_48 : BitVec 32 := 1#32
  let arg11 : BitVec 32 := Scf.iv v120 c1_i32_48 k0_t3
  let v154 : Index := Scalar.indexCast arg11
  let c0_66 : Index := 0#32
  let c0_67 : Index := 0#32
  ![0, v154.toNat, 0, 0]
def k0_off22 (i : grid0.Coords) (k0_t3 : Fin (k0_t3_loop i).trips) : Fin 4 → Nat :=
  let c0_76 : Index := 0#32
  let arg1 : BitVec 32 := BitVec.ofNat 32 (i 1).val
  let c1_i32 : BitVec 32 := 1#32
  let v93 : BitVec 32 := Scalar.addi arg1 c1_i32
  let c4_i32_45 : BitVec 32 := 4#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v119 : BitVec 32 := Scalar.muli c4_i32_45 v111
  let v120 : BitVec 32 := Scalar.addi v93 v119
  let c1_i32_48 : BitVec 32 := 1#32
  let arg11 : BitVec 32 := Scf.iv v120 c1_i32_48 k0_t3
  let v174 : Index := Scalar.indexCast arg11
  let c1_77 : Index := 1#32
  let c0_78 : Index := 0#32
  ![0, v174.toNat, 1, 0]
def k0_off23 (i : grid0.Coords) (k0_t3 : Fin (k0_t3_loop i).trips) : Fin 2 → Nat :=
  let arg1 : BitVec 32 := BitVec.ofNat 32 (i 1).val
  let c1_i32 : BitVec 32 := 1#32
  let v93 : BitVec 32 := Scalar.addi arg1 c1_i32
  let c4_i32_45 : BitVec 32 := 4#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v119 : BitVec 32 := Scalar.muli c4_i32_45 v111
  let v120 : BitVec 32 := Scalar.addi v93 v119
  let c1_i32_48 : BitVec 32 := 1#32
  let arg11 : BitVec 32 := Scf.iv v120 c1_i32_48 k0_t3
  let c512_i32_58 : BitVec 32 := 512#32
  let v136 : BitVec 32 := Scalar.muli arg11 c512_i32_58
  let v137 : BitVec 32 := v136
  let v193 : Index := Scalar.indexCast v137
  let c0_87 : Index := 0#32
  ![v193.toNat, 0]
def k0_off24 (i : grid0.Coords) (k0_t3 : Fin (k0_t3_loop i).trips) : Fin 2 → Nat :=
  let arg1 : BitVec 32 := BitVec.ofNat 32 (i 1).val
  let c1_i32 : BitVec 32 := 1#32
  let v93 : BitVec 32 := Scalar.addi arg1 c1_i32
  let c4_i32_45 : BitVec 32 := 4#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v119 : BitVec 32 := Scalar.muli c4_i32_45 v111
  let v120 : BitVec 32 := Scalar.addi v93 v119
  let c1_i32_48 : BitVec 32 := 1#32
  let arg11 : BitVec 32 := Scf.iv v120 c1_i32_48 k0_t3
  let c512_i32_58 : BitVec 32 := 512#32
  let v136 : BitVec 32 := Scalar.muli arg11 c512_i32_58
  let v137 : BitVec 32 := v136
  let v199 : Index := Scalar.indexCast v137
  let c128_89 : Index := 128#32
  ![v199.toNat, 128]
@[reducible] def k0_t4_loop (i : grid0.Coords) : Scf.Loop 32 :=
  let arg1 : BitVec 32 := BitVec.ofNat 32 (i 1).val
  let c1_i32 : BitVec 32 := 1#32
  let v93 : BitVec 32 := Scalar.addi arg1 c1_i32
  let c4_i32_45 : BitVec 32 := 4#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v119 : BitVec 32 := Scalar.muli c4_i32_45 v111
  let v120 : BitVec 32 := Scalar.addi v93 v119
  let c16_i32_46 : BitVec 32 := 16#32
  let v121 : BitVec 32 := Scalar.subi c16_i32_46 v120
  let c1_i32_47 : BitVec 32 := 1#32
  let v123 : BitVec 32 := Scalar.divsi v121 c1_i32_47
  let v124 : BitVec 32 := Scalar.muli v123 c1_i32_47
  let v125 : BitVec 32 := Scalar.addi v120 v124
  let v122 : BitVec 32 := Scalar.addi v120 v121
  let c1_i32_49 : BitVec 32 := 1#32
  ⟨v125, v122, c1_i32_49⟩
def k0_mult11 (i : grid0.Coords) (k0_t4 : Fin (k0_t4_loop i).trips) : BitVec 32 :=
  let arg1 : BitVec 32 := BitVec.ofNat 32 (i 1).val
  let c1_i32 : BitVec 32 := 1#32
  let v93 : BitVec 32 := Scalar.addi arg1 c1_i32
  let c4_i32_45 : BitVec 32 := 4#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v119 : BitVec 32 := Scalar.muli c4_i32_45 v111
  let v120 : BitVec 32 := Scalar.addi v93 v119
  let c16_i32_46 : BitVec 32 := 16#32
  let v121 : BitVec 32 := Scalar.subi c16_i32_46 v120
  let c1_i32_47 : BitVec 32 := 1#32
  let v123 : BitVec 32 := Scalar.divsi v121 c1_i32_47
  let v124 : BitVec 32 := Scalar.muli v123 c1_i32_47
  let v125 : BitVec 32 := Scalar.addi v120 v124
  let c1_i32_49 : BitVec 32 := 1#32
  let arg11 : BitVec 32 := Scf.iv v125 c1_i32_49 k0_t4
  let c512_i32_58 : BitVec 32 := 512#32
  let v136 : BitVec 32 := Scalar.muli arg11 c512_i32_58
  v136
def k0_off25 (i : grid0.Coords) (k0_t4 : Fin (k0_t4_loop i).trips) : Fin 2 → Nat :=
  let arg1 : BitVec 32 := BitVec.ofNat 32 (i 1).val
  let c1_i32 : BitVec 32 := 1#32
  let v93 : BitVec 32 := Scalar.addi arg1 c1_i32
  let c4_i32_45 : BitVec 32 := 4#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v119 : BitVec 32 := Scalar.muli c4_i32_45 v111
  let v120 : BitVec 32 := Scalar.addi v93 v119
  let c16_i32_46 : BitVec 32 := 16#32
  let v121 : BitVec 32 := Scalar.subi c16_i32_46 v120
  let c1_i32_47 : BitVec 32 := 1#32
  let v123 : BitVec 32 := Scalar.divsi v121 c1_i32_47
  let v124 : BitVec 32 := Scalar.muli v123 c1_i32_47
  let v125 : BitVec 32 := Scalar.addi v120 v124
  let c1_i32_49 : BitVec 32 := 1#32
  let arg11 : BitVec 32 := Scf.iv v125 c1_i32_49 k0_t4
  let c512_i32_58 : BitVec 32 := 512#32
  let v136 : BitVec 32 := Scalar.muli arg11 c512_i32_58
  let v137 : BitVec 32 := v136
  let v138 : Index := Scalar.indexCast v137
  let c0_59 : Index := 0#32
  ![v138.toNat, 0]
def k0_off26 (i : grid0.Coords) (k0_t4 : Fin (k0_t4_loop i).trips) : Fin 2 → Nat :=
  let arg1 : BitVec 32 := BitVec.ofNat 32 (i 1).val
  let c1_i32 : BitVec 32 := 1#32
  let v93 : BitVec 32 := Scalar.addi arg1 c1_i32
  let c4_i32_45 : BitVec 32 := 4#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v119 : BitVec 32 := Scalar.muli c4_i32_45 v111
  let v120 : BitVec 32 := Scalar.addi v93 v119
  let c16_i32_46 : BitVec 32 := 16#32
  let v121 : BitVec 32 := Scalar.subi c16_i32_46 v120
  let c1_i32_47 : BitVec 32 := 1#32
  let v123 : BitVec 32 := Scalar.divsi v121 c1_i32_47
  let v124 : BitVec 32 := Scalar.muli v123 c1_i32_47
  let v125 : BitVec 32 := Scalar.addi v120 v124
  let c1_i32_49 : BitVec 32 := 1#32
  let arg11 : BitVec 32 := Scf.iv v125 c1_i32_49 k0_t4
  let c512_i32_58 : BitVec 32 := 512#32
  let v136 : BitVec 32 := Scalar.muli arg11 c512_i32_58
  let v137 : BitVec 32 := v136
  let v141 : Index := Scalar.indexCast v137
  let c0_60 : Index := 0#32
  ![v141.toNat, 0]
def k0_off27 (i : grid0.Coords) (k0_t4 : Fin (k0_t4_loop i).trips) : Fin 4 → Nat :=
  let c0_65 : Index := 0#32
  let arg1 : BitVec 32 := BitVec.ofNat 32 (i 1).val
  let c1_i32 : BitVec 32 := 1#32
  let v93 : BitVec 32 := Scalar.addi arg1 c1_i32
  let c4_i32_45 : BitVec 32 := 4#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v119 : BitVec 32 := Scalar.muli c4_i32_45 v111
  let v120 : BitVec 32 := Scalar.addi v93 v119
  let c16_i32_46 : BitVec 32 := 16#32
  let v121 : BitVec 32 := Scalar.subi c16_i32_46 v120
  let c1_i32_47 : BitVec 32 := 1#32
  let v123 : BitVec 32 := Scalar.divsi v121 c1_i32_47
  let v124 : BitVec 32 := Scalar.muli v123 c1_i32_47
  let v125 : BitVec 32 := Scalar.addi v120 v124
  let c1_i32_49 : BitVec 32 := 1#32
  let arg11 : BitVec 32 := Scf.iv v125 c1_i32_49 k0_t4
  let v154 : Index := Scalar.indexCast arg11
  let c0_66 : Index := 0#32
  let c0_67 : Index := 0#32
  ![0, v154.toNat, 0, 0]
def k0_off28 (i : grid0.Coords) (k0_t4 : Fin (k0_t4_loop i).trips) : Fin 4 → Nat :=
  let c0_76 : Index := 0#32
  let arg1 : BitVec 32 := BitVec.ofNat 32 (i 1).val
  let c1_i32 : BitVec 32 := 1#32
  let v93 : BitVec 32 := Scalar.addi arg1 c1_i32
  let c4_i32_45 : BitVec 32 := 4#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v119 : BitVec 32 := Scalar.muli c4_i32_45 v111
  let v120 : BitVec 32 := Scalar.addi v93 v119
  let c16_i32_46 : BitVec 32 := 16#32
  let v121 : BitVec 32 := Scalar.subi c16_i32_46 v120
  let c1_i32_47 : BitVec 32 := 1#32
  let v123 : BitVec 32 := Scalar.divsi v121 c1_i32_47
  let v124 : BitVec 32 := Scalar.muli v123 c1_i32_47
  let v125 : BitVec 32 := Scalar.addi v120 v124
  let c1_i32_49 : BitVec 32 := 1#32
  let arg11 : BitVec 32 := Scf.iv v125 c1_i32_49 k0_t4
  let v174 : Index := Scalar.indexCast arg11
  let c1_77 : Index := 1#32
  let c0_78 : Index := 0#32
  ![0, v174.toNat, 1, 0]
def k0_off29 (i : grid0.Coords) (k0_t4 : Fin (k0_t4_loop i).trips) : Fin 2 → Nat :=
  let arg1 : BitVec 32 := BitVec.ofNat 32 (i 1).val
  let c1_i32 : BitVec 32 := 1#32
  let v93 : BitVec 32 := Scalar.addi arg1 c1_i32
  let c4_i32_45 : BitVec 32 := 4#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v119 : BitVec 32 := Scalar.muli c4_i32_45 v111
  let v120 : BitVec 32 := Scalar.addi v93 v119
  let c16_i32_46 : BitVec 32 := 16#32
  let v121 : BitVec 32 := Scalar.subi c16_i32_46 v120
  let c1_i32_47 : BitVec 32 := 1#32
  let v123 : BitVec 32 := Scalar.divsi v121 c1_i32_47
  let v124 : BitVec 32 := Scalar.muli v123 c1_i32_47
  let v125 : BitVec 32 := Scalar.addi v120 v124
  let c1_i32_49 : BitVec 32 := 1#32
  let arg11 : BitVec 32 := Scf.iv v125 c1_i32_49 k0_t4
  let c512_i32_58 : BitVec 32 := 512#32
  let v136 : BitVec 32 := Scalar.muli arg11 c512_i32_58
  let v137 : BitVec 32 := v136
  let v193 : Index := Scalar.indexCast v137
  let c0_87 : Index := 0#32
  ![v193.toNat, 0]
def k0_off30 (i : grid0.Coords) (k0_t4 : Fin (k0_t4_loop i).trips) : Fin 2 → Nat :=
  let arg1 : BitVec 32 := BitVec.ofNat 32 (i 1).val
  let c1_i32 : BitVec 32 := 1#32
  let v93 : BitVec 32 := Scalar.addi arg1 c1_i32
  let c4_i32_45 : BitVec 32 := 4#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v119 : BitVec 32 := Scalar.muli c4_i32_45 v111
  let v120 : BitVec 32 := Scalar.addi v93 v119
  let c16_i32_46 : BitVec 32 := 16#32
  let v121 : BitVec 32 := Scalar.subi c16_i32_46 v120
  let c1_i32_47 : BitVec 32 := 1#32
  let v123 : BitVec 32 := Scalar.divsi v121 c1_i32_47
  let v124 : BitVec 32 := Scalar.muli v123 c1_i32_47
  let v125 : BitVec 32 := Scalar.addi v120 v124
  let c1_i32_49 : BitVec 32 := 1#32
  let arg11 : BitVec 32 := Scf.iv v125 c1_i32_49 k0_t4
  let c512_i32_58 : BitVec 32 := 512#32
  let v136 : BitVec 32 := Scalar.muli arg11 c512_i32_58
  let v137 : BitVec 32 := v136
  let v199 : Index := Scalar.indexCast v137
  let c128_89 : Index := 128#32
  ![v199.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "ln_2" => some ((Real.log 2 : ℝ) : EReal)
  | "mask" => some ⊥
  | _ => none
-- ==== ReferenceIdeal.lean ====
abbrev S8192x768 : Shape := ⟨2, ![8192, 768]⟩
abbrev S8192x384 : Shape := ⟨2, ![8192, 384]⟩
abbrev S_ : Shape := ⟨0, ![]⟩
abbrev S8192x6x128 : Shape := ⟨3, ![8192, 6, 128]⟩
abbrev S6x8192x8192 : Shape := ⟨3, ![6, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S6x8192 : Shape := ⟨2, ![6, 8192]⟩
abbrev S6x8192x1 : Shape := ⟨3, ![6, 8192, 1]⟩
abbrev S8192x6x64 : Shape := ⟨3, ![8192, 6, 64]⟩
abbrev S6x64x8192 : Shape := ⟨3, ![6, 64, 8192]⟩
abbrev S6x8192x128 : Shape := ⟨3, ![6, 8192, 128]⟩

abbrev nBuf : Space → Nat
  | .hbm => 96
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S8192x384, .f32⟩
  | .hbm, ⟨3, _⟩ => ⟨S8192x384, .f32⟩
  | .hbm, ⟨4, _⟩ => ⟨S_, .f32⟩
  | .hbm, ⟨5, _⟩ => ⟨S8192x768, .f32⟩
  | .hbm, ⟨6, _⟩ => ⟨S8192x768, .f32⟩
  | .hbm, ⟨7, _⟩ => ⟨S8192x6x128, .f32⟩
  | .hbm, ⟨8, _⟩ => ⟨S8192x6x128, .f32⟩
  | .hbm, ⟨9, _⟩ => ⟨S6x8192x8192, .f32⟩
  | .hbm, ⟨10, _⟩ => ⟨S8192, .i32⟩
  | .hbm, ⟨11, _⟩ => ⟨S1x8192, .i32⟩
  | .hbm, ⟨12, _⟩ => ⟨S8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S_, .f32⟩
  | .hbm, ⟨18, _⟩ => ⟨S_, .f32⟩
  | .hbm, ⟨19, _⟩ => ⟨S6x8192x8192, .i1⟩
  | .hbm, ⟨20, _⟩ => ⟨S6x8192x8192, .f32⟩
  | .hbm, ⟨21, _⟩ => ⟨S6x8192x8192, .f32⟩
  | .hbm, ⟨22, _⟩ => ⟨S_, .f32⟩
  | .hbm, ⟨23, _⟩ => ⟨S6x8192x8192, .f32⟩
  | .hbm, ⟨24, _⟩ => ⟨S_, .f32⟩
  | .hbm, ⟨25, _⟩ => ⟨S6x8192, .f32⟩
  | .hbm, ⟨26, _⟩ => ⟨S6x8192x1, .f32⟩
  | .hbm, ⟨27, _⟩ => ⟨S6x8192x8192, .f32⟩
  | .hbm, ⟨28, _⟩ => ⟨S6x8192x8192, .i1⟩
  | .hbm, ⟨29, _⟩ => ⟨S6x8192x8192, .f32⟩
  | .hbm, ⟨30, _⟩ => ⟨S_, .f32⟩
  | .hbm, ⟨31, _⟩ => ⟨S6x8192, .f32⟩
  | .hbm, ⟨32, _⟩ => ⟨S_, .f32⟩
  | .hbm, ⟨33, _⟩ => ⟨S6x8192, .f32⟩
  | .hbm, ⟨34, _⟩ => ⟨S6x8192, .f32⟩
  | .hbm, ⟨35, _⟩ => ⟨S_, .f32⟩
  | .hbm, ⟨36, _⟩ => ⟨S6x8192, .f32⟩
  | .hbm, ⟨37, _⟩ => ⟨S6x8192, .i1⟩
  | .hbm, ⟨38, _⟩ => ⟨S_, .f32⟩
  | .hbm, ⟨39, _⟩ => ⟨S6x8192, .f32⟩
  | .hbm, ⟨40, _⟩ => ⟨S6x8192, .i1⟩
  | .hbm, ⟨41, _⟩ => ⟨S_, .f32⟩
  | .hbm, ⟨42, _⟩ => ⟨S6x8192, .f32⟩
  | .hbm, ⟨43, _⟩ => ⟨S_, .f32⟩
  | .hbm, ⟨44, _⟩ => ⟨S6x8192, .f32⟩
  | .hbm, ⟨45, _⟩ => ⟨S_, .f32⟩
  | .hbm, ⟨46, _⟩ => ⟨S6x8192, .f32⟩
  | .hbm, ⟨47, _⟩ => ⟨S6x8192, .f32⟩
  | .hbm, ⟨48, _⟩ => ⟨S6x8192, .f32⟩
  | .hbm, ⟨49, _⟩ => ⟨S6x8192x1, .f32⟩
  | .hbm, ⟨50, _⟩ => ⟨S6x8192x8192, .f32⟩
  | .hbm, ⟨51, _⟩ => ⟨S6x8192x8192, .f32⟩
  | .hbm, ⟨52, _⟩ => ⟨S6x8192x8192, .f32⟩
  | .hbm, ⟨53, _⟩ => ⟨S_, .f32⟩
  | .hbm, ⟨54, _⟩ => ⟨S6x8192, .f32⟩
  | .hbm, ⟨55, _⟩ => ⟨S6x8192x1, .f32⟩
  | .hbm, ⟨56, _⟩ => ⟨S6x8192x8192, .f32⟩
  | .hbm, ⟨57, _⟩ => ⟨S6x8192x8192, .f32⟩
  | .hbm, ⟨58, _⟩ => ⟨S6x8192x1, .f32⟩
  | .hbm, ⟨59, _⟩ => ⟨S_, .f32⟩
  | .hbm, ⟨60, _⟩ => ⟨S6x8192x1, .f32⟩
  | .hbm, ⟨61, _⟩ => ⟨S6x8192x1, .f32⟩
  | .hbm, ⟨62, _⟩ => ⟨S8192x6x64, .f32⟩
  | .hbm, ⟨63, _⟩ => ⟨S6x64x8192, .f32⟩
  | .hbm, ⟨64, _⟩ => ⟨S8192x6x64, .f32⟩
  | .hbm, ⟨65, _⟩ => ⟨S8192x384, .f32⟩
  | .hbm, ⟨66, _⟩ => ⟨S8192x6x64, .f32⟩
  | .hbm, ⟨67, _⟩ => ⟨S6x64x8192, .f32⟩
  | .hbm, ⟨68, _⟩ => ⟨S6x8192x8192, .f32⟩
  | .hbm, ⟨69, _⟩ => ⟨S6x64x8192, .f32⟩
  | .hbm, ⟨70, _⟩ => ⟨S8192x6x64, .f32⟩
  | .hbm, ⟨71, _⟩ => ⟨S8192x384, .f32⟩
  | .hbm, ⟨72, _⟩ => ⟨S6x8192x8192, .f32⟩
  | .hbm, ⟨73, _⟩ => ⟨S6x8192x8192, .f32⟩
  | .hbm, ⟨74, _⟩ => ⟨S6x8192x8192, .f32⟩
  | .hbm, ⟨75, _⟩ => ⟨S_, .f32⟩
  | .hbm, ⟨76, _⟩ => ⟨S6x8192, .f32⟩
  | .hbm, ⟨77, _⟩ => ⟨S6x8192x1, .f32⟩
  | .hbm, ⟨78, _⟩ => ⟨S6x8192x1, .f32⟩
  | .hbm, ⟨79, _⟩ => ⟨S6x8192x8192, .f32⟩
  | .hbm, ⟨80, _⟩ => ⟨S6x8192x8192, .f32⟩
  | .hbm, ⟨81, _⟩ => ⟨S_, .f32⟩
  | .hbm, ⟨82, _⟩ => ⟨S6x8192, .f32⟩
  | .hbm, ⟨83, _⟩ => ⟨S6x8192x8192, .f32⟩
  | .hbm, ⟨84, _⟩ => ⟨S6x8192x8192, .f32⟩
  | .hbm, ⟨85, _⟩ => ⟨S6x8192x8192, .f32⟩
  | .hbm, ⟨86, _⟩ => ⟨S_, .f32⟩
  | .hbm, ⟨87, _⟩ => ⟨S6x8192x8192, .f32⟩
  | .hbm, ⟨88, _⟩ => ⟨S6x8192x8192, .f32⟩
  | .hbm, ⟨89, _⟩ => ⟨S6x8192x128, .f32⟩
  | .hbm, ⟨90, _⟩ => ⟨S8192x6x128, .f32⟩
  | .hbm, ⟨91, _⟩ => ⟨S6x8192x128, .f32⟩
  | .hbm, ⟨92, _⟩ => ⟨S8192x6x128, .f32⟩
  | .hbm, ⟨93, _⟩ => ⟨S8192x768, .f32⟩
  | .hbm, ⟨94, _⟩ => ⟨S8192x768, .f32⟩
  | .hbm, ⟨95, _⟩ => ⟨S8192x384, .bf16⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_call0_v0 : Ref sig .tc := ⟨.hbm, 18, rfl⟩
abbrev main_v12_1 : Ref sig .tc := ⟨.hbm, 19, rfl⟩
abbrev main_call0_v2 : Ref sig .tc := ⟨.hbm, 20, rfl⟩
abbrev main_v12_0 : Ref sig .tc := ⟨.hbm, 21, rfl⟩
abbrev main_call0_cst : Ref sig .tc := ⟨.hbm, 22, rfl⟩
abbrev main_v12_2 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_call1_cst : Ref sig .tc := ⟨.hbm, 86, rfl⟩
abbrev main_call1_v0 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩

abbrev nD : Nat := 1
abbrev τ : Topo := Topo.v7x

variable {F : FTy → Type} [FloatOps F]
-- ==== Dwin.lean ====
abbrev S8192x1024 : Shape := ⟨2, ![8192, 1024]⟩
abbrev S8192x384 : Shape := ⟨2, ![8192, 384]⟩
abbrev S8192x256 : Shape := ⟨2, ![8192, 256]⟩
abbrev S8192x128 : Shape := ⟨2, ![8192, 128]⟩
abbrev S1024x2432 : Shape := ⟨2, ![1024, 2432]⟩
abbrev S512x1024 : Shape := ⟨2, ![512, 1024]⟩
abbrev S512x384 : Shape := ⟨2, ![512, 384]⟩
abbrev S512x256 : Shape := ⟨2, ![512, 256]⟩
abbrev S512x128 : Shape := ⟨2, ![512, 128]⟩
abbrev S512x2432 : Shape := ⟨2, ![512, 2432]⟩

abbrev nBuf : Space → Nat
  | .hbm => 19
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x384, .f32⟩
  | .hbm, ⟨2, _⟩ => ⟨S8192x384, .f32⟩
  | .hbm, ⟨3, _⟩ => ⟨S8192x384, .f32⟩
  | .hbm, ⟨4, _⟩ => ⟨S8192x384, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x128, .f32⟩
  | .hbm, ⟨9, _⟩ => ⟨S8192x1024, .bf16⟩
  | .hbm, ⟨10, _⟩ => ⟨S8192x384, .bf16⟩
  | .hbm, ⟨11, _⟩ => ⟨S8192x384, .bf16⟩
  | .hbm, ⟨12, _⟩ => ⟨S8192x384, .bf16⟩
  | .hbm, ⟨13, _⟩ => ⟨S8192x384, .bf16⟩
  | .hbm, ⟨14, _⟩ => ⟨S8192x256, .bf16⟩
  | .hbm, ⟨15, _⟩ => ⟨S8192x256, .bf16⟩
  | .hbm, ⟨16, _⟩ => ⟨S8192x256, .bf16⟩
  | .hbm, ⟨17, _⟩ => ⟨S8192x128, .bf16⟩
  | .hbm, ⟨18, _⟩ => ⟨S1024x2432, .f32⟩
  | .local _ .vmem, ⟨0, _⟩ => ⟨S512x1024, .bf16⟩
  | .local _ .vmem, ⟨1, _⟩ => ⟨S512x1024, .bf16⟩
  | .local _ .vmem, ⟨2, _⟩ => ⟨S512x384, .bf16⟩
  | .local _ .vmem, ⟨3, _⟩ => ⟨S512x384, .bf16⟩
  | .local _ .vmem, ⟨4, _⟩ => ⟨S512x384, .bf16⟩
  | .local _ .vmem, ⟨5, _⟩ => ⟨S512x384, .bf16⟩
  | .local _ .vmem, ⟨6, _⟩ => ⟨S512x384, .bf16⟩
  | .local _ .vmem, ⟨7, _⟩ => ⟨S512x384, .bf16⟩
  | .local _ .vmem, ⟨8, _⟩ => ⟨S512x384, .bf16⟩
  | .local _ .vmem, ⟨9, _⟩ => ⟨S512x384, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x128, .bf16⟩
  | .local _ .vmem, ⟨17, _⟩ => ⟨S512x128, .bf16⟩
  | .local _ .vmem, ⟨18, _⟩ => ⟨S1024x2432, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x2432 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== DwinReferenceIdeal.lean ====
abbrev S8192x1024 : Shape := ⟨2, ![8192, 1024]⟩
abbrev S8192x384 : Shape := ⟨2, ![8192, 384]⟩
abbrev S8192x256 : Shape := ⟨2, ![8192, 256]⟩
abbrev S8192x128 : Shape := ⟨2, ![8192, 128]⟩
abbrev S_ : Shape := ⟨0, ![]⟩
abbrev S1024x2432 : Shape := ⟨2, ![1024, 2432]⟩
abbrev S8192x2432 : Shape := ⟨2, ![8192, 2432]⟩
abbrev S2432x1024 : Shape := ⟨2, ![2432, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x384, .f32⟩
  | .hbm, ⟨2, _⟩ => ⟨S8192x384, .f32⟩
  | .hbm, ⟨3, _⟩ => ⟨S8192x384, .f32⟩
  | .hbm, ⟨4, _⟩ => ⟨S8192x384, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x128, .f32⟩
  | .hbm, ⟨9, _⟩ => ⟨S_, .f32⟩
  | .hbm, ⟨10, _⟩ => ⟨S1024x2432, .f32⟩
  | .hbm, ⟨11, _⟩ => ⟨S8192x2432, .f32⟩
  | .hbm, ⟨12, _⟩ => ⟨S8192x384, .f32⟩
  | .hbm, ⟨13, _⟩ => ⟨S8192x384, .f32⟩
  | .hbm, ⟨14, _⟩ => ⟨S8192x384, .f32⟩
  | .hbm, ⟨15, _⟩ => ⟨S8192x384, .f32⟩
  | .hbm, ⟨16, _⟩ => ⟨S8192x256, .f32⟩
  | .hbm, ⟨17, _⟩ => ⟨S8192x256, .f32⟩
  | .hbm, ⟨18, _⟩ => ⟨S8192x256, .f32⟩
  | .hbm, ⟨19, _⟩ => ⟨S8192x128, .f32⟩
  | .hbm, ⟨20, _⟩ => ⟨S8192x2432, .f32⟩
  | .hbm, ⟨21, _⟩ => ⟨S2432x1024, .f32⟩
  | .hbm, ⟨22, _⟩ => ⟨S1024x2432, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]
-- ==== In.lean ====
abbrev S8192x1024 : Shape := ⟨2, ![8192, 1024]⟩
abbrev S4x1024 : Shape := ⟨2, ![4, 1024]⟩
abbrev S4x1024x2432 : Shape := ⟨3, ![4, 1024, 2432]⟩
abbrev S4x1x1024 : Shape := ⟨3, ![4, 1, 1024]⟩
abbrev S8192x2432 : Shape := ⟨2, ![8192, 2432]⟩
abbrev S512x1024 : Shape := ⟨2, ![512, 1024]⟩
abbrev S1x1x1024 : Shape := ⟨3, ![1, 1, 1024]⟩
abbrev S1x1024x2432 : Shape := ⟨3, ![1, 1024, 2432]⟩
abbrev S512x2432 : Shape := ⟨2, ![512, 2432]⟩
abbrev S512 : Shape := ⟨1, ![512]⟩
abbrev S512x1 : Shape := ⟨2, ![512, 1]⟩
abbrev S1x1024 : Shape := ⟨2, ![1, 1024]⟩
abbrev S1024x2432 : Shape := ⟨2, ![1024, 2432]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S4x1024, .f32⟩
  | .hbm, ⟨2, _⟩ => ⟨S4x1024x2432, .f32⟩
  | .hbm, ⟨3, _⟩ => ⟨S4x1x1024, .f32⟩
  | .hbm, ⟨4, _⟩ => ⟨S4x1024x2432, .bf16⟩
  | .hbm, ⟨5, _⟩ => ⟨S8192x1024, .bf16⟩
  | .hbm, ⟨6, _⟩ => ⟨S8192x2432, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x2432, .bf16⟩
  | .local _ .vmem, ⟨4, _⟩ => ⟨S512x1024, .bf16⟩
  | .local _ .vmem, ⟨5, _⟩ => ⟨S512x1024, .bf16⟩
  | .local _ .vmem, ⟨6, _⟩ => ⟨S512x2432, .f32⟩
  | .local _ .vmem, ⟨7, _⟩ => ⟨S512x2432, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2432 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InReferenceIdeal.lean ====
abbrev S8192x1024 : Shape := ⟨2, ![8192, 1024]⟩
abbrev S4x1024 : Shape := ⟨2, ![4, 1024]⟩
abbrev S4x1024x2432 : Shape := ⟨3, ![4, 1024, 2432]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024x2432 : Shape := ⟨3, ![1, 1024, 2432]⟩
abbrev S1024x2432 : Shape := ⟨2, ![1024, 2432]⟩
abbrev S8192x2432 : Shape := ⟨2, ![8192, 2432]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1024, .f32⟩
  | .hbm, ⟨2, _⟩ => ⟨S4x1024x2432, .f32⟩
  | .hbm, ⟨3, _⟩ => ⟨S1x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S1x1024x2432, .f32⟩
  | .hbm, ⟨23, _⟩ => ⟨S1024x2432, .f32⟩
  | .hbm, ⟨24, _⟩ => ⟨S8192x2432, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Out.lean ====
abbrev S8192x1024 : Shape := ⟨2, ![8192, 1024]⟩
abbrev S8192x384 : Shape := ⟨2, ![8192, 384]⟩
abbrev S8192x256 : Shape := ⟨2, ![8192, 256]⟩
abbrev S4x1024x1024 : Shape := ⟨3, ![4, 1024, 1024]⟩
abbrev S1024x1024 : Shape := ⟨2, ![1024, 1024]⟩
abbrev S1024x384 : Shape := ⟨2, ![1024, 384]⟩
abbrev S1024x256 : Shape := ⟨2, ![1024, 256]⟩
abbrev S1x384x1024 : Shape := ⟨3, ![1, 384, 1024]⟩
abbrev S1x256x1024 : Shape := ⟨3, ![1, 256, 1024]⟩
abbrev S384x1024 : Shape := ⟨2, ![384, 1024]⟩
abbrev S256x1024 : Shape := ⟨2, ![256, 1024]⟩

abbrev nBuf : Space → Nat
  | .hbm => 10
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x384, .f32⟩
  | .hbm, ⟨2, _⟩ => ⟨S8192x384, .f32⟩
  | .hbm, ⟨3, _⟩ => ⟨S8192x256, .f32⟩
  | .hbm, ⟨4, _⟩ => ⟨S4x1024x1024, .f32⟩
  | .hbm, ⟨5, _⟩ => ⟨S8192x384, .bf16⟩
  | .hbm, ⟨6, _⟩ => ⟨S8192x384, .bf16⟩
  | .hbm, ⟨7, _⟩ => ⟨S8192x256, .bf16⟩
  | .hbm, ⟨8, _⟩ => ⟨S4x1024x1024, .bf16⟩
  | .hbm, ⟨9, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x384, .bf16⟩
  | .local _ .vmem, ⟨3, _⟩ => ⟨S1024x384, .bf16⟩
  | .local _ .vmem, ⟨4, _⟩ => ⟨S1024x384, .bf16⟩
  | .local _ .vmem, ⟨5, _⟩ => ⟨S1024x384, .bf16⟩
  | .local _ .vmem, ⟨6, _⟩ => ⟨S1024x256, .bf16⟩
  | .local _ .vmem, ⟨7, _⟩ => ⟨S1024x256, .bf16⟩
  | .local _ .vmem, ⟨8, _⟩ => ⟨S1x384x1024, .bf16⟩
  | .local _ .vmem, ⟨9, _⟩ => ⟨S1x384x1024, .bf16⟩
  | .local _ .vmem, ⟨10, _⟩ => ⟨S1x256x1024, .bf16⟩
  | .local _ .vmem, ⟨11, _⟩ => ⟨S1024x1024, .f32⟩
  | .local _ .vmem, ⟨12, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat]

def cc0_transform_6 (i : grid0.Coords) : Fin 3 → Nat :=
  let arg0 : BitVec 32 := BitVec.ofNat 32 (i 0).val
  let c1_i32 : BitVec 32 := 1#32
  let c3_i32 : BitVec 32 := 3#32
  let c0_i32 : BitVec 32 := 0#32
  let c0_i32_0 : BitVec 32 := 0#32
  ![c1_i32.toNat, c3_i32.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutReferenceIdeal.lean ====
abbrev S8192x1024 : Shape := ⟨2, ![8192, 1024]⟩
abbrev S8192x384 : Shape := ⟨2, ![8192, 384]⟩
abbrev S8192x256 : Shape := ⟨2, ![8192, 256]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x384, .f32⟩
  | .hbm, ⟨2, _⟩ => ⟨S8192x384, .f32⟩
  | .hbm, ⟨3, _⟩ => ⟨S8192x256, .f32⟩
  | .hbm, ⟨4, _⟩ => ⟨S4x1024x1024, .f32⟩
  | .hbm, ⟨5, _⟩ => ⟨S8192x1024, .f32⟩
  | .hbm, ⟨6, _⟩ => ⟨S1x1024x1024, .f32⟩
  | .hbm, ⟨7, _⟩ => ⟨S1024x1024, .f32⟩
  | .hbm, ⟨8, _⟩ => ⟨S8192x1024, .f32⟩
  | .hbm, ⟨9, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Dx.lean ====
abbrev S8192x1024 : Shape := ⟨2, ![8192, 1024]⟩
abbrev S4x1024 : Shape := ⟨2, ![4, 1024]⟩
abbrev S4x1024x2432 : Shape := ⟨3, ![4, 1024, 2432]⟩
abbrev S8192x384 : Shape := ⟨2, ![8192, 384]⟩
abbrev S8192x256 : Shape := ⟨2, ![8192, 256]⟩
abbrev S8192x128 : Shape := ⟨2, ![8192, 128]⟩
abbrev S4x1x1024 : Shape := ⟨3, ![4, 1, 1024]⟩
abbrev S1x1024 : Shape := ⟨2, ![1, 1024]⟩
abbrev S512x384 : Shape := ⟨2, ![512, 384]⟩
abbrev S512x256 : Shape := ⟨2, ![512, 256]⟩
abbrev S512x128 : Shape := ⟨2, ![512, 128]⟩
abbrev S1x1024x2432 : Shape := ⟨3, ![1, 1024, 2432]⟩
abbrev S512x1024 : Shape := ⟨2, ![512, 1024]⟩
abbrev S1x1x1024 : Shape := ⟨3, ![1, 1, 1024]⟩
abbrev S512x2432 : Shape := ⟨2, ![512, 2432]⟩
abbrev S1024x2432 : Shape := ⟨2, ![1024, 2432]⟩
abbrev S512 : Shape := ⟨1, ![512]⟩
abbrev S512x1 : Shape := ⟨2, ![512, 1]⟩
abbrev S1024 : Shape := ⟨1, ![1024]⟩

abbrev nBuf : Space → Nat
  | .hbm => 24
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S4x1024, .f32⟩
  | .hbm, ⟨2, _⟩ => ⟨S4x1024x2432, .f32⟩
  | .hbm, ⟨3, _⟩ => ⟨S8192x1024, .f32⟩
  | .hbm, ⟨4, _⟩ => ⟨S8192x384, .f32⟩
  | .hbm, ⟨5, _⟩ => ⟨S8192x384, .f32⟩
  | .hbm, ⟨6, _⟩ => ⟨S8192x384, .f32⟩
  | .hbm, ⟨7, _⟩ => ⟨S8192x384, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S8192x128, .f32⟩
  | .hbm, ⟨12, _⟩ => ⟨S8192x384, .bf16⟩
  | .hbm, ⟨13, _⟩ => ⟨S8192x384, .bf16⟩
  | .hbm, ⟨14, _⟩ => ⟨S8192x384, .bf16⟩
  | .hbm, ⟨15, _⟩ => ⟨S8192x384, .bf16⟩
  | .hbm, ⟨16, _⟩ => ⟨S8192x256, .bf16⟩
  | .hbm, ⟨17, _⟩ => ⟨S8192x256, .bf16⟩
  | .hbm, ⟨18, _⟩ => ⟨S8192x256, .bf16⟩
  | .hbm, ⟨19, _⟩ => ⟨S8192x128, .bf16⟩
  | .hbm, ⟨20, _⟩ => ⟨S4x1024x2432, .bf16⟩
  | .hbm, ⟨21, _⟩ => ⟨S4x1x1024, .f32⟩
  | .hbm, ⟨22, _⟩ => ⟨S8192x1024, .f32⟩
  | .hbm, ⟨23, _⟩ => ⟨S1x1024, .f32⟩
  | .local _ .vmem, ⟨0, _⟩ => ⟨S512x384, .bf16⟩
  | .local _ .vmem, ⟨1, _⟩ => ⟨S512x384, .bf16⟩
  | .local _ .vmem, ⟨2, _⟩ => ⟨S512x384, .bf16⟩
  | .local _ .vmem, ⟨3, _⟩ => ⟨S512x384, .bf16⟩
  | .local _ .vmem, ⟨4, _⟩ => ⟨S512x384, .bf16⟩
  | .local _ .vmem, ⟨5, _⟩ => ⟨S512x384, .bf16⟩
  | .local _ .vmem, ⟨6, _⟩ => ⟨S512x384, .bf16⟩
  | .local _ .vmem, ⟨7, _⟩ => ⟨S512x384, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x128, .bf16⟩
  | .local _ .vmem, ⟨15, _⟩ => ⟨S512x128, .bf16⟩
  | .local _ .vmem, ⟨16, _⟩ => ⟨S1x1024x2432, .bf16⟩
  | .local _ .vmem, ⟨17, _⟩ => ⟨S512x1024, .f32⟩
  | .local _ .vmem, ⟨18, _⟩ => ⟨S512x1024, .f32⟩
  | .local _ .vmem, ⟨19, _⟩ => ⟨S1x1x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024x2432 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== DxReferenceIdeal.lean ====
abbrev S8192x1024 : Shape := ⟨2, ![8192, 1024]⟩
abbrev S4x1024 : Shape := ⟨2, ![4, 1024]⟩
abbrev S4x1024x2432 : Shape := ⟨3, ![4, 1024, 2432]⟩
abbrev S8192x384 : Shape := ⟨2, ![8192, 384]⟩
abbrev S8192x256 : Shape := ⟨2, ![8192, 256]⟩
abbrev S8192x128 : Shape := ⟨2, ![8192, 128]⟩
abbrev S1x1024 : Shape := ⟨2, ![1, 1024]⟩
abbrev S1024 : Shape := ⟨1, ![1024]⟩
abbrev S1x1024x2432 : Shape := ⟨3, ![1, 1024, 2432]⟩
abbrev S1024x2432 : Shape := ⟨2, ![1024, 2432]⟩
abbrev S_ : Shape := ⟨0, ![]⟩
abbrev S8192 : Shape := ⟨1, ![8192]⟩
abbrev S8192x1 : Shape := ⟨2, ![8192, 1]⟩
abbrev S8192x2432 : Shape := ⟨2, ![8192, 2432]⟩

abbrev nBuf : Space → Nat
  | .hbm => 74
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1024, .f32⟩
  | .hbm, ⟨2, _⟩ => ⟨S4x1024x2432, .f32⟩
  | .hbm, ⟨3, _⟩ => ⟨S8192x1024, .f32⟩
  | .hbm, ⟨4, _⟩ => ⟨S8192x384, .f32⟩
  | .hbm, ⟨5, _⟩ => ⟨S8192x384, .f32⟩
  | .hbm, ⟨6, _⟩ => ⟨S8192x384, .f32⟩
  | .hbm, ⟨7, _⟩ => ⟨S8192x384, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S8192x128, .f32⟩
  | .hbm, ⟨12, _⟩ => ⟨S1x1024, .f32⟩
  | .hbm, ⟨13, _⟩ => ⟨S1024, .f32⟩
  | .hbm, ⟨14, _⟩ => ⟨S1x1024x2432, .f32⟩
  | .hbm, ⟨15, _⟩ => ⟨S1024x2432, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x2432, .f32⟩
  | .hbm, ⟨37, _⟩ => ⟨S8192x384, .f32⟩
  | .hbm, ⟨38, _⟩ => ⟨S8192x384, .f32⟩
  | .hbm, ⟨39, _⟩ => ⟨S8192x384, .f32⟩
  | .hbm, ⟨40, _⟩ => ⟨S8192x384, .f32⟩
  | .hbm, ⟨41, _⟩ => ⟨S8192x256, .f32⟩
  | .hbm, ⟨42, _⟩ => ⟨S8192x256, .f32⟩
  | .hbm, ⟨43, _⟩ => ⟨S8192x256, .f32⟩
  | .hbm, ⟨44, _⟩ => ⟨S8192x128, .f32⟩
  | .hbm, ⟨45, _⟩ => ⟨S8192x2432, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== Dy.lean ====
abbrev S8192x1024 : Shape := ⟨2, ![8192, 1024]⟩
abbrev S8192x384 : Shape := ⟨2, ![8192, 384]⟩
abbrev S8192x256 : Shape := ⟨2, ![8192, 256]⟩
abbrev S8192x2432 : Shape := ⟨2, ![8192, 2432]⟩
abbrev S4x1024x1024 : Shape := ⟨3, ![4, 1024, 1024]⟩
abbrev S_ : Shape := ⟨0, ![]⟩
abbrev S3x16x8x512 : Shape := ⟨4, ![3, 16, 8, 512]⟩
abbrev S1024x1024 : Shape := ⟨2, ![1024, 1024]⟩
abbrev S512x1024 : Shape := ⟨2, ![512, 1024]⟩
abbrev S512x384 : Shape := ⟨2, ![512, 384]⟩
abbrev S512x256 : Shape := ⟨2, ![512, 256]⟩
abbrev S1x1024x1024 : Shape := ⟨3, ![1, 1024, 1024]⟩
abbrev S3x1x8x512 : Shape := ⟨4, ![3, 1, 8, 512]⟩
abbrev S384x1024 : Shape := ⟨2, ![384, 1024]⟩
abbrev S256x1024 : Shape := ⟨2, ![256, 1024]⟩
abbrev S24x384 : Shape := ⟨2, ![24, 384]⟩
abbrev S24x512 : Shape := ⟨2, ![24, 512]⟩
abbrev S8x512 : Shape := ⟨2, ![8, 512]⟩
abbrev S1x1x8x512 : Shape := ⟨4, ![1, 1, 8, 512]⟩

abbrev nBuf : Space → Nat
  | .hbm => 27
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x384, .f32⟩
  | .hbm, ⟨2, _⟩ => ⟨S8192x384, .f32⟩
  | .hbm, ⟨3, _⟩ => ⟨S8192x256, .f32⟩
  | .hbm, ⟨4, _⟩ => ⟨S8192x2432, .f32⟩
  | .hbm, ⟨5, _⟩ => ⟨S4x1024x1024, .f32⟩
  | .hbm, ⟨6, _⟩ => ⟨S8192x384, .f32⟩
  | .hbm, ⟨7, _⟩ => ⟨S8192x384, .f32⟩
  | .hbm, ⟨8, _⟩ => ⟨S8192x384, .f32⟩
  | .hbm, ⟨9, _⟩ => ⟨S_, .f32⟩
  | .hbm, ⟨10, _⟩ => ⟨S8192x384, .f32⟩
  | .hbm, ⟨11, _⟩ => ⟨S8192x384, .f32⟩
  | .hbm, ⟨12, _⟩ => ⟨S_, .f32⟩
  | .hbm, ⟨13, _⟩ => ⟨S8192x384, .f32⟩
  | .hbm, ⟨14, _⟩ => ⟨S8192x384, .f32⟩
  | .hbm, ⟨15, _⟩ => ⟨S8192x384, .f32⟩
  | .hbm, ⟨16, _⟩ => ⟨S8192x384, .f32⟩
  | .hbm, ⟨17, _⟩ => ⟨S8192x384, .bf16⟩
  | .hbm, ⟨18, _⟩ => ⟨S8192x384, .bf16⟩
  | .hbm, ⟨19, _⟩ => ⟨S8192x256, .bf16⟩
  | .hbm, ⟨20, _⟩ => ⟨S4x1024x1024, .bf16⟩
  | .hbm, ⟨21, _⟩ => ⟨S8192x384, .f32⟩
  | .hbm, ⟨22, _⟩ => ⟨S8192x256, .f32⟩
  | .hbm, ⟨23, _⟩ => ⟨S8192x384, .bf16⟩
  | .hbm, ⟨24, _⟩ => ⟨S8192x384, .bf16⟩
  | .hbm, ⟨25, _⟩ => ⟨S3x16x8x512, .f32⟩
  | .hbm, ⟨26, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x384, .bf16⟩
  | .local _ .vmem, ⟨3, _⟩ => ⟨S512x384, .bf16⟩
  | .local _ .vmem, ⟨4, _⟩ => ⟨S512x384, .bf16⟩
  | .local _ .vmem, ⟨5, _⟩ => ⟨S512x384, .bf16⟩
  | .local _ .vmem, ⟨6, _⟩ => ⟨S512x256, .bf16⟩
  | .local _ .vmem, ⟨7, _⟩ => ⟨S512x256, .bf16⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S1x1024x1024, .bf16⟩
  | .local _ .vmem, ⟨13, _⟩ => ⟨S512x384, .f32⟩
  | .local _ .vmem, ⟨14, _⟩ => ⟨S512x384, .f32⟩
  | .local _ .vmem, ⟨15, _⟩ => ⟨S512x256, .f32⟩
  | .local _ .vmem, ⟨16, _⟩ => ⟨S512x256, .f32⟩
  | .local _ .vmem, ⟨17, _⟩ => ⟨S512x384, .bf16⟩
  | .local _ .vmem, ⟨18, _⟩ => ⟨S512x384, .bf16⟩
  | .local _ .vmem, ⟨19, _⟩ => ⟨S512x384, .bf16⟩
  | .local _ .vmem, ⟨20, _⟩ => ⟨S512x384, .bf16⟩
  | .local _ .vmem, ⟨21, _⟩ => ⟨S3x1x8x512, .f32⟩
  | .local _ .vmem, ⟨22, _⟩ => ⟨S3x1x8x512, .f32⟩
  | .local _ .vmem, ⟨23, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7_0 : Ref sig .tc := ⟨.hbm, 21, rfl⟩
abbrev main_v7_1 : Ref sig .tc := ⟨.hbm, 22, rfl⟩
abbrev main_v7_2 : Ref sig .tc := ⟨.hbm, 23, rfl⟩
abbrev main_v7_3 : Ref sig .tc := ⟨.hbm, 24, rfl⟩
abbrev main_v7_4 : Ref sig .tc := ⟨.hbm, 25, rfl⟩
abbrev main_v7_5 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S3x1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== DyReferenceIdeal.lean ====
abbrev S8192x1024 : Shape := ⟨2, ![8192, 1024]⟩
abbrev S8192x384 : Shape := ⟨2, ![8192, 384]⟩
abbrev S8192x256 : Shape := ⟨2, ![8192, 256]⟩
abbrev S8192x2432 : Shape := ⟨2, ![8192, 2432]⟩
abbrev S4x1024x1024 : Shape := ⟨3, ![4, 1024, 1024]⟩
abbrev S1x1024x1024 : Shape := ⟨3, ![1, 1024, 1024]⟩
abbrev S1024x1024 : Shape := ⟨2, ![1024, 1024]⟩
abbrev S_ : Shape := ⟨0, ![]⟩
abbrev S16x512x3x2x64 : Shape := ⟨5, ![16, 512, 3, 2, 64]⟩
abbrev S16x512x3x2 : Shape := ⟨4, ![16, 512, 3, 2]⟩
abbrev S512x16x3x2 : Shape := ⟨4, ![512, 16, 3, 2]⟩
abbrev S3x16x2x512 : Shape := ⟨4, ![3, 16, 2, 512]⟩
abbrev S3x16x8x512 : Shape := ⟨4, ![3, 16, 8, 512]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x384, .f32⟩
  | .hbm, ⟨2, _⟩ => ⟨S8192x384, .f32⟩
  | .hbm, ⟨3, _⟩ => ⟨S8192x256, .f32⟩
  | .hbm, ⟨4, _⟩ => ⟨S8192x2432, .f32⟩
  | .hbm, ⟨5, _⟩ => ⟨S4x1024x1024, .f32⟩
  | .hbm, ⟨6, _⟩ => ⟨S8192x384, .f32⟩
  | .hbm, ⟨7, _⟩ => ⟨S1x1024x1024, .f32⟩
  | .hbm, ⟨8, _⟩ => ⟨S1024x1024, .f32⟩
  | .hbm, ⟨9, _⟩ => ⟨S8192x384, .f32⟩
  | .hbm, ⟨10, _⟩ => ⟨S8192x384, .f32⟩
  | .hbm, ⟨11, _⟩ => ⟨S_, .f32⟩
  | .hbm, ⟨12, _⟩ => ⟨S8192x384, .f32⟩
  | .hbm, ⟨13, _⟩ => ⟨S8192x384, .f32⟩
  | .hbm, ⟨14, _⟩ => ⟨S_, .f32⟩
  | .hbm, ⟨15, _⟩ => ⟨S8192x384, .f32⟩
  | .hbm, ⟨16, _⟩ => ⟨S8192x384, .f32⟩
  | .hbm, ⟨17, _⟩ => ⟨S_, .f32⟩
  | .hbm, ⟨18, _⟩ => ⟨S8192x384, .f32⟩
  | .hbm, ⟨19, _⟩ => ⟨S8192x384, .f32⟩
  | .hbm, ⟨20, _⟩ => ⟨S8192x384, .f32⟩
  | .hbm, ⟨21, _⟩ => ⟨S8192x384, .f32⟩
  | .hbm, ⟨22, _⟩ => ⟨S8192x384, .f32⟩
  | .hbm, ⟨23, _⟩ => ⟨S8192x1024, .f32⟩
  | .hbm, ⟨24, _⟩ => ⟨S8192x1024, .f32⟩
  | .hbm, ⟨25, _⟩ => ⟨S1024x1024, .f32⟩
  | .hbm, ⟨26, _⟩ => ⟨S1024x1024, .f32⟩
  | .hbm, ⟨27, _⟩ => ⟨S8192x1024, .f32⟩
  | .hbm, ⟨28, _⟩ => ⟨S8192x384, .f32⟩
  | .hbm, ⟨29, _⟩ => ⟨S8192x384, .f32⟩
  | .hbm, ⟨30, _⟩ => ⟨S8192x256, .f32⟩
  | .hbm, ⟨31, _⟩ => ⟨S8192x384, .f32⟩
  | .hbm, ⟨32, _⟩ => ⟨S8192x384, .f32⟩
  | .hbm, ⟨33, _⟩ => ⟨S8192x384, .f32⟩
  | .hbm, ⟨34, _⟩ => ⟨S8192x384, .f32⟩
  | .hbm, ⟨35, _⟩ => ⟨S8192x384, .f32⟩
  | .hbm, ⟨36, _⟩ => ⟨S8192x384, .f32⟩
  | .hbm, ⟨37, _⟩ => ⟨S8192x384, .f32⟩
  | .hbm, ⟨38, _⟩ => ⟨S16x512x3x2x64, .f32⟩
  | .hbm, ⟨39, _⟩ => ⟨S_, .f32⟩
  | .hbm, ⟨40, _⟩ => ⟨S16x512x3x2, .f32⟩
  | .hbm, ⟨41, _⟩ => ⟨S512x16x3x2, .f32⟩
  | .hbm, ⟨42, _⟩ => ⟨S3x16x2x512, .f32⟩
  | .hbm, ⟨43, _⟩ => ⟨S_, .i32⟩
  | .hbm, ⟨44, _⟩ => ⟨S_, .f32⟩
  | .hbm, ⟨45, _⟩ => ⟨S3x16x8x512, .f32⟩
  | .hbm, ⟨46, _⟩ => ⟨S8192x384, .bf16⟩
  | .hbm, ⟨47, _⟩ => ⟨S8192x384, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v3_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v3_1 : Ref sig .tc := ⟨.hbm, 20, rfl⟩
abbrev main_v3_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c : Ref sig .tc := ⟨.hbm, 43, rfl⟩
abbrev main_call2_v0 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩

abbrev nD : Nat := 1
abbrev τ : Topo := Topo.v7x

variable {F : FTy → Type} [FloatOps F]
-- ==== Proof.Offsets.lean ====
/- The loops of the kernel body in closed form: how many trips each of its four counted loops takes, and the
   offsets at which a trip reads and writes. A grid point is `(pair of heads, key block)`; key block `j` meets the
   query blocks `j + 1, …, 15` in trips of four, then one by one. The second and the fourth loop take no trip. -/
module

public import proofs.«01_k».proof.Proof.Gen.KernelIdeal
public import Idealize.ShloMosaic.Lib.Exec

@[expose] public section

set_option maxRecDepth 16384

noncomputable section

namespace Cert.KernelIdeal.Flash

open Idealize.ShloMosaic Cert.KernelIdeal

/-! ## The number of trips -/

theorem t1_trips : ∀ i : grid0.Coords, (k0_t1_loop i).trips = (15 - (i 1).val) / 4 := by decide +kernel
theorem t2_trips : ∀ i : grid0.Coords, (k0_t2_loop i).trips = 0 := by decide +kernel
theorem t3_trips : ∀ i : grid0.Coords, (k0_t3_loop i).trips = (15 - (i 1).val) % 4 := by decide +kernel
theorem t4_trips : ∀ i : grid0.Coords, (k0_t4_loop i).trips = 0 := by decide +kernel

/-! ## Offsets of the trips of four -/

theorem off7_0_eq : ∀ (i : grid0.Coords) (k : Fin (k0_t1_loop i).trips), k0_off7 i k 0#32 = ![512 * (i 1).val + 2048 * k.val + 512, 0] := by decide +kernel
instance closedOff7_0 (i : grid0.Coords) (k : Fin (k0_t1_loop i).trips) : ClosedOff (k0_off7 i k 0#32) := ⟨![512 * (i 1).val + 2048 * k.val + 512, 0], off7_0_eq i k⟩

theorem off7_1_eq : ∀ (i : grid0.Coords) (k : Fin (k0_t1_loop i).trips), k0_off7 i k 1#32 = ![512 * (i 1).val + 2048 * k.val + 1024, 0] := by decide +kernel
instance closedOff7_1 (i : grid0.Coords) (k : Fin (k0_t1_loop i).trips) : ClosedOff (k0_off7 i k 1#32) := ⟨![512 * (i 1).val + 2048 * k.val + 1024, 0], off7_1_eq i k⟩

theorem off7_2_eq : ∀ (i : grid0.Coords) (k : Fin (k0_t1_loop i).trips), k0_off7 i k 2#32 = ![512 * (i 1).val + 2048 * k.val + 1536, 0] := by decide +kernel
instance closedOff7_2 (i : grid0.Coords) (k : Fin (k0_t1_loop i).trips) : ClosedOff (k0_off7 i k 2#32) := ⟨![512 * (i 1).val + 2048 * k.val + 1536, 0], off7_2_eq i k⟩

theorem off7_3_eq : ∀ (i : grid0.Coords) (k : Fin (k0_t1_loop i).trips), k0_off7 i k 3#32 = ![512 * (i 1).val + 2048 * k.val + 2048, 0] := by decide +kernel
instance closedOff7_3 (i : grid0.Coords) (k : Fin (k0_t1_loop i).trips) : ClosedOff (k0_off7 i k 3#32) := ⟨![512 * (i 1).val + 2048 * k.val + 2048, 0], off7_3_eq i k⟩

theorem off8_0_eq : ∀ (i : grid0.Coords) (k : Fin (k0_t1_loop i).trips), k0_off8 i k 0#32 = ![512 * (i 1).val + 2048 * k.val + 512, 0] := by decide +kernel
instance closedOff8_0 (i : grid0.Coords) (k : Fin (k0_t1_loop i).trips) : ClosedOff (k0_off8 i k 0#32) := ⟨![512 * (i 1).val + 2048 * k.val + 512, 0], off8_0_eq i k⟩

theorem off8_1_eq : ∀ (i : grid0.Coords) (k : Fin (k0_t1_loop i).trips), k0_off8 i k 1#32 = ![512 * (i 1).val + 2048 * k.val + 1024, 0] := by decide +kernel
instance closedOff8_1 (i : grid0.Coords) (k : Fin (k0_t1_loop i).trips) : ClosedOff (k0_off8 i k 1#32) := ⟨![512 * (i 1).val + 2048 * k.val + 1024, 0], off8_1_eq i k⟩

theorem off8_2_eq : ∀ (i : grid0.Coords) (k : Fin (k0_t1_loop i).trips), k0_off8 i k 2#32 = ![512 * (i 1).val + 2048 * k.val + 1536, 0] := by decide +kernel
instance closedOff8_2 (i : grid0.Coords) (k : Fin (k0_t1_loop i).trips) : ClosedOff (k0_off8 i k 2#32) := ⟨![512 * (i 1).val + 2048 * k.val + 1536, 0], off8_2_eq i k⟩

theorem off8_3_eq : ∀ (i : grid0.Coords) (k : Fin (k0_t1_loop i).trips), k0_off8 i k 3#32 = ![512 * (i 1).val + 2048 * k.val + 2048, 0] := by decide +kernel
instance closedOff8_3 (i : grid0.Coords) (k : Fin (k0_t1_loop i).trips) : ClosedOff (k0_off8 i k 3#32) := ⟨![512 * (i 1).val + 2048 * k.val + 2048, 0], off8_3_eq i k⟩

theorem off9_0_eq : ∀ (i : grid0.Coords) (k : Fin (k0_t1_loop i).trips), k0_off9 i k 0#32 = ![0, (i 1).val + 4 * k.val + 1, 0, 0] := by decide +kernel
instance closedOff9_0 (i : grid0.Coords) (k : Fin (k0_t1_loop i).trips) : ClosedOff (k0_off9 i k 0#32) := ⟨![0, (i 1).val + 4 * k.val + 1, 0, 0], off9_0_eq i k⟩

theorem off9_1_eq : ∀ (i : grid0.Coords) (k : Fin (k0_t1_loop i).trips), k0_off9 i k 1#32 = ![0, (i 1).val + 4 * k.val + 2, 0, 0] := by decide +kernel
instance closedOff9_1 (i : grid0.Coords) (k : Fin (k0_t1_loop i).trips) : ClosedOff (k0_off9 i k 1#32) := ⟨![0, (i 1).val + 4 * k.val + 2, 0, 0], off9_1_eq i k⟩

theorem off9_2_eq : ∀ (i : grid0.Coords) (k : Fin (k0_t1_loop i).trips), k0_off9 i k 2#32 = ![0, (i 1).val + 4 * k.val + 3, 0, 0] := by decide +kernel
instance closedOff9_2 (i : grid0.Coords) (k : Fin (k0_t1_loop i).trips) : ClosedOff (k0_off9 i k 2#32) := ⟨![0, (i 1).val + 4 * k.val + 3, 0, 0], off9_2_eq i k⟩

theorem off9_3_eq : ∀ (i : grid0.Coords) (k : Fin (k0_t1_loop i).trips), k0_off9 i k 3#32 = ![0, (i 1).val + 4 * k.val + 4, 0, 0] := by decide +kernel
instance closedOff9_3 (i : grid0.Coords) (k : Fin (k0_t1_loop i).trips) : ClosedOff (k0_off9 i k 3#32) := ⟨![0, (i 1).val + 4 * k.val + 4, 0, 0], off9_3_eq i k⟩

theorem off10_0_eq : ∀ (i : grid0.Coords) (k : Fin (k0_t1_loop i).trips), k0_off10 i k 0#32 = ![0, (i 1).val + 4 * k.val + 1, 1, 0] := by decide +kernel
instance closedOff10_0 (i : grid0.Coords) (k : Fin (k0_t1_loop i).trips) : ClosedOff (k0_off10 i k 0#32) := ⟨![0, (i 1).val + 4 * k.val + 1, 1, 0], off10_0_eq i k⟩

theorem off10_1_eq : ∀ (i : grid0.Coords) (k : Fin (k0_t1_loop i).trips), k0_off10 i k 1#32 = ![0, (i 1).val + 4 * k.val + 2, 1, 0] := by decide +kernel
instance closedOff10_1 (i : grid0.Coords) (k : Fin (k0_t1_loop i).trips) : ClosedOff (k0_off10 i k 1#32) := ⟨![0, (i 1).val + 4 * k.val + 2, 1, 0], off10_1_eq i k⟩

theorem off10_2_eq : ∀ (i : grid0.Coords) (k : Fin (k0_t1_loop i).trips), k0_off10 i k 2#32 = ![0, (i 1).val + 4 * k.val + 3, 1, 0] := by decide +kernel
instance closedOff10_2 (i : grid0.Coords) (k : Fin (k0_t1_loop i).trips) : ClosedOff (k0_off10 i k 2#32) := ⟨![0, (i 1).val + 4 * k.val + 3, 1, 0], off10_2_eq i k⟩

theorem off10_3_eq : ∀ (i : grid0.Coords) (k : Fin (k0_t1_loop i).trips), k0_off10 i k 3#32 = ![0, (i 1).val + 4 * k.val + 4, 1, 0] := by decide +kernel
instance closedOff10_3 (i : grid0.Coords) (k : Fin (k0_t1_loop i).trips) : ClosedOff (k0_off10 i k 3#32) := ⟨![0, (i 1).val + 4 * k.val + 4, 1, 0], off10_3_eq i k⟩

theorem off11_0_eq : ∀ (i : grid0.Coords) (k : Fin (k0_t1_loop i).trips), k0_off11 i k 0#32 = ![512 * (i 1).val + 2048 * k.val + 512, 0] := by decide +kernel
instance closedOff11_0 (i : grid0.Coords) (k : Fin (k0_t1_loop i).trips) : ClosedOff (k0_off11 i k 0#32) := ⟨![512 * (i 1).val + 2048 * k.val + 512, 0], off11_0_eq i k⟩

theorem off11_1_eq : ∀ (i : grid0.Coords) (k : Fin (k0_t1_loop i).trips), k0_off11 i k 1#32 = ![512 * (i 1).val + 2048 * k.val + 1024, 0] := by decide +kernel
instance closedOff11_1 (i : grid0.Coords) (k : Fin (k0_t1_loop i).trips) : ClosedOff (k0_off11 i k 1#32) := ⟨![512 * (i 1).val + 2048 * k.val + 1024, 0], off11_1_eq i k⟩

theorem off11_2_eq : ∀ (i : grid0.Coords) (k : Fin (k0_t1_loop i).trips), k0_off11 i k 2#32 = ![512 * (i 1).val + 2048 * k.val + 1536, 0] := by decide +kernel
instance closedOff11_2 (i : grid0.Coords) (k : Fin (k0_t1_loop i).trips) : ClosedOff (k0_off11 i k 2#32) := ⟨![512 * (i 1).val + 2048 * k.val + 1536, 0], off11_2_eq i k⟩

theorem off11_3_eq : ∀ (i : grid0.Coords) (k : Fin (k0_t1_loop i).trips), k0_off11 i k 3#32 = ![512 * (i 1).val + 2048 * k.val + 2048, 0] := by decide +kernel
instance closedOff11_3 (i : grid0.Coords) (k : Fin (k0_t1_loop i).trips) : ClosedOff (k0_off11 i k 3#32) := ⟨![512 * (i 1).val + 2048 * k.val + 2048, 0], off11_3_eq i k⟩

theorem off12_0_eq : ∀ (i : grid0.Coords) (k : Fin (k0_t1_loop i).trips), k0_off12 i k 0#32 = ![512 * (i 1).val + 2048 * k.val + 512, 128] := by decide +kernel
instance closedOff12_0 (i : grid0.Coords) (k : Fin (k0_t1_loop i).trips) : ClosedOff (k0_off12 i k 0#32) := ⟨![512 * (i 1).val + 2048 * k.val + 512, 128], off12_0_eq i k⟩

theorem off12_1_eq : ∀ (i : grid0.Coords) (k : Fin (k0_t1_loop i).trips), k0_off12 i k 1#32 = ![512 * (i 1).val + 2048 * k.val + 1024, 128] := by decide +kernel
instance closedOff12_1 (i : grid0.Coords) (k : Fin (k0_t1_loop i).trips) : ClosedOff (k0_off12 i k 1#32) := ⟨![512 * (i 1).val + 2048 * k.val + 1024, 128], off12_1_eq i k⟩

theorem off12_2_eq : ∀ (i : grid0.Coords) (k : Fin (k0_t1_loop i).trips), k0_off12 i k 2#32 = ![512 * (i 1).val + 2048 * k.val + 1536, 128] := by decide +kernel
instance closedOff12_2 (i : grid0.Coords) (k : Fin (k0_t1_loop i).trips) : ClosedOff (k0_off12 i k 2#32) := ⟨![512 * (i 1).val + 2048 * k.val + 1536, 128], off12_2_eq i k⟩

theorem off12_3_eq : ∀ (i : grid0.Coords) (k : Fin (k0_t1_loop i).trips), k0_off12 i k 3#32 = ![512 * (i 1).val + 2048 * k.val + 2048, 128] := by decide +kernel
instance closedOff12_3 (i : grid0.Coords) (k : Fin (k0_t1_loop i).trips) : ClosedOff (k0_off12 i k 3#32) := ⟨![512 * (i 1).val + 2048 * k.val + 2048, 128], off12_3_eq i k⟩

/-! ## Offsets of the single trips -/

theorem off19_eq : ∀ (i : grid0.Coords) (k : Fin (k0_t3_loop i).trips), k0_off19 i k = ![512 * ((i 1).val + 4 * ((15 - (i 1).val) / 4) + k.val + 1), 0] := by decide +kernel
instance closedOff19 (i : grid0.Coords) (k : Fin (k0_t3_loop i).trips) : ClosedOff (k0_off19 i k) := ⟨![512 * ((i 1).val + 4 * ((15 - (i 1).val) / 4) + k.val + 1), 0], off19_eq i k⟩

theorem off20_eq : ∀ (i : grid0.Coords) (k : Fin (k0_t3_loop i).trips), k0_off20 i k = ![512 * ((i 1).val + 4 * ((15 - (i 1).val) / 4) + k.val + 1), 0] := by decide +kernel
instance closedOff20 (i : grid0.Coords) (k : Fin (k0_t3_loop i).trips) : ClosedOff (k0_off20 i k) := ⟨![512 * ((i 1).val + 4 * ((15 - (i 1).val) / 4) + k.val + 1), 0], off20_eq i k⟩

theorem off21_eq : ∀ (i : grid0.Coords) (k : Fin (k0_t3_loop i).trips), k0_off21 i k = ![0, (i 1).val + 4 * ((15 - (i 1).val) / 4) + k.val + 1, 0, 0] := by decide +kernel
instance closedOff21 (i : grid0.Coords) (k : Fin (k0_t3_loop i).trips) : ClosedOff (k0_off21 i k) := ⟨![0, (i 1).val + 4 * ((15 - (i 1).val) / 4) + k.val + 1, 0, 0], off21_eq i k⟩

theorem off22_eq : ∀ (i : grid0.Coords) (k : Fin (k0_t3_loop i).trips), k0_off22 i k = ![0, (i 1).val + 4 * ((15 - (i 1).val) / 4) + k.val + 1, 1, 0] := by decide +kernel
instance closedOff22 (i : grid0.Coords) (k : Fin (k0_t3_loop i).trips) : ClosedOff (k0_off22 i k) := ⟨![0, (i 1).val + 4 * ((15 - (i 1).val) / 4) + k.val + 1, 1, 0], off22_eq i k⟩

theorem off23_eq : ∀ (i : grid0.Coords) (k : Fin (k0_t3_loop i).trips), k0_off23 i k = ![512 * ((i 1).val + 4 * ((15 - (i 1).val) / 4) + k.val + 1), 0] := by decide +kernel
instance closedOff23 (i : grid0.Coords) (k : Fin (k0_t3_loop i).trips) : ClosedOff (k0_off23 i k) := ⟨![512 * ((i 1).val + 4 * ((15 - (i 1).val) / 4) + k.val + 1), 0], off23_eq i k⟩

theorem off24_eq : ∀ (i : grid0.Coords) (k : Fin (k0_t3_loop i).trips), k0_off24 i k = ![512 * ((i 1).val + 4 * ((15 - (i 1).val) / 4) + k.val + 1), 128] := by decide +kernel
instance closedOff24 (i : grid0.Coords) (k : Fin (k0_t3_loop i).trips) : ClosedOff (k0_off24 i k) := ⟨![512 * ((i 1).val + 4 * ((15 - (i 1).val) / 4) + k.val + 1), 128], off24_eq i k⟩

end Cert.KernelIdeal.Flash

end
-- ==== Proof.Tile.lean ====
/- One tile of the flash backward body: the arithmetic that the body does for one query block against its key block,
   as functions of the blocks it has loaded. `kh`, `vt` are the key block's halves and values, `q`, `d` the query
   block and its cotangent, `l`, `e` a head's rows of log-sum-exps and deltas. -/
module

public import proofs.«01_k».proof.Proof.Gen.KernelIdeal.Skeleton

@[expose] public section

noncomputable section

namespace Cert.KernelIdeal.Flash

open Idealize.ShloMosaic Cert.KernelIdeal Cert.KernelIdeal.Facts₀ Cert.KernelIdeal.Facts

variable {F : FTy → Type} [FloatOps F] [Named F]

/-- The first head's 128 columns of a block. -/
def colsA (q : Vec F S512x256 .bf16) : FVec F S512x128 .bf16 :=
  extractStridedSlice S512x128 ![0, 0] (shapeCast S512x256 q shapeCasts_S512x256_S512x256) slices_S512x256_o0_0_S512x128
/-- The second head's 128 columns of a block. -/
def colsB (q : Vec F S512x256 .bf16) : FVec F S512x128 .bf16 :=
  extractStridedSlice S512x128 ![0, 128] (shapeCast S512x256 q shapeCasts_S512x256_S512x256) slices_S512x256_o0_128_S512x128

/-- The cotangent with the second head's lanes put to zero. -/
def lanesA (d : Vec F S512x128 .bf16) : FVec F S512x128 .bf16 :=
  select (cmpi .slt (iota .tc S512x128 32 [1] iota_S512x128_d1_w32) (broadcast S512x128 64#32))
    (shapeCast S512x128 d shapeCasts_S512x128_S512x128) (broadcast S512x128 (Scalar.ofBits .bf16 0x0000#16))
/-- The cotangent with the first head's lanes put to zero. -/
def lanesB (d : Vec F S512x128 .bf16) : FVec F S512x128 .bf16 :=
  select (cmpi .sge (iota .tc S512x128 32 [1] iota_S512x128_d1_w32) (broadcast S512x128 64#32))
    (shapeCast S512x128 d shapeCasts_S512x128_S512x128) (broadcast S512x128 (Scalar.ofBits .bf16 0x0000#16))

/-- The scores, keys by queries. -/
def scoreT (kh qh : FVec F S512x128 .bf16) : FVec F S512x512 .f32 :=
  matmul dot_S512x128_S512x128_S512x512_1_1_0_0_n_n none kh qh (constant S512x512 .f32 0x00000000#32)
/-- The scores with the entries above the diagonal masked, for a tile on the diagonal. -/
def maskT (s : FVec F S512x512 .f32) : FVec F S512x512 .f32 :=
  select (cmpi .sle (iota .tc S512x512 32 [0] iota_S512x512_d0_w32) (iota .tc S512x512 32 [1] iota_S512x512_d1_w32))
    s (broadcast S512x512 (Named.named κ "mask" 0xF149F2CA#32))
/-- The weights: the scores' powers of two less the log-sum-exps. -/
def weightT (s : FVec F S512x512 .f32) (l : Vec F S1x1x1x512 .f32) : FVec F S512x512 .f32 :=
  exp2 (subf s (broadcastTo S512x512 (shapeCast S1x512 l shapeCasts_S1x1x1x512_S1x512) broadcasts_S1x512_S512x512))
/-- What the tile adds to the head's value gradient. -/
def dvTile (p : FVec F S512x512 .f32) (dh : FVec F S512x128 .bf16) : FVec F S512x128 .f32 :=
  matmul dot_S512x512_S512x128_S512x128_1_0_0_1_n_n none (truncf .bf16 p bitsLt_bf16_f32) dh (constant S512x128 .f32 0x00000000#32)
/-- The scores' gradient. -/
def dsTile (p : FVec F S512x512 .f32) (vt dh : FVec F S512x128 .bf16) (e : Vec F S1x1x1x512 .f32) : FVec F S512x512 .bf16 :=
  truncf .bf16 (mulf p (subf (matmul dot_S512x128_S512x128_S512x512_1_1_0_0_n_n none vt dh (constant S512x512 .f32 0x00000000#32))
    (broadcastTo S512x512 (shapeCast S1x512 e shapeCasts_S1x1x1x512_S1x512) broadcasts_S1x512_S512x512))) bitsLt_bf16_f32
/-- What the tile adds to the head's key gradient. -/
def dkTile (s : FVec F S512x512 .bf16) (qh : FVec F S512x128 .bf16) : FVec F S512x128 .f32 :=
  matmul dot_S512x512_S512x128_S512x128_1_0_0_1_n_n none s qh (constant S512x128 .f32 0x00000000#32)
/-- What the tile adds to the head's query gradient. -/
def dqTile (s : FVec F S512x512 .bf16) (kh : FVec F S512x128 .bf16) : FVec F S512x128 .f32 :=
  matmul dot_S512x512_S512x128_S512x128_0_0_1_1_n_n none s kh (constant S512x128 .f32 0x00000000#32)

/-- What the body carries from tile to tile: the two heads' key gradients and the value gradient. -/
abbrev Carry (F : FTy → Type) := FVec F S512x128 .f32 × FVec F S512x128 .f32 × FVec F S512x128 .f32

variable (ka kb vt : FVec F S512x128 .bf16) (q : Vec F S512x256 .bf16) (d : Vec F S512x128 .bf16)
  (la ea lb eb : Vec F S1x1x1x512 .f32)

/-- The scores' gradients of the two heads, for a tile below the diagonal. -/
def dsA : FVec F S512x512 .bf16 := dsTile (weightT (scoreT ka (colsA q)) la) vt (lanesA d) ea
def dsB : FVec F S512x512 .bf16 := dsTile (weightT (scoreT kb (colsB q)) lb) vt (lanesB d) eb
/-- One tile's step of the carried sums. -/
def stepCarry (y : Carry F) : Carry F :=
  (addf y.1 (dkTile (dsA ka vt q d la ea) (colsA q)), addf y.2.1 (dkTile (dsB kb vt q d lb eb) (colsB q)),
    addf (addf y.2.2 (dvTile (weightT (scoreT ka (colsA q)) la) (lanesA d))) (dvTile (weightT (scoreT kb (colsB q)) lb) (lanesB d)))
/-- The same for the tile on the diagonal. -/
def dsA₀ : FVec F S512x512 .bf16 := dsTile (weightT (maskT (scoreT ka (colsA q))) la) vt (lanesA d) ea
def dsB₀ : FVec F S512x512 .bf16 := dsTile (weightT (maskT (scoreT kb (colsB q))) lb) vt (lanesB d) eb
def stepCarry₀ (y : Carry F) : Carry F :=
  (addf y.1 (dkTile (dsA₀ ka vt q d la ea) (colsA q)), addf y.2.1 (dkTile (dsB₀ kb vt q d lb eb) (colsB q)),
    addf (addf y.2.2 (dvTile (weightT (maskT (scoreT ka (colsA q))) la) (lanesA d)))
      (dvTile (weightT (maskT (scoreT kb (colsB q))) lb) (lanesB d)))
/-- A block of query gradients with what a tile adds to it. -/
def addTo (old : Vec F S512x128 .f32) (w : FVec F S512x128 .f32) : FVec F S512x128 .f32 :=
  addf (shapeCast S512x128 old shapeCasts_S512x128_S512x128) w

end Cert.KernelIdeal.Flash

end
-- ==== Proof.Sums.lean ====
/- What one grid point of the flash backward body computes from the staged blocks, as functions of the buffers'
   values: the query block `n`'s slices, one tile's step of the carried sums and of the query gradients, and the
   steps over a run of query blocks. -/
module

public import proofs.«01_k».proof.Proof.Tile
public import Idealize.ShloMosaic.Lib.ValueIdx
public import Idealize.ShloMosaic.Lib.WritesUnit
public import Idealize.ShloMosaic.Lib.Pipeline.Frame

@[expose] public section

noncomputable section

namespace Cert.KernelIdeal.Flash

open Idealize.ShloMosaic Idealize.ShloMosaic.ValueIdx Cert.KernelIdeal Cert.KernelIdeal.Facts₀ Cert.KernelIdeal.Facts

variable {F : FTy → Type} [FloatOps F] [Named F]

/-- Row `r` of query block `n`. -/
def rowOf (n : ℕ) (r : Fin 512) : Fin 8192 := Fin.ofNat 8192 (512 * n + r.val)

theorem rowOf_val {n : ℕ} (hn : n < 16) (r : Fin 512) : (rowOf n r).val = 512 * n + r.val := by
  have := r.isLt
  exact Nat.mod_eq_of_lt (by omega)

/-- What a grid point reads: the key block's two heads and its values, and the whole of the queries, cotangents,
    log-sum-exps and deltas staged for the pair of heads. -/
structure Staged (F : FTy → Type) where
  ka : FVec F S512x128 .bf16
  kb : FVec F S512x128 .bf16
  vt : FVec F S512x128 .bf16
  q : Vec F S8192x256 .bf16
  d : Vec F S8192x128 .bf16
  l : Vec F S1x16x8x512 .f32
  e : Vec F S1x16x8x512 .f32

/-- Query block `n` of the queries. -/
def qBlk (n : ℕ) (X : Vec F S8192x256 .bf16) : Vec F S512x256 .bf16 := fun j => X (ix2 (rowOf n (j 0)) (j 1))
/-- Query block `n` of the cotangents. -/
def dBlk (n : ℕ) (X : Vec F S8192x128 .bf16) : Vec F S512x128 .bf16 := fun j => X (ix2 (rowOf n (j 0)) (j 1))
/-- Query block `n`'s row for head `h` of the pair. -/
def hRow (n : ℕ) (h : Fin 8) (X : Vec F S1x16x8x512 .f32) : Vec F S1x1x1x512 .f32 :=
  fun j => X (ix4 0 (Fin.ofNat 16 n) h (j 3))
/-- Query block `n` of the first head's query gradients. -/
def gA (n : ℕ) (G : Vec F S8192x256 .f32) : Vec F S512x128 .f32 :=
  fun j => G (ix2 (rowOf n (j 0)) (Fin.ofNat 256 (j 1).val))
/-- Query block `n` of the second head's query gradients. -/
def gB (n : ℕ) (G : Vec F S8192x256 .f32) : Vec F S512x128 .f32 :=
  fun j => G (ix2 (rowOf n (j 0)) (Fin.ofNat 256 (128 + (j 1).val)))
/-- The query gradients with block `n` replaced. -/
def putBlk (n : ℕ) (a b : Vec F S512x128 .f32) (G : Vec F S8192x256 .f32) : Vec F S8192x256 .f32 :=
  fun j => if (j 0).val / 512 = n then
      (if (j 1).val < 128 then a (ix2 (Fin.ofNat 512 (j 0).val) (Fin.ofNat 128 (j 1).val))
        else b (ix2 (Fin.ofNat 512 (j 0).val) (Fin.ofNat 128 (j 1).val)))
    else G j

variable (T : Staged F)

/-- Query block `n`'s tile below the diagonal: the step of the carried sums. -/
def tileCarry (n : ℕ) (y : Carry F) : Carry F :=
  stepCarry T.ka T.kb T.vt (qBlk n T.q) (dBlk n T.d) (hRow n 0 T.l) (hRow n 0 T.e) (hRow n 1 T.l) (hRow n 1 T.e) y
/-- Query block `n`'s tile below the diagonal: its block of `G` with the tile's query gradients added, put into `H`. -/
def putTile (n : ℕ) (G H : Vec F S8192x256 .f32) : Vec F S8192x256 .f32 :=
  putBlk n
    (addTo (gA n G) (dqTile (dsA T.ka T.vt (qBlk n T.q) (dBlk n T.d) (hRow n 0 T.l) (hRow n 0 T.e)) T.ka))
    (addTo (gB n G) (dqTile (dsB T.kb T.vt (qBlk n T.q) (dBlk n T.d) (hRow n 1 T.l) (hRow n 1 T.e)) T.kb)) H
/-- Query block `n`'s tile below the diagonal: the step of the query gradients. -/
def tileDq (n : ℕ) (G : Vec F S8192x256 .f32) : Vec F S8192x256 .f32 := putTile T n G G
/-- The same two for the tile on the diagonal. -/
def tileCarry₀ (n : ℕ) (y : Carry F) : Carry F :=
  stepCarry₀ T.ka T.kb T.vt (qBlk n T.q) (dBlk n T.d) (hRow n 0 T.l) (hRow n 0 T.e) (hRow n 1 T.l) (hRow n 1 T.e) y
def tileDq₀ (n : ℕ) (G : Vec F S8192x256 .f32) : Vec F S8192x256 .f32 :=
  putBlk n
    (addTo (gA n G) (dqTile (dsA₀ T.ka T.vt (qBlk n T.q) (dBlk n T.d) (hRow n 0 T.l) (hRow n 0 T.e)) T.ka))
    (addTo (gB n G) (dqTile (dsB₀ T.kb T.vt (qBlk n T.q) (dBlk n T.d) (hRow n 1 T.l) (hRow n 1 T.e)) T.kb)) G

/-- The carried sums after the `m` query blocks from `n` on. -/
def carryAfter (n : ℕ) : ℕ → Carry F → Carry F
  | 0, y => y
  | m + 1, y => tileCarry T (n + m) (carryAfter n m y)
/-- The query gradients after the `m` query blocks from `n` on. -/
def dqAfter (n : ℕ) : ℕ → Vec F S8192x256 .f32 → Vec F S8192x256 .f32
  | 0, G => G
  | m + 1, G => tileDq T (n + m) (dqAfter n m G)

theorem carryAfter_add (n m : ℕ) (y : Carry F) : ∀ m', carryAfter T (n + m) m' (carryAfter T n m y) = carryAfter T n (m + m') y
  | 0 => rfl
  | m' + 1 => by
    show tileCarry T (n + m + m') _ = tileCarry T (n + (m + m')) (carryAfter T n (m + m') y)
    rw [carryAfter_add n m y m', Nat.add_assoc]

theorem dqAfter_add (n m : ℕ) (G : Vec F S8192x256 .f32) : ∀ m', dqAfter T (n + m) m' (dqAfter T n m G) = dqAfter T n (m + m') G
  | 0 => rfl
  | m' + 1 => by
    show tileDq T (n + m + m') _ = tileDq T (n + (m + m')) (dqAfter T n (m + m') G)
    rw [dqAfter_add n m G m', Nat.add_assoc]

theorem gA_putBlk_ne {n n' : ℕ} (hn : n < 16) (h : n ≠ n') (a b : Vec F S512x128 .f32) (G : Vec F S8192x256 .f32) :
    gA n (putBlk n' a b G) = gA n G := by
  funext j
  have h0 : (j 0).val < 512 := (j 0).isLt
  refine if_neg ?_
  have h1 : (rowOf n (j 0)).val = 512 * n + (j 0).val := rowOf_val hn _
  exact (show ¬ (rowOf n (j 0)).val / 512 = n' by omega)
theorem gB_putBlk_ne {n n' : ℕ} (hn : n < 16) (h : n ≠ n') (a b : Vec F S512x128 .f32) (G : Vec F S8192x256 .f32) :
    gB n (putBlk n' a b G) = gB n G := by
  funext j
  have h0 : (j 0).val < 512 := (j 0).isLt
  refine if_neg ?_
  have h1 : (rowOf n (j 0)).val = 512 * n + (j 0).val := rowOf_val hn _
  exact (show ¬ (rowOf n (j 0)).val / 512 = n' by omega)

theorem putTile_tileDq {n n' : ℕ} (hn : n < 16) (h : n ≠ n') (G H H' : Vec F S8192x256 .f32) :
    putTile T n (putTile T n' H H') G = putTile T n H' G := by
  unfold putTile
  rw [gA_putBlk_ne hn h, gB_putBlk_ne hn h]

/-- Four query blocks in a row read their blocks from the query gradients as they were before the first. -/
theorem dqAfter_four {n : ℕ} (hn : n + 3 < 16) (G : Vec F S8192x256 .f32) :
    dqAfter T n 4 G = putTile T (n + 3) G (putTile T (n + 2) G (putTile T (n + 1) G (putTile T n G G))) := by
  have a1 : tileDq T (n + 1) (putTile T n G G) = putTile T (n + 1) G (putTile T n G G) :=
    putTile_tileDq T (by omega) (by omega) _ G G
  have a2 (X : Vec F S8192x256 .f32) (hX : X = putTile T (n + 1) G (putTile T n G G)) : tileDq T (n + 2) X = putTile T (n + 2) G X := by
    conv_lhs => rw [tileDq, hX]
    rw [putTile_tileDq T (by omega) (by omega) _ G (putTile T n G G), putTile_tileDq T (by omega) (by omega) _ G G, ← hX]
  have a3 (X Y : Vec F S8192x256 .f32) (hX : X = putTile T (n + 2) G Y) (hY : Y = putTile T (n + 1) G (putTile T n G G)) :
      tileDq T (n + 3) X = putTile T (n + 3) G X := by
    conv_lhs => rw [tileDq, hX]
    rw [putTile_tileDq T (by omega) (by omega) _ G Y]
    conv_lhs => rw [hY]
    rw [putTile_tileDq T (by omega) (by omega) _ G (putTile T n G G), putTile_tileDq T (by omega) (by omega) _ G G, ← hY, ← hX]
  show tileDq T (n + 3) (tileDq T (n + 2) (tileDq T (n + 1) (putTile T n G G))) = _
  rw [a1, a2 _ rfl, a3 _ _ rfl rfl]

/-! ## A whole grid point -/

/-- The query gradients a grid point starts from: zeros at its pair of heads' first key block. -/
def startDq (j : ℕ) (G : Vec F S8192x256 .f32) : Vec F S8192x256 .f32 :=
  if j = 0 then broadcast S8192x256 (Scalar.ofBits .f32 0x00000000#32) else G
/-- The carried sums start from zeros. -/
def zeroCarry : Carry F :=
  (broadcast S512x128 (Scalar.ofBits .f32 0x00000000#32), broadcast S512x128 (Scalar.ofBits .f32 0x00000000#32),
    broadcast S512x128 (Scalar.ofBits .f32 0x00000000#32))
/-- The query gradients after key block `j`: the diagonal tile, then those below it. -/
def pointDq (j : ℕ) (G : Vec F S8192x256 .f32) : Vec F S8192x256 .f32 :=
  dqAfter T (j + 1) (15 - j) (tileDq₀ T j (startDq j G))
/-- The carried sums after key block `j`'s tiles. -/
def pointCarry (j : ℕ) : Carry F := carryAfter T (j + 1) (15 - j) (tileCarry₀ T j zeroCarry)
/-- The key gradients' block: the two heads' sums side by side, scaled. -/
def dkOut (y : Carry F) : Vec F S512x256 .f32 :=
  fun j => if (j 1).val < 128 then mulf y.1 (broadcast S512x128 (Named.named κ "ln_2" 0x3F317218#32)) (ix2 (j 0) (Fin.ofNat 128 (j 1).val))
    else mulf y.2.1 (broadcast S512x128 (Named.named κ "ln_2" 0x3F317218#32)) (ix2 (j 0) (Fin.ofNat 128 (j 1).val))
/-- The value gradients' block. -/
def dvOut (y : Carry F) : Vec F S512x128 .bf16 := truncf .bf16 y.2.2 bitsLt_bf16_f32

/-- The values a key block's tiles take from its staged keys and values. -/
def keyStaged (k : Vec F S512x256 .bf16) (v : Vec F S512x128 .bf16) (q : Vec F S8192x256 .bf16) (d : Vec F S8192x128 .bf16)
    (l e : Vec F S1x16x8x512 .f32) : Staged F :=
  ⟨colsA k, colsB k, shapeCast S512x128 v shapeCasts_S512x128_S512x128, q, d, l, e⟩

/-! ## The reads and writes of a run as these slices -/

section Reads

variable {sp : Space}

theorem readAt_q (a : Memref sig .tc sp S8192x256 .bf16) (f : a.view.ty.Contents (Elt F)) {n : ℕ} (hn : n < 16)
    {off : Fin 2 → ℕ} (ho : off = ![512 * n, 0]) (inb) :
    View.readAt (Elt F) a.view (Rect.unit (s := S8192x256) off S512x256.size inb).toLoadRect f = qBlk n (a.view.read (Elt F) f) := by
  subst ho
  funext j
  refine congrArg (a.view.read (Elt F) f) (funext fun x => Fin.ext ?_)
  match x with
  | ⟨0, _⟩ => exact (show 512 * n + 1 * (j 0).val = (rowOf n (j 0)).val by rw [show (rowOf n (j 0)).val = 512 * n + (j 0).val from rowOf_val hn _]; omega)
  | ⟨1, _⟩ => exact (show 0 + 1 * (j 1).val = (j 1).val by omega)

theorem readAt_d (a : Memref sig .tc sp S8192x128 .bf16) (f : a.view.ty.Contents (Elt F)) {n : ℕ} (hn : n < 16)
    {off : Fin 2 → ℕ} (ho : off = ![512 * n, 0]) (inb) :
    View.readAt (Elt F) a.view (Rect.unit (s := S8192x128) off S512x128.size inb).toLoadRect f = dBlk n (a.view.read (Elt F) f) := by
  subst ho
  funext j
  refine congrArg (a.view.read (Elt F) f) (funext fun x => Fin.ext ?_)
  match x with
  | ⟨0, _⟩ => exact (show 512 * n + 1 * (j 0).val = (rowOf n (j 0)).val by rw [show (rowOf n (j 0)).val = 512 * n + (j 0).val from rowOf_val hn _]; omega)
  | ⟨1, _⟩ => exact (show 0 + 1 * (j 1).val = (j 1).val by omega)

theorem readAt_h (a : Memref sig .tc sp S1x16x8x512 .f32) (f : a.view.ty.Contents (Elt F)) {n : ℕ} (hn : n < 16) {h : ℕ} (hh : h < 8)
    {off : Fin 4 → ℕ} (ho : off = ![0, n, h, 0]) (inb) :
    View.readAt (Elt F) a.view (Rect.unit (s := S1x16x8x512) off S1x1x1x512.size inb).toLoadRect f
      = hRow n ⟨h, hh⟩ (a.view.read (Elt F) f) := by
  subst ho
  funext j
  have h0 : (j 0).val < 1 := (j 0).isLt
  have h1 : (j 1).val < 1 := (j 1).isLt
  have h2 : (j 2).val < 1 := (j 2).isLt
  refine congrArg (a.view.read (Elt F) f) (funext fun x => Fin.ext ?_)
  match x with
  | ⟨0, _⟩ => exact (show 0 + 1 * (j 0).val = 0 by omega)
  | ⟨1, _⟩ => exact (show n + 1 * (j 1).val = n % 16 by rw [Nat.mod_eq_of_lt hn]; omega)
  | ⟨2, _⟩ => exact (show h + 1 * (j 2).val = h by omega)
  | ⟨3, _⟩ => exact (show 0 + 1 * (j 3).val = (j 3).val by omega)

theorem readAt_gA (a : Memref sig .tc sp S8192x256 .f32) (f : a.view.ty.Contents (Elt F)) {n : ℕ} (hn : n < 16)
    {off : Fin 2 → ℕ} (ho : off = ![512 * n, 0]) (inb) :
    View.readAt (Elt F) a.view (Rect.unit (s := S8192x256) off S512x128.size inb).toLoadRect f = gA n (a.view.read (Elt F) f) := by
  subst ho
  funext j
  have h1 : (j 1).val < 128 := (j 1).isLt
  refine congrArg (a.view.read (Elt F) f) (funext fun x => Fin.ext ?_)
  match x with
  | ⟨0, _⟩ => exact (show 512 * n + 1 * (j 0).val = (rowOf n (j 0)).val by rw [show (rowOf n (j 0)).val = 512 * n + (j 0).val from rowOf_val hn _]; omega)
  | ⟨1, _⟩ => exact (show 0 + 1 * (j 1).val = (j 1).val % 256 by omega)

theorem readAt_gB (a : Memref sig .tc sp S8192x256 .f32) (f : a.view.ty.Contents (Elt F)) {n : ℕ} (hn : n < 16)
    {off : Fin 2 → ℕ} (ho : off = ![512 * n, 128]) (inb) :
    View.readAt (Elt F) a.view (Rect.unit (s := S8192x256) off S512x128.size inb).toLoadRect f = gB n (a.view.read (Elt F) f) := by
  subst ho
  funext j
  have h1 : (j 1).val < 128 := (j 1).isLt
  refine congrArg (a.view.read (Elt F) f) (funext fun x => Fin.ext ?_)
  match x with
  | ⟨0, _⟩ => exact (show 512 * n + 1 * (j 0).val = (rowOf n (j 0)).val by rw [show (rowOf n (j 0)).val = 512 * n + (j 0).val from rowOf_val hn _]; omega)
  | ⟨1, _⟩ => exact (show 128 + 1 * (j 1).val = (128 + (j 1).val) % 256 by omega)

theorem readAt_whole {s : Shape} {e : EltTy} (a : Memref sig .tc sp s e) (f : a.view.ty.Contents (Elt F)) {off : Fin s.rank → ℕ}
    (ho : ∀ x, off x = 0) (inb) : View.readAt (Elt F) a.view (Rect.unit (s := s) off s.size inb).toLoadRect f = a.view.read (Elt F) f :=
  funext fun j => congrArg (a.view.read (Elt F) f) (funext fun x => Fin.ext (by
    show off x + 1 * (j x).val = (j x).val
    rw [ho x]
    omega))

/-- Two stores of a block's halves, read back as a whole. -/
theorem writes_blk {a : Memref sig .tc sp S8192x256 .f32} (ha : a.IsWhole) (f : a.view.ty.Contents (Elt F)) {n : ℕ} (hn : n < 16)
    {o o' : Fin 2 → ℕ} (ho : o = ![512 * n, 0]) (ho' : o' = ![512 * n, 128]) (inb inb')
    (x y : Vec F S512x128 .f32) (L : List (View.Piece (Elt F) S8192x256 .f32)) (G : Vec F S8192x256 .f32)
    (hL : a.view.writes (Elt F) f L = ha.unread G) :
    a.view.writes (Elt F) f ((⟨Rect.unit (s := S8192x256) o' S512x128.size inb', y⟩ : View.Piece (Elt F) S8192x256 .f32)
        :: (⟨Rect.unit (s := S8192x256) o S512x128.size inb, x⟩ : View.Piece (Elt F) S8192x256 .f32) :: L)
      = ha.unread (putBlk n x y G) := by
  refine ha.eq_unread (funext fun j => ?_)
  have h0 : (j 0).val < 8192 := (j 0).isLt
  have h1 : (j 1).val < 256 := (j 1).isLt
  have hG : a.view.read (Elt F) (a.view.writes (Elt F) f L) = G := by rw [hL, ha.read_unread]
  by_cases hb : (j 0).val / 512 = n
  · by_cases hc : (j 1).val < 128
    · rw [View.read_writes_cons_unit_of_not_mem a.view f inb' y _ j ho' 1 (Or.inl hc),
        View.read_writes_cons_unit_of_mem a.view f inb x L j (ix2 (Fin.ofNat 512 (j 0).val) (Fin.ofNat 128 (j 1).val)) ho
          (Fin.forall_fin_two.mpr ⟨(show (j 0).val = 512 * n + (j 0).val % 512 by omega), (show (j 1).val = 0 + (j 1).val % 128 by omega)⟩)]
      simp only [putBlk, hb, hc, if_true]
    · rw [View.read_writes_cons_unit_of_mem a.view f inb' y _ j (ix2 (Fin.ofNat 512 (j 0).val) (Fin.ofNat 128 (j 1).val)) ho'
          (Fin.forall_fin_two.mpr ⟨(show (j 0).val = 512 * n + (j 0).val % 512 by omega), (show (j 1).val = 128 + (j 1).val % 128 by omega)⟩)]
      simp only [putBlk, hb, hc, if_true, if_false]
  · rw [View.read_writes_cons_unit_of_not_mem a.view f inb' y _ j ho' 0 (show (j 0).val < 512 * n ∨ 512 * n + 512 ≤ (j 0).val by omega),
      View.read_writes_cons_unit_of_not_mem a.view f inb x L j ho 0 (show (j 0).val < 512 * n ∨ 512 * n + 512 ≤ (j 0).val by omega), hG]
    simp only [putBlk, hb, if_false]

/-- The two stores of the key gradients' block, read back as a whole. -/
theorem writes_dk {a : Memref sig .tc sp S512x256 .f32} (ha : a.IsWhole) (f : a.view.ty.Contents (Elt F)) (inb inb') (y : Carry F) :
    a.view.writes (Elt F) f
      [(⟨Rect.unit (s := S512x256) ![0, 128] S512x128.size inb', mulf y.2.1 (broadcast S512x128 (Named.named κ "ln_2" 0x3F317218#32))⟩ : View.Piece (Elt F) S512x256 .f32),
        ⟨Rect.unit (s := S512x256) ![0, 0] S512x128.size inb, mulf y.1 (broadcast S512x128 (Named.named κ "ln_2" 0x3F317218#32))⟩]
      = ha.unread (dkOut y) := by
  refine ha.eq_unread (funext fun j => ?_)
  have h1 : (j 1).val < 256 := (j 1).isLt
  by_cases hc : (j 1).val < 128
  · rw [View.read_writes_cons_unit_of_not_mem a.view f inb' _ _ j rfl 1 (Or.inl hc),
      View.read_writes_cons_unit_of_mem a.view f inb _ [] j (ix2 (j 0) (Fin.ofNat 128 (j 1).val)) rfl
        (Fin.forall_fin_two.mpr ⟨(Nat.zero_add _).symm, (show (j 1).val = 0 + (j 1).val % 128 by omega)⟩)]
    simp only [dkOut, hc, if_true]
  · rw [View.read_writes_cons_unit_of_mem a.view f inb' _ _ j (ix2 (j 0) (Fin.ofNat 128 (j 1).val)) rfl
        (Fin.forall_fin_two.mpr ⟨(Nat.zero_add _).symm, (show (j 1).val = 128 + (j 1).val % 128 by omega)⟩)]
    simp only [dkOut, hc, if_false]

/-- A store of a whole buffer of rank two. -/
theorem writes_whole {n m : ℕ} {e : EltTy} {a : Memref sig .tc sp ⟨2, ![n, m]⟩ e} (ha : a.IsWhole) (f : a.view.ty.Contents (Elt F)) (inb)
    (w : Vec F ⟨2, ![n, m]⟩ e) :
    a.view.writes (Elt F) f [(⟨Rect.unit (s := ⟨2, ![n, m]⟩) ![0, 0] (Shape.size ⟨2, ![n, m]⟩) inb, w⟩ : View.Piece (Elt F) ⟨2, ![n, m]⟩ e)] = ha.unread w :=
  ha.eq_unread (funext fun y => View.read_writes_cons_unit_of_mem a.view f _ _ [] y y rfl
    (Fin.forall_fin_two.mpr ⟨(Nat.zero_add _).symm, (Nat.zero_add _).symm⟩))

end Reads

end Cert.KernelIdeal.Flash

end
-- ==== Proof.Trip.lean ====
module

public import proofs.«01_k».proof.Proof.Offsets
public import proofs.«01_k».proof.Proof.Sums
public import proofs.«01_k».proof.Proof.Gen.KernelIdeal.Frame
public import proofs.«01_k».proof.Proof.Gen.KernelIdeal.Loops

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- A memref's buffer held whole at contents `f`. -/
abbrev held {s : Shape} {e : EltTy} (c : Dev nD) (a : Memref sig .tc .vmem s e) (f : a.view.ty.Contents (Elt F)) : sProp 𝕄 :=
  a.view.loc (c : Thread nD τ) ↦{fullShare} f

variable (𝒱 : Variants) (c : Dev nD) (bd : Option 𝒱.V) (i : grid0.Coords) (arg2 : Memref sig .tc .vmem S8192x256 .bf16) (harg2 : arg2.IsWhole) (arg3 : Memref sig .tc .vmem S8192x128 .bf16) (harg3 : arg3.IsWhole) (arg4 : Memref sig .tc .vmem S1x16x8x512 .f32) (harg4 : arg4.IsWhole) (arg5 : Memref sig .tc .vmem S1x16x8x512 .f32) (harg5 : arg5.IsWhole) (arg6 : Memref sig .tc .vmem S512x256 .bf16) (harg6 : arg6.IsWhole) (arg7 : Memref sig .tc .vmem S512x128 .bf16) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x128 .bf16) (harg10 : arg10.IsWhole)

/-- The values a grid point's tiles read, from the key block's values and the staged buffers' contents. -/
abbrev staged (v5 v6 v8 : FVec F S512x128 .bf16) (x2 : arg2.view.ty.Contents (Elt F)) (x3 : arg3.view.ty.Contents (Elt F))
    (x4 : arg4.view.ty.Contents (Elt F)) (x5 : arg5.view.ty.Contents (Elt F)) : Staged F :=
  ⟨v5, v6, v8, arg2.view.read (Elt F) x2, arg3.view.read (Elt F) x3, arg4.view.read (Elt F) x4, arg5.view.read (Elt F) x5⟩

section Tile

variable {arg2 arg3 arg4 arg5 arg8}
  (v5 v6 v8 : FVec F S512x128 .bf16) (x2 : arg2.view.ty.Contents (Elt F)) (x3 : arg3.view.ty.Contents (Elt F))
  (x4 : arg4.view.ty.Contents (Elt F)) (x5 : arg5.view.ty.Contents (Elt F)) (f : arg8.view.ty.Contents (Elt F)) {n : ℕ} (hn : n < 16)
  {oq od oa ob : Fin 2 → ℕ} {ol om : Fin 4 → ℕ} (eq : oq = ![512 * n, 0]) (ed : od = ![512 * n, 0]) (el : ol = ![0, n, 0, 0])
  (em : om = ![0, n, 1, 0]) (ea : oa = ![512 * n, 0]) (eb : ob = ![512 * n, 128])
  (iq : ∀ a, oq a + S512x256.size a ≤ S8192x256.size a) (id : ∀ a, od a + S512x128.size a ≤ S8192x128.size a)
  (il : ∀ a, ol a + S1x1x1x512.size a ≤ S1x16x8x512.size a) (im : ∀ a, om a + S1x1x1x512.size a ≤ S1x16x8x512.size a)
  (ia : ∀ a, oa a + S512x128.size a ≤ S8192x256.size a) (ib : ∀ a, ob a + S512x128.size a ≤ S8192x256.size a)

include hn eq ed el em in
/-- A tile's step of the carried sums, on what a trip loads. -/
theorem stepCarry_loads (y : Carry F) :
    stepCarry v5 v6 v8 (View.readAt (Elt F) arg2.view (Rect.unit (s := S8192x256) oq S512x256.size iq).toLoadRect x2)
      (View.readAt (Elt F) arg3.view (Rect.unit (s := S8192x128) od S512x128.size id).toLoadRect x3)
      (View.readAt (Elt F) arg4.view (Rect.unit (s := S1x16x8x512) ol S1x1x1x512.size il).toLoadRect x4)
      (View.readAt (Elt F) arg5.view (Rect.unit (s := S1x16x8x512) ol S1x1x1x512.size il).toLoadRect x5)
      (View.readAt (Elt F) arg4.view (Rect.unit (s := S1x16x8x512) om S1x1x1x512.size im).toLoadRect x4)
      (View.readAt (Elt F) arg5.view (Rect.unit (s := S1x16x8x512) om S1x1x1x512.size im).toLoadRect x5) y
      = tileCarry (staged arg2 arg3 arg4 arg5 v5 v6 v8 x2 x3 x4 x5) n y := by
  rw [readAt_q arg2 x2 hn eq, readAt_d arg3 x3 hn ed, readAt_h arg4 x4 hn (h := 0) (by omega) el, readAt_h arg5 x5 hn (h := 0) (by omega) el,
    readAt_h arg4 x4 hn (h := 1) (by omega) em, readAt_h arg5 x5 hn (h := 1) (by omega) em]
  rfl

include hn eq ed el em ea eb in
/-- A tile's two stores of query gradients, on what a trip loads. -/
theorem writes_tile (L : List (View.Piece (Elt F) S8192x256 .f32)) (H : Vec F S8192x256 .f32)
    (hL : arg8.view.writes (Elt F) f L = harg8.unread H) :
    arg8.view.writes (Elt F) f
      ((⟨Rect.unit (s := S8192x256) ob S512x128.size ib, addTo (View.readAt (Elt F) arg8.view (Rect.unit (s := S8192x256) ob S512x128.size ib).toLoadRect f) (dqTile (dsB v6 v8 (View.readAt (Elt F) arg2.view (Rect.unit (s := S8192x256) oq S512x256.size iq).toLoadRect x2)
          (View.readAt (Elt F) arg3.view (Rect.unit (s := S8192x128) od S512x128.size id).toLoadRect x3)
          (View.readAt (Elt F) arg4.view (Rect.unit (s := S1x16x8x512) om S1x1x1x512.size im).toLoadRect x4)
          (View.readAt (Elt F) arg5.view (Rect.unit (s := S1x16x8x512) om S1x1x1x512.size im).toLoadRect x5)) v6)⟩ : View.Piece (Elt F) S8192x256 .f32)
        :: (⟨Rect.unit (s := S8192x256) oa S512x128.size ia, addTo (View.readAt (Elt F) arg8.view (Rect.unit (s := S8192x256) oa S512x128.size ia).toLoadRect f) (dqTile (dsA v5 v8 (View.readAt (Elt F) arg2.view (Rect.unit (s := S8192x256) oq S512x256.size iq).toLoadRect x2)
          (View.readAt (Elt F) arg3.view (Rect.unit (s := S8192x128) od S512x128.size id).toLoadRect x3)
          (View.readAt (Elt F) arg4.view (Rect.unit (s := S1x16x8x512) ol S1x1x1x512.size il).toLoadRect x4)
          (View.readAt (Elt F) arg5.view (Rect.unit (s := S1x16x8x512) ol S1x1x1x512.size il).toLoadRect x5)) v5)⟩ : View.Piece (Elt F) S8192x256 .f32) :: L)
      = harg8.unread (putTile (staged arg2 arg3 arg4 arg5 v5 v6 v8 x2 x3 x4 x5) n (arg8.view.read (Elt F) f) H) := by
  rw [writes_blk harg8 f hn ea eb ia ib _ _ L H hL, readAt_q arg2 x2 hn eq, readAt_d arg3 x3 hn ed,
    readAt_h arg4 x4 hn (h := 0) (by omega) el, readAt_h arg5 x5 hn (h := 0) (by omega) el,
    readAt_h arg4 x4 hn (h := 1) (by omega) em, readAt_h arg5 x5 hn (h := 1) (by omega) em,
    readAt_gA arg8 f hn ea, readAt_gB arg8 f hn eb]
  rfl

include hn eq ed el em in
/-- The diagonal tile's step of the carried sums, on what a trip loads. -/
theorem stepCarry₀_loads (y : Carry F) :
    stepCarry₀ v5 v6 v8 (View.readAt (Elt F) arg2.view (Rect.unit (s := S8192x256) oq S512x256.size iq).toLoadRect x2)
      (View.readAt (Elt F) arg3.view (Rect.unit (s := S8192x128) od S512x128.size id).toLoadRect x3)
      (View.readAt (Elt F) arg4.view (Rect.unit (s := S1x16x8x512) ol S1x1x1x512.size il).toLoadRect x4)
      (View.readAt (Elt F) arg5.view (Rect.unit (s := S1x16x8x512) ol S1x1x1x512.size il).toLoadRect x5)
      (View.readAt (Elt F) arg4.view (Rect.unit (s := S1x16x8x512) om S1x1x1x512.size im).toLoadRect x4)
      (View.readAt (Elt F) arg5.view (Rect.unit (s := S1x16x8x512) om S1x1x1x512.size im).toLoadRect x5) y
      = tileCarry₀ (staged arg2 arg3 arg4 arg5 v5 v6 v8 x2 x3 x4 x5) n y := by
  rw [readAt_q arg2 x2 hn eq, readAt_d arg3 x3 hn ed, readAt_h arg4 x4 hn (h := 0) (by omega) el, readAt_h arg5 x5 hn (h := 0) (by omega) el,
    readAt_h arg4 x4 hn (h := 1) (by omega) em, readAt_h arg5 x5 hn (h := 1) (by omega) em]
  rfl

include hn eq ed el em ea eb in
/-- The diagonal tile's two stores of query gradients, on what a trip loads. -/
theorem writes_tile₀ :
    arg8.view.writes (Elt F) f
      [(⟨Rect.unit (s := S8192x256) ob S512x128.size ib, addTo (View.readAt (Elt F) arg8.view (Rect.unit (s := S8192x256) ob S512x128.size ib).toLoadRect f) (dqTile (dsB₀ v6 v8 (View.readAt (Elt F) arg2.view (Rect.unit (s := S8192x256) oq S512x256.size iq).toLoadRect x2)
          (View.readAt (Elt F) arg3.view (Rect.unit (s := S8192x128) od S512x128.size id).toLoadRect x3)
          (View.readAt (Elt F) arg4.view (Rect.unit (s := S1x16x8x512) om S1x1x1x512.size im).toLoadRect x4)
          (View.readAt (Elt F) arg5.view (Rect.unit (s := S1x16x8x512) om S1x1x1x512.size im).toLoadRect x5)) v6)⟩ : View.Piece (Elt F) S8192x256 .f32)
        , (⟨Rect.unit (s := S8192x256) oa S512x128.size ia, addTo (View.readAt (Elt F) arg8.view (Rect.unit (s := S8192x256) oa S512x128.size ia).toLoadRect f) (dqTile (dsA₀ v5 v8 (View.readAt (Elt F) arg2.view (Rect.unit (s := S8192x256) oq S512x256.size iq).toLoadRect x2)
          (View.readAt (Elt F) arg3.view (Rect.unit (s := S8192x128) od S512x128.size id).toLoadRect x3)
          (View.readAt (Elt F) arg4.view (Rect.unit (s := S1x16x8x512) ol S1x1x1x512.size il).toLoadRect x4)
          (View.readAt (Elt F) arg5.view (Rect.unit (s := S1x16x8x512) ol S1x1x1x512.size il).toLoadRect x5)) v5)⟩ : View.Piece (Elt F) S8192x256 .f32) ]
      = harg8.unread (tileDq₀ (staged arg2 arg3 arg4 arg5 v5 v6 v8 x2 x3 x4 x5) n (arg8.view.read (Elt F) f)) := by
  rw [writes_blk harg8 f hn ea eb ia ib _ _ [] _ (harg8.unread_read f).symm, readAt_q arg2 x2 hn eq, readAt_d arg3 x3 hn ed,
    readAt_h arg4 x4 hn (h := 0) (by omega) el, readAt_h arg5 x5 hn (h := 0) (by omega) el,
    readAt_h arg4 x4 hn (h := 1) (by omega) em, readAt_h arg5 x5 hn (h := 1) (by omega) em,
    readAt_gA arg8 f hn ea, readAt_gB arg8 f hn eb]
  rfl

end Tile

set_option maxHeartbeats 4000000 in
/-- One trip of the loop over single query blocks. -/
theorem trip3 (v5 v6 v8 : FVec F S512x128 .bf16) (v120 : BitVec 32) (k : Fin (k0_t3_loop i).trips) (y : Carry F)
    (x2 : arg2.view.ty.Contents (Elt F)) (x3 : arg3.view.ty.Contents (Elt F)) (x4 : arg4.view.ty.Contents (Elt F)) (x5 : arg5.view.ty.Contents (Elt F)) (f : arg8.view.ty.Contents (Elt F))
    {n : ℕ} (hn : n = (i 1).val + 1 + 4 * ((15 - (i 1).val) / 4) + k.val) :
    iprop(held c arg2 x2 ∗ held c arg3 x3 ∗ held c arg4 x4 ∗ held c arg5 x5 ∗ held c arg8 f)
      ⊢ wp frame (wpE (defs₀ (F := F)) 𝒱 (c : Thread nD τ) bd) Set.univ
          (k0_t3_body (F := F) i arg2 harg2 arg3 harg3 arg4 harg4 arg5 harg5 arg6 harg6 arg7 harg7 arg8 harg8 arg9 harg9 arg10 harg10 v5 v6 v8 v120 k y)
          (fun z => iprop(⌜z = tileCarry (staged arg2 arg3 arg4 arg5 v5 v6 v8 x2 x3 x4 x5) n y⌝ ∗ held c arg2 x2 ∗ held c arg3 x3 ∗ held c arg4 x4 ∗ held c arg5 x5
            ∗ held c arg8 (harg8.unread (tileDq (staged arg2 arg3 arg4 arg5 v5 v6 v8 x2 x3 x4 x5) n (arg8.view.read (Elt F) f))))) := by
  have hk : k.val < (15 - (i 1).val) % 4 := lt_of_lt_of_eq k.isLt (t3_trips i)
  have hi : (i 1).val < 16 := (i 1).isLt
  have hn16 : n < 16 := by omega
  have e19 : k0_off19 i k = ![512 * n, 0] := by rw [off19_eq]; congr 1; omega
  have e20 : k0_off20 i k = ![512 * n, 0] := by rw [off20_eq]; congr 1; omega
  have e21 : k0_off21 i k = ![0, n, 0, 0] := by rw [off21_eq]; congr 2; omega
  have e22 : k0_off22 i k = ![0, n, 1, 0] := by rw [off22_eq]; congr 2; omega
  have e23 : k0_off23 i k = ![512 * n, 0] := by rw [off23_eq]; congr 1; omega
  have e24 : k0_off24 i k = ![512 * n, 128] := by rw [off24_eq]; congr 1; omega
  have hz := stepCarry_loads v5 v6 v8 x2 x3 x4 x5 hn16 e19 e20 e21 e22 (k0_off19_inb i k) (k0_off20_inb i k) (k0_off21_inb i k) (k0_off22_inb i k) y
  have hw := writes_tile harg8 v5 v6 v8 x2 x3 x4 x5 f hn16 e19 e20 e21 e22 e23 e24 (k0_off19_inb i k) (k0_off20_inb i k) (k0_off21_inb i k) (k0_off22_inb i k)
    (k0_off23_inb i k) (k0_off24_inb i k) [] _ (harg8.unread_read f).symm
  generalize tileCarry (staged arg2 arg3 arg4 arg5 v5 v6 v8 x2 x3 x4 x5) n y = Z at hz ⊢
  change _ = harg8.unread (tileDq (staged arg2 arg3 arg4 arg5 v5 v6 v8 x2 x3 x4 x5) n (arg8.view.read (Elt F) f)) at hw
  generalize harg8.unread (tileDq (staged arg2 arg3 arg4 arg5 v5 v6 v8 x2 x3 x4 x5) n (arg8.view.read (Elt F) f)) = W at hw ⊢
  subst hz hw
  unfold k0_t3_body
  iintro ⟨H2, H3, H4, H5, H8⟩
  sl_exec
  sl_step
  isplitl []
  · ipureintro; rfl
  isplitl [H2]
  · iexact H2
  isplitl [H3]
  · iexact H3
  isplitl [H4]
  · iexact H4
  isplitl [H5]
  · iexact H5
  iexact H8

set_option maxHeartbeats 16000000 in
/-- One trip of the loop over four query blocks at a time. -/
theorem trip1 (arg1 : BitVec 32) (v5 v6 v8 : FVec F S512x128 .bf16) (v9 : FVec F S512x128 .f32) (v11 : BitVec 32) (v44 v50 v51 v69 v75 v76 : FVec F S512x128 .f32) (v93 : BitVec 32)
    (k : Fin (k0_t1_loop i).trips) (y : Carry F)
    (x2 : arg2.view.ty.Contents (Elt F)) (x3 : arg3.view.ty.Contents (Elt F)) (x4 : arg4.view.ty.Contents (Elt F)) (x5 : arg5.view.ty.Contents (Elt F)) (f : arg8.view.ty.Contents (Elt F))
    {n : ℕ} (hn : n = (i 1).val + 1 + 4 * k.val) :
    iprop(held c arg2 x2 ∗ held c arg3 x3 ∗ held c arg4 x4 ∗ held c arg5 x5 ∗ held c arg8 f)
      ⊢ wp frame (wpE (defs₀ (F := F)) 𝒱 (c : Thread nD τ) bd) Set.univ
          (k0_t1_body (F := F) i arg2 harg2 arg3 harg3 arg4 harg4 arg5 harg5 arg6 harg6 arg7 harg7 arg8 harg8 arg9 harg9 arg10 harg10 arg1 v5 v6 v8 v9 v11 v44 v50 v51 v69 v75 v76 v93 k y)
          (fun z => iprop(⌜z = carryAfter (staged arg2 arg3 arg4 arg5 v5 v6 v8 x2 x3 x4 x5) n 4 y⌝ ∗ held c arg2 x2 ∗ held c arg3 x3 ∗ held c arg4 x4 ∗ held c arg5 x5
            ∗ held c arg8 (harg8.unread (dqAfter (staged arg2 arg3 arg4 arg5 v5 v6 v8 x2 x3 x4 x5) n 4 (arg8.view.read (Elt F) f))))) := by
  have hk : k.val < (15 - (i 1).val) / 4 := lt_of_lt_of_eq k.isLt (t1_trips i)
  have hi : (i 1).val < 16 := (i 1).isLt
  have hn16 : n + 3 < 16 := by omega
  have e7_0 : k0_off7 i k 0#32 = ![512 * (n + 0), 0] := by rw [off7_0_eq]; congr 1; omega
  have e8_0 : k0_off8 i k 0#32 = ![512 * (n + 0), 0] := by rw [off8_0_eq]; congr 1; omega
  have e9_0 : k0_off9 i k 0#32 = ![0, n + 0, 0, 0] := by rw [off9_0_eq]; congr 2; omega
  have e10_0 : k0_off10 i k 0#32 = ![0, n + 0, 1, 0] := by rw [off10_0_eq]; congr 2; omega
  have e11_0 : k0_off11 i k 0#32 = ![512 * (n + 0), 0] := by rw [off11_0_eq]; congr 1; omega
  have e12_0 : k0_off12 i k 0#32 = ![512 * (n + 0), 128] := by rw [off12_0_eq]; congr 1; omega
  have e7_1 : k0_off7 i k 1#32 = ![512 * (n + 1), 0] := by rw [off7_1_eq]; congr 1; omega
  have e8_1 : k0_off8 i k 1#32 = ![512 * (n + 1), 0] := by rw [off8_1_eq]; congr 1; omega
  have e9_1 : k0_off9 i k 1#32 = ![0, n + 1, 0, 0] := by rw [off9_1_eq]; congr 2; omega
  have e10_1 : k0_off10 i k 1#32 = ![0, n + 1, 1, 0] := by rw [off10_1_eq]; congr 2; omega
  have e11_1 : k0_off11 i k 1#32 = ![512 * (n + 1), 0] := by rw [off11_1_eq]; congr 1; omega
  have e12_1 : k0_off12 i k 1#32 = ![512 * (n + 1), 128] := by rw [off12_1_eq]; congr 1; omega
  have e7_2 : k0_off7 i k 2#32 = ![512 * (n + 2), 0] := by rw [off7_2_eq]; congr 1; omega
  have e8_2 : k0_off8 i k 2#32 = ![512 * (n + 2), 0] := by rw [off8_2_eq]; congr 1; omega
  have e9_2 : k0_off9 i k 2#32 = ![0, n + 2, 0, 0] := by rw [off9_2_eq]; congr 2; omega
  have e10_2 : k0_off10 i k 2#32 = ![0, n + 2, 1, 0] := by rw [off10_2_eq]; congr 2; omega
  have e11_2 : k0_off11 i k 2#32 = ![512 * (n + 2), 0] := by rw [off11_2_eq]; congr 1; omega
  have e12_2 : k0_off12 i k 2#32 = ![512 * (n + 2), 128] := by rw [off12_2_eq]; congr 1; omega
  have e7_3 : k0_off7 i k 3#32 = ![512 * (n + 3), 0] := by rw [off7_3_eq]; congr 1; omega
  have e8_3 : k0_off8 i k 3#32 = ![512 * (n + 3), 0] := by rw [off8_3_eq]; congr 1; omega
  have e9_3 : k0_off9 i k 3#32 = ![0, n + 3, 0, 0] := by rw [off9_3_eq]; congr 2; omega
  have e10_3 : k0_off10 i k 3#32 = ![0, n + 3, 1, 0] := by rw [off10_3_eq]; congr 2; omega
  have e11_3 : k0_off11 i k 3#32 = ![512 * (n + 3), 0] := by rw [off11_3_eq]; congr 1; omega
  have e12_3 : k0_off12 i k 3#32 = ![512 * (n + 3), 128] := by rw [off12_3_eq]; congr 1; omega
  have z0 := stepCarry_loads v5 v6 v8 x2 x3 x4 x5 (by omega) e7_0 e8_0 e9_0 e10_0 (k0_off7_inb i k 0) (k0_off8_inb i k 0) (k0_off9_inb i k 0) (k0_off10_inb i k 0)
  have w0 := writes_tile harg8 v5 v6 v8 x2 x3 x4 x5 f (by omega) e7_0 e8_0 e9_0 e10_0 e11_0 e12_0 (k0_off7_inb i k 0) (k0_off8_inb i k 0) (k0_off9_inb i k 0) (k0_off10_inb i k 0) (k0_off11_inb i k 0) (k0_off12_inb i k 0) [] _ (harg8.unread_read f).symm
  have z1 := stepCarry_loads v5 v6 v8 x2 x3 x4 x5 (by omega) e7_1 e8_1 e9_1 e10_1 (k0_off7_inb i k 1) (k0_off8_inb i k 1) (k0_off9_inb i k 1) (k0_off10_inb i k 1)
  have w1 := writes_tile harg8 v5 v6 v8 x2 x3 x4 x5 f (by omega) e7_1 e8_1 e9_1 e10_1 e11_1 e12_1 (k0_off7_inb i k 1) (k0_off8_inb i k 1) (k0_off9_inb i k 1) (k0_off10_inb i k 1) (k0_off11_inb i k 1) (k0_off12_inb i k 1) _ _ w0
  have z2 := stepCarry_loads v5 v6 v8 x2 x3 x4 x5 (by omega) e7_2 e8_2 e9_2 e10_2 (k0_off7_inb i k 2) (k0_off8_inb i k 2) (k0_off9_inb i k 2) (k0_off10_inb i k 2)
  have w2 := writes_tile harg8 v5 v6 v8 x2 x3 x4 x5 f (by omega) e7_2 e8_2 e9_2 e10_2 e11_2 e12_2 (k0_off7_inb i k 2) (k0_off8_inb i k 2) (k0_off9_inb i k 2) (k0_off10_inb i k 2) (k0_off11_inb i k 2) (k0_off12_inb i k 2) _ _ w1
  have z3 := stepCarry_loads v5 v6 v8 x2 x3 x4 x5 (by omega) e7_3 e8_3 e9_3 e10_3 (k0_off7_inb i k 3) (k0_off8_inb i k 3) (k0_off9_inb i k 3) (k0_off10_inb i k 3)
  have w3 := writes_tile harg8 v5 v6 v8 x2 x3 x4 x5 f (by omega) e7_3 e8_3 e9_3 e10_3 e11_3 e12_3 (k0_off7_inb i k 3) (k0_off8_inb i k 3) (k0_off9_inb i k 3) (k0_off10_inb i k 3) (k0_off11_inb i k 3) (k0_off12_inb i k 3) _ _ w2
  have hz := (z3 _).trans (congrArg (tileCarry (staged arg2 arg3 arg4 arg5 v5 v6 v8 x2 x3 x4 x5) (n + 3)) ((z2 _).trans (congrArg (tileCarry (staged arg2 arg3 arg4 arg5 v5 v6 v8 x2 x3 x4 x5) (n + 2))
    ((z1 _).trans (congrArg (tileCarry (staged arg2 arg3 arg4 arg5 v5 v6 v8 x2 x3 x4 x5) (n + 1)) (z0 y))))))
  change _ = carryAfter (staged arg2 arg3 arg4 arg5 v5 v6 v8 x2 x3 x4 x5) n 4 y at hz
  have hw := w3.trans (congrArg harg8.unread (dqAfter_four (staged arg2 arg3 arg4 arg5 v5 v6 v8 x2 x3 x4 x5) hn16 (arg8.view.read (Elt F) f)).symm)
  generalize carryAfter (staged arg2 arg3 arg4 arg5 v5 v6 v8 x2 x3 x4 x5) n 4 y = Z at hz ⊢
  generalize harg8.unread (dqAfter (staged arg2 arg3 arg4 arg5 v5 v6 v8 x2 x3 x4 x5) n 4 (arg8.view.read (Elt F) f)) = W at hw ⊢
  subst hz hw
  clear z0 z1 z2 z3 w0 w1 w2 w3
  unfold k0_t1_body
  iintro ⟨H2, H3, H4, H5, H8⟩
  sl_exec
  sl_step
  isplitl []
  · ipureintro; rfl
  isplitl [H2]
  · iexact H2
  isplitl [H3]
  · iexact H3
  isplitl [H4]
  · iexact H4
  isplitl [H5]
  · iexact H5
  iexact H8

end Cert.KernelIdeal.Flash

end
-- ==== Proof.Body.lean ====
/- One grid point of the flash backward body: its loops' invariants and what a run of it leaves in the output
   buffers. -/
module

public import proofs.«01_k».proof.Proof.Trip

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The store of the whole buffer that the `m` query blocks from `n` on come to, if there is one among them. -/
def piecesAfter (T : Staged F) (n : ℕ) (G : Vec F S8192x256 .f32) : ℕ → List (View.Piece (Elt F) S8192x256 .f32)
  | 0 => []
  | m + 1 => [⟨Rect.unit (s := S8192x256) ![0, 0] S8192x256.size inb_S8192x256_S8192x256_0_0, dqAfter T n (m + 1) G⟩]

/-- The query gradients' buffer after the `m` query blocks from `n` on. -/
theorem writes_after {a : Memref sig .tc .vmem S8192x256 .f32} (ha : a.IsWhole) (T : Staged F) (n m : ℕ) (f : a.view.ty.Contents (Elt F)) :
    a.view.writes (Elt F) f (piecesAfter T n (a.view.read (Elt F) f) m) = ha.unread (dqAfter T n m (a.view.read (Elt F) f)) := by
  cases m with
  | zero => exact (ha.unread_read f).symm
  | succ m => exact ha.eq_unread (funext fun y => View.read_writes_cons_unit_of_mem a.view f _ _ [] y y rfl (Fin.forall_fin_two.mpr ⟨(Nat.zero_add _).symm, (Nat.zero_add _).symm⟩))

variable (𝒱 : Variants) (c : Dev nD) (bd : Option 𝒱.V) (i : grid0.Coords) (arg2 : Memref sig .tc .vmem S8192x256 .bf16) (harg2 : arg2.IsWhole) (arg3 : Memref sig .tc .vmem S8192x128 .bf16) (harg3 : arg3.IsWhole) (arg4 : Memref sig .tc .vmem S1x16x8x512 .f32) (harg4 : arg4.IsWhole) (arg5 : Memref sig .tc .vmem S1x16x8x512 .f32) (harg5 : arg5.IsWhole) (arg6 : Memref sig .tc .vmem S512x256 .bf16) (harg6 : arg6.IsWhole) (arg7 : Memref sig .tc .vmem S512x128 .bf16) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x128 .bf16) (harg10 : arg10.IsWhole)

/-- The loop over four query blocks at a time. -/
@[sl_loop, instance_reducible] def loopInv_k0_t1 (v5 v6 v8 : FVec F S512x128 .bf16) (v93 : BitVec 32) (init : Carry F)
    (x2 : arg2.view.ty.Contents (Elt F)) (x3 : arg3.view.ty.Contents (Elt F)) (x4 : arg4.view.ty.Contents (Elt F)) (x5 : arg5.view.ty.Contents (Elt F)) (f₀ : arg8.view.ty.Contents (Elt F)) :
    Gen.LoopInvTy_k0_t1 (F := F) Unit ℕ (UR sig nD τ) ℕ 𝒱 c bd Set.univ i arg2 harg2 arg3 harg3 arg4 harg4 arg5 harg5 arg6 harg6 arg7 harg7 arg8 harg8 arg9 harg9 arg10 harg10 0#32 v5 v6 v8 init.1 0#32 init.1 init.1 init.1 init.1 init.1 init.1 v93 init where
  inv k acc := iprop(held c arg2 x2 ∗ held c arg3 x3 ∗ held c arg4 x4 ∗ held c arg5 x5
    ∗ (∃ f, held c arg8 f ∗ ⌜f = arg8.view.writes (Elt F) f₀ (piecesAfter (staged arg2 arg3 arg4 arg5 v5 v6 v8 x2 x3 x4 x5) ((i 1).val + 1) (arg8.view.read (Elt F) f₀) (4 * k))⌝)
    ∗ ⌜acc = carryAfter (staged arg2 arg3 arg4 arg5 v5 v6 v8 x2 x3 x4 x5) ((i 1).val + 1) (4 * k) init⌝)
  step k acc := by
    iintro ⟨H2, H3, H4, H5, ⟨%f, H8, %hf⟩, %hacc⟩
    iapply (wp_wand_r Idealize.ShloMosaic.frame (wpE (defs₀ (F := F)) 𝒱 (c : Thread nD τ) bd) Set.univ)
    isplitl [H2 H3 H4 H5 H8]
    · iapply (trip1 𝒱 c bd i arg2 harg2 arg3 harg3 arg4 harg4 arg5 harg5 arg6 harg6 arg7 harg7 arg8 harg8 arg9 harg9 arg10 harg10 0#32 v5 v6 v8 init.1 0#32 init.1 init.1 init.1 init.1 init.1 init.1 v93 k acc x2 x3 x4 x5 f rfl)
      isplitl [H2]
      · iexact H2
      isplitl [H3]
      · iexact H3
      isplitl [H4]
      · iexact H4
      isplitl [H5]
      · iexact H5
      iexact H8
    · iintro %z ⟨%hz, H2, H3, H4, H5, H8⟩
      isplitl [H2]
      · iexact H2
      isplitl [H3]
      · iexact H3
      isplitl [H4]
      · iexact H4
      isplitl [H5]
      · iexact H5
      isplitl [H8]
      · iexists _
        isplitl [H8]
        · iexact H8
        ipureintro
        rw [hf, writes_after harg8, writes_after harg8, harg8.read_unread]
        exact congrArg harg8.unread (dqAfter_add _ _ _ _ 4)
      ipureintro
      rw [hz, hacc]
      exact carryAfter_add _ _ _ _ 4

/-- The loop over the query blocks left over takes no trip. -/
@[sl_loop, instance_reducible] def loopInv_k0_t2 (v5 v6 v8 : FVec F S512x128 .bf16) (v93 : BitVec 32) (v116 : BitVec 32) (init : Carry F) :
    Gen.LoopInvTy_k0_t2 (F := F) Unit ℕ (UR sig nD τ) ℕ 𝒱 c bd Set.univ i arg2 harg2 arg3 harg3 arg4 harg4 arg5 harg5 arg6 harg6 arg7 harg7 arg8 harg8 arg9 harg9 arg10 harg10 0#32 v5 v6 v8 init.1 0#32 init.1 init.1 init.1 init.1 init.1 init.1 v93 v116 init where
  inv k acc := iprop(⌜acc = init⌝)
  step k acc := absurd (lt_of_lt_of_eq k.isLt (t2_trips i)) (Nat.not_lt_zero _)

/-- The loop over single query blocks. -/
@[sl_loop, instance_reducible] def loopInv_k0_t3 (v5 v6 v8 : FVec F S512x128 .bf16) (v120 : BitVec 32) (init : Carry F)
    (x2 : arg2.view.ty.Contents (Elt F)) (x3 : arg3.view.ty.Contents (Elt F)) (x4 : arg4.view.ty.Contents (Elt F)) (x5 : arg5.view.ty.Contents (Elt F)) (f₀ : arg8.view.ty.Contents (Elt F)) :
    Gen.LoopInvTy_k0_t3 (F := F) Unit ℕ (UR sig nD τ) ℕ 𝒱 c bd Set.univ i arg2 harg2 arg3 harg3 arg4 harg4 arg5 harg5 arg6 harg6 arg7 harg7 arg8 harg8 arg9 harg9 arg10 harg10 v5 v6 v8 v120 init where
  inv k acc := iprop(held c arg2 x2 ∗ held c arg3 x3 ∗ held c arg4 x4 ∗ held c arg5 x5
    ∗ (∃ f, held c arg8 f ∗ ⌜f = arg8.view.writes (Elt F) f₀ (piecesAfter (staged arg2 arg3 arg4 arg5 v5 v6 v8 x2 x3 x4 x5) ((i 1).val + 1 + 4 * ((15 - (i 1).val) / 4)) (arg8.view.read (Elt F) f₀) (k))⌝)
    ∗ ⌜acc = carryAfter (staged arg2 arg3 arg4 arg5 v5 v6 v8 x2 x3 x4 x5) ((i 1).val + 1 + 4 * ((15 - (i 1).val) / 4)) (k) init⌝)
  step k acc := by
    iintro ⟨H2, H3, H4, H5, ⟨%f, H8, %hf⟩, %hacc⟩
    iapply (wp_wand_r Idealize.ShloMosaic.frame (wpE (defs₀ (F := F)) 𝒱 (c : Thread nD τ) bd) Set.univ)
    isplitl [H2 H3 H4 H5 H8]
    · iapply (trip3 𝒱 c bd i arg2 harg2 arg3 harg3 arg4 harg4 arg5 harg5 arg6 harg6 arg7 harg7 arg8 harg8 arg9 harg9 arg10 harg10 v5 v6 v8 v120 k acc x2 x3 x4 x5 f rfl)
      isplitl [H2]
      · iexact H2
      isplitl [H3]
      · iexact H3
      isplitl [H4]
      · iexact H4
      isplitl [H5]
      · iexact H5
      iexact H8
    · iintro %z ⟨%hz, H2, H3, H4, H5, H8⟩
      isplitl [H2]
      · iexact H2
      isplitl [H3]
      · iexact H3
      isplitl [H4]
      · iexact H4
      isplitl [H5]
      · iexact H5
      isplitl [H8]
      · iexists _
        isplitl [H8]
        · iexact H8
        ipureintro
        rw [hf, writes_after harg8, writes_after harg8, harg8.read_unread]
        exact congrArg harg8.unread (rfl)
      ipureintro
      rw [hz, hacc]
      exact rfl

/-- The loop over the query blocks left over takes no trip. -/
@[sl_loop, instance_reducible] def loopInv_k0_t4 (v5 v6 v8 : FVec F S512x128 .bf16) (v125 : BitVec 32) (init : Carry F) :
    Gen.LoopInvTy_k0_t4 (F := F) Unit ℕ (UR sig nD τ) ℕ 𝒱 c bd Set.univ i arg2 harg2 arg3 harg3 arg4 harg4 arg5 harg5 arg6 harg6 arg7 harg7 arg8 harg8 arg9 harg9 arg10 harg10 v5 v6 v8 v125 init where
  inv k acc := iprop(⌜acc = init⌝)
  step k acc := absurd (lt_of_lt_of_eq k.isLt (t4_trips i)) (Nat.not_lt_zero _)

/-- The body clears the query gradients exactly at key block 0. -/
theorem clears_iff : ∀ i : grid0.Coords,
    Scalar.cmpi .ne (Scalar.extui (Scalar.cmpi .eq (BitVec.ofNat 32 (i 1).val) 0#32) : BitVec 32) 0#32 = 1#1 ↔ (i 1).val = 0 := by
  decide +kernel

/-- What the query gradients' buffer holds once the body has cleared it or left it. -/
def clearedBuf {a : Memref sig .tc .vmem S8192x256 .f32} (i : grid0.Coords) (f : a.view.ty.Contents (Elt F)) : a.view.ty.Contents (Elt F) :=
  if _hc : Scalar.cmpi .ne (Scalar.extui (Scalar.cmpi .eq (BitVec.ofNat 32 (i 1).val) 0#32) : BitVec 32) 0#32 = 1#1 then
    a.view.writes (Elt F) f [⟨Rect.unit (s := S8192x256) ![0, 0] S8192x256.size inb_S8192x256_S8192x256_0_0,
      broadcast S8192x256 (Scalar.ofBits .f32 0x00000000#32)⟩]
  else f

theorem read_clearedBuf {a : Memref sig .tc .vmem S8192x256 .f32} (ha : a.IsWhole) (f : a.view.ty.Contents (Elt F)) :
    a.view.read (Elt F) (clearedBuf i f) = startDq (i 1).val (a.view.read (Elt F) f) := by
  unfold clearedBuf startDq
  by_cases h : (i 1).val = 0
  · rw [dif_pos ((clears_iff i).mpr h), if_pos h, writes_whole ha, ha.read_unread]
  · rw [dif_neg (fun hc => h ((clears_iff i).mp hc)), if_neg h]

set_option maxHeartbeats 16000000 in
/-- A grid point: the inputs stay, the three outputs hold the point's sums. -/
theorem body_run (x2 : arg2.view.ty.Contents (Elt F)) (x3 : arg3.view.ty.Contents (Elt F)) (x4 : arg4.view.ty.Contents (Elt F)) (x5 : arg5.view.ty.Contents (Elt F))
    (x6 : arg6.view.ty.Contents (Elt F)) (x7 : arg7.view.ty.Contents (Elt F)) (f8 : arg8.view.ty.Contents (Elt F)) (f9 : arg9.view.ty.Contents (Elt F)) (f10 : arg10.view.ty.Contents (Elt F)) :
    iprop(held c arg2 x2 ∗ held c arg3 x3 ∗ held c arg4 x4 ∗ held c arg5 x5 ∗ held c arg6 x6 ∗ held c arg7 x7 ∗ held c arg8 f8 ∗ held c arg9 f9 ∗ held c arg10 f10)
      ⊢ wp frame (wpE (defs₀ (F := F)) 𝒱 (c : Thread nD τ) bd) Set.univ
          (Gen.cc0_flash_bwd_skel (F := F) i arg2 harg2 arg3 harg3 arg4 harg4 arg5 harg5 arg6 harg6 arg7 harg7 arg8 harg8 arg9 harg9 arg10 harg10)
          (fun _ => iprop(held c arg2 x2 ∗ held c arg3 x3 ∗ held c arg4 x4 ∗ held c arg5 x5 ∗ held c arg6 x6 ∗ held c arg7 x7
            ∗ held c arg8 (harg8.unread (pointDq (keyStaged (arg6.view.read (Elt F) x6) (arg7.view.read (Elt F) x7) (arg2.view.read (Elt F) x2) (arg3.view.read (Elt F) x3) (arg4.view.read (Elt F) x4) (arg5.view.read (Elt F) x5)) (i 1).val (arg8.view.read (Elt F) f8)))
            ∗ held c arg9 (harg9.unread (dkOut (pointCarry (keyStaged (arg6.view.read (Elt F) x6) (arg7.view.read (Elt F) x7) (arg2.view.read (Elt F) x2) (arg3.view.read (Elt F) x3) (arg4.view.read (Elt F) x4) (arg5.view.read (Elt F) x5)) (i 1).val)))
            ∗ held c arg10 (harg10.unread (dvOut (pointCarry (keyStaged (arg6.view.read (Elt F) x6) (arg7.view.read (Elt F) x7) (arg2.view.read (Elt F) x2) (arg3.view.read (Elt F) x3) (arg4.view.read (Elt F) x4) (arg5.view.read (Elt F) x5)) (i 1).val))))) := by
  have hi : (i 1).val < 16 := (i 1).isLt
  have e1 : k0_off1 i = ![512 * (i 1).val, 0] := k0_off1_eq i
  have e2 : k0_off2 i = ![512 * (i 1).val, 0] := k0_off2_eq i
  have e3 : k0_off3 i = ![0, (i 1).val, 0, 0] := k0_off3_eq i
  have e4 : k0_off4 i = ![0, (i 1).val, 1, 0] := k0_off4_eq i
  have e5 : k0_off5 i = ![512 * (i 1).val, 0] := k0_off5_eq i
  have e6 : k0_off6 i = ![512 * (i 1).val, 128] := k0_off6_eq i
  have ht1 : Scf.trips (k0_t1_loop i).lb (k0_t1_loop i).ub (k0_t1_loop i).st = (15 - (i 1).val) / 4 := t1_trips i
  have ht3 : Scf.trips (k0_t3_loop i).lb (k0_t3_loop i).ub (k0_t3_loop i).st = (15 - (i 1).val) % 4 := t3_trips i
  have hT : (staged arg2 arg3 arg4 arg5 (colsA (View.readAt (Elt F) arg6.view (Rect.unit (s := S512x256) ![0, 0] S512x256.size inb_S512x256_S512x256_0_0).toLoadRect x6)) (colsB (View.readAt (Elt F) arg6.view (Rect.unit (s := S512x256) ![0, 0] S512x256.size inb_S512x256_S512x256_0_0).toLoadRect x6)) (shapeCast S512x128 (View.readAt (Elt F) arg7.view (Rect.unit (s := S512x128) ![0, 0] S512x128.size inb_S512x128_S512x128_0_0).toLoadRect x7) shapeCasts_S512x128_S512x128) x2 x3 x4 x5) = (keyStaged (arg6.view.read (Elt F) x6) (arg7.view.read (Elt F) x7) (arg2.view.read (Elt F) x2) (arg3.view.read (Elt F) x3) (arg4.view.read (Elt F) x4) (arg5.view.read (Elt F) x5)) := by
    rw [readAt_whole arg6 x6 (Fin.forall_fin_two.mpr ⟨rfl, rfl⟩), readAt_whole arg7 x7 (Fin.forall_fin_two.mpr ⟨rfl, rfl⟩)]
    rfl
  have hsum : 4 * ((15 - (i 1).val) / 4) + (15 - (i 1).val) % 4 = 15 - (i 1).val := Nat.div_add_mod _ _
  -- the carried sums
  have z0 := stepCarry₀_loads (colsA (View.readAt (Elt F) arg6.view (Rect.unit (s := S512x256) ![0, 0] S512x256.size inb_S512x256_S512x256_0_0).toLoadRect x6)) (colsB (View.readAt (Elt F) arg6.view (Rect.unit (s := S512x256) ![0, 0] S512x256.size inb_S512x256_S512x256_0_0).toLoadRect x6)) (shapeCast S512x128 (View.readAt (Elt F) arg7.view (Rect.unit (s := S512x128) ![0, 0] S512x128.size inb_S512x128_S512x128_0_0).toLoadRect x7) shapeCasts_S512x128_S512x128) x2 x3 x4 x5 hi e1 e2 e3 e4 (k0_off1_inb i) (k0_off2_inb i) (k0_off3_inb i) (k0_off4_inb i) zeroCarry
  have hz := (congrArg (fun y : Carry F => carryAfter (staged arg2 arg3 arg4 arg5 (colsA (View.readAt (Elt F) arg6.view (Rect.unit (s := S512x256) ![0, 0] S512x256.size inb_S512x256_S512x256_0_0).toLoadRect x6)) (colsB (View.readAt (Elt F) arg6.view (Rect.unit (s := S512x256) ![0, 0] S512x256.size inb_S512x256_S512x256_0_0).toLoadRect x6)) (shapeCast S512x128 (View.readAt (Elt F) arg7.view (Rect.unit (s := S512x128) ![0, 0] S512x128.size inb_S512x128_S512x128_0_0).toLoadRect x7) shapeCasts_S512x128_S512x128) x2 x3 x4 x5) ((i 1).val + 1 + 4 * ((15 - (i 1).val) / 4)) (Scf.trips (k0_t3_loop i).lb (k0_t3_loop i).ub (k0_t3_loop i).st)
      (carryAfter (staged arg2 arg3 arg4 arg5 (colsA (View.readAt (Elt F) arg6.view (Rect.unit (s := S512x256) ![0, 0] S512x256.size inb_S512x256_S512x256_0_0).toLoadRect x6)) (colsB (View.readAt (Elt F) arg6.view (Rect.unit (s := S512x256) ![0, 0] S512x256.size inb_S512x256_S512x256_0_0).toLoadRect x6)) (shapeCast S512x128 (View.readAt (Elt F) arg7.view (Rect.unit (s := S512x128) ![0, 0] S512x128.size inb_S512x128_S512x128_0_0).toLoadRect x7) shapeCasts_S512x128_S512x128) x2 x3 x4 x5) ((i 1).val + 1) (4 * Scf.trips (k0_t1_loop i).lb (k0_t1_loop i).ub (k0_t1_loop i).st) y)) z0).trans
    (show _ = pointCarry (keyStaged (arg6.view.read (Elt F) x6) (arg7.view.read (Elt F) x7) (arg2.view.read (Elt F) x2) (arg3.view.read (Elt F) x3) (arg4.view.read (Elt F) x4) (arg5.view.read (Elt F) x5)) (i 1).val by
      beta_reduce
      rw [ht1, ht3, carryAfter_add, hsum, hT]; rfl)
  beta_reduce at hz
  -- the query gradients
  have w0 := writes_tile₀ harg8 (colsA (View.readAt (Elt F) arg6.view (Rect.unit (s := S512x256) ![0, 0] S512x256.size inb_S512x256_S512x256_0_0).toLoadRect x6)) (colsB (View.readAt (Elt F) arg6.view (Rect.unit (s := S512x256) ![0, 0] S512x256.size inb_S512x256_S512x256_0_0).toLoadRect x6)) (shapeCast S512x128 (View.readAt (Elt F) arg7.view (Rect.unit (s := S512x128) ![0, 0] S512x128.size inb_S512x128_S512x128_0_0).toLoadRect x7) shapeCasts_S512x128_S512x128) x2 x3 x4 x5 (clearedBuf i f8) hi e1 e2 e3 e4 e5 e6 (k0_off1_inb i) (k0_off2_inb i) (k0_off3_inb i) (k0_off4_inb i) (k0_off5_inb i) (k0_off6_inb i)
  have w1 := (View.writes_append _ _ _ _).trans ((writes_after harg8 (staged arg2 arg3 arg4 arg5 (colsA (View.readAt (Elt F) arg6.view (Rect.unit (s := S512x256) ![0, 0] S512x256.size inb_S512x256_S512x256_0_0).toLoadRect x6)) (colsB (View.readAt (Elt F) arg6.view (Rect.unit (s := S512x256) ![0, 0] S512x256.size inb_S512x256_S512x256_0_0).toLoadRect x6)) (shapeCast S512x128 (View.readAt (Elt F) arg7.view (Rect.unit (s := S512x128) ![0, 0] S512x128.size inb_S512x128_S512x128_0_0).toLoadRect x7) shapeCasts_S512x128_S512x128) x2 x3 x4 x5) ((i 1).val + 1) (4 * Scf.trips (k0_t1_loop i).lb (k0_t1_loop i).ub (k0_t1_loop i).st) _).trans
    (congrArg (fun f => harg8.unread (dqAfter (staged arg2 arg3 arg4 arg5 (colsA (View.readAt (Elt F) arg6.view (Rect.unit (s := S512x256) ![0, 0] S512x256.size inb_S512x256_S512x256_0_0).toLoadRect x6)) (colsB (View.readAt (Elt F) arg6.view (Rect.unit (s := S512x256) ![0, 0] S512x256.size inb_S512x256_S512x256_0_0).toLoadRect x6)) (shapeCast S512x128 (View.readAt (Elt F) arg7.view (Rect.unit (s := S512x128) ![0, 0] S512x128.size inb_S512x128_S512x128_0_0).toLoadRect x7) shapeCasts_S512x128_S512x128) x2 x3 x4 x5) ((i 1).val + 1) (4 * Scf.trips (k0_t1_loop i).lb (k0_t1_loop i).ub (k0_t1_loop i).st) (arg8.view.read (Elt F) f))) w0))
  have w2 := (View.writes_append _ _ _ _).trans ((writes_after harg8 (staged arg2 arg3 arg4 arg5 (colsA (View.readAt (Elt F) arg6.view (Rect.unit (s := S512x256) ![0, 0] S512x256.size inb_S512x256_S512x256_0_0).toLoadRect x6)) (colsB (View.readAt (Elt F) arg6.view (Rect.unit (s := S512x256) ![0, 0] S512x256.size inb_S512x256_S512x256_0_0).toLoadRect x6)) (shapeCast S512x128 (View.readAt (Elt F) arg7.view (Rect.unit (s := S512x128) ![0, 0] S512x128.size inb_S512x128_S512x128_0_0).toLoadRect x7) shapeCasts_S512x128_S512x128) x2 x3 x4 x5) ((i 1).val + 1 + 4 * ((15 - (i 1).val) / 4)) (Scf.trips (k0_t3_loop i).lb (k0_t3_loop i).ub (k0_t3_loop i).st) _).trans
    (congrArg (fun f => harg8.unread (dqAfter (staged arg2 arg3 arg4 arg5 (colsA (View.readAt (Elt F) arg6.view (Rect.unit (s := S512x256) ![0, 0] S512x256.size inb_S512x256_S512x256_0_0).toLoadRect x6)) (colsB (View.readAt (Elt F) arg6.view (Rect.unit (s := S512x256) ![0, 0] S512x256.size inb_S512x256_S512x256_0_0).toLoadRect x6)) (shapeCast S512x128 (View.readAt (Elt F) arg7.view (Rect.unit (s := S512x128) ![0, 0] S512x128.size inb_S512x128_S512x128_0_0).toLoadRect x7) shapeCasts_S512x128_S512x128) x2 x3 x4 x5) ((i 1).val + 1 + 4 * ((15 - (i 1).val) / 4)) (Scf.trips (k0_t3_loop i).lb (k0_t3_loop i).ub (k0_t3_loop i).st) (arg8.view.read (Elt F) f))) w1))
  have hw := w2.trans (show _ = harg8.unread (pointDq (keyStaged (arg6.view.read (Elt F) x6) (arg7.view.read (Elt F) x7) (arg2.view.read (Elt F) x2) (arg3.view.read (Elt F) x3) (arg4.view.read (Elt F) x4) (arg5.view.read (Elt F) x5)) (i 1).val (arg8.view.read (Elt F) f8)) by
    beta_reduce
    rw [harg8.read_unread, harg8.read_unread, ht1, ht3, dqAfter_add, hsum, hT, read_clearedBuf i harg8]; rfl)
  have h9 := writes_dk harg9 f9 inb_S512x256_S512x128_0_0 inb_S512x256_S512x128_0_128 (pointCarry (keyStaged (arg6.view.read (Elt F) x6) (arg7.view.read (Elt F) x7) (arg2.view.read (Elt F) x2) (arg3.view.read (Elt F) x3) (arg4.view.read (Elt F) x4) (arg5.view.read (Elt F) x5)) (i 1).val)
  have h10 := writes_whole harg10 f10 inb_S512x128_S512x128_0_0 (dvOut (pointCarry (keyStaged (arg6.view.read (Elt F) x6) (arg7.view.read (Elt F) x7) (arg2.view.read (Elt F) x2) (arg3.view.read (Elt F) x3) (arg4.view.read (Elt F) x4) (arg5.view.read (Elt F) x5)) (i 1).val))
  rw [← hz] at h9 h10
  rw [← hz]
  generalize harg8.unread (pointDq (keyStaged (arg6.view.read (Elt F) x6) (arg7.view.read (Elt F) x7) (arg2.view.read (Elt F) x2) (arg3.view.read (Elt F) x3) (arg4.view.read (Elt F) x4) (arg5.view.read (Elt F) x5)) (i 1).val (arg8.view.read (Elt F) f8)) = W8 at hw ⊢
  clear hz z0 w0 w1 w2
  generalize hW9 : harg9.unread (dkOut (F := F) _) = W9 at h9 ⊢
  generalize hW10 : harg10.unread (dvOut (F := F) _) = W10 at h10 ⊢
  clear hW9 hW10
  subst hw h9 h10
  unfold Gen.cc0_flash_bwd_skel
  iintro ⟨H2, H3, H4, H5, H6, H7, H8, H9, H10⟩
  sl_exec
  sl_step
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  iexact H10

end Cert.KernelIdeal.Flash

end
-- ==== Proof.Launch.lean ====
/- The launch of the flash backward kernel: what its body leaves in every output window at every grid point, the run of
   the whole program from any memory, and the arguments left unchanged with every counter back at zero. -/
module

public import proofs.«01_k».proof.Proof.Body
public import proofs.«01_k».proof.Proof.Gen.KernelIdeal.Frame
public import Idealize.ShloMosaic.Lib.Claim

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What a grid point leaves -/

/-- What grid point `t` finds staged. -/
def stagedAt (c : Dev nD) (t : Fin cfg0.N) : Staged F :=
  keyStaged (iblk m c 4 t) (iblk m c 5 t) (iblk m c 0 t) (iblk m c 1 t) (iblk m c 2 t) (iblk m c 3 t)

/-- The query gradients in their buffer after point `n`: a pair of heads' points follow one another, key block by key block. -/
def dqAt (c : Dev nD) : (n : ℕ) → n < cfg0.N → Vec F S8192x256 .f32
  | 0, h => pointDq (stagedAt m c ⟨0, h⟩) 0 (broadcast S8192x256 (Scalar.ofBits .f32 0x00000000#32))
  | n + 1, h => pointDq (stagedAt m c ⟨n + 1, h⟩) ((n + 1) % 16) (dqAt c n (Nat.lt_of_succ_lt h))

/-- The key block of a grid point. -/
theorem coords_one : ∀ t : Fin grid0.N, (grid0.coords t 1).val = t.val % 16 := by decide +kernel

/-- The proof data of the launch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqAt m c t.val t.isLt
    | ⟨7, _⟩ => dkOut (pointCarry (stagedAt m c t) (t.val % 16))
    | ⟨8, _⟩ => dvOut (pointCarry (stagedAt m c t) (t.val % 16))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = dqAt m c t.val t.isLt := by dsimp only [dats]
theorem after_7 (c : Dev nD) (t : Fin cfg0.N) : (dats m 0 c).after 7 t = dkOut (pointCarry (stagedAt m c t) (t.val % 16)) := by dsimp only [dats]
theorem after_8 (c : Dev nD) (t : Fin cfg0.N) : (dats m 0 c).after 8 t = dvOut (pointCarry (stagedAt m c t) (t.val % 16)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- A pair of heads' first point forgets what the buffer held. -/
theorem pointDq_zero (T : Staged F) (G G' : Vec F S8192x256 .f32) : pointDq T 0 G = pointDq T 0 G' := by
  unfold pointDq startDq
  rw [if_pos rfl, if_pos rfl]

/-- Whatever window 6's buffer holds before a point, the point leaves `dqAt` in it. -/
theorem pointDq_before (c : Dev nD) (t : Fin cfg0.N) (d) :
    pointDq (stagedAt m c t) (t.val % 16) ((dats m 0 c).before 6 t d) = dqAt m c t.val t.isLt := by
  obtain ⟨n, hn⟩ := t
  cases n with
  | zero => exact pointDq_zero _ _ _
  | succ n =>
    by_cases h : (n + 1) % 16 = 0
    · rw [show dqAt m c (n + 1) hn = pointDq (stagedAt m c ⟨n + 1, hn⟩) ((n + 1) % 16) (dqAt m c n (Nat.lt_of_succ_lt hn)) from rfl]
      show pointDq _ ((n + 1) % 16) _ = _
      rw [h]
      exact pointDq_zero _ _ _
    · have hfl : (cfg0.win 6).flush ⟨n, Nat.lt_of_succ_lt hn⟩ = false := by
        rw [Bool.eq_false_iff]
        intro h'
        have := (flush0_6 ⟨n, Nat.lt_of_succ_lt hn⟩).mp h'
        dsimp only at this
        omega
      have hb : (dats m 0 c).before 6 ⟨n + 1, hn⟩ d = (dats m 0 c).after 6 ⟨n, Nat.lt_of_succ_lt hn⟩ :=
        (dats m 0 c).before_out_kept 6 rfl ⟨n + 1, hn⟩ (Nat.succ_ne_zero n) hfl (fun _ => rfl) (fun _ _ => rfl) d
      rw [hb, after_6]
      rfl

/-! ## The body at a grid point -/

/-- A run to a postcondition, then what follows from it. -/
theorem run_then (c : Dev nD) {P Q : sProp 𝕄} {p : Prog (TpuEff nD τ sig (Elt F) Λ₀ .tc) PUnit} {K : PUnit → sProp 𝕄}
    (h : P ⊢ wp frame (wpE (defs₀ (F := F)) Variants.none (c : Thread nD τ) none) Set.univ p (fun _ => Q)) :
    iprop(P ∗ (Q -∗ K ⟨⟩)) ⊢ wp frame (wpE (defs₀ (F := F)) Variants.none (c : Thread nD τ) none) Set.univ p K :=
  (BI.sep_mono h (BI.Entails.refl _)).trans ((wp_frame_r _ _ _).trans (wp_mono _ _ _ fun _ => BI.sep_comm.trans (BI.wand_elim (BI.Entails.refl _))))

/-- A grid point on whole staging buffers: the inputs' blocks stay, the outputs' are `pointDq`, `dkOut` and `dvOut` of them. -/
theorem sound_kernel (c : Dev nD) (i : grid0.Coords) (arg2 : Memref sig .tc .vmem S8192x256 .bf16) (harg2 : arg2.IsWhole) (arg3 : Memref sig .tc .vmem S8192x128 .bf16) (harg3 : arg3.IsWhole) (arg4 : Memref sig .tc .vmem S1x16x8x512 .f32) (harg4 : arg4.IsWhole) (arg5 : Memref sig .tc .vmem S1x16x8x512 .f32) (harg5 : arg5.IsWhole) (arg6 : Memref sig .tc .vmem S512x256 .bf16) (harg6 : arg6.IsWhole) (arg7 : Memref sig .tc .vmem S512x128 .bf16) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x128 .bf16) (harg10 : arg10.IsWhole)
    (x0 : Vec F S8192x256 .bf16) (x1 : Vec F S8192x128 .bf16) (x2 : Vec F S1x16x8x512 .f32) (x3 : Vec F S1x16x8x512 .f32) (x4 : Vec F S512x256 .bf16) (x5 : Vec F S512x128 .bf16) (y : Vec F S8192x256 .f32) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare y ∗ (∃ d, owns (c : Thread nD τ) arg9 fullShare d) ∗ (∃ d, owns (c : Thread nD τ) arg10 fullShare d)
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
          ∗ owns (c : Thread nD τ) arg8 fullShare (pointDq (keyStaged x4 x5 x0 x1 x2 x3) (i 1).val y)
          ∗ owns (c : Thread nD τ) arg9 fullShare (dkOut (pointCarry (keyStaged x4 x5 x0 x1 x2 x3) (i 1).val))
          ∗ owns (c : Thread nD τ) arg10 fullShare (dvOut (pointCarry (keyStaged x4 x5 x0 x1 x2 x3) (i 1).val))) -∗ K ⟨⟩))
      ⊢ wp frame (wpE (defs₀ (F := F)) Variants.none c none) Set.univ (cc0_flash_bwd i arg2 harg2 arg3 harg3 arg4 harg4 arg5 harg5 arg6 harg6 arg7 harg7 arg8 harg8 arg9 harg9 arg10 harg10) K := by
  rw [cc0_flash_bwd_eq_skeleton]
  simp only [owns, harg2.set_eq_univ, harg3.set_eq_univ, harg4.set_eq_univ, harg5.set_eq_univ, harg6.set_eq_univ, harg7.set_eq_univ, harg8.set_eq_univ, harg9.set_eq_univ, harg10.set_eq_univ]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  iapply (run_then c (body_run Variants.none c none i arg2 harg2 arg3 harg3 arg4 harg4 arg5 harg5 arg6 harg6 arg7 harg7 arg8 harg8 arg9 harg9 arg10 harg10 f0 f1 f2 f3 f4 f5 f6 f7 f8))
  isplitr [Hk]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro ⟨H0, H1, H2, H3, H4, H5, H6, H7, H8⟩
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; exact harg8.read_unread _
  isplitl [H7]
  · iexists _; isplitr; swap; · iexact H7
    ipureintro; exact harg9.read_unread _
  iexists _; isplitr; swap; · iexact H8
  ipureintro; exact harg10.read_unread _

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [← pointDq_before m c t d6, ← coords_one t]
  unfold stagedAt
  iapply (sound_kernel c (grid0.coords t) _ _ _ _ _ _ _ _ _ _ _ _ _ _ _ _ _ _ (iblk m c 0 t) (iblk m c 1 t) (iblk m c 2 t) (iblk m c 3 t) (iblk m c 4 t) (iblk m c 5 t) ((dats m 0 c).before 6 t d6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every run of the program ends, with the launch's arrays at what the proof data say and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends with the arguments as they were and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.KernelIdeal.Flash

end
-- ==== Proof.Frames.lean ====
/- The frame claims of the three programs and the claim of the named constants: every run ends, the arguments are as
   they were and every counter is at zero. -/
module

public import proofs.«01_k».proof.Defs
public import proofs.«01_k».proof.Proof.Launch
public import proofs.«01_k».proof.Proof.Literal.Launch
public import proofs.«01_k».proof.Proof.Gen.ReferenceIdeal.Run
public import proofs.«01_k».proof.Proof.Gen.Pre_finite

@[expose] public section

noncomputable section

namespace Cert.Frames

open Idealize.ShloMosaic Idealize.ShloMosaic.TcCoe Idealize.SL.Sem

theorem kernel : Cert.quiescent_Kernel := fun m ρ _ => Cert.Kernel.Flash.quiescent m ρ

theorem kernelIdeal : Cert.quiescent_KernelIdeal := fun m ρ _ => Cert.KernelIdeal.Flash.quiescent m ρ

/-- The reference is host operations only, and declares no counter. -/
theorem referenceIdeal : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run m ρ)

theorem kernelIdeal_finite : Cert.quiescent_KernelIdeal_pre_finite := fun m ρ _ => Cert.KernelIdeal.Flash.quiescent m ρ

theorem referenceIdeal_finite : Cert.quiescent_ReferenceIdeal_pre_finite := fun m ρ _ => referenceIdeal m ρ trivial

/-- The two named constants: the mask, which stands for -∞, and the logarithm of two. -/
theorem preserves : Cert.preserves_Kernel_KernelIdeal :=
  ⟨IdealRules.named_const.statement Cert.KernelIdeal.κ "mask" .f32 0xF149F2CA#32 ⊥ rfl,
    IdealRules.named_const.statement Cert.KernelIdeal.κ "ln_2" .f32 0x3F317218#32 ((Real.log 2 : ℝ) : EReal) rfl⟩

end Cert.Frames

end
-- ==== Proof.Value.TileAt.lean ====
/- One tile of the flash backward body over the extended reals: every block of the tile's arithmetic read at an index,
   as sums over lanes, keys and queries. -/
module

public import proofs.«01_k».proof.Proof.Sums
public import Idealize.ShloMosaic.Lib.Pointwise
public import Idealize.ShloMosaic.Lib.WordCmp
public import Idealize.ShloMosaic.PureOps.IdealRules

@[expose] public section

set_option maxRecDepth 16384

noncomputable section

namespace Cert.KernelIdeal.Flash

open Idealize.ShloMosaic Cert.KernelIdeal Cert.KernelIdeal.Facts₀ Cert.KernelIdeal.Facts

/-- A choice by a decided proposition's bit. -/
theorem select_ofBool {α : Type} (p : Prop) [Decidable p] (x y : α) :
    Scalar.select (BitVec.ofBool (decide p)) x y = if p then x else y := by
  by_cases h : p <;> simp [Scalar.select, h]

theorem mask_eq : (Named.named κ "mask" 0xF149F2CA#32 : Ideal .f32) = (⊥ : EReal) :=
  IdealRules.named_const.ideal_named_scalar κ "mask" _ _ rfl
theorem ln_2_eq : (Named.named κ "ln_2" 0x3F317218#32 : Ideal .f32) = ((Real.log 2 : ℝ) : EReal) :=
  IdealRules.named_const.ideal_named_scalar κ "ln_2" _ _ rfl

theorem colsA_at (q : Vec Ideal S512x256 .bf16) (r : Fin 512) (c : Fin 128) :
    colsA (F := Ideal) q (ix2 r c) = q (ix2 r ⟨c.val, by omega⟩) := by
  pointwise [colsA]
theorem colsB_at (q : Vec Ideal S512x256 .bf16) (r : Fin 512) (c : Fin 128) :
    colsB (F := Ideal) q (ix2 r c) = q (ix2 r ⟨128 + c.val, by omega⟩) := by
  pointwise [colsB]
theorem lanesA_at (d : Vec Ideal S512x128 .bf16) (r : Fin 512) (c : Fin 128) :
    lanesA (F := Ideal) d (ix2 r c) = if c.val < 64 then d (ix2 r c) else (0 : EReal) := by
  pointwise [lanesA]
  rw [WordCmp.cmpi_slt_ofNat (by have := c.isLt; omega) (by norm_num), select_ofBool]
theorem lanesB_at (d : Vec Ideal S512x128 .bf16) (r : Fin 512) (c : Fin 128) :
    lanesB (F := Ideal) d (ix2 r c) = if c.val < 64 then (0 : EReal) else d (ix2 r c) := by
  pointwise [lanesB]
  rw [WordCmp.cmpi_sge_ofNat (by have := c.isLt; omega) (by norm_num), select_ofBool]
  by_cases h : c.val < 64
  · rw [if_pos h, if_neg (by omega)]
  · rw [if_neg h, if_pos (by omega)]
theorem scoreT_at (kh qh : FVec Ideal S512x128 .bf16) (a r : Fin 512) :
    scoreT kh qh (ix2 a r) = ∑ c : Fin 128, kh (ix2 a c) * qh (ix2 r c) := by
  pointwise [scoreT]
theorem maskT_at (s : FVec Ideal S512x512 .f32) (a r : Fin 512) :
    maskT s (ix2 a r) = if a.val ≤ r.val then s (ix2 a r) else (⊥ : EReal) := by
  pointwise [maskT]
  rw [WordCmp.cmpi_sle_ofNat (by have := a.isLt; omega) (by have := r.isLt; omega), select_ofBool]
  exact if_congr Iff.rfl rfl mask_eq
theorem weightT_at (s : FVec Ideal S512x512 .f32) (l : Vec Ideal S1x1x1x512 .f32) (a r : Fin 512) :
    weightT s l (ix2 a r) = Ideal.exp2 (s (ix2 a r) - l (ix4 0 0 0 r)) := by
  pointwise [weightT]
  rfl
theorem dvTile_at (p : FVec Ideal S512x512 .f32) (dh : FVec Ideal S512x128 .bf16) (a : Fin 512) (c : Fin 128) :
    dvTile p dh (ix2 a c) = ∑ r : Fin 512, p (ix2 a r) * dh (ix2 r c) := by
  pointwise [dvTile]
theorem dsTile_at (p : FVec Ideal S512x512 .f32) (vt dh : FVec Ideal S512x128 .bf16) (e : Vec Ideal S1x1x1x512 .f32) (a r : Fin 512) :
    dsTile p vt dh e (ix2 a r) = p (ix2 a r) * ((∑ c : Fin 128, vt (ix2 a c) * dh (ix2 r c)) - e (ix4 0 0 0 r)) := by
  pointwise [dsTile]
theorem dkTile_at (s : FVec Ideal S512x512 .bf16) (qh : FVec Ideal S512x128 .bf16) (a : Fin 512) (c : Fin 128) :
    dkTile s qh (ix2 a c) = ∑ r : Fin 512, s (ix2 a r) * qh (ix2 r c) := by
  pointwise [dkTile]
theorem dqTile_at (s : FVec Ideal S512x512 .bf16) (kh : FVec Ideal S512x128 .bf16) (r : Fin 512) (c : Fin 128) :
    dqTile s kh (ix2 r c) = ∑ a : Fin 512, s (ix2 a r) * kh (ix2 a c) := by
  pointwise [dqTile]
theorem addTo_at (old : Vec Ideal S512x128 .f32) (w : FVec Ideal S512x128 .f32) (r : Fin 512) (c : Fin 128) :
    addTo old w (ix2 r c) = (old (ix2 r c) : EReal) + w (ix2 r c) := by
  pointwise [addTo]

end Cert.KernelIdeal.Flash

end
-- ==== Proof.Value.PointAt.lean ====
/- One grid point of the flash backward body over the extended reals: the sums that the carried values and the query
   gradients hold after all of a key block's tiles, over every query at once; a query before the key has weight zero. -/
module

public import proofs.«01_k».proof.Proof.Value.TileAt

@[expose] public section

set_option maxRecDepth 16384

noncomputable section

namespace Cert.KernelIdeal.Flash

open Idealize.ShloMosaic Cert.KernelIdeal Cert.KernelIdeal.Facts₀ Cert.KernelIdeal.Facts

theorem vix2 {n0 n1 : Nat} (a : Fin n0) (b : Fin n1) : ValueIdx.ix2 a b = ix2 a b := rfl

theorem blk_lt (i : Fin 8192) : i.val / 512 < 16 := by have := i.isLt; omega
theorem row_lt (i : Fin 8192) : i.val % 512 < 512 := Nat.mod_lt _ (by norm_num)

variable (T : Staged Ideal)

/-- Head `h` of the pair: its half of the key block, of the queries, of the cotangents, and its row numbers. -/
def kHead (h : Fin 2) (a : Fin 512) (c : Fin 128) : EReal := if h = 0 then T.ka (ix2 a c) else T.kb (ix2 a c)
def qHead (h : Fin 2) (i : Fin 8192) (c : Fin 128) : EReal := T.q (ix2 i ⟨128 * h.val + c.val, by omega⟩)
def dHead (h : Fin 2) (i : Fin 8192) (c : Fin 128) : EReal := if (c.val < 64 ↔ h = 0) then T.d (ix2 i c) else 0
def lHead (h : Fin 2) (i : Fin 8192) : EReal := T.l (ix4 0 ⟨i.val / 512, blk_lt i⟩ ⟨h.val, by omega⟩ ⟨i.val % 512, row_lt i⟩)
def eHead (h : Fin 2) (i : Fin 8192) : EReal := T.e (ix4 0 ⟨i.val / 512, blk_lt i⟩ ⟨h.val, by omega⟩ ⟨i.val % 512, row_lt i⟩)

/-- The weight of key `a` of block `j` in query `i`'s row. -/
def wt (j : ℕ) (h : Fin 2) (i : Fin 8192) (a : Fin 512) : EReal :=
  if 512 * j + a.val ≤ i.val then Ideal.exp2 ((∑ c : Fin 128, kHead T h a c * qHead T h i c) - lHead T h i) else 0
/-- The gradient of their score. -/
def ds (j : ℕ) (h : Fin 2) (i : Fin 8192) (a : Fin 512) : EReal :=
  wt T j h i a * ((∑ c : Fin 128, (T.vt (ix2 a c) : EReal) * dHead T h i c) - eHead T h i)

theorem wt_zero {j : ℕ} {i : Fin 8192} (hi : i.val < 512 * j) (h : Fin 2) (a : Fin 512) : wt T j h i a = 0 := if_neg (by omega)
theorem ds_zero {j : ℕ} {i : Fin 8192} (hi : i.val < 512 * j) (h : Fin 2) (a : Fin 512) : ds T j h i a = 0 := by
  rw [ds, wt_zero T hi, zero_mul]

theorem qBlk_at (n : ℕ) (X : Vec Ideal S8192x256 .bf16) (r : Fin 512) (c : Fin 256) : qBlk n X (ix2 r c) = X (ix2 (rowOf n r) c) := rfl
theorem dBlk_at (n : ℕ) (X : Vec Ideal S8192x128 .bf16) (r : Fin 512) (c : Fin 128) : dBlk n X (ix2 r c) = X (ix2 (rowOf n r) c) := rfl
theorem hRow_at {n : ℕ} (hn : n < 16) (h : Fin 8) (X : Vec Ideal S1x16x8x512 .f32) (r : Fin 512) :
    hRow n h X (ix4 0 0 0 r) = X (ix4 0 ⟨(rowOf n r).val / 512, blk_lt _⟩ h ⟨(rowOf n r).val % 512, row_lt _⟩) := by
  have h1 : (rowOf n r).val = 512 * n + r.val := rowOf_val hn r
  have hr := r.isLt
  have e0 : (Fin.ofNat 16 n) = (⟨(rowOf n r).val / 512, blk_lt _⟩ : Fin 16) := Fin.ext (by
    show n % 16 = (rowOf n r).val / 512
    omega)
  have e1 : r = (⟨(rowOf n r).val % 512, row_lt _⟩ : Fin 512) := Fin.ext (by
    show r.val = (rowOf n r).val % 512
    omega)
  show X (ix4 0 (Fin.ofNat 16 n) h r) = _
  rw [e0]
  exact congrArg (fun x => X (ix4 0 (⟨(rowOf n r).val / 512, blk_lt _⟩ : Fin 16) h x)) e1

/-! ## The first head's tile -/

theorem scoreA_at (n : ℕ) (a r : Fin 512) :
    scoreT T.ka (colsA (qBlk n T.q)) (ix2 a r) = ∑ c : Fin 128, kHead T 0 a c * qHead T 0 (rowOf n r) c := by
  rw [scoreT_at]
  refine Finset.sum_congr rfl fun c _ => ?_
  rw [colsA_at, qBlk_at]
  exact congrArg (fun x => (T.ka (ix2 a c) : EReal) * T.q (ix2 (rowOf n r) x)) (Fin.ext (by simp))
theorem lanesA_row (n : ℕ) (r : Fin 512) (c : Fin 128) : lanesA (dBlk n T.d) (ix2 r c) = dHead T 0 (rowOf n r) c := by
  rw [lanesA_at, dBlk_at, dHead]
  by_cases hc : c.val < 64 <;> simp [hc]
theorem colsA_row (n : ℕ) (r : Fin 512) (c : Fin 128) : colsA (qBlk n T.q) (ix2 r c) = qHead T 0 (rowOf n r) c := by
  rw [colsA_at, qBlk_at]
  exact congrArg (fun x => T.q (ix2 (rowOf n r) x)) (Fin.ext (by simp))
theorem weightA_at {j n : ℕ} (hj : j < n) (hn : n < 16) (a r : Fin 512) :
    weightT (scoreT T.ka (colsA (qBlk n T.q))) (hRow n 0 T.l) (ix2 a r) = wt T j 0 (rowOf n r) a := by
  have h1 : (rowOf n r).val = 512 * n + r.val := rowOf_val hn r
  have ha := a.isLt
  rw [weightT_at, scoreA_at, hRow_at hn, wt, if_pos (by omega)]
  rfl
theorem weightA₀_at {n : ℕ} (hn : n < 16) (a r : Fin 512) :
    weightT (maskT (scoreT T.ka (colsA (qBlk n T.q)))) (hRow n 0 T.l) (ix2 a r) = wt T n 0 (rowOf n r) a := by
  have h1 : (rowOf n r).val = 512 * n + r.val := rowOf_val hn r
  rw [weightT_at, maskT_at, scoreA_at, hRow_at hn, wt]
  by_cases h : a.val ≤ r.val
  · rw [if_pos h, if_pos (by omega)]
    rfl
  · rw [if_neg h, if_neg (by omega), EReal.bot_sub, Ideal.exp2_bot]
theorem dsA_at {j n : ℕ} (hj : j < n) (hn : n < 16) (a r : Fin 512) :
    dsA T.ka T.vt (qBlk n T.q) (dBlk n T.d) (hRow n 0 T.l) (hRow n 0 T.e) (ix2 a r) = ds T j 0 (rowOf n r) a := by
  rw [dsA, dsTile_at, weightA_at T hj hn, hRow_at hn]
  simp only [lanesA_row]
  rfl
theorem dsA₀_at {n : ℕ} (hn : n < 16) (a r : Fin 512) :
    dsA₀ T.ka T.vt (qBlk n T.q) (dBlk n T.d) (hRow n 0 T.l) (hRow n 0 T.e) (ix2 a r) = ds T n 0 (rowOf n r) a := by
  rw [dsA₀, dsTile_at, weightA₀_at T hn, hRow_at hn]
  simp only [lanesA_row]
  rfl

/-! ## The second head's tile -/

theorem scoreB_at (n : ℕ) (a r : Fin 512) :
    scoreT T.kb (colsB (qBlk n T.q)) (ix2 a r) = ∑ c : Fin 128, kHead T 1 a c * qHead T 1 (rowOf n r) c := by
  rw [scoreT_at]
  refine Finset.sum_congr rfl fun c _ => ?_
  rw [colsB_at, qBlk_at]
  exact congrArg (fun x => (T.kb (ix2 a c) : EReal) * T.q (ix2 (rowOf n r) x)) (Fin.ext (by simp))
theorem lanesB_row (n : ℕ) (r : Fin 512) (c : Fin 128) : lanesB (dBlk n T.d) (ix2 r c) = dHead T 1 (rowOf n r) c := by
  rw [lanesB_at, dBlk_at, dHead]
  by_cases hc : c.val < 64 <;> simp [hc]
theorem colsB_row (n : ℕ) (r : Fin 512) (c : Fin 128) : colsB (qBlk n T.q) (ix2 r c) = qHead T 1 (rowOf n r) c := by
  rw [colsB_at, qBlk_at]
  exact congrArg (fun x => T.q (ix2 (rowOf n r) x)) (Fin.ext (by simp))
theorem weightB_at {j n : ℕ} (hj : j < n) (hn : n < 16) (a r : Fin 512) :
    weightT (scoreT T.kb (colsB (qBlk n T.q))) (hRow n 1 T.l) (ix2 a r) = wt T j 1 (rowOf n r) a := by
  have h1 : (rowOf n r).val = 512 * n + r.val := rowOf_val hn r
  have ha := a.isLt
  rw [weightT_at, scoreB_at, hRow_at hn, wt, if_pos (by omega)]
  rfl
theorem weightB₀_at {n : ℕ} (hn : n < 16) (a r : Fin 512) :
    weightT (maskT (scoreT T.kb (colsB (qBlk n T.q)))) (hRow n 1 T.l) (ix2 a r) = wt T n 1 (rowOf n r) a := by
  have h1 : (rowOf n r).val = 512 * n + r.val := rowOf_val hn r
  rw [weightT_at, maskT_at, scoreB_at, hRow_at hn, wt]
  by_cases h : a.val ≤ r.val
  · rw [if_pos h, if_pos (by omega)]
    rfl
  · rw [if_neg h, if_neg (by omega), EReal.bot_sub, Ideal.exp2_bot]
theorem dsB_at {j n : ℕ} (hj : j < n) (hn : n < 16) (a r : Fin 512) :
    dsB T.kb T.vt (qBlk n T.q) (dBlk n T.d) (hRow n 1 T.l) (hRow n 1 T.e) (ix2 a r) = ds T j 1 (rowOf n r) a := by
  rw [dsB, dsTile_at, weightB_at T hj hn, hRow_at hn]
  simp only [lanesB_row]
  rfl
theorem dsB₀_at {n : ℕ} (hn : n < 16) (a r : Fin 512) :
    dsB₀ T.kb T.vt (qBlk n T.q) (dBlk n T.d) (hRow n 1 T.l) (hRow n 1 T.e) (ix2 a r) = ds T n 1 (rowOf n r) a := by
  rw [dsB₀, dsTile_at, weightB₀_at T hn, hRow_at hn]
  simp only [lanesB_row]
  rfl

/-! ## The carried sums -/

/-- What query block `n` adds to a head's key gradients. -/
def dkOf (j : ℕ) (h : Fin 2) (a : Fin 512) (c : Fin 128) (n : ℕ) : EReal := ∑ r : Fin 512, ds T j h (rowOf n r) a * qHead T h (rowOf n r) c
/-- What query block `n` adds to the value gradients. -/
def dvOf (j : ℕ) (a : Fin 512) (c : Fin 128) (n : ℕ) : EReal :=
  (∑ r : Fin 512, wt T j 0 (rowOf n r) a * dHead T 0 (rowOf n r) c) + ∑ r : Fin 512, wt T j 1 (rowOf n r) a * dHead T 1 (rowOf n r) c

theorem rowOf_lt {j n : ℕ} (hnj : n < j) (hn : n < 16) (r : Fin 512) : (rowOf n r).val < 512 * j := by
  have h1 : (rowOf n r).val = 512 * n + r.val := rowOf_val hn r
  have := r.isLt
  omega
theorem dkOf_zero {j n : ℕ} (hnj : n < j) (hn : n < 16) (h : Fin 2) (a : Fin 512) (c : Fin 128) : dkOf T j h a c n = 0 :=
  Finset.sum_eq_zero fun r _ => by rw [ds_zero T (rowOf_lt hnj hn r), zero_mul]
theorem dvOf_zero {j n : ℕ} (hnj : n < j) (hn : n < 16) (a : Fin 512) (c : Fin 128) : dvOf T j a c n = 0 := by
  rw [dvOf, Finset.sum_eq_zero fun r _ => by rw [wt_zero T (rowOf_lt hnj hn r), zero_mul],
    Finset.sum_eq_zero fun r _ => by rw [wt_zero T (rowOf_lt hnj hn r), zero_mul], add_zero]

theorem tileCarry_at {j n : ℕ} (hj : j < n) (hn : n < 16) (y : Carry Ideal) (a : Fin 512) (c : Fin 128) :
    (tileCarry T n y).1 (ix2 a c) = (y.1 (ix2 a c) : EReal) + dkOf T j 0 a c n
    ∧ (tileCarry T n y).2.1 (ix2 a c) = (y.2.1 (ix2 a c) : EReal) + dkOf T j 1 a c n
    ∧ (tileCarry T n y).2.2 (ix2 a c) = (y.2.2 (ix2 a c) : EReal) + dvOf T j a c n := by
  refine ⟨?_, ?_, ?_⟩
  · refine congrArg ((y.1 (ix2 a c) : EReal) + ·) ((dkTile_at _ _ a c).trans ?_)
    simp only [dsA_at T hj hn, colsA_row]
    rfl
  · refine congrArg ((y.2.1 (ix2 a c) : EReal) + ·) ((dkTile_at _ _ a c).trans ?_)
    simp only [dsB_at T hj hn, colsB_row]
    rfl
  · refine (add_assoc (y.2.2 (ix2 a c) : EReal) _ _).trans (congrArg ((y.2.2 (ix2 a c) : EReal) + ·) (congrArg₂ (fun p q : EReal => p + q)
      ((dvTile_at _ _ a c).trans ?_) ((dvTile_at _ _ a c).trans ?_)))
    · simp only [weightA_at T hj hn, lanesA_row]
    · simp only [weightB_at T hj hn, lanesB_row]
theorem tileCarry₀_at {n : ℕ} (hn : n < 16) (y : Carry Ideal) (a : Fin 512) (c : Fin 128) :
    (tileCarry₀ T n y).1 (ix2 a c) = (y.1 (ix2 a c) : EReal) + dkOf T n 0 a c n
    ∧ (tileCarry₀ T n y).2.1 (ix2 a c) = (y.2.1 (ix2 a c) : EReal) + dkOf T n 1 a c n
    ∧ (tileCarry₀ T n y).2.2 (ix2 a c) = (y.2.2 (ix2 a c) : EReal) + dvOf T n a c n := by
  refine ⟨?_, ?_, ?_⟩
  · refine congrArg ((y.1 (ix2 a c) : EReal) + ·) ((dkTile_at _ _ a c).trans ?_)
    simp only [dsA₀_at T hn, colsA_row]
    rfl
  · refine congrArg ((y.2.1 (ix2 a c) : EReal) + ·) ((dkTile_at _ _ a c).trans ?_)
    simp only [dsB₀_at T hn, colsB_row]
    rfl
  · refine (add_assoc (y.2.2 (ix2 a c) : EReal) _ _).trans (congrArg ((y.2.2 (ix2 a c) : EReal) + ·) (congrArg₂ (fun p q : EReal => p + q)
      ((dvTile_at _ _ a c).trans ?_) ((dvTile_at _ _ a c).trans ?_)))
    · simp only [weightA₀_at T hn, lanesA_row]
    · simp only [weightB₀_at T hn, lanesB_row]

theorem carryAfter_at {j n : ℕ} (hj : j < n) (y : Carry Ideal) (a : Fin 512) (c : Fin 128) : ∀ m, n + m ≤ 16 →
    (carryAfter T n m y).1 (ix2 a c) = (y.1 (ix2 a c) : EReal) + ∑ s ∈ Finset.range m, dkOf T j 0 a c (n + s)
    ∧ (carryAfter T n m y).2.1 (ix2 a c) = (y.2.1 (ix2 a c) : EReal) + ∑ s ∈ Finset.range m, dkOf T j 1 a c (n + s)
    ∧ (carryAfter T n m y).2.2 (ix2 a c) = (y.2.2 (ix2 a c) : EReal) + ∑ s ∈ Finset.range m, dvOf T j a c (n + s)
  | 0, _ => ⟨by simp [carryAfter], by simp [carryAfter], by simp [carryAfter]⟩
  | m + 1, hm => by
    obtain ⟨h1, h2, h3⟩ := carryAfter_at hj y a c m (by omega)
    obtain ⟨g1, g2, g3⟩ := tileCarry_at T (j := j) (n := n + m) (by omega) (by omega) (carryAfter T n m y) a c
    refine ⟨g1.trans ?_, g2.trans ?_, g3.trans ?_⟩
    · rw [h1, Finset.sum_range_succ, add_assoc]
    · rw [h2, Finset.sum_range_succ, add_assoc]
    · rw [h3, Finset.sum_range_succ, add_assoc]

/-- A sum over the blocks from `j` on is the sum over all of them, where those before `j` add nothing. -/
theorem sum_from {j : ℕ} (hj : j < 16) (f : ℕ → EReal) (hf : ∀ n, n < j → f n = 0) :
    f j + ∑ s ∈ Finset.range (15 - j), f (j + 1 + s) = ∑ n ∈ Finset.range 16, f n := by
  have e : 16 = j + (15 - j + 1) := by omega
  rw [e, Finset.sum_range_add, Finset.sum_eq_zero (fun n hn => hf n (Finset.mem_range.mp hn)), zero_add, Finset.sum_range_succ', add_comm]
  refine congrArg₂ (fun p q : EReal => p + q) (Finset.sum_congr (by congr 1) fun s _ => congrArg f (by omega)) rfl
/-- A sum over the blocks and their rows is the sum over all the rows. -/
theorem sum_blocks (F : Fin 8192 → EReal) : ∑ n ∈ Finset.range 16, ∑ r : Fin 512, F (rowOf n r) = ∑ i : Fin 8192, F i := by
  rw [Finset.sum_range, Fin.sum_univ_tiles 16 512 rfl F]
  refine Finset.sum_congr rfl fun n _ => Finset.sum_congr rfl fun r _ => congrArg F (Fin.ext ?_)
  rw [rowOf_val n.isLt]
  show 512 * n.val + r.val = n.val * 512 + r.val
  omega

theorem zeroCarry_at (a : Fin 512) (c : Fin 128) : (zeroCarry (F := Ideal)).1 (ix2 a c) = (0 : EReal)
    ∧ (zeroCarry (F := Ideal)).2.1 (ix2 a c) = (0 : EReal) ∧ (zeroCarry (F := Ideal)).2.2 (ix2 a c) = (0 : EReal) := by
  refine ⟨?_, ?_, ?_⟩ <;> pointwise [zeroCarry]

/-- The carried sums after key block `j`'s tiles, over every query. -/
theorem pointCarry_at {j : ℕ} (hj : j < 16) (a : Fin 512) (c : Fin 128) :
    (pointCarry T j).1 (ix2 a c) = ∑ i : Fin 8192, ds T j 0 i a * qHead T 0 i c
    ∧ (pointCarry T j).2.1 (ix2 a c) = ∑ i : Fin 8192, ds T j 1 i a * qHead T 1 i c
    ∧ (pointCarry T j).2.2 (ix2 a c) = ∑ i : Fin 8192, (wt T j 0 i a * dHead T 0 i c + wt T j 1 i a * dHead T 1 i c) := by
  obtain ⟨h1, h2, h3⟩ := carryAfter_at T (j := j) (n := j + 1) (by omega) (tileCarry₀ T j zeroCarry) a c (15 - j) (by omega)
  obtain ⟨g1, g2, g3⟩ := tileCarry₀_at T hj zeroCarry a c
  obtain ⟨z1, z2, z3⟩ := zeroCarry_at a c
  refine ⟨h1.trans ?_, h2.trans ?_, h3.trans ?_⟩
  · rw [g1, z1, zero_add, sum_from hj (dkOf T j 0 a c) (fun n hn => dkOf_zero T hn (by omega) 0 a c)]
    exact sum_blocks fun i => ds T j 0 i a * qHead T 0 i c
  · rw [g2, z2, zero_add, sum_from hj (dkOf T j 1 a c) (fun n hn => dkOf_zero T hn (by omega) 1 a c)]
    exact sum_blocks fun i => ds T j 1 i a * qHead T 1 i c
  · rw [g3, z3, zero_add, sum_from hj (dvOf T j a c) (fun n hn => dvOf_zero T hn (by omega) a c)]
    rw [← sum_blocks fun i => wt T j 0 i a * dHead T 0 i c + wt T j 1 i a * dHead T 1 i c]
    exact Finset.sum_congr rfl fun n _ => Finset.sum_add_distrib.symm

/-! ## The query gradients -/

/-- What key block `j` adds to a head's query gradients. -/
def dqOf (j : ℕ) (h : Fin 2) (i : Fin 8192) (c : Fin 128) : EReal := ∑ a : Fin 512, ds T j h i a * kHead T h a c
theorem dqOf_zero {j : ℕ} {i : Fin 8192} (hi : i.val < 512 * j) (h : Fin 2) (c : Fin 128) : dqOf T j h i c = 0 :=
  Finset.sum_eq_zero fun a _ => by rw [ds_zero T hi, zero_mul]

theorem putBlkA_at {n : ℕ} (hn : n < 16) (a b : Vec Ideal S512x128 .f32) (G : Vec Ideal S8192x256 .f32) (i : Fin 8192) (c : Fin 128) :
    putBlk n a b G (ix2 i ⟨c.val, by omega⟩)
      = if i.val / 512 = n then a (ix2 ⟨i.val % 512, row_lt i⟩ c) else G (ix2 i ⟨c.val, by omega⟩) := by
  by_cases hb : i.val / 512 = n
  · rw [if_pos hb]
    refine (if_pos hb).trans ((if_pos (show (c.val < 128) by omega)).trans ?_)
    refine congrArg (fun x => a (ix2 (⟨i.val % 512, row_lt i⟩ : Fin 512) x)) (Fin.ext ?_)
    show (c.val) % 128 = c.val
    omega
  · rw [if_neg hb]
    exact if_neg hb
theorem gA_at {n : ℕ} (G : Vec Ideal S8192x256 .f32) (i : Fin 8192) (hb : i.val / 512 = n) (c : Fin 128) :
    gA n G (ix2 ⟨i.val % 512, row_lt i⟩ c) = G (ix2 i ⟨c.val, by omega⟩) := by
  have hn : n < 16 := hb ▸ blk_lt i
  have e : rowOf n ⟨i.val % 512, row_lt i⟩ = i := Fin.ext (by rw [rowOf_val hn]; show 512 * n + i.val % 512 = i.val; omega)
  have e1 : Fin.ofNat 256 (c.val) = (⟨c.val, by omega⟩ : Fin 256) := Fin.ext (show (c.val) % 256 = c.val by omega)
  show G (ix2 (rowOf n ⟨i.val % 512, row_lt i⟩) (Fin.ofNat 256 (c.val))) = _
  rw [e, e1]
theorem tileDqA_at {j n : ℕ} (hj : j < n) (hn : n < 16) (G : Vec Ideal S8192x256 .f32) (i : Fin 8192) (c : Fin 128) :
    tileDq T n G (ix2 i ⟨c.val, by omega⟩)
      = if i.val / 512 = n then (G (ix2 i ⟨c.val, by omega⟩) : EReal) + dqOf T j 0 i c else G (ix2 i ⟨c.val, by omega⟩) := by
  refine (putBlkA_at hn _ _ G i c).trans ?_
  by_cases hb : i.val / 512 = n
  · have e : rowOf n ⟨i.val % 512, row_lt i⟩ = i := Fin.ext (by rw [rowOf_val hn]; show 512 * n + i.val % 512 = i.val; omega)
    rw [if_pos hb, if_pos hb, addTo_at, gA_at G i hb, dqTile_at]
    simp only [dsA_at T hj hn, e]
    rfl
  · rw [if_neg hb, if_neg hb]
theorem tileDq₀A_at {n : ℕ} (hn : n < 16) (G : Vec Ideal S8192x256 .f32) (i : Fin 8192) (c : Fin 128) :
    tileDq₀ T n G (ix2 i ⟨c.val, by omega⟩)
      = if i.val / 512 = n then (G (ix2 i ⟨c.val, by omega⟩) : EReal) + dqOf T n 0 i c else G (ix2 i ⟨c.val, by omega⟩) := by
  refine (putBlkA_at hn _ _ G i c).trans ?_
  by_cases hb : i.val / 512 = n
  · have e : rowOf n ⟨i.val % 512, row_lt i⟩ = i := Fin.ext (by rw [rowOf_val hn]; show 512 * n + i.val % 512 = i.val; omega)
    rw [if_pos hb, if_pos hb, addTo_at, gA_at G i hb, dqTile_at]
    simp only [dsA₀_at T hn, e]
    rfl
  · rw [if_neg hb, if_neg hb]
theorem dqAfterA_at {j n : ℕ} (hj : j < n) (G : Vec Ideal S8192x256 .f32) (i : Fin 8192) (c : Fin 128) : ∀ m, n + m ≤ 16 →
    dqAfter T n m G (ix2 i ⟨c.val, by omega⟩)
      = if n ≤ i.val / 512 ∧ i.val / 512 < n + m then (G (ix2 i ⟨c.val, by omega⟩) : EReal) + dqOf T j 0 i c
        else G (ix2 i ⟨c.val, by omega⟩)
  | 0, _ => (if_neg (by omega)).symm
  | m + 1, hm => by
    refine (tileDqA_at T (j := j) (n := n + m) (by omega) (by omega) (dqAfter T n m G) i c).trans ?_
    rw [dqAfterA_at hj G i c m (by omega)]
    by_cases hb : i.val / 512 = n + m
    · rw [if_pos hb, if_neg (by omega), if_pos (by omega)]
    · rw [if_neg hb]
      by_cases h : n ≤ i.val / 512 ∧ i.val / 512 < n + m
      · rw [if_pos h, if_pos (by omega)]
      · rw [if_neg h, if_neg (by omega)]
/-- The first head's query gradients after key block `j`, over its keys. -/
theorem pointDqA_at {j : ℕ} (hj : j < 16) (G : Vec Ideal S8192x256 .f32) (i : Fin 8192) (c : Fin 128) :
    pointDq T j G (ix2 i ⟨c.val, by omega⟩) = (startDq j G (ix2 i ⟨c.val, by omega⟩) : EReal) + dqOf T j 0 i c := by
  refine (dqAfterA_at T (j := j) (n := j + 1) (by omega) _ i c (15 - j) (by omega)).trans ?_
  have hi := blk_lt i
  rw [tileDq₀A_at T hj]
  by_cases hb : i.val / 512 = j
  · rw [if_neg (by omega), if_pos hb]
  · rw [if_neg hb]
    by_cases h : i.val / 512 < j
    · rw [if_neg (by omega), dqOf_zero T (by omega), add_zero]
    · rw [if_pos (by omega)]

theorem putBlkB_at {n : ℕ} (hn : n < 16) (a b : Vec Ideal S512x128 .f32) (G : Vec Ideal S8192x256 .f32) (i : Fin 8192) (c : Fin 128) :
    putBlk n a b G (ix2 i ⟨128 + c.val, by omega⟩)
      = if i.val / 512 = n then b (ix2 ⟨i.val % 512, row_lt i⟩ c) else G (ix2 i ⟨128 + c.val, by omega⟩) := by
  by_cases hb : i.val / 512 = n
  · rw [if_pos hb]
    refine (if_pos hb).trans ((if_neg (show ¬ (128 + c.val < 128) by omega)).trans ?_)
    refine congrArg (fun x => b (ix2 (⟨i.val % 512, row_lt i⟩ : Fin 512) x)) (Fin.ext ?_)
    show (128 + c.val) % 128 = c.val
    omega
  · rw [if_neg hb]
    exact if_neg hb
theorem gB_at {n : ℕ} (G : Vec Ideal S8192x256 .f32) (i : Fin 8192) (hb : i.val / 512 = n) (c : Fin 128) :
    gB n G (ix2 ⟨i.val % 512, row_lt i⟩ c) = G (ix2 i ⟨128 + c.val, by omega⟩) := by
  have hn : n < 16 := hb ▸ blk_lt i
  have e : rowOf n ⟨i.val % 512, row_lt i⟩ = i := Fin.ext (by rw [rowOf_val hn]; show 512 * n + i.val % 512 = i.val; omega)
  have e1 : Fin.ofNat 256 (128 + c.val) = (⟨128 + c.val, by omega⟩ : Fin 256) := Fin.ext (show (128 + c.val) % 256 = 128 + c.val by omega)
  show G (ix2 (rowOf n ⟨i.val % 512, row_lt i⟩) (Fin.ofNat 256 (128 + c.val))) = _
  rw [e, e1]
theorem tileDqB_at {j n : ℕ} (hj : j < n) (hn : n < 16) (G : Vec Ideal S8192x256 .f32) (i : Fin 8192) (c : Fin 128) :
    tileDq T n G (ix2 i ⟨128 + c.val, by omega⟩)
      = if i.val / 512 = n then (G (ix2 i ⟨128 + c.val, by omega⟩) : EReal) + dqOf T j 1 i c else G (ix2 i ⟨128 + c.val, by omega⟩) := by
  refine (putBlkB_at hn _ _ G i c).trans ?_
  by_cases hb : i.val / 512 = n
  · have e : rowOf n ⟨i.val % 512, row_lt i⟩ = i := Fin.ext (by rw [rowOf_val hn]; show 512 * n + i.val % 512 = i.val; omega)
    rw [if_pos hb, if_pos hb, addTo_at, gB_at G i hb, dqTile_at]
    simp only [dsB_at T hj hn, e]
    rfl
  · rw [if_neg hb, if_neg hb]
theorem tileDq₀B_at {n : ℕ} (hn : n < 16) (G : Vec Ideal S8192x256 .f32) (i : Fin 8192) (c : Fin 128) :
    tileDq₀ T n G (ix2 i ⟨128 + c.val, by omega⟩)
      = if i.val / 512 = n then (G (ix2 i ⟨128 + c.val, by omega⟩) : EReal) + dqOf T n 1 i c else G (ix2 i ⟨128 + c.val, by omega⟩) := by
  refine (putBlkB_at hn _ _ G i c).trans ?_
  by_cases hb : i.val / 512 = n
  · have e : rowOf n ⟨i.val % 512, row_lt i⟩ = i := Fin.ext (by rw [rowOf_val hn]; show 512 * n + i.val % 512 = i.val; omega)
    rw [if_pos hb, if_pos hb, addTo_at, gB_at G i hb, dqTile_at]
    simp only [dsB₀_at T hn, e]
    rfl
  · rw [if_neg hb, if_neg hb]
theorem dqAfterB_at {j n : ℕ} (hj : j < n) (G : Vec Ideal S8192x256 .f32) (i : Fin 8192) (c : Fin 128) : ∀ m, n + m ≤ 16 →
    dqAfter T n m G (ix2 i ⟨128 + c.val, by omega⟩)
      = if n ≤ i.val / 512 ∧ i.val / 512 < n + m then (G (ix2 i ⟨128 + c.val, by omega⟩) : EReal) + dqOf T j 1 i c
        else G (ix2 i ⟨128 + c.val, by omega⟩)
  | 0, _ => (if_neg (by omega)).symm
  | m + 1, hm => by
    refine (tileDqB_at T (j := j) (n := n + m) (by omega) (by omega) (dqAfter T n m G) i c).trans ?_
    rw [dqAfterB_at hj G i c m (by omega)]
    by_cases hb : i.val / 512 = n + m
    · rw [if_pos hb, if_neg (by omega), if_pos (by omega)]
    · rw [if_neg hb]
      by_cases h : n ≤ i.val / 512 ∧ i.val / 512 < n + m
      · rw [if_pos h, if_pos (by omega)]
      · rw [if_neg h, if_neg (by omega)]
/-- The second head's query gradients after key block `j`, over its keys. -/
theorem pointDqB_at {j : ℕ} (hj : j < 16) (G : Vec Ideal S8192x256 .f32) (i : Fin 8192) (c : Fin 128) :
    pointDq T j G (ix2 i ⟨128 + c.val, by omega⟩) = (startDq j G (ix2 i ⟨128 + c.val, by omega⟩) : EReal) + dqOf T j 1 i c := by
  refine (dqAfterB_at T (j := j) (n := j + 1) (by omega) _ i c (15 - j) (by omega)).trans ?_
  have hi := blk_lt i
  rw [tileDq₀B_at T hj]
  by_cases hb : i.val / 512 = j
  · rw [if_neg (by omega), if_pos hb]
  · rw [if_neg hb]
    by_cases h : i.val / 512 < j
    · rw [if_neg (by omega), dqOf_zero T (by omega), add_zero]
    · rw [if_pos (by omega)]

theorem startDq_at (j : ℕ) (G : Vec Ideal S8192x256 .f32) (y : S8192x256.Idx) :
    startDq j G y = if j = 0 then (0 : EReal) else G y := by
  by_cases h : j = 0
  · rw [if_pos h, startDq, if_pos h]
    pointwise []
  · rw [if_neg h, startDq, if_neg h]

end Cert.KernelIdeal.Flash

end
-- ==== Proof.Value.Arrays.lean ====
/- The arrays that the flash backward kernel leaves, over the extended reals: each as one sum over the keys or the queries
   of the arrays that its windows read. -/
module

public import proofs.«01_k».proof.Proof.Launch
public import proofs.«01_k».proof.Proof.Value.PointAt
public import Idealize.ShloMosaic.Lib.Pipeline.ValueKit

@[expose] public section

set_option maxRecDepth 16384

noncomputable section

namespace Cert.KernelIdeal.Flash

open Idealize.ShloMosaic Idealize.ShloMosaic.TcCoe Cert.KernelIdeal Cert.KernelIdeal.Gen

variable (m : (ℓ : Loc nD τ sig) → Buf (Elt Ideal) ℓ) (d : Dev nD)

/-- The arrays the windows read: queries, cotangents, log-sum-exps, deltas, keys and values. -/
def qArr : Vec Ideal S8192x768 .bf16 := V m d main_v39
def dArr : Vec Ideal S8192x384 .bf16 := V m d main_v42
def lArr : Vec Ideal S3x16x8x512 .f32 := V m d main_v45
def eArr : Vec Ideal S3x16x8x512 .f32 := V m d main_v48
def kArr : Vec Ideal S8192x768 .bf16 := V m d main_v40
def vArr : Vec Ideal S8192x384 .bf16 := V m d main_v41

/-- Every window's block at every grid point. -/
theorem idx : ∀ t : Fin cfg0.N, win0_0.index t = ![0, t.val / 16] ∧ win0_1.index t = ![0, t.val / 16]
    ∧ win0_2.index t = ![t.val / 16, 0, 0, 0] ∧ win0_3.index t = ![t.val / 16, 0, 0, 0]
    ∧ win0_4.index t = ![t.val % 16, t.val / 16] ∧ win0_5.index t = ![t.val % 16, t.val / 16]
    ∧ win0_6.index t = ![0, t.val / 16] ∧ win0_7.index t = ![t.val % 16, t.val / 16] ∧ win0_8.index t = ![t.val % 16, t.val / 16]
    ∧ t.val / 16 < 3 :=
  (by decide +kernel : ∀ t : Fin grid0.N, _)

theorem pair_lt (t : Fin cfg0.N) : t.val / 16 < 3 := (idx t).2.2.2.2.2.2.2.2.2

theorem iblk_0 (t : Fin cfg0.N) (i : Fin 8192) (x : Fin 256) :
    iblk m d 0 t (ix2 i x) = qArr m d (ix2 i ⟨256 * (t.val / 16) + x.val, by have := pair_lt t; omega⟩) := by
  blk_simp [iblk, qArr, idx t]
  blk_ext [idx t]
theorem iblk_1 (t : Fin cfg0.N) (i : Fin 8192) (x : Fin 128) :
    iblk m d 1 t (ix2 i x) = dArr m d (ix2 i ⟨128 * (t.val / 16) + x.val, by have := pair_lt t; omega⟩) := by
  blk_simp [iblk, dArr, idx t]
  blk_ext [idx t]
theorem iblk_2 (t : Fin cfg0.N) (n : Fin 16) (h : Fin 8) (x : Fin 512) :
    iblk m d 2 t (ix4 0 n h x) = lArr m d (ix4 ⟨t.val / 16, pair_lt t⟩ n h x) := by
  blk_simp [iblk, lArr, idx t]
  blk_ext [idx t]
theorem iblk_3 (t : Fin cfg0.N) (n : Fin 16) (h : Fin 8) (x : Fin 512) :
    iblk m d 3 t (ix4 0 n h x) = eArr m d (ix4 ⟨t.val / 16, pair_lt t⟩ n h x) := by
  blk_simp [iblk, eArr, idx t]
  blk_ext [idx t]
theorem iblk_4 (t : Fin cfg0.N) (a : Fin 512) (x : Fin 256) :
    iblk m d 4 t (ix2 a x) = kArr m d (ix2 ⟨512 * (t.val % 16) + a.val, by omega⟩ ⟨256 * (t.val / 16) + x.val, by have := pair_lt t; omega⟩) := by
  blk_simp [iblk, kArr, idx t]
  blk_ext [idx t]
theorem iblk_5 (t : Fin cfg0.N) (a : Fin 512) (x : Fin 128) :
    iblk m d 5 t (ix2 a x) = vArr m d (ix2 ⟨512 * (t.val % 16) + a.val, by omega⟩ ⟨128 * (t.val / 16) + x.val, by have := pair_lt t; omega⟩) := by
  blk_simp [iblk, vArr, idx t]
  blk_ext [idx t]

/-! ## A key's weight and the gradient of its score, over the arrays -/

/-- Column `x` of head `h` of pair `p`, and lane `x` of pair `p`. -/
def colOf (p : Fin 3) (h : Fin 2) (x : Fin 128) : Fin 768 := ⟨256 * p.val + 128 * h.val + x.val, by omega⟩
def laneOf (p : Fin 3) (x : Fin 128) : Fin 384 := ⟨128 * p.val + x.val, by omega⟩
/-- Row `i` of head `h` of pair `p` in an array of row numbers. -/
def rowIx (p : Fin 3) (h : Fin 2) (i : Fin 8192) : S3x16x8x512.Idx :=
  ix4 p ⟨i.val / 512, blk_lt i⟩ ⟨h.val, by omega⟩ ⟨i.val % 512, row_lt i⟩

/-- The cotangent with the other head's lanes put to zero. -/
def ctOf (p : Fin 3) (h : Fin 2) (i : Fin 8192) (x : Fin 128) : EReal := if (x.val < 64 ↔ h = 0) then dArr m d (ix2 i (laneOf p x)) else 0
/-- The weight of key `j` in query `i`'s row. -/
def wtOf (p : Fin 3) (h : Fin 2) (i j : Fin 8192) : EReal :=
  if j.val ≤ i.val then Ideal.exp2 ((∑ x : Fin 128, (kArr m d (ix2 j (colOf p h x)) : EReal) * qArr m d (ix2 i (colOf p h x))) - lArr m d (rowIx p h i))
  else 0
/-- The gradient of their score. -/
def dsOf (p : Fin 3) (h : Fin 2) (i j : Fin 8192) : EReal :=
  wtOf m d p h i j * ((∑ x : Fin 128, (vArr m d (ix2 j (laneOf p x)) : EReal) * ctOf m d p h i x) - eArr m d (rowIx p h i))

/-- The pair of heads and the keys of a grid point. -/
def pairOf (t : Fin cfg0.N) : Fin 3 := ⟨t.val / 16, pair_lt t⟩
def keyOf (t : Fin cfg0.N) (a : Fin 512) : Fin 8192 := ⟨512 * (t.val % 16) + a.val, by omega⟩

theorem kHead_staged (t : Fin cfg0.N) (h : Fin 2) (a : Fin 512) (x : Fin 128) :
    kHead (stagedAt m d t) h a x = kArr m d (ix2 (keyOf t a) (colOf (pairOf t) h x)) := by
  rcases Fin.exists_fin_two.mp ⟨h, rfl⟩ with rfl | rfl
  · refine (colsA_at (iblk m d 4 t) a x).trans ((iblk_4 m d t a _).trans ?_)
    exact congrArg (fun y => kArr m d (ix2 (keyOf t a) y)) (Fin.ext rfl)
  · refine (colsB_at (iblk m d 4 t) a x).trans ((iblk_4 m d t a _).trans ?_)
    exact congrArg (fun y => kArr m d (ix2 (keyOf t a) y)) (Fin.ext (by simp [colOf, pairOf]; omega))
theorem qHead_staged (t : Fin cfg0.N) (h : Fin 2) (i : Fin 8192) (x : Fin 128) :
    qHead (stagedAt m d t) h i x = qArr m d (ix2 i (colOf (pairOf t) h x)) :=
  (iblk_0 m d t i _).trans (congrArg (fun y => qArr m d (ix2 i y)) (Fin.ext (by simp [colOf, pairOf]; omega)))
theorem dHead_staged (t : Fin cfg0.N) (h : Fin 2) (i : Fin 8192) (x : Fin 128) :
    dHead (stagedAt m d t) h i x = ctOf m d (pairOf t) h i x := by
  unfold dHead ctOf
  exact if_congr Iff.rfl (iblk_1 m d t i x) rfl
theorem lHead_staged (t : Fin cfg0.N) (h : Fin 2) (i : Fin 8192) : lHead (stagedAt m d t) h i = lArr m d (rowIx (pairOf t) h i) :=
  iblk_2 m d t _ _ _
theorem eHead_staged (t : Fin cfg0.N) (h : Fin 2) (i : Fin 8192) : eHead (stagedAt m d t) h i = eArr m d (rowIx (pairOf t) h i) :=
  iblk_3 m d t _ _ _
theorem vt_staged (t : Fin cfg0.N) (a : Fin 512) (x : Fin 128) :
    (stagedAt m d t).vt (ix2 a x) = vArr m d (ix2 (keyOf t a) (laneOf (pairOf t) x)) := by
  refine Eq.trans ?_ (iblk_5 m d t a x)
  exact congrFun (shapeCast_self (iblk m d 5 t) _) _

theorem wt_staged (t : Fin cfg0.N) (h : Fin 2) (i : Fin 8192) (a : Fin 512) :
    wt (stagedAt m d t) (t.val % 16) h i a = wtOf m d (pairOf t) h i (keyOf t a) := by
  unfold wt wtOf
  simp only [kHead_staged, qHead_staged, lHead_staged]
  rfl
theorem ds_staged (t : Fin cfg0.N) (h : Fin 2) (i : Fin 8192) (a : Fin 512) :
    ds (stagedAt m d t) (t.val % 16) h i a = dsOf m d (pairOf t) h i (keyOf t a) := by
  unfold ds dsOf
  simp only [wt_staged, vt_staged, dHead_staged, eHead_staged]

end Cert.KernelIdeal.Flash

end
-- ==== Proof.Value.Results.lean ====
/- The three arrays that the flash backward kernel leaves, over the extended reals, at every index. -/
module

public import proofs.«01_k».proof.Proof.Value.Arrays

@[expose] public section

set_option maxRecDepth 16384

noncomputable section

namespace Cert.KernelIdeal.Flash

open Idealize.ShloMosaic Idealize.ShloMosaic.TcCoe Cert.KernelIdeal Cert.KernelIdeal.Gen Cert.KernelIdeal.Facts₀ Cert.KernelIdeal.Facts

/-! ## A grid point's results at a head's column -/

section Point

variable (T : Staged Ideal)

theorem pointDq_at {j : ℕ} (hj : j < 16) (G : Vec Ideal S8192x256 .f32) (h : Fin 2) (i : Fin 8192) (x : Fin 128) :
    pointDq T j G (ix2 i ⟨128 * h.val + x.val, by omega⟩)
      = (if j = 0 then (0 : EReal) else G (ix2 i ⟨128 * h.val + x.val, by omega⟩)) + dqOf T j h i x := by
  rw [← startDq_at]
  rcases Fin.exists_fin_two.mp ⟨h, rfl⟩ with rfl | rfl
  · have e : (⟨128 * (0 : Fin 2).val + x.val, by omega⟩ : Fin 256) = ⟨x.val, by omega⟩ := Fin.ext (by simp)
    rw [e]
    exact pointDqA_at T hj G i x
  · exact pointDqB_at T hj G i x

theorem dkOut_at {j : ℕ} (hj : j < 16) (h : Fin 2) (a : Fin 512) (x : Fin 128) :
    dkOut (pointCarry T j) (ix2 a ⟨128 * h.val + x.val, by omega⟩)
      = (∑ i : Fin 8192, ds T j h i a * qHead T h i x) * ((Real.log 2 : ℝ) : EReal) := by
  obtain ⟨h1, h2, -⟩ := pointCarry_at T hj a x
  rw [← ln_2_eq]
  rcases Fin.exists_fin_two.mp ⟨h, rfl⟩ with rfl | rfl
  · have e : Fin.ofNat 128 (128 * (0 : Fin 2).val + x.val) = x := Fin.ext (by simp)
    rw [← h1]
    refine (if_pos (show 128 * (0 : Fin 2).val + x.val < 128 by simp)).trans ?_
    exact congrArg (fun y => mulf (pointCarry T j).1 (broadcast S512x128 (Named.named κ "ln_2" 0x3F317218#32)) (ix2 a y)) e
  · have e : Fin.ofNat 128 (128 * (1 : Fin 2).val + x.val) = x := Fin.ext (by simp)
    rw [← h2]
    refine (if_neg (show ¬ 128 * (1 : Fin 2).val + x.val < 128 by simp)).trans ?_
    exact congrArg (fun y => mulf (pointCarry T j).2.1 (broadcast S512x128 (Named.named κ "ln_2" 0x3F317218#32)) (ix2 a y)) e

end Point

variable (m : (ℓ : Loc nD τ sig) → Buf (Elt Ideal) ℓ) (d : Dev nD)

/-! ## The arrays' formulas -/

/-- The query gradients of a head, over the keys. -/
def dqF (p : Fin 3) (h : Fin 2) (i : Fin 8192) (x : Fin 128) : EReal := ∑ j : Fin 8192, dsOf m d p h i j * kArr m d (ix2 j (colOf p h x))
/-- The key gradients of a head, over the queries. -/
def dkF (p : Fin 3) (h : Fin 2) (j : Fin 8192) (x : Fin 128) : EReal :=
  (∑ i : Fin 8192, dsOf m d p h i j * qArr m d (ix2 i (colOf p h x))) * ((Real.log 2 : ℝ) : EReal)
/-- The value gradients of a pair of heads, over the queries. -/
def dvF (p : Fin 3) (j : Fin 8192) (x : Fin 128) : EReal :=
  ∑ i : Fin 8192, (wtOf m d p 0 i j * ctOf m d p 0 i x + wtOf m d p 1 i j * ctOf m d p 1 i x)

def pairCol (C : Fin 768) : Fin 3 := ⟨C.val / 256, by omega⟩
def headCol (C : Fin 768) : Fin 2 := ⟨C.val / 128 % 2, by omega⟩
def laneCol (C : Fin 768) : Fin 128 := ⟨C.val % 128, by omega⟩
def pairLane (L : Fin 384) : Fin 3 := ⟨L.val / 128, by omega⟩
def laneLane (L : Fin 384) : Fin 128 := ⟨L.val % 128, by omega⟩

def dqG : Vec Ideal S8192x768 .f32 := fun y => dqF m d (pairCol (y 1)) (headCol (y 1)) (y 0) (laneCol (y 1))
def dkG : Vec Ideal S8192x768 .f32 := fun y => dkF m d (pairCol (y 1)) (headCol (y 1)) (y 0) (laneCol (y 1))
def dvG : Vec Ideal S8192x384 .bf16 := fun y => dvF m d (pairLane (y 1)) (y 0) (laneLane (y 1))

theorem keyOf_eq (t : Fin cfg0.N) (a : Fin 512) : keyOf t a = rowOf (t.val % 16) a :=
  Fin.ext (rowOf_val (Nat.mod_lt _ (by norm_num)) a).symm

/-! ## The query gradients -/

/-- What key block `n` adds to a head's query gradients. -/
def dqPart (p : Fin 3) (h : Fin 2) (i : Fin 8192) (x : Fin 128) (n : ℕ) : EReal :=
  ∑ a : Fin 512, dsOf m d p h i (rowOf n a) * kArr m d (ix2 (rowOf n a) (colOf p h x))

theorem dqOf_staged (t : Fin cfg0.N) (h : Fin 2) (i : Fin 8192) (x : Fin 128) :
    dqOf (stagedAt m d t) (t.val % 16) h i x = dqPart m d (pairOf t) h i x (t.val % 16) := by
  unfold dqOf dqPart
  simp only [ds_staged, kHead_staged, keyOf_eq]

theorem dqAt_at (h : Fin 2) (i : Fin 8192) (x : Fin 128) : ∀ (n : ℕ) (hn : n < cfg0.N),
    dqAt m d n hn (ix2 i ⟨128 * h.val + x.val, by omega⟩) = ∑ s ∈ Finset.range (n % 16 + 1), dqPart m d (pairOf ⟨n, hn⟩) h i x s
  | 0, hn => by
    refine (pointDq_at _ (by norm_num) _ h i x).trans ?_
    rw [if_pos rfl, zero_add, Nat.zero_mod, Finset.sum_range_one]
    exact dqOf_staged m d ⟨0, hn⟩ h i x
  | n + 1, hn => by
    refine (pointDq_at _ (Nat.mod_lt _ (by norm_num)) _ h i x).trans ?_
    have e := dqOf_staged m d ⟨n + 1, hn⟩ h i x
    dsimp only at e
    rw [e]
    by_cases h0 : (n + 1) % 16 = 0
    · rw [if_pos h0, h0, zero_add, Finset.sum_range_one]
    · rw [if_neg h0, dqAt_at h i x n, Finset.sum_range_succ _ ((n + 1) % 16)]
      have e1 : n % 16 + 1 = (n + 1) % 16 := by omega
      have e2 : pairOf ⟨n, Nat.lt_of_succ_lt hn⟩ = pairOf ⟨n + 1, hn⟩ := Fin.ext (by show n / 16 = (n + 1) / 16; omega)
      rw [e1, e2]

theorem dq_point (t : Fin cfg0.N) (ht : t.val % 16 = 15) (i : Fin 8192) (X : Fin 256) :
    dqAt m d t.val t.isLt (ix2 i X) = dqG m d (ix2 i ⟨256 * (t.val / 16) + X.val, by have := pair_lt t; omega⟩) := by
  have hp := pair_lt t
  have e := dqAt_at m d ⟨X.val / 128, by omega⟩ i ⟨X.val % 128, by omega⟩ t.val t.isLt
  have eX : (⟨128 * (X.val / 128) + X.val % 128, by omega⟩ : Fin 256) = X := Fin.ext (show 128 * (X.val / 128) + X.val % 128 = X.val by omega)
  dsimp only at e
  rw [eX] at e
  rw [e, ht]
  show _ = dqF m d (pairCol ⟨256 * (t.val / 16) + X.val, _⟩) (headCol ⟨256 * (t.val / 16) + X.val, _⟩) i (laneCol ⟨256 * (t.val / 16) + X.val, _⟩)
  have e1 : pairCol ⟨256 * (t.val / 16) + X.val, by omega⟩ = pairOf t := Fin.ext (show (256 * (t.val / 16) + X.val) / 256 = t.val / 16 by omega)
  have e2 : headCol ⟨256 * (t.val / 16) + X.val, by omega⟩ = ⟨X.val / 128, by omega⟩ :=
    Fin.ext (show (256 * (t.val / 16) + X.val) / 128 % 2 = X.val / 128 by omega)
  have e3 : laneCol ⟨256 * (t.val / 16) + X.val, by omega⟩ = ⟨X.val % 128, by omega⟩ :=
    Fin.ext (show (256 * (t.val / 16) + X.val) % 128 = X.val % 128 by omega)
  rw [e1, e2, e3]
  exact sum_blocks fun j => dsOf m d (pairOf t) ⟨X.val / 128, by omega⟩ i j * kArr m d (ix2 j (colOf (pairOf t) ⟨X.val / 128, by omega⟩ ⟨X.val % 128, by omega⟩))

theorem dk_point (t : Fin cfg0.N) (a : Fin 512) (X : Fin 256) :
    dkOut (pointCarry (stagedAt m d t) (t.val % 16)) (ix2 a X)
      = dkG m d (ix2 ⟨512 * (t.val % 16) + a.val, by omega⟩ ⟨256 * (t.val / 16) + X.val, by have := pair_lt t; omega⟩) := by
  have hp := pair_lt t
  have e := dkOut_at (stagedAt m d t) (j := t.val % 16) (by omega) ⟨X.val / 128, by omega⟩ a ⟨X.val % 128, by omega⟩
  have eX : (⟨128 * (X.val / 128) + X.val % 128, by omega⟩ : Fin 256) = X := Fin.ext (show 128 * (X.val / 128) + X.val % 128 = X.val by omega)
  dsimp only at e
  rw [eX] at e
  rw [e]
  show _ = dkF m d (pairCol ⟨256 * (t.val / 16) + X.val, _⟩) (headCol ⟨256 * (t.val / 16) + X.val, _⟩) (keyOf t a) (laneCol ⟨256 * (t.val / 16) + X.val, _⟩)
  have e1 : pairCol ⟨256 * (t.val / 16) + X.val, by omega⟩ = pairOf t := Fin.ext (show (256 * (t.val / 16) + X.val) / 256 = t.val / 16 by omega)
  have e2 : headCol ⟨256 * (t.val / 16) + X.val, by omega⟩ = ⟨X.val / 128, by omega⟩ :=
    Fin.ext (show (256 * (t.val / 16) + X.val) / 128 % 2 = X.val / 128 by omega)
  have e3 : laneCol ⟨256 * (t.val / 16) + X.val, by omega⟩ = ⟨X.val % 128, by omega⟩ :=
    Fin.ext (show (256 * (t.val / 16) + X.val) % 128 = X.val % 128 by omega)
  rw [e1, e2, e3]
  unfold dkF
  simp only [ds_staged, qHead_staged]

theorem dv_point (t : Fin cfg0.N) (a : Fin 512) (x : Fin 128) :
    dvOut (pointCarry (stagedAt m d t) (t.val % 16)) (ix2 a x)
      = dvG m d (ix2 ⟨512 * (t.val % 16) + a.val, by omega⟩ ⟨128 * (t.val / 16) + x.val, by have := pair_lt t; omega⟩) := by
  have hp := pair_lt t
  obtain ⟨-, -, e⟩ := pointCarry_at (stagedAt m d t) (j := t.val % 16) (by omega) a x
  refine Eq.trans (show _ = (pointCarry (stagedAt m d t) (t.val % 16)).2.2 (ix2 a x) from rfl) (e.trans ?_)
  show _ = dvF m d (pairLane ⟨128 * (t.val / 16) + x.val, _⟩) (keyOf t a) (laneLane ⟨128 * (t.val / 16) + x.val, _⟩)
  have e1 : pairLane ⟨128 * (t.val / 16) + x.val, by omega⟩ = pairOf t := Fin.ext (show (128 * (t.val / 16) + x.val) / 128 = t.val / 16 by omega)
  have e3 : laneLane ⟨128 * (t.val / 16) + x.val, by omega⟩ = x := Fin.ext (show (128 * (t.val / 16) + x.val) % 128 = x.val by omega)
  rw [e1, e3]
  unfold dvF
  simp only [wt_staged, dHead_staged]

/-! ## The arrays -/

theorem final_dq : (dats m 0 d).arrAt 6 (cfgs 0).N = dqG m d := by
  refine (dats m 0 d).arrAt_eq_of_covers 6 _ (by decide +kernel) fun t hf y => ?_
  blk_simp
  rw [after_6]
  have e := dq_point m d t ((flush0_6 t).mp hf) (y 0) (y 1)
  have hp := pair_lt t
  have h1 : (y 1).val < 256 := (y 1).isLt
  have e1 : (win0_6.blk t).view.emb y = (ix2 (y 0) (⟨256 * (t.val / 16) + (y 1).val, by omega⟩ : Fin 768) : S8192x768.Idx) := by
    blk_ext [idx t]
  rw [e1, ← e]
  exact congrArg (dqAt m d t.val t.isLt) (ValueIdx.eq_ix2 y)

theorem final_dk : (dats m 0 d).arrAt 7 (cfgs 0).N = dkG m d := by
  refine (dats m 0 d).arrAt_eq_of_covers 7 _ (by decide +kernel) fun t hf y => ?_
  blk_simp
  rw [after_7]
  have e := dk_point m d t (y 0) (y 1)
  have hp := pair_lt t
  have h0 : (y 0).val < 512 := (y 0).isLt
  have h1 : (y 1).val < 256 := (y 1).isLt
  have e1 : (win0_7.blk t).view.emb y = (ix2 (⟨512 * (t.val % 16) + (y 0).val, by omega⟩ : Fin 8192)
      (⟨256 * (t.val / 16) + (y 1).val, by omega⟩ : Fin 768) : S8192x768.Idx) := by
    blk_ext [idx t]
  rw [e1, ← e]
  exact congrArg (dkOut (pointCarry (stagedAt m d t) (t.val % 16))) (ValueIdx.eq_ix2 y)

theorem final_dv : (dats m 0 d).arrAt 8 (cfgs 0).N = dvG m d := by
  refine (dats m 0 d).arrAt_eq_of_covers 8 _ (by decide +kernel) fun t hf y => ?_
  blk_simp
  rw [after_8]
  have e := dv_point m d t (y 0) (y 1)
  have hp := pair_lt t
  have h0 : (y 0).val < 512 := (y 0).isLt
  have h1 : (y 1).val < 128 := (y 1).isLt
  have e1 : (win0_8.blk t).view.emb y = (ix2 (⟨512 * (t.val % 16) + (y 0).val, by omega⟩ : Fin 8192)
      (⟨128 * (t.val / 16) + (y 1).val, by omega⟩ : Fin 384) : S8192x384.Idx) := by
    blk_ext [idx t]
  rw [e1, ← e]
  exact congrArg (dvOut (pointCarry (stagedAt m d t) (t.val % 16))) (ValueIdx.eq_ix2 y)

end Cert.KernelIdeal.Flash

end
-- ==== Proof.Value.Row.lean ====
/- Causal attention of one head and its gradients, over the extended reals, twice: as the kernel computes them from the
   saved logarithms and row sums, and as the reference's differentiated softmax does. -/
module

public import Idealize.ShloMosaic.PureOps
public import Idealize.ShloMosaic.PureOps.Ideal.Laws
public import Idealize.ShloMosaic.Lib.Pointwise

@[expose] public section

noncomputable section

namespace Cert.Attn

open Idealize.ShloMosaic

theorem select_ofBool {α : Type} (p : Prop) [Decidable p] (x y : α) : Scalar.select (BitVec.ofBool (decide p)) x y = if p then x else y := by
  by_cases h : p <;> simp [Scalar.select, h]

/-- A host reduction by the maximum over the last of three axes, at any shapes. -/
theorem reduceMax_at {n0 n1 n2 : ℕ} {u : Shape} (x : FVec Ideal ⟨3, ![n0, n1, n2]⟩ .f32) (init : FVec Ideal u .f32)
    (h : (⟨3, ![n0, n1, n2]⟩ : Shape).ReducesTo [2] ⟨2, ![n0, n1]⟩) (hu : 0 < u.numel) (a : Fin n0) (b : Fin n1) :
    Host.reduce FloatOps.maximumf x init h hu (ix2 a b)
      = (Finset.univ : Finset (Fin n2)).fold max (init (Shape.Idx.first hu)) fun j => (x (ix3 a b j) : EReal) := by
  simp only [pointwise]

/-- The same, its initial value and its operand's elements known. -/
theorem reduceMax_of {n0 n1 n2 : ℕ} {u : Shape} (T : FVec Ideal ⟨2, ![n0, n1]⟩ .f32) (x : FVec Ideal ⟨3, ![n0, n1, n2]⟩ .f32) (init : FVec Ideal u .f32)
    (h : (⟨3, ![n0, n1, n2]⟩ : Shape).ReducesTo [2] ⟨2, ![n0, n1]⟩) (hu : 0 < u.numel) (hT : T = Host.reduce FloatOps.maximumf x init h hu)
    (b : EReal) (hb : init (Shape.Idx.first hu) = b) (S : Fin n0 → Fin n1 → Fin n2 → EReal) (hx : ∀ i j k, x (ix3 i j k) = S i j k)
    (i : Fin n0) (j : Fin n1) : T (ix2 i j) = Finset.univ.fold max b (S i j) := by
  rw [hT, reduceMax_at, hb]
  exact congrArg (fun f => Finset.univ.fold max b f) (funext (hx i j))

theorem maximumf_at {s : Shape} (a b : FVec Ideal s .f32) (y : s.Idx) : maximumf a b y = max (a y : EReal) (b y) := rfl
theorem ofBits_bot : Ideal.ofBits .f32 0xFF800000#32 = ⊥ := by simp [Ideal.ofBits, Ideal.ieee]
theorem ofBits_one : Ideal.ofBits .f32 0x3F800000#32 = 1 := by
  simp only [Ideal.ofBits, Ideal.ieee]
  simp
  rw [← EReal.coe_mul]
  norm_num

/-- The scale of the scores, as printed. -/
def scale : EReal := Ideal.ofBits .f32 0x3DD105EC#32
/-- The logarithm of two, as the host computes it. -/
def logTwo : EReal := Ideal.log (Ideal.ofBits .f32 0x40000000#32)

section Head

variable (q k : Fin 8192 → Fin 128 → EReal) (v g : Fin 8192 → Fin 64 → EReal)

/-- The score of key `j` in query `i`'s row; a key after the query has none. -/
def score (i j : Fin 8192) : EReal := if j.val ≤ i.val then ∑ c : Fin 128, q i c * scale * k j c else ⊥
/-- The largest score of a row. -/
def top (i : Fin 8192) : EReal := Finset.univ.fold max ⊥ (score q k i)
/-- A score's exponential, relative to the largest. -/
def ex (i j : Fin 8192) : EReal := Ideal.exp (score q k i j - top q k i)
/-- The sum of a row's exponentials. -/
def tot (i : Fin 8192) : EReal := ∑ j : Fin 8192, ex q k i j
/-- A row's softmax. -/
def prob (i j : Fin 8192) : EReal := Ideal.div (ex q k i j) (tot q k i)
/-- The inner product of query `i`'s cotangent with key `j`'s value. -/
def inner (i j : Fin 8192) : EReal := ∑ x : Fin 64, g i x * v j x

/-! ## From the saved numbers -/

/-- The logarithm of a row's sum of exponentials, to base two. -/
def lse (i : Fin 8192) : EReal := Ideal.div (top q k i + Ideal.log (tot q k i)) logTwo
/-- The inner product of a row's cotangent and output. -/
def delta (i : Fin 8192) : EReal := ∑ x : Fin 64, g i x * ∑ j : Fin 8192, v j x * prob q k i j
/-- The scaled queries, to base two. -/
def qTwo (i : Fin 8192) (c : Fin 128) : EReal := Ideal.div (q i c * scale) logTwo

def wtS (i j : Fin 8192) : EReal :=
  if j.val ≤ i.val then Ideal.exp2 ((∑ c : Fin 128, k j c * qTwo q i c) - lse q k i) else 0
def dsS (i j : Fin 8192) : EReal := wtS q k i j * ((∑ x : Fin 64, v j x * g i x) - delta q k v g i)
def dqS (i : Fin 8192) (c : Fin 128) : EReal := ∑ j : Fin 8192, dsS q k v g i j * k j c
def dkS (j : Fin 8192) (c : Fin 128) : EReal := (∑ i : Fin 8192, dsS q k v g i j * qTwo q i c) * ((Real.log 2 : ℝ) : EReal)
def dvS (j : Fin 8192) (x : Fin 64) : EReal := ∑ i : Fin 8192, wtS q k i j * g i x

/-! ## Of the differentiated softmax -/

/-- What the division of the exponentials by their sum gives back to the sum. -/
def back (i : Fin 8192) : EReal :=
  -∑ j : Fin 8192, inner v g i j * Ideal.div 1 (tot q k i * tot q k i) * ex q k i j
def dsR (i j : Fin 8192) : EReal :=
  if j.val ≤ i.val then (Ideal.div (inner v g i j) (tot q k i) + back q k v g i) * ex q k i j else 0
def dqR (i : Fin 8192) (c : Fin 128) : EReal := ∑ j : Fin 8192, dsR q k v g i j * k j c
def dkR (j : Fin 8192) (c : Fin 128) : EReal := ∑ i : Fin 8192, dsR q k v g i j * (q i c * scale)
def dvR (j : Fin 8192) (x : Fin 64) : EReal := ∑ i : Fin 8192, g i x * prob q k i j

end Head

end Cert.Attn

end
-- ==== Proof.Value.EntryTerms.lean ====
/- What the host hands the kernel, composed a stage at a time. -/
module

public import proofs.«01_k».proof.Proof.Value.Arrays
public import proofs.«01_k».proof.Proof.Value.Row
public import Idealize.ShloMosaic.Lib.Claim

@[expose] public section

set_option maxRecDepth 16384

noncomputable section

namespace Cert.KernelIdeal.Rows

open Idealize.ShloMosaic Idealize.ShloMosaic.TcCoe Cert.KernelIdeal Cert.KernelIdeal.Gen Cert.Attn

/-- Head `h`'s columns of an array of queries or keys, and its lanes of one of values or cotangents. -/
def wide (a : Vec Ideal S8192x768 .f32) (h : Fin 6) (i : Fin 8192) (c : Fin 128) : EReal := a (ix2 i ⟨128 * h.val + c.val, by omega⟩)
def narrow (a : Vec Ideal S8192x384 .f32) (h : Fin 6) (i : Fin 8192) (x : Fin 64) : EReal := a (ix2 i ⟨64 * h.val + x.val, by omega⟩)

section Stages

variable {F : FTy → Type} [FloatOps F] (q k : Vec F S8192x768 .f32) (v g : Vec F S8192x384 .f32)

/-! ## The operations, a stage at a time -/

def tScaled : Vec F S8192x768 .f32 := mulf q (broadcastInDim S8192x768 ![] bcast_S_S8192x768 (constant S_ .f32 0x3DD105EC#32))
def tQ : Vec F S8192x6x128 .f32 := shapeCast _ (tScaled q) shapeCasts_S8192x768_S8192x6x128
def tK : Vec F S8192x6x128 .f32 := shapeCast _ k shapeCasts_S8192x768_S8192x6x128
def tV : Vec F S8192x6x64 .f32 := shapeCast _ v shapeCasts_S8192x384_S8192x6x64
def tMask : IVec S6x8192x8192 1 :=
  broadcastInDim S6x8192x8192 ![1, 2] bcast_S8192x8192_S6x8192x8192_1_2 (cmpi .sle
    (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0))))
def tScore : Vec F S6x8192x8192 .f32 :=
  select tMask (Host.dotGeneral dot_S8192x6x128_S8192x6x128_S6x8192x8192_2_2_0_0_1_1 none (tQ q) (tK k))
    (broadcastInDim S6x8192x8192 ![] bcast_S_S6x8192x8192 (constant S_ .f32 0xFF800000#32))
def tTop : Vec F S6x8192 .f32 :=
  Host.reduce FloatOps.maximumf (tScore q k) (constant S_ .f32 0xFF800000#32) reducesTo_S6x8192x8192_S6x8192_d2 h_S_
def tEx : Vec F S6x8192x8192 .f32 :=
  Host.exp (subf (tScore q k) (broadcastInDim S6x8192x8192 ![0, 1, 2] bcast_S6x8192x1_S6x8192x8192_0_1_2
    (broadcastInDim S6x8192x1 ![0, 1] bcast_S6x8192_S6x8192x1_0_1 (tTop q k))))
def tTot : Vec F S6x8192 .f32 :=
  Host.reduceAdd (tEx q k) (constant S_ .f32 0x00000000#32) reducesTo_S6x8192x8192_S6x8192_d2 h_S_
def tLse : Vec F S6x8192 .f32 :=
  Host.divf (addf (tTop q k) (Host.log (tTot q k))) (broadcastInDim S6x8192 ![] bcast_S_S6x8192 (Host.log (constant S_ .f32 0x40000000#32)))
def tProb : Vec F S6x8192x8192 .f32 :=
  Host.divf (tEx q k) (broadcastInDim S6x8192x8192 ![0, 1, 2] bcast_S6x8192x1_S6x8192x8192_0_1_2
    (broadcastInDim S6x8192x1 ![0, 1] bcast_S6x8192_S6x8192x1_0_1 (tTot q k)))
def tOut : Vec F S8192x6x64 .f32 :=
  transpose S8192x6x64 [2, 0, 1] (Host.dotGeneral dot_S8192x6x64_S6x8192x8192_S6x64x8192_0_2_2_1_1_0 none (tV v) (tProb q k))
    transposes_S6x64x8192_S8192x6x64_2_0_1
def tDelta : Vec F S6x8192 .f32 :=
  transpose S6x8192 [1, 0] (Host.reduceAdd (mulf (tV g) (tOut q k v)) (constant S_ .f32 0x00000000#32) reducesTo_S8192x6x64_S8192x6_d2 h_S_)
    transposes_S8192x6_S6x8192_1_0
def tTwo : Vec F S8192x768 .bf16 :=
  truncf .bf16 (Host.divf (tScaled q) (broadcastInDim S8192x768 ![] bcast_S_S8192x768 (Host.log (constant S_ .f32 0x40000000#32)))) bitsLt_bf16_f32
/-- A number for each head and row, in the rows of its block. -/
def tRows (a : Vec F S6x8192 .f32) : Vec F S3x16x8x512 .f32 :=
  pad S3x16x8x512 ![0, 0, 0, 0] ![0, 0, 6, 0] ![0, 0, 0, 0]
    (transpose S3x16x2x512 [0, 2, 1, 3] (shapeCast _ a shapeCasts_S6x8192_S3x2x16x512) transposes_S3x2x16x512_S3x16x2x512_0_2_1_3)
    (sitofp .f32 (constantI S_ 32 0#32)) pads_S3x16x2x512_S3x16x8x512_000_000_060_000 h_S_

end Stages

section Entry

variable (m : (ℓ : Loc nD τ sig) → Buf (Elt Ideal) ℓ) (d : Dev nD)

abbrev aQ : Vec Ideal S8192x768 .f32 := m ((d.tc : Thread nD τ).loc main_arg0)
abbrev aK : Vec Ideal S8192x768 .f32 := m ((d.tc : Thread nD τ).loc main_arg1)
abbrev aV : Vec Ideal S8192x384 .f32 := m ((d.tc : Thread nD τ).loc main_arg2)
abbrev aG : Vec Ideal S8192x384 .f32 := m ((d.tc : Thread nD τ).loc main_arg3)

theorem qArr_eq : Flash.qArr m d = tTwo (aQ m d) := by
  unfold Flash.qArr
  simp only [V, hostOps0, hostOps0_1, hostOps0_2, hostOps0_3, hostOps0_4, hostOps0_5, List.flatten_cons, List.flatten_nil, List.append_nil,
    List.cons_append, List.nil_append, StableHlo.TRef.ternary, StableHlo.TRef.unary, StableHlo.TRef.binary, StableHlo.TRef.toBuf, StableHlo.TRef.ofBuf, cast_eq]
  after_results_simp
  first | done | rfl
theorem kArr_eq : Flash.kArr m d = (truncf .bf16 (aK m d : FVec Ideal _ .f32) bitsLt_bf16_f32 : FVec Ideal _ .bf16) := by
  unfold Flash.kArr
  simp only [V, hostOps0, hostOps0_1, hostOps0_2, hostOps0_3, hostOps0_4, hostOps0_5, List.flatten_cons, List.flatten_nil, List.append_nil,
    List.cons_append, List.nil_append, StableHlo.TRef.ternary, StableHlo.TRef.unary, StableHlo.TRef.binary, StableHlo.TRef.toBuf, StableHlo.TRef.ofBuf, cast_eq]
  after_results_simp
  first | done | rfl
theorem vArr_eq : Flash.vArr m d = (truncf .bf16 (aV m d : FVec Ideal _ .f32) bitsLt_bf16_f32 : FVec Ideal _ .bf16) := by
  unfold Flash.vArr
  simp only [V, hostOps0, hostOps0_1, hostOps0_2, hostOps0_3, hostOps0_4, hostOps0_5, List.flatten_cons, List.flatten_nil, List.append_nil,
    List.cons_append, List.nil_append, StableHlo.TRef.ternary, StableHlo.TRef.unary, StableHlo.TRef.binary, StableHlo.TRef.toBuf, StableHlo.TRef.ofBuf, cast_eq]
  after_results_simp
  first | done | rfl
theorem dArr_eq : Flash.dArr m d = (truncf .bf16 (aG m d : FVec Ideal _ .f32) bitsLt_bf16_f32 : FVec Ideal _ .bf16) := by
  unfold Flash.dArr
  simp only [V, hostOps0, hostOps0_1, hostOps0_2, hostOps0_3, hostOps0_4, hostOps0_5, List.flatten_cons, List.flatten_nil, List.append_nil,
    List.cons_append, List.nil_append, StableHlo.TRef.ternary, StableHlo.TRef.unary, StableHlo.TRef.binary, StableHlo.TRef.toBuf, StableHlo.TRef.ofBuf, cast_eq]
  after_results_simp
  first | done | rfl
theorem lArr_eq : Flash.lArr m d = tRows (tLse (aQ m d) (aK m d)) := by
  unfold Flash.lArr
  simp only [V, hostOps0, hostOps0_1, hostOps0_2, hostOps0_3, hostOps0_4, hostOps0_5, List.flatten_cons, List.flatten_nil, List.append_nil,
    List.cons_append, List.nil_append, StableHlo.TRef.ternary, StableHlo.TRef.unary, StableHlo.TRef.binary, StableHlo.TRef.toBuf, StableHlo.TRef.ofBuf, cast_eq]
  after_results_simp
  first | done | rfl
theorem eArr_eq : Flash.eArr m d = tRows (tDelta (aQ m d) (aK m d) (aV m d) (aG m d)) := by
  unfold Flash.eArr
  simp only [V, hostOps0, hostOps0_1, hostOps0_2, hostOps0_3, hostOps0_4, hostOps0_5, List.flatten_cons, List.flatten_nil, List.append_nil,
    List.cons_append, List.nil_append, StableHlo.TRef.ternary, StableHlo.TRef.unary, StableHlo.TRef.binary, StableHlo.TRef.toBuf, StableHlo.TRef.ofBuf, cast_eq]
  after_results_simp
  first | done | rfl

end Entry

end Cert.KernelIdeal.Rows

end
-- ==== Proof.Value.EntryAt.lean ====
/- What the host hands the kernel over the extended reals, a head and a row at a time. -/
module

public import proofs.«01_k».proof.Proof.Value.EntryTerms

@[expose] public section

set_option maxRecDepth 16384

noncomputable section

namespace Cert.KernelIdeal.Rows

open Idealize.ShloMosaic Cert.KernelIdeal Cert.KernelIdeal.Gen Cert.Attn

variable (q k : Vec Ideal S8192x768 .f32) (v g : Vec Ideal S8192x384 .f32)

theorem wide_eq (a : Vec Ideal S8192x768 .f32) (h : Fin 6) (i : Fin 8192) (c : Fin 128) (e : h.val * 128 + c.val < 768) :
    (a (ix2 i ⟨h.val * 128 + c.val, e⟩) : EReal) = wide a h i c :=
  congrArg (fun y => a (ix2 i y)) (Fin.ext (by show h.val * 128 + c.val = 128 * h.val + c.val; omega))
theorem narrow_eq (a : Vec Ideal S8192x384 .f32) (h : Fin 6) (i : Fin 8192) (x : Fin 64) (e : h.val * 64 + x.val < 384) :
    (a (ix2 i ⟨h.val * 64 + x.val, e⟩) : EReal) = narrow a h i x :=
  congrArg (fun y => a (ix2 i y)) (Fin.ext (by show h.val * 64 + x.val = 64 * h.val + x.val; omega))

theorem tQ_at (i : Fin 8192) (h : Fin 6) (c : Fin 128) : tQ q (ix3 i h c) = wide q h i c * scale := by
  pointwise [tQ, tScaled]
  exact congrArg (· * scale) (wide_eq q h i c _)
theorem tK_at (i : Fin 8192) (h : Fin 6) (c : Fin 128) : tK k (ix3 i h c) = wide k h i c := by
  pointwise [tK]
  exact wide_eq ..
theorem tV_at (i : Fin 8192) (h : Fin 6) (x : Fin 64) : tV v (ix3 i h x) = narrow v h i x := by
  pointwise [tV]
  exact narrow_eq ..
theorem mask_sle (i j : Fin 8192) {α : Type} (x y : α) :
    Scalar.select (IntOp.cmpi CmpIPredicate.sle (BitVec.ofNat 32 j.val) (BitVec.ofNat 32 i.val)) x y = if j.val ≤ i.val then x else y := by
  rw [WordCmp.cmpi_sle_ofNat (by omega) (by omega)]
  exact select_ofBool _ _ _
theorem tScore_at (h : Fin 6) (i j : Fin 8192) : tScore q k (ix3 h i j) = score (wide q h) (wide k h) i j := by
  pointwise [tScore, tMask]
  rw [mask_sle]
  simp only [tQ_at, tK_at, ofBits_bot]
  rfl
theorem tTop_at (h : Fin 6) (i : Fin 8192) : tTop q k (ix2 h i) = top (wide q h) (wide k h) i :=
  reduceMax_of (tTop q k) (tScore q k) _ reducesTo_S6x8192x8192_S6x8192_d2 h_S_ rfl ⊥ ofBits_bot _ (tScore_at q k) h i
theorem tEx_at (h : Fin 6) (i j : Fin 8192) : tEx q k (ix3 h i j) = ex (wide q h) (wide k h) i j := by
  pointwise [tEx]
  rw [tScore_at, tTop_at]
  rfl
theorem tTot_at (h : Fin 6) (i : Fin 8192) : tTot q k (ix2 h i) = tot (wide q h) (wide k h) i := by
  pointwise [tTot]
  simp only [tEx_at, Ideal.ofBits_zero_f32, zero_add]
  rfl
theorem lse_of (a b : Vec Ideal S6x8192 .f32) (y : S6x8192.Idx) :
    Host.divf (F := Ideal) (φ := .f32) (addf a (Host.log b)) (broadcastInDim S6x8192 ![] bcast_S_S6x8192 (Host.log (constant S_ .f32 0x40000000#32))) y
      = Ideal.div ((a y : EReal) + Ideal.log (b y)) logTwo := rfl
theorem tLse_at (h : Fin 6) (i : Fin 8192) : tLse q k (ix2 h i) = lse (wide q h) (wide k h) i := by
  unfold tLse
  rw [lse_of, tTop_at, tTot_at]
  rfl
theorem tProb_at (h : Fin 6) (i j : Fin 8192) : tProb q k (ix3 h i j) = prob (wide q h) (wide k h) i j := by
  pointwise [tProb]
  rw [tEx_at, tTot_at]
  rfl
theorem tOut_at (h : Fin 6) (i : Fin 8192) (x : Fin 64) :
    tOut q k v (ix3 i h x) = ∑ j : Fin 8192, narrow v h j x * prob (wide q h) (wide k h) i j := by
  pointwise [tOut]
  simp only [tV_at, tProb_at]
theorem tDelta_at (h : Fin 6) (i : Fin 8192) :
    tDelta q k v g (ix2 h i) = delta (wide q h) (wide k h) (narrow v h) (narrow g h) i := by
  pointwise [tDelta]
  simp only [tV_at, tOut_at, Ideal.ofBits_zero_f32, zero_add]
  rfl
theorem tTwo_at (h : Fin 6) (i : Fin 8192) (c : Fin 128) :
    (tTwo q (ix2 i ⟨128 * h.val + c.val, by omega⟩) : EReal) = qTwo (wide q h) i c := by
  pointwise [tTwo, tScaled]
  rfl
/-- The row of head `h` of pair `p` in query `i`'s block. -/
theorem tRows_at (a : Vec Ideal S6x8192 .f32) (p : Fin 3) (h : Fin 2) (i : Fin 8192) :
    tRows a (Flash.rowIx p h i) = a (ix2 ⟨2 * p.val + h.val, by omega⟩ i) := by
  unfold Flash.rowIx
  pointwise [tRows]
  refine (dif_pos ⟨Flash.blk_lt i, Flash.row_lt i⟩).trans ?_
  exact congrArg (fun y => a (ix2 y i)) (Fin.ext (by show p.val * 2 + h.val = 2 * p.val + h.val; omega))

end Cert.KernelIdeal.Rows

end
-- ==== Proof.Value.Heads.lean ====
/- The kernel's three results, a head at a time: what the arrays hold in a column of head `h` is the one-head backward
   pass in the kernel's order, of that head's slices of the arguments. -/
module

public import proofs.«01_k».proof.Proof.Value.Results
public import proofs.«01_k».proof.Proof.Value.EntryAt

@[expose] public section

set_option maxRecDepth 16384

noncomputable section

namespace Cert.KernelIdeal.Heads

open Idealize.ShloMosaic Cert.KernelIdeal Cert.KernelIdeal.Gen Cert.Attn Cert.KernelIdeal.Rows Cert.KernelIdeal.Flash

variable (m : (ℓ : Loc nD τ sig) → Buf (Elt Ideal) ℓ) (d : Dev nD)

/-- The pair a head lies in, and its place there. -/
def pairH (h : Fin 6) : Fin 3 := ⟨h.val / 2, by omega⟩
def sideH (h : Fin 6) : Fin 2 := ⟨h.val % 2, by omega⟩

theorem col_eq (h : Fin 6) (x : Fin 128) : colOf (pairH h) (sideH h) x = ⟨128 * h.val + x.val, by omega⟩ :=
  Fin.ext (by show 256 * (h.val / 2) + 128 * (h.val % 2) + x.val = 128 * h.val + x.val; omega)
theorem head_eq (h : Fin 6) : (⟨2 * (pairH h).val + (sideH h).val, by have := (pairH h).isLt; have := (sideH h).isLt; omega⟩ : Fin 6) = h :=
  Fin.ext (by show 2 * (h.val / 2) + h.val % 2 = _; omega)

theorem k_at (h : Fin 6) (j : Fin 8192) (x : Fin 128) : (kArr m d (ix2 j (colOf (pairH h) (sideH h) x)) : EReal) = wide (aK m d) h j x := by
  rw [kArr_eq, col_eq]; rfl
theorem q_at (h : Fin 6) (i : Fin 8192) (x : Fin 128) :
    (qArr m d (ix2 i (colOf (pairH h) (sideH h) x)) : EReal) = qTwo (wide (aQ m d) h) i x := by
  rw [qArr_eq, col_eq]; exact tTwo_at _ _ _ _
theorem l_at (h : Fin 6) (i : Fin 8192) : (lArr m d (rowIx (pairH h) (sideH h) i) : EReal) = lse (wide (aQ m d) h) (wide (aK m d) h) i := by
  rw [lArr_eq, tRows_at, head_eq]; exact tLse_at _ _ _ _
theorem e_at (h : Fin 6) (i : Fin 8192) : (eArr m d (rowIx (pairH h) (sideH h) i) : EReal)
    = delta (wide (aQ m d) h) (wide (aK m d) h) (narrow (aV m d) h) (narrow (aG m d) h) i := by
  rw [eArr_eq, tRows_at, head_eq]; exact tDelta_at _ _ _ _ _ _

theorem wt_at (h : Fin 6) (i j : Fin 8192) : wtOf m d (pairH h) (sideH h) i j = wtS (wide (aQ m d) h) (wide (aK m d) h) i j := by
  unfold wtOf wtS
  simp only [k_at, q_at, l_at]

/-! ## The two halves of a pair's lanes -/

/-- Lane `x` of head `h`, as a lane of its pair. -/
def laneH (h : Fin 6) (x : Fin 64) : Fin 128 := ⟨64 * (h.val % 2) + x.val, by omega⟩

theorem lane_eq (h : Fin 6) (x : Fin 64) : laneOf (pairH h) (laneH h x) = ⟨64 * h.val + x.val, by omega⟩ :=
  Fin.ext (by show 128 * (h.val / 2) + (64 * (h.val % 2) + x.val) = 64 * h.val + x.val; omega)
theorem v_at (h : Fin 6) (j : Fin 8192) (x : Fin 64) : (vArr m d (ix2 j (laneOf (pairH h) (laneH h x))) : EReal) = narrow (aV m d) h j x := by
  rw [vArr_eq, lane_eq]; rfl
theorem g_at (h : Fin 6) (i : Fin 8192) (x : Fin 64) : (dArr m d (ix2 i (laneOf (pairH h) (laneH h x))) : EReal) = narrow (aG m d) h i x := by
  rw [dArr_eq, lane_eq]; rfl

theorem side_own (h : Fin 6) (x : Fin 64) : ((laneH h x).val < 64 ↔ sideH h = 0) := by
  rw [Fin.ext_iff]
  show 64 * (h.val % 2) + x.val < 64 ↔ h.val % 2 = 0
  omega

theorem ct_own (h : Fin 6) (i : Fin 8192) (x : Fin 64) : ctOf m d (pairH h) (sideH h) i (laneH h x) = narrow (aG m d) h i x := by
  unfold ctOf
  rw [if_pos (side_own h x)]
  exact g_at m d h i x

/-- The sum over a pair's lanes of a term that vanishes off a head's half is the sum over the head's lanes. -/
theorem sum_half (h : Fin 6) (f : Fin 128 → EReal) (hf : ∀ x, ¬(x.val < 64 ↔ sideH h = 0) → f x = 0) :
    ∑ x, f x = ∑ x : Fin 64, f (laneH h x) := by
  have e : ∑ x, f x = (∑ x : Fin 64, f ⟨x.val, by omega⟩) + ∑ x : Fin 64, f ⟨64 + x.val, by omega⟩ :=
    Fin.sum_univ_add (a := 64) (b := 64) f
  rw [e]
  rcases Nat.mod_two_eq_zero_or_one h.val with h0 | h1
  · rw [Finset.sum_eq_zero (s := Finset.univ) (f := fun x : Fin 64 => f ⟨64 + x.val, _⟩), add_zero]
    · refine Finset.sum_congr rfl fun x _ => congrArg f (Fin.ext ?_)
      show x.val = 64 * (h.val % 2) + x.val
      omega
    · intro x _
      refine hf _ ?_
      rw [Fin.ext_iff]
      show ¬(64 + x.val < 64 ↔ h.val % 2 = 0)
      omega
  · rw [Finset.sum_eq_zero (s := Finset.univ) (f := fun x : Fin 64 => f ⟨x.val, _⟩), zero_add]
    · refine Finset.sum_congr rfl fun x _ => congrArg f (Fin.ext ?_)
      show 64 + x.val = 64 * (h.val % 2) + x.val
      omega
    · intro x _
      refine hf _ ?_
      rw [Fin.ext_iff]
      show ¬(x.val < 64 ↔ h.val % 2 = 0)
      omega

theorem vg_at (h : Fin 6) (i j : Fin 8192) :
    (∑ x : Fin 128, (vArr m d (ix2 j (laneOf (pairH h) x)) : EReal) * ctOf m d (pairH h) (sideH h) i x)
      = ∑ x : Fin 64, narrow (aV m d) h j x * narrow (aG m d) h i x := by
  rw [sum_half h]
  · refine Finset.sum_congr rfl fun x _ => ?_
    rw [v_at, ct_own]
  · intro x hx
    unfold ctOf
    rw [if_neg hx, mul_zero]

theorem ds_at (h : Fin 6) (i j : Fin 8192) : dsOf m d (pairH h) (sideH h) i j
    = dsS (wide (aQ m d) h) (wide (aK m d) h) (narrow (aV m d) h) (narrow (aG m d) h) i j := by
  unfold dsOf dsS
  rw [wt_at, vg_at, e_at]

/-! ## The three results -/

theorem dq_at (i : Fin 8192) (h : Fin 6) (c : Fin 128) : (dqG m d (ix2 i ⟨128 * h.val + c.val, by omega⟩) : EReal)
    = dqS (wide (aQ m d) h) (wide (aK m d) h) (narrow (aV m d) h) (narrow (aG m d) h) i c := by
  have e1 : pairCol ⟨128 * h.val + c.val, by omega⟩ = pairH h := Fin.ext (by show (128 * h.val + c.val) / 256 = h.val / 2; omega)
  have e2 : headCol ⟨128 * h.val + c.val, by omega⟩ = sideH h := Fin.ext (by show (128 * h.val + c.val) / 128 % 2 = h.val % 2; omega)
  have e3 : laneCol ⟨128 * h.val + c.val, by omega⟩ = c := Fin.ext (by show (128 * h.val + c.val) % 128 = c.val; omega)
  show dqF m d (pairCol ⟨128 * h.val + c.val, _⟩) (headCol ⟨128 * h.val + c.val, _⟩) i (laneCol ⟨128 * h.val + c.val, _⟩) = _
  rw [e1, e2, e3]
  unfold dqF dqS
  simp only [ds_at, k_at]

theorem dk_at (j : Fin 8192) (h : Fin 6) (c : Fin 128) : (dkG m d (ix2 j ⟨128 * h.val + c.val, by omega⟩) : EReal)
    = dkS (wide (aQ m d) h) (wide (aK m d) h) (narrow (aV m d) h) (narrow (aG m d) h) j c := by
  have e1 : pairCol ⟨128 * h.val + c.val, by omega⟩ = pairH h := Fin.ext (by show (128 * h.val + c.val) / 256 = h.val / 2; omega)
  have e2 : headCol ⟨128 * h.val + c.val, by omega⟩ = sideH h := Fin.ext (by show (128 * h.val + c.val) / 128 % 2 = h.val % 2; omega)
  have e3 : laneCol ⟨128 * h.val + c.val, by omega⟩ = c := Fin.ext (by show (128 * h.val + c.val) % 128 = c.val; omega)
  show dkF m d (pairCol ⟨128 * h.val + c.val, _⟩) (headCol ⟨128 * h.val + c.val, _⟩) j (laneCol ⟨128 * h.val + c.val, _⟩) = _
  rw [e1, e2, e3]
  unfold dkF dkS
  simp only [ds_at, q_at]

/-- One of a pair's two heads has the lane; the other's cotangent is zero there. -/
theorem dv_term (h : Fin 6) (i j : Fin 8192) (x : Fin 64) :
    wtOf m d (pairH h) 0 i j * ctOf m d (pairH h) 0 i (laneH h x) + wtOf m d (pairH h) 1 i j * ctOf m d (pairH h) 1 i (laneH h x)
      = wtOf m d (pairH h) (sideH h) i j * ctOf m d (pairH h) (sideH h) i (laneH h x) := by
  rcases Nat.mod_two_eq_zero_or_one h.val with h0 | h1
  · have e : sideH h = 0 := Fin.ext h0
    have z : ctOf m d (pairH h) 1 i (laneH h x) = 0 := by
      unfold ctOf
      rw [if_neg]
      rw [side_own h x, e]
      decide
    rw [e, z, mul_zero, add_zero]
  · have e : sideH h = 1 := Fin.ext h1
    have z : ctOf m d (pairH h) 0 i (laneH h x) = 0 := by
      unfold ctOf
      rw [if_neg]
      rw [side_own h x, e]
      decide
    rw [e, z, mul_zero, zero_add]

theorem dv_at (j : Fin 8192) (h : Fin 6) (x : Fin 64) : (dvG m d (ix2 j ⟨64 * h.val + x.val, by omega⟩) : EReal)
    = dvS (wide (aQ m d) h) (wide (aK m d) h) (narrow (aG m d) h) j x := by
  have e1 : pairLane ⟨64 * h.val + x.val, by omega⟩ = pairH h := Fin.ext (by show (64 * h.val + x.val) / 128 = h.val / 2; omega)
  have e2 : laneLane ⟨64 * h.val + x.val, by omega⟩ = laneH h x :=
    Fin.ext (by show (64 * h.val + x.val) % 128 = 64 * (h.val % 2) + x.val; omega)
  show dvF m d (pairLane ⟨64 * h.val + x.val, _⟩) j (laneLane ⟨64 * h.val + x.val, _⟩) = _
  rw [e1, e2]
  unfold dvF dvS
  simp only [dv_term, wt_at, ct_own]

end Cert.KernelIdeal.Heads

end
-- ==== Proof.Value.RefTerms.lean ====
/- The reference's operations, composed a stage at a time. -/
module

public import proofs.«01_k».proof.Proof.Gen.ReferenceIdeal.Run
public import proofs.«01_k».proof.Proof.Value.Row
public import Idealize.ShloMosaic.Lib.Pointwise
public import Idealize.ShloMosaic.Lib.ValueIdx
public import Idealize.ShloMosaic.Lib.WordCmp

@[expose] public section

set_option maxRecDepth 16384

noncomputable section

namespace Cert.ReferenceIdeal.Rows

open Idealize.ShloMosaic Idealize.ShloMosaic.TcCoe Cert.ReferenceIdeal Cert.ReferenceIdeal.Gen Cert.Attn

/-- Head `h`'s columns of an array of queries or keys, and its lanes of one of values or cotangents. -/
def wide (a : Vec Ideal S8192x768 .f32) (h : Fin 6) (i : Fin 8192) (c : Fin 128) : EReal := a (ix2 i ⟨128 * h.val + c.val, by omega⟩)
def narrow (a : Vec Ideal S8192x384 .f32) (h : Fin 6) (i : Fin 8192) (x : Fin 64) : EReal := a (ix2 i ⟨64 * h.val + x.val, by omega⟩)

section Stages

variable {F : FTy → Type} [FloatOps F] (q k : Vec F S8192x768 .f32) (v g : Vec F S8192x384 .f32)

/-! ## The operations, a stage at a time -/

def tQ : Vec F S8192x6x128 .f32 :=
  shapeCast _ (mulf q (broadcastInDim S8192x768 ![] bcast_S_S8192x768 (constant S_ .f32 0x3DD105EC#32))) shapeCasts_S8192x768_S8192x6x128
def tK : Vec F S8192x6x128 .f32 := shapeCast _ k shapeCasts_S8192x768_S8192x6x128
def tV : Vec F S8192x6x64 .f32 := shapeCast _ v shapeCasts_S8192x384_S8192x6x64
def tG : Vec F S6x64x8192 .f32 :=
  transpose S6x64x8192 [1, 2, 0] (shapeCast _ g shapeCasts_S8192x384_S8192x6x64) transposes_S8192x6x64_S6x64x8192_1_2_0
def tMask : IVec S6x8192x8192 1 :=
  broadcastInDim S6x8192x8192 ![1, 2] bcast_S8192x8192_S6x8192x8192_1_2 (cmpi .sle
    (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0))))
def tScore : Vec F S6x8192x8192 .f32 :=
  select tMask (Host.dotGeneral dot_S8192x6x128_S8192x6x128_S6x8192x8192_2_2_0_0_1_1 none (tQ q) (tK k))
    (broadcastInDim S6x8192x8192 ![] bcast_S_S6x8192x8192 (constant S_ .f32 0xFF800000#32))
def tTop : Vec F S6x8192 .f32 :=
  maximumf (broadcastInDim S6x8192 ![] bcast_S_S6x8192 (constant S_ .f32 0xFF800000#32))
    (Host.reduce FloatOps.maximumf (tScore q k) (constant S_ .f32 0xFF800000#32) reducesTo_S6x8192x8192_S6x8192_d2 h_S_)
def tEx : Vec F S6x8192x8192 .f32 :=
  Host.exp (subf (tScore q k) (broadcastInDim S6x8192x8192 ![0, 1, 2] bcast_S6x8192x1_S6x8192x8192_0_1_2
    (broadcastInDim S6x8192x1 ![0, 1] bcast_S6x8192_S6x8192x1_0_1 (tTop q k))))
def tTot : Vec F S6x8192x1 .f32 :=
  broadcastInDim S6x8192x1 ![0, 1] bcast_S6x8192_S6x8192x1_0_1
    (Host.reduceAdd (tEx q k) (constant S_ .f32 0x00000000#32) reducesTo_S6x8192x8192_S6x8192_d2 h_S_)
def tProb : Vec F S6x8192x8192 .f32 :=
  Host.divf (tEx q k) (broadcastInDim S6x8192x8192 ![0, 1, 2] bcast_S6x8192x1_S6x8192x8192_0_1_2 (tTot q k))
def tInner : Vec F S6x8192x8192 .f32 := Host.dotGeneral dot_S6x64x8192_S8192x6x64_S6x8192x8192_1_2_2_0_0_1 none (tG g) (tV v)
def tInv : Vec F S6x8192x1 .f32 :=
  Host.divf (broadcastInDim S6x8192x1 ![] bcast_S_S6x8192x1 (constant S_ .f32 0x3F800000#32)) (mulf (tTot q k) (tTot q k))
def tSum : Vec F S6x8192 .f32 :=
  Host.reduceAdd (mulf (mulf (tInner v g) (broadcastInDim S6x8192x8192 ![0, 1, 2] bcast_S6x8192x1_S6x8192x8192_0_1_2 (tInv q k))) (tEx q k))
    (constant S_ .f32 0x00000000#32) reducesTo_S6x8192x8192_S6x8192_d2 h_S_
def tBack : Vec F S6x8192 .f32 :=
  Host.reduceAdd (Host.negf (shapeCast _ (tSum q k v g) shapeCasts_S6x8192_S6x8192x1)) (constant S_ .f32 0x00000000#32)
    reducesTo_S6x8192x1_S6x8192_d2 h_S_
def tDs : Vec F S6x8192x8192 .f32 :=
  select tMask (mulf (addf (Host.divf (tInner v g) (broadcastInDim S6x8192x8192 ![0, 1, 2] bcast_S6x8192x1_S6x8192x8192_0_1_2 (tTot q k)))
      (broadcastInDim S6x8192x8192 ![0, 1] bcast_S6x8192_S6x8192x8192_0_1 (tBack q k v g))) (tEx q k))
    (broadcastInDim S6x8192x8192 ![] bcast_S_S6x8192x8192 (constant S_ .f32 0x00000000#32))
def tDq : Vec F S8192x768 .f32 :=
  shapeCast _ (transpose S8192x6x128 [1, 0, 2] (Host.dotGeneral dot_S6x8192x8192_S8192x6x128_S6x8192x128_2_0_1_2_0_1 none (tDs q k v g) (tK k))
    transposes_S6x8192x128_S8192x6x128_1_0_2) shapeCasts_S8192x6x128_S8192x768
def tDk : Vec F S8192x768 .f32 :=
  shapeCast _ (transpose S8192x6x128 [1, 0, 2] (Host.dotGeneral dot_S6x8192x8192_S8192x6x128_S6x8192x128_1_0_2_2_0_1 none (tDs q k v g) (tQ q))
    transposes_S6x8192x128_S8192x6x128_1_0_2) shapeCasts_S8192x6x128_S8192x768
def tDv : Vec F S8192x384 .bf16 :=
  truncf .bf16 (shapeCast _ (transpose S8192x6x64 [2, 0, 1] (Host.dotGeneral dot_S6x64x8192_S6x8192x8192_S6x64x8192_2_1_1_2_0_0 none (tG g) (tProb q k))
    transposes_S6x64x8192_S8192x6x64_2_0_1) shapeCasts_S8192x6x64_S8192x384) bitsLt_bf16_f32

end Stages

section Results

variable (m : (ℓ : Loc nD τ sig) → Buf (Elt Ideal) ℓ) (c : Dev nD)

abbrev aQ : Vec Ideal S8192x768 .f32 := m ((c.tc : Thread nD τ).loc main_arg0)
abbrev aK : Vec Ideal S8192x768 .f32 := m ((c.tc : Thread nD τ).loc main_arg1)
abbrev aV : Vec Ideal S8192x384 .f32 := m ((c.tc : Thread nD τ).loc main_arg2)
abbrev aG : Vec Ideal S8192x384 .f32 := m ((c.tc : Thread nD τ).loc main_arg3)

theorem res_dq : Value.res_out0 m c = tDq (aQ m c) (aK m c) (aV m c) (aG m c) := rfl
theorem res_dk : Value.res_out1 m c = tDk (aQ m c) (aK m c) (aV m c) (aG m c) := rfl
theorem res_dv : Value.res_out2 m c = tDv (aQ m c) (aK m c) (aG m c) := rfl

end Results

end Cert.ReferenceIdeal.Rows

end
-- ==== Proof.Value.RefAt.lean ====
/- The reference's values over the extended reals, a head and a row at a time. -/
module

public import proofs.«01_k».proof.Proof.Value.RefTerms

@[expose] public section

set_option maxRecDepth 16384

noncomputable section

namespace Cert.ReferenceIdeal.Rows

open Idealize.ShloMosaic Cert.ReferenceIdeal Cert.ReferenceIdeal.Gen Cert.Attn

variable (q k : Vec Ideal S8192x768 .f32) (v g : Vec Ideal S8192x384 .f32)

theorem wide_eq (a : Vec Ideal S8192x768 .f32) (h : Fin 6) (i : Fin 8192) (c : Fin 128) (e : h.val * 128 + c.val < 768) :
    (a (ix2 i ⟨h.val * 128 + c.val, e⟩) : EReal) = wide a h i c :=
  congrArg (fun y => a (ix2 i y)) (Fin.ext (by show h.val * 128 + c.val = 128 * h.val + c.val; omega))
theorem narrow_eq (a : Vec Ideal S8192x384 .f32) (h : Fin 6) (i : Fin 8192) (x : Fin 64) (e : h.val * 64 + x.val < 384) :
    (a (ix2 i ⟨h.val * 64 + x.val, e⟩) : EReal) = narrow a h i x :=
  congrArg (fun y => a (ix2 i y)) (Fin.ext (by show h.val * 64 + x.val = 64 * h.val + x.val; omega))

theorem tQ_at (i : Fin 8192) (h : Fin 6) (c : Fin 128) : tQ q (ix3 i h c) = wide q h i c * scale := by
  pointwise [tQ]
  exact congrArg (· * scale) (wide_eq q h i c _)
theorem tK_at (i : Fin 8192) (h : Fin 6) (c : Fin 128) : tK k (ix3 i h c) = wide k h i c := by
  pointwise [tK]
  exact wide_eq ..
theorem tV_at (i : Fin 8192) (h : Fin 6) (x : Fin 64) : tV v (ix3 i h x) = narrow v h i x := by
  pointwise [tV]
  exact narrow_eq ..
theorem tG_at (h : Fin 6) (x : Fin 64) (i : Fin 8192) : tG g (ix3 h x i) = narrow g h i x := by
  pointwise [tG]
  exact narrow_eq ..
theorem mask_sle (i j : Fin 8192) {α : Type} (x y : α) :
    Scalar.select (IntOp.cmpi CmpIPredicate.sle (BitVec.ofNat 32 j.val) (BitVec.ofNat 32 i.val)) x y = if j.val ≤ i.val then x else y := by
  rw [WordCmp.cmpi_sle_ofNat (by omega) (by omega)]
  exact select_ofBool _ _ _
theorem tScore_at (h : Fin 6) (i j : Fin 8192) : tScore q k (ix3 h i j) = score (wide q h) (wide k h) i j := by
  pointwise [tScore, tMask]
  rw [mask_sle]
  simp only [tQ_at, tK_at, ofBits_bot]
  rfl
theorem tTop_at (h : Fin 6) (i : Fin 8192) : tTop q k (ix2 h i) = top (wide q h) (wide k h) i := by
  have e := reduceMax_at (tScore q k) (constant S_ .f32 0xFF800000#32) reducesTo_S6x8192x8192_S6x8192_d2 h_S_ h i
  simp only [tScore_at] at e
  unfold tTop
  rw [maximumf_at, e]
  show max (Ideal.ofBits .f32 0xFF800000#32) (Finset.univ.fold max (Ideal.ofBits .f32 0xFF800000#32) _) = _
  rw [ofBits_bot, max_eq_right bot_le]
  rfl
theorem tEx_at (h : Fin 6) (i j : Fin 8192) : tEx q k (ix3 h i j) = ex (wide q h) (wide k h) i j := by
  pointwise [tEx]
  rw [tScore_at, tTop_at]
  rfl
theorem tTot_at (h : Fin 6) (i : Fin 8192) : tTot q k (ix3 h i 0) = tot (wide q h) (wide k h) i := by
  pointwise [tTot]
  simp only [tEx_at, Ideal.ofBits_zero_f32, zero_add]
  rfl
theorem tProb_at (h : Fin 6) (i j : Fin 8192) : tProb q k (ix3 h i j) = prob (wide q h) (wide k h) i j := by
  pointwise [tProb]
  rw [tEx_at, tTot_at]
  rfl
theorem tInner_at (h : Fin 6) (i j : Fin 8192) : tInner v g (ix3 h i j) = inner (narrow v h) (narrow g h) i j := by
  pointwise [tInner]
  simp only [tG_at, tV_at]
  rfl
theorem tInv_at (h : Fin 6) (i : Fin 8192) :
    tInv q k (ix3 h i 0) = Ideal.div 1 (tot (wide q h) (wide k h) i * tot (wide q h) (wide k h) i) := by
  pointwise [tInv]
  rw [tTot_at]
theorem tSum_at (h : Fin 6) (i : Fin 8192) :
    tSum q k v g (ix2 h i) = ∑ j : Fin 8192, inner (narrow v h) (narrow g h) i j
      * Ideal.div 1 (tot (wide q h) (wide k h) i * tot (wide q h) (wide k h) i) * ex (wide q h) (wide k h) i j := by
  pointwise [tSum]
  simp only [tEx_at, tInv_at, tInner_at, Ideal.ofBits_zero_f32, zero_add]
theorem tBack_at (h : Fin 6) (i : Fin 8192) : tBack q k v g (ix2 h i) = back (wide q h) (wide k h) (narrow v h) (narrow g h) i := by
  pointwise [tBack]
  simp only [tSum_at, Ideal.ofBits_zero_f32, zero_add, Fin.sum_univ_one]
  rfl
theorem tDs_at (h : Fin 6) (i j : Fin 8192) : tDs q k v g (ix3 h i j) = dsR (wide q h) (wide k h) (narrow v h) (narrow g h) i j := by
  pointwise [tDs, tMask]
  rw [mask_sle]
  simp only [tEx_at, tTot_at, tInner_at, tBack_at, Ideal.ofBits_zero_f32]
  rfl
theorem tDq_at (h : Fin 6) (i : Fin 8192) (c : Fin 128) :
    wide (tDq q k v g) h i c = dqR (wide q h) (wide k h) (narrow v h) (narrow g h) i c := by
  pointwise [tDq, wide]
  simp only [tDs_at, tK_at]
  rfl
theorem tDk_at (h : Fin 6) (j : Fin 8192) (c : Fin 128) :
    wide (tDk q k v g) h j c = dkR (wide q h) (wide k h) (narrow v h) (narrow g h) j c := by
  pointwise [tDk, wide]
  simp only [tDs_at, tQ_at]
  rfl
theorem tDv_at (h : Fin 6) (j : Fin 8192) (x : Fin 64) :
    (tDv q k g (ix2 j ⟨64 * h.val + x.val, by omega⟩) : EReal) = dvR (wide q h) (wide k h) (narrow g h) j x := by
  pointwise [tDv]
  simp only [tProb_at, tG_at]
  rfl

end Cert.ReferenceIdeal.Rows

end
-- ==== Proof.Value.RowEq.lean ====
/- One head's gradients from the saved logarithms and row sums are those of the differentiated softmax, when every input
   is a real number. -/
module

public import proofs.«01_k».proof.Proof.Value.Row

@[expose] public section

noncomputable section

namespace Cert.Attn

open Idealize.ShloMosaic

/-! ## Reals among the extended reals -/

theorem coe_sum {ι : Type} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

theorem div_real (x y : ℝ) (hy : y ≠ 0) : Ideal.div (x : EReal) (y : EReal) = ((x / y : ℝ) : EReal) := by
  rw [Ideal.div_coe hy, ← EReal.coe_mul, mul_one_div]

theorem log_real (x : ℝ) (hx : 0 < x) : Ideal.log (x : EReal) = ((Real.log x : ℝ) : EReal) := by
  rw [Ideal.log_coe, if_neg (not_le.mpr hx)]

theorem log_two_ne : Real.log 2 ≠ 0 := (Real.log_pos (by norm_num)).ne'

theorem logTwo_real : logTwo = ((Real.log 2 : ℝ) : EReal) := by
  have e : Ideal.ofBits .f32 0x40000000#32 = ((2 : ℝ) : EReal) := by
    simp only [Ideal.ofBits, Ideal.ieee]
    simp
    rw [← EReal.coe_mul]
    norm_num
  rw [logTwo, e, log_real 2 (by norm_num)]

theorem scale_real : ∃ s : ℝ, scale = (s : EReal) := by
  refine ⟨13698540 * (2 ^ 27)⁻¹, ?_⟩
  simp only [scale, Ideal.ofBits, Ideal.ieee]
  simp

/-- A maximum of reals and minus infinities, a real among them, is a real. -/
theorem fold_max_real {ι : Type} (s : Finset ι) (f : ι → EReal) (hf : ∀ j ∈ s, f j ≠ ⊤) (i : ι) (hi : i ∈ s) (r : ℝ) (hr : f i = r) :
    ∃ M : ℝ, s.fold max ⊥ f = (M : EReal) := by
  have hb : s.fold max ⊥ f ≠ ⊥ := fun e => by
    have : f i ≤ s.fold max ⊥ f := Finset.le_fold_max _ |>.mpr (.inr ⟨i, hi, le_rfl⟩)
    rw [e, hr] at this
    exact absurd this (not_le.mpr (EReal.bot_lt_coe r))
  have ht : s.fold max ⊥ f ≠ ⊤ := fun e => by
    have : (⊤ : EReal) ≤ s.fold max ⊥ f := e.ge
    rcases (Finset.le_fold_max _).mp this with h | ⟨x, hx, h⟩
    · exact absurd h (by simp)
    · exact hf x hx (top_le_iff.mp h)
  exact ⟨(s.fold max ⊥ f).toReal, (EReal.coe_toReal ht hb).symm⟩

/-! ## A head of reals -/

variable (q k : Fin 8192 → Fin 128 → ℝ) (v g : Fin 8192 → Fin 64 → ℝ)

/-- The same numbers, as extended reals. -/
abbrev up {n : ℕ} (a : Fin 8192 → Fin n → ℝ) : Fin 8192 → Fin n → EReal := fun i x => ((a i x : ℝ) : EReal)

theorem score_real (s : ℝ) (hs : scale = (s : EReal)) (i j : Fin 8192) :
    score (up q) (up k) i j = if j.val ≤ i.val then ((∑ c : Fin 128, q i c * s * k j c : ℝ) : EReal) else ⊥ := by
  unfold score
  simp only [hs, ← EReal.coe_mul, coe_sum]

theorem top_real (i : Fin 8192) : ∃ M : ℝ, top (up q) (up k) i = (M : EReal) := by
  obtain ⟨s, hs⟩ := scale_real
  refine fold_max_real _ _ (fun j _ => ?_) i (Finset.mem_univ _) (∑ c : Fin 128, q i c * s * k i c) ?_
  · rw [score_real q k s hs]
    split
    · exact EReal.coe_ne_top _
    · exact bot_ne_top
  · rw [score_real q k s hs, if_pos le_rfl]

/-- The exponentials, their sums, and what the backward pass makes of them, with scale `s` and row maxima `M`. -/
def eR (s : ℝ) (M : Fin 8192 → ℝ) (i j : Fin 8192) : ℝ :=
  if j.val ≤ i.val then Real.exp ((∑ c : Fin 128, q i c * s * k j c) - M i) else 0
def zR (s : ℝ) (M : Fin 8192 → ℝ) (i : Fin 8192) : ℝ := ∑ j : Fin 8192, eR q k s M i j
def iR (i j : Fin 8192) : ℝ := ∑ x : Fin 64, g i x * v j x

section Given

variable (s : ℝ) (hs : scale = (s : EReal)) (M : Fin 8192 → ℝ) (hM : ∀ i, top (up q) (up k) i = (M i : EReal))

theorem eR_nonneg (i j : Fin 8192) : 0 ≤ eR q k s M i j := by
  unfold eR
  split
  · exact (Real.exp_pos _).le
  · exact le_rfl

theorem zR_pos (i : Fin 8192) : 0 < zR q k s M i :=
  Finset.sum_pos' (fun j _ => eR_nonneg q k s M i j) ⟨i, Finset.mem_univ _, by rw [eR, if_pos le_rfl]; exact Real.exp_pos _⟩

include hs hM

theorem ex_real (i j : Fin 8192) : ex (up q) (up k) i j = (eR q k s M i j : EReal) := by
  unfold ex eR
  rw [score_real q k s hs, hM]
  split
  · rw [← EReal.coe_sub, Ideal.exp_coe]
  · rw [EReal.bot_sub]
    exact Ideal.exp_bot

theorem tot_real (i : Fin 8192) : tot (up q) (up k) i = (zR q k s M i : EReal) := by
  unfold tot zR
  simp only [ex_real q k s hs M hM, coe_sum]

theorem prob_real (i j : Fin 8192) : prob (up q) (up k) i j = ((eR q k s M i j / zR q k s M i : ℝ) : EReal) := by
  unfold prob
  rw [ex_real q k s hs M hM, tot_real q k s hs M hM, div_real _ _ (zR_pos q k s M i).ne']

theorem lse_real (i : Fin 8192) : lse (up q) (up k) i = (((M i + Real.log (zR q k s M i)) / Real.log 2 : ℝ) : EReal) := by
  unfold lse
  rw [hM, tot_real q k s hs M hM, log_real _ (zR_pos q k s M i), logTwo_real, ← EReal.coe_add, div_real _ _ log_two_ne]

omit hM in
theorem qTwo_real (i : Fin 8192) (c : Fin 128) : qTwo (up q) i c = ((q i c * s / Real.log 2 : ℝ) : EReal) := by
  unfold qTwo
  rw [hs, logTwo_real, ← EReal.coe_mul, div_real _ _ log_two_ne]

/-- The weights from the saved logarithms are the softmax. -/
theorem wtS_eq (i j : Fin 8192) : wtS (up q) (up k) i j = ((eR q k s M i j / zR q k s M i : ℝ) : EReal) := by
  unfold wtS eR
  split
  · have hz := zR_pos q k s M i
    simp only [qTwo_real q s hs, lse_real q k s hs M hM, ← EReal.coe_mul, coe_sum, ← EReal.coe_sub]
    rw [Ideal.exp2_coe]
    refine congrArg _ ?_
    have e1 : ∑ c : Fin 128, k j c * (q i c * s / Real.log 2) = (∑ c : Fin 128, q i c * s * k j c) / Real.log 2 := by
      rw [Finset.sum_div]
      exact Finset.sum_congr rfl fun c _ => by ring
    rw [Real.rpow_eq_pow, e1, ← sub_div, Real.rpow_def_of_pos (by norm_num), mul_div_cancel₀ _ log_two_ne, ← sub_sub, Real.exp_sub, Real.exp_log hz]
  · simp

theorem delta_real (i : Fin 8192) :
    delta (up q) (up k) (up v) (up g) i = ((∑ j : Fin 8192, iR v g i j * (eR q k s M i j / zR q k s M i) : ℝ) : EReal) := by
  unfold delta
  simp only [prob_real q k s hs M hM, ← EReal.coe_mul, coe_sum]
  refine congrArg _ ?_
  simp only [iR, Finset.mul_sum, Finset.sum_mul]
  rw [Finset.sum_comm]
  exact Finset.sum_congr rfl fun j _ => Finset.sum_congr rfl fun x _ => by ring

theorem dsS_real (i j : Fin 8192) : dsS (up q) (up k) (up v) (up g) i j
    = ((eR q k s M i j / zR q k s M i * (iR v g i j - ∑ l : Fin 8192, iR v g i l * (eR q k s M i l / zR q k s M i)) : ℝ) : EReal) := by
  unfold dsS
  rw [wtS_eq q k s hs M hM, delta_real q k v g s hs M hM]
  simp only [← EReal.coe_mul, coe_sum, ← EReal.coe_sub]
  have e : ∑ x : Fin 64, v j x * g i x = iR v g i j := Finset.sum_congr rfl fun x _ => mul_comm _ _
  rw [e]

theorem dsR_real (i j : Fin 8192) : dsR (up q) (up k) (up v) (up g) i j
    = ((eR q k s M i j / zR q k s M i * (iR v g i j - ∑ l : Fin 8192, iR v g i l * (eR q k s M i l / zR q k s M i)) : ℝ) : EReal) := by
  have hz := (zR_pos q k s M i).ne'
  have hI : ∀ l, inner (up v) (up g) i l = (iR v g i l : EReal) := fun l => by
    unfold inner iR
    simp only [← EReal.coe_mul, coe_sum]
  have hB : back (up q) (up k) (up v) (up g) i
      = ((-((∑ l : Fin 8192, iR v g i l * (eR q k s M i l / zR q k s M i)) / zR q k s M i) : ℝ) : EReal) := by
    have e1 : Ideal.div 1 (tot (up q) (up k) i * tot (up q) (up k) i) = ((1 / (zR q k s M i * zR q k s M i) : ℝ) : EReal) := by
      rw [tot_real q k s hs M hM, ← EReal.coe_mul]
      exact div_real 1 _ (mul_ne_zero hz hz)
    unfold back
    simp only [hI, e1, ex_real q k s hs M hM]
    simp only [← EReal.coe_mul, coe_sum]
    rw [← EReal.coe_neg, Finset.sum_div]
    refine congrArg (fun r : ℝ => ((-r : ℝ) : EReal)) (Finset.sum_congr rfl fun l _ => ?_)
    field_simp
  unfold dsR
  split
  · rw [hI, hB, tot_real q k s hs M hM, ex_real q k s hs M hM, div_real _ _ hz, ← EReal.coe_add, ← EReal.coe_mul]
    refine congrArg _ ?_
    field_simp
    ring
  · have e0 : eR q k s M i j = 0 := if_neg ‹_›
    rw [e0]
    simp

end Given

/-! ## The gradients -/

theorem ds_eq (i j : Fin 8192) : dsS (up q) (up k) (up v) (up g) i j = dsR (up q) (up k) (up v) (up g) i j := by
  obtain ⟨s, hs⟩ := scale_real
  choose M hM using top_real q k
  rw [dsS_real q k v g s hs M hM, dsR_real q k v g s hs M hM]

theorem dq_eq (i : Fin 8192) (c : Fin 128) : dqS (up q) (up k) (up v) (up g) i c = dqR (up q) (up k) (up v) (up g) i c := by
  unfold dqS dqR
  simp only [ds_eq]

theorem dk_eq (j : Fin 8192) (c : Fin 128) : dkS (up q) (up k) (up v) (up g) j c = dkR (up q) (up k) (up v) (up g) j c := by
  unfold dkS dkR
  simp only [ds_eq]
  obtain ⟨s, hs⟩ := scale_real
  choose M hM using top_real q k
  simp only [dsR_real q k v g s hs M hM, qTwo_real q s hs, hs, ← EReal.coe_mul, coe_sum]
  refine congrArg _ ?_
  rw [Finset.sum_mul]
  refine Finset.sum_congr rfl fun i _ => ?_
  rw [mul_assoc, div_mul_cancel₀ _ log_two_ne]

theorem dv_eq (j : Fin 8192) (x : Fin 64) : dvS (up q) (up k) (up g) j x = dvR (up q) (up k) (up g) j x := by
  obtain ⟨s, hs⟩ := scale_real
  choose M hM using top_real q k
  unfold dvS dvR
  simp only [wtS_eq q k s hs M hM, prob_real q k s hs M hM]
  exact Finset.sum_congr rfl fun i _ => mul_comm _ _

end Cert.Attn

end
-- ==== Proof.Value.Equal.lean ====
/- The kernel's three results are the reference's, on arguments whose elements are real numbers: head by head both are
   the one-head backward pass, in the kernel's order and in the reference's (RowEq.lean). -/
module

public import proofs.«01_k».proof.Proof.Value.Heads
public import proofs.«01_k».proof.Proof.Value.RefAt
public import proofs.«01_k».proof.Proof.Value.RowEq

@[expose] public section

set_option maxRecDepth 16384

noncomputable section

namespace Cert.Equal

open Idealize.ShloMosaic Cert.Attn

abbrev Wide := Vec Ideal Cert.KernelIdeal.S8192x768 .f32
abbrev Narrow := Vec Ideal Cert.KernelIdeal.S8192x384 .f32

/-- A head's slice of an array of real numbers is an array of real numbers. -/
theorem wide_real {a : Wide} (ha : ∀ y, ∃ r : ℝ, (a y : EReal) = (r : EReal)) (h : Fin 6) :
    ∃ b : Fin 8192 → Fin 128 → ℝ, KernelIdeal.Rows.wide a h = up b := by
  choose f hf using ha
  exact ⟨fun i c => f (ix2 i ⟨128 * h.val + c.val, by omega⟩), funext fun i => funext fun c => hf _⟩
theorem narrow_real {a : Narrow} (ha : ∀ y, ∃ r : ℝ, (a y : EReal) = (r : EReal)) (h : Fin 6) :
    ∃ b : Fin 8192 → Fin 64 → ℝ, KernelIdeal.Rows.narrow a h = up b := by
  choose f hf using ha
  exact ⟨fun i c => f (ix2 i ⟨64 * h.val + c.val, by omega⟩), funext fun i => funext fun c => hf _⟩

/-- Arrays equal in every column of every head are equal. -/
theorem wide_ext {a b : Wide} (e : ∀ (h : Fin 6) (i : Fin 8192) (c : Fin 128),
    (a (ix2 i ⟨128 * h.val + c.val, by omega⟩) : EReal) = b (ix2 i ⟨128 * h.val + c.val, by omega⟩)) : a = b := by
  funext y
  have h0 : (y 0).val < 8192 := (y 0).isLt
  have h1 : (y 1).val < 768 := (y 1).isLt
  have hy : y = (ix2 (⟨(y 0).val, h0⟩ : Fin 8192) (⟨128 * ((y 1).val / 128) + (y 1).val % 128, by omega⟩ : Fin 768)
      : Cert.KernelIdeal.S8192x768.Idx) := by
    refine (ValueIdx.eq_ix2 y).trans ?_
    congr 1
    exact Fin.ext (by show (y 1).val = 128 * ((y 1).val / 128) + (y 1).val % 128; omega)
  rw [hy]
  exact e ⟨(y 1).val / 128, by omega⟩ ⟨(y 0).val, h0⟩ ⟨(y 1).val % 128, by omega⟩
theorem narrow_ext {a b : Vec Ideal Cert.KernelIdeal.S8192x384 .bf16} (e : ∀ (h : Fin 6) (i : Fin 8192) (x : Fin 64),
    (a (ix2 i ⟨64 * h.val + x.val, by omega⟩) : EReal) = b (ix2 i ⟨64 * h.val + x.val, by omega⟩)) : a = b := by
  funext y
  have h0 : (y 0).val < 8192 := (y 0).isLt
  have h1 : (y 1).val < 384 := (y 1).isLt
  have hy : y = (ix2 (⟨(y 0).val, h0⟩ : Fin 8192) (⟨64 * ((y 1).val / 64) + (y 1).val % 64, by omega⟩ : Fin 384)
      : Cert.KernelIdeal.S8192x384.Idx) := by
    refine (ValueIdx.eq_ix2 y).trans ?_
    congr 1
    exact Fin.ext (by show (y 1).val = 64 * ((y 1).val / 64) + (y 1).val % 64; omega)
  rw [hy]
  exact e ⟨(y 1).val / 64, by omega⟩ ⟨(y 0).val, h0⟩ ⟨(y 1).val % 64, by omega⟩

variable (m : (ℓ : Loc KernelIdeal.nD KernelIdeal.τ KernelIdeal.sig) → Buf (Elt Ideal) ℓ) (d : Dev KernelIdeal.nD)
  (hq : ∀ y, ∃ r : ℝ, (KernelIdeal.Rows.aQ m d y : EReal) = (r : EReal))
  (hk : ∀ y, ∃ r : ℝ, (KernelIdeal.Rows.aK m d y : EReal) = (r : EReal))
  (hv : ∀ y, ∃ r : ℝ, (KernelIdeal.Rows.aV m d y : EReal) = (r : EReal))
  (hg : ∀ y, ∃ r : ℝ, (KernelIdeal.Rows.aG m d y : EReal) = (r : EReal))
include hq hk hv hg

theorem dq : KernelIdeal.Flash.dqG m d
    = ReferenceIdeal.Rows.tDq (KernelIdeal.Rows.aQ m d) (KernelIdeal.Rows.aK m d) (KernelIdeal.Rows.aV m d) (KernelIdeal.Rows.aG m d) := by
  refine wide_ext fun h i c => ?_
  refine (KernelIdeal.Heads.dq_at m d i h c).trans (Eq.trans ?_ (ReferenceIdeal.Rows.tDq_at _ _ _ _ h i c).symm)
  obtain ⟨q, eq⟩ := wide_real hq h
  obtain ⟨k, ek⟩ := wide_real hk h
  obtain ⟨v, ev⟩ := narrow_real hv h
  obtain ⟨g, eg⟩ := narrow_real hg h
  change _ = dqR (KernelIdeal.Rows.wide (KernelIdeal.Rows.aQ m d) h) (KernelIdeal.Rows.wide (KernelIdeal.Rows.aK m d) h)
    (KernelIdeal.Rows.narrow (KernelIdeal.Rows.aV m d) h) (KernelIdeal.Rows.narrow (KernelIdeal.Rows.aG m d) h) i c
  rw [eq, ek, ev, eg]
  exact dq_eq q k v g i c

theorem dk : KernelIdeal.Flash.dkG m d
    = ReferenceIdeal.Rows.tDk (KernelIdeal.Rows.aQ m d) (KernelIdeal.Rows.aK m d) (KernelIdeal.Rows.aV m d) (KernelIdeal.Rows.aG m d) := by
  refine wide_ext fun h j c => ?_
  refine (KernelIdeal.Heads.dk_at m d j h c).trans (Eq.trans ?_ (ReferenceIdeal.Rows.tDk_at _ _ _ _ h j c).symm)
  obtain ⟨q, eq⟩ := wide_real hq h
  obtain ⟨k, ek⟩ := wide_real hk h
  obtain ⟨v, ev⟩ := narrow_real hv h
  obtain ⟨g, eg⟩ := narrow_real hg h
  change _ = dkR (KernelIdeal.Rows.wide (KernelIdeal.Rows.aQ m d) h) (KernelIdeal.Rows.wide (KernelIdeal.Rows.aK m d) h)
    (KernelIdeal.Rows.narrow (KernelIdeal.Rows.aV m d) h) (KernelIdeal.Rows.narrow (KernelIdeal.Rows.aG m d) h) j c
  rw [eq, ek, ev, eg]
  exact dk_eq q k v g j c

omit hv in
theorem dv : KernelIdeal.Flash.dvG m d
    = ReferenceIdeal.Rows.tDv (KernelIdeal.Rows.aQ m d) (KernelIdeal.Rows.aK m d) (KernelIdeal.Rows.aG m d) := by
  refine narrow_ext fun h j x => ?_
  refine (KernelIdeal.Heads.dv_at m d j h x).trans (Eq.trans ?_ (ReferenceIdeal.Rows.tDv_at _ _ _ h j x).symm)
  obtain ⟨q, eq⟩ := wide_real hq h
  obtain ⟨k, ek⟩ := wide_real hk h
  obtain ⟨g, eg⟩ := narrow_real hg h
  change _ = dvR (KernelIdeal.Rows.wide (KernelIdeal.Rows.aQ m d) h) (KernelIdeal.Rows.wide (KernelIdeal.Rows.aK m d) h)
    (KernelIdeal.Rows.narrow (KernelIdeal.Rows.aG m d) h) j x
  rw [eq, ek, eg]
  exact dv_eq q k g j x

end Cert.Equal

end
-- ==== Proof.Value.Finite.lean ====
/- What the precondition says: every element of the four arguments is a real number. -/
module

public import proofs.«01_k».proof.Defs
public import proofs.«01_k».proof.Proof.Gen.Pre_finite
public import Idealize.ShloMosaic.Lib.ReduceAll
public import Idealize.ShloMosaic.PureOps.Ideal

@[expose] public section

set_option maxRecDepth 16384

noncomputable section

namespace Cert.Finite

open Idealize.ShloMosaic

/-- An extended real whose absolute value is below `⊤` is a real number. -/
theorem real_of_lt {x : EReal} (h : max x (-x) < ⊤) : ∃ r : ℝ, x = (r : EReal) := by
  induction x using EReal.rec with
  | bot => simp at h
  | coe r => exact ⟨r, rfl⟩
  | top => simp at h

theorem real_of_cmp {x : EReal} (h : Ideal.cmp .olt (max x (-x)) ⊤ = 1#1) : ∃ r : ℝ, x = (r : EReal) := by
  refine real_of_lt ?_
  by_contra hn
  simp [Ideal.cmp, hn] at h

theorem ofBits_top : (FloatOps.ofBits (F := Ideal) (φ := .f32) 0x7F800000#32 : EReal) = ⊤ := by
  rw [Ideal.ofBits_def]
  simp [Ideal.ofBits, Ideal.ieee]

/-- An array whose every comparison with the infinite array came out one holds real numbers. -/
theorem real_of_all {s t : Shape} {axes : List (Fin s.rank)} [Subsingleton t.Idx] (x c : FVec Ideal s .f32) (hc : ∀ i, (c i : EReal) = ⊤)
    (init : IVec t 1) (h : s.ReducesTo axes t) (hu : 0 < t.numel) (j : t.Idx)
    (e : Host.reduce IntOp.andi (cmpf .olt (Host.absf x) c) init h hu j = 1#1) (i : s.Idx) : ∃ r : ℝ, (x i : EReal) = (r : EReal) := by
  have h1 := Host.reduce_andi_all _ _ _ _ _ e i
  refine real_of_cmp ?_
  rw [← hc i]
  exact h1

/-- The precondition makes every element of the four arguments real. -/
theorem real_of_finite (a0 a1 : FVec Ideal Cert.Pre_finite.S8192x768 .f32) (a2 a3 : FVec Ideal Cert.Pre_finite.S8192x384 .f32)
    (h : Cert.Pre_finite.fn (F := Ideal) a0 a1 a2 a3 = fun _ => 1#1) :
    (∀ i, ∃ r : ℝ, (a0 i : EReal) = (r : EReal)) ∧ (∀ i, ∃ r : ℝ, (a1 i : EReal) = (r : EReal))
      ∧ (∀ i, ∃ r : ℝ, (a2 i : EReal) = (r : EReal)) ∧ (∀ i, ∃ r : ℝ, (a3 i : EReal) = (r : EReal)) := by
  have : Subsingleton Cert.Pre_finite.S_.Idx := ⟨fun x y => funext fun k => k.elim0⟩
  have e := congrFun h (fun k => k.elim0)
  obtain ⟨e012, e3⟩ := IntOp.andi_eq_one.1 e
  obtain ⟨e01, e2⟩ := IntOp.andi_eq_one.1 e012
  obtain ⟨e0, e1⟩ := IntOp.andi_eq_one.1 e01
  exact ⟨real_of_all _ _ (fun _ => ofBits_top) _ _ _ _ e0, real_of_all _ _ (fun _ => ofBits_top) _ _ _ _ e1,
    real_of_all _ _ (fun _ => ofBits_top) _ _ _ _ e2, real_of_all _ _ (fun _ => ofBits_top) _ _ _ _ e3⟩

end Cert.Finite

end
-- ==== Proof.Value.Algebraic.lean ====
/- The value claim: from arguments of real numbers, the kernel's three arrays end holding what the reference's three
   results are. -/
module

public import proofs.«01_k».proof.Defs
public import proofs.«01_k».proof.Proof.Launch
public import proofs.«01_k».proof.Proof.Value.Equal
public import proofs.«01_k».proof.Proof.Value.Finite
public import proofs.«01_k».proof.Proof.Gen.ReferenceIdeal.Run
public import Idealize.ShloMosaic.Lib.Claim

@[expose] public section

set_option maxRecDepth 16384

noncomputable section

namespace Cert.Algebraic

open Idealize.ShloMosaic Idealize.ShloMosaic.TcCoe Idealize.SL.Sem

/-- The reference's three terms, over the kernel's arguments. -/
abbrev refDq (m : (ℓ : Loc KernelIdeal.nD KernelIdeal.τ KernelIdeal.sig) → Buf (Elt Ideal) ℓ) (d : Dev KernelIdeal.nD) :=
  ReferenceIdeal.Rows.tDq (KernelIdeal.Rows.aQ m d) (KernelIdeal.Rows.aK m d) (KernelIdeal.Rows.aV m d) (KernelIdeal.Rows.aG m d)
abbrev refDk (m : (ℓ : Loc KernelIdeal.nD KernelIdeal.τ KernelIdeal.sig) → Buf (Elt Ideal) ℓ) (d : Dev KernelIdeal.nD) :=
  ReferenceIdeal.Rows.tDk (KernelIdeal.Rows.aQ m d) (KernelIdeal.Rows.aK m d) (KernelIdeal.Rows.aV m d) (KernelIdeal.Rows.aG m d)
abbrev refDv (m : (ℓ : Loc KernelIdeal.nD KernelIdeal.τ KernelIdeal.sig) → Buf (Elt Ideal) ℓ) (d : Dev KernelIdeal.nD) :=
  ReferenceIdeal.Rows.tDv (KernelIdeal.Rows.aQ m d) (KernelIdeal.Rows.aK m d) (KernelIdeal.Rows.aG m d)

theorem kernel_run (m : (ℓ : Loc KernelIdeal.nD KernelIdeal.τ KernelIdeal.sig) → Buf (Elt Ideal) ℓ) (ρ : Dev KernelIdeal.nD → PrngReg)
    (hpre : Cert.Pre_KernelIdeal_finite m) :
    θ_run (Cert.KernelIdeal.defs (F := Ideal)) (onTc (τ := Cert.KernelIdeal.τ) (Cert.KernelIdeal.main (F := Ideal))) ⟨m, fun _ => 0, ρ⟩
      (fun r => ∀ c : Dev KernelIdeal.nD,
        r.2.mem ((c.tc : Thread KernelIdeal.nD KernelIdeal.τ).loc KernelIdeal.main_v49_0) = refDq m c
        ∧ r.2.mem ((c.tc : Thread KernelIdeal.nD KernelIdeal.τ).loc KernelIdeal.main_v49_1) = refDk m c
        ∧ r.2.mem ((c.tc : Thread KernelIdeal.nD KernelIdeal.τ).loc KernelIdeal.main_v49_2) = refDv m c) := by
  refine (θ_run _ _ _).mono (fun r h c => ?_) (Cert.KernelIdeal.Flash.run_quiescent (F := Ideal) m ρ)
  obtain ⟨hq, hk, hv, hg⟩ := Cert.Finite.real_of_finite _ _ _ _ (hpre c)
  have hc := h.1 c
  exact ⟨((hc.1 6).trans (Cert.KernelIdeal.Flash.final_dq m c)).trans (Cert.Equal.dq m c hq hk hv hg),
    ((hc.1 7).trans (Cert.KernelIdeal.Flash.final_dk m c)).trans (Cert.Equal.dk m c hq hk hv hg),
    ((hc.1 8).trans (Cert.KernelIdeal.Flash.final_dv m c)).trans (Cert.Equal.dv m c hq hk hg)⟩

theorem algebraic : Cert.algebraic_KernelIdeal_ReferenceIdeal_pre_finite := by
  intro m g m' g' hpre hagree
  refine ⟨refDq m, refDk m, refDv m, ?_, ?_⟩
  · refine (θ_run _ _ _).mono (fun r h c => ?_) (θ_run_and (kernel_run m g hpre) (Cert.KernelIdeal.Flash.quiescent (F := Ideal) m g))
    exact ⟨(h.1 c).1, (h.1 c).2.1, (h.1 c).2.2, (h.2.1 c)⟩
  · refine (θ_run _ _ _).mono (fun r h c => ?_) (Cert.ReferenceIdeal.Value.run (F := Ideal) m' g')
    obtain ⟨a0, a1, a2, a3⟩ := hagree c
    obtain ⟨h0, h1, h2, hargs⟩ := h c
    refine ⟨h0.trans ?_, h1.trans ?_, h2.trans ?_, hargs⟩
    · refine (Cert.ReferenceIdeal.Rows.res_dq m' c).trans ?_
      show ReferenceIdeal.Rows.tDq _ _ _ _ = ReferenceIdeal.Rows.tDq _ _ _ _
      rw [ReferenceIdeal.Rows.aQ, ReferenceIdeal.Rows.aK, ReferenceIdeal.Rows.aV, ReferenceIdeal.Rows.aG, a0, a1, a2, a3]
    · refine (Cert.ReferenceIdeal.Rows.res_dk m' c).trans ?_
      show ReferenceIdeal.Rows.tDk _ _ _ _ = ReferenceIdeal.Rows.tDk _ _ _ _
      rw [ReferenceIdeal.Rows.aQ, ReferenceIdeal.Rows.aK, ReferenceIdeal.Rows.aV, ReferenceIdeal.Rows.aG, a0, a1, a2, a3]
    · refine (Cert.ReferenceIdeal.Rows.res_dv m' c).trans ?_
      show ReferenceIdeal.Rows.tDv _ _ _ = ReferenceIdeal.Rows.tDv _ _ _
      rw [ReferenceIdeal.Rows.aQ, ReferenceIdeal.Rows.aK, ReferenceIdeal.Rows.aG, a0, a1, a3]

end Cert.Algebraic

end
-- ==== Proof.Calls.Frames.lean ====
/- The frame claims of the calls around the attention: every run ends, the arguments are as they were and every counter is
   at zero. A reference is host operations only, and declares no counter. -/
module

public import proofs.«01_k».proof.Defs
public import proofs.«01_k».proof.Proof.Gen.Dwin.Frame
public import proofs.«01_k».proof.Proof.Gen.DwinIdeal.Frame
public import proofs.«01_k».proof.Proof.Gen.DwinReferenceIdeal.Run
public import proofs.«01_k».proof.Proof.Gen.In.Frame
public import proofs.«01_k».proof.Proof.Gen.InIdeal.Frame
public import proofs.«01_k».proof.Proof.Gen.InReferenceIdeal.Run
public import proofs.«01_k».proof.Proof.Gen.Out.Frame
public import proofs.«01_k».proof.Proof.Gen.OutIdeal.Frame
public import proofs.«01_k».proof.Proof.Gen.OutReferenceIdeal.Run
public import proofs.«01_k».proof.Proof.Gen.Dx.Frame
public import proofs.«01_k».proof.Proof.Gen.DxIdeal.Frame
public import proofs.«01_k».proof.Proof.Gen.DxReferenceIdeal.Run
public import proofs.«01_k».proof.Proof.Gen.Dy.Frame
public import proofs.«01_k».proof.Proof.Gen.DyIdeal.Frame
public import proofs.«01_k».proof.Proof.Gen.DyReferenceIdeal.Run
public import proofs.«01_k».proof.Proof.Gen.Pre_finite_dy

@[expose] public section

noncomputable section

namespace Cert.Calls

open Idealize.ShloMosaic Idealize.ShloMosaic.TcCoe Idealize.SL.Sem

theorem dwin_kernel : Cert.quiescent_Dwin := fun m ρ _ => Cert.Dwin.Gen.frame m ρ
theorem dwin_ideal : Cert.quiescent_DwinIdeal := fun m ρ _ => Cert.DwinIdeal.Gen.frame m ρ
theorem dwin_reference : Cert.quiescent_DwinReferenceIdeal := fun m ρ _ =>
  (θ_run Cert.DwinReferenceIdeal.defs _ _).mono (fun r h => ⟨fun c => (h c).2, sem_eq_zero_of_no_sems (by decide) r.2⟩)
    (Cert.DwinReferenceIdeal.Value.run m ρ)

theorem in_kernel : Cert.quiescent_In := fun m ρ _ => Cert.In.Gen.frame m ρ
theorem in_ideal : Cert.quiescent_InIdeal := fun m ρ _ => Cert.InIdeal.Gen.frame m ρ
theorem in_reference : Cert.quiescent_InReferenceIdeal := fun m ρ _ =>
  (θ_run Cert.InReferenceIdeal.defs _ _).mono (fun r h => ⟨fun c => (h c).2.2, sem_eq_zero_of_no_sems (by decide) r.2⟩)
    (Cert.InReferenceIdeal.Value.run m ρ)

theorem out_kernel : Cert.quiescent_Out := fun m ρ _ => Cert.Out.Gen.frame m ρ
theorem out_ideal : Cert.quiescent_OutIdeal := fun m ρ _ => Cert.OutIdeal.Gen.frame m ρ
theorem out_reference : Cert.quiescent_OutReferenceIdeal := fun m ρ _ =>
  (θ_run Cert.OutReferenceIdeal.defs _ _).mono (fun r h => ⟨fun c => (h c).2, sem_eq_zero_of_no_sems (by decide) r.2⟩)
    (Cert.OutReferenceIdeal.Value.run m ρ)

theorem dx_kernel : Cert.quiescent_Dx := fun m ρ _ => Cert.Dx.Gen.frame m ρ
theorem dx_ideal : Cert.quiescent_DxIdeal := fun m ρ _ => Cert.DxIdeal.Gen.frame m ρ
theorem dx_reference : Cert.quiescent_DxReferenceIdeal := fun m ρ _ =>
  (θ_run Cert.DxReferenceIdeal.defs _ _).mono (fun r h => ⟨fun c => (h c).2.2, sem_eq_zero_of_no_sems (by decide) r.2⟩)
    (Cert.DxReferenceIdeal.Value.run m ρ)

theorem dy_kernel : Cert.quiescent_Dy := fun m ρ _ => Cert.Dy.Gen.frame m ρ
theorem dy_ideal : Cert.quiescent_DyIdeal := fun m ρ _ => Cert.DyIdeal.Gen.frame m ρ
theorem dy_reference : Cert.quiescent_DyReferenceIdeal := fun m ρ _ =>
  (θ_run Cert.DyReferenceIdeal.defs _ _).mono (fun r h => ⟨fun c => (h c).2.2.2.2.2.2, sem_eq_zero_of_no_sems (by decide) r.2⟩)
    (Cert.DyReferenceIdeal.Value.run m ρ)
theorem dy_ideal_finite : Cert.quiescent_DyIdeal_pre_finite_dy := fun m ρ _ => Cert.DyIdeal.Gen.frame m ρ
theorem dy_reference_finite : Cert.quiescent_DyReferenceIdeal_pre_finite_dy := fun m ρ _ => dy_reference m ρ trivial

end Cert.Calls

end
-- ==== Proof.Calls.DwinTerms.lean ====
/- The result of the reference for the weight gradient of the input projection, as a term of its arguments. -/
module

public import proofs.«01_k».proof.Proof.Gen.DwinReferenceIdeal.Run
public import Idealize.ShloMosaic.PureOps.Ideal

@[expose] public section

set_option maxRecDepth 16384

noncomputable section

namespace Cert.DwinReferenceIdeal.Terms

open Idealize.ShloMosaic Idealize.ShloMosaic.TcCoe Cert.DwinReferenceIdeal Cert.DwinReferenceIdeal.Gen

/-- The reference's term for the weight gradient. -/
abbrev grad (a0 : FVec Ideal S8192x1024 .f32) (a1 : FVec Ideal S8192x384 .f32) (a2 : FVec Ideal S8192x384 .f32) (a3 : FVec Ideal S8192x384 .f32) (a4 : FVec Ideal S8192x384 .f32) (a5 : FVec Ideal S8192x256 .f32) (a6 : FVec Ideal S8192x256 .f32) (a7 : FVec Ideal S8192x256 .f32) (a8 : FVec Ideal S8192x128 .f32) : FVec Ideal S1024x2432 .f32 :=
  transpose S1024x2432 [1, 0] (Host.dotGeneral (φ₁ := .f32) (φ₂ := .f32) dot_S8192x2432_S8192x1024_S2432x1024_0_0_1_1_n_n none ((concatenate S8192x2432 1 [⟨S8192x384, (a1 : (⟨S8192x384, .f32⟩ : BufTy).Contents (Elt Ideal))⟩, ⟨S8192x384, (a2 : (⟨S8192x384, .f32⟩ : BufTy).Contents (Elt Ideal))⟩, ⟨S8192x384, (a3 : (⟨S8192x384, .f32⟩ : BufTy).Contents (Elt Ideal))⟩, ⟨S8192x384, (a4 : (⟨S8192x384, .f32⟩ : BufTy).Contents (Elt Ideal))⟩, ⟨S8192x256, (a5 : (⟨S8192x256, .f32⟩ : BufTy).Contents (Elt Ideal))⟩, ⟨S8192x256, (a6 : (⟨S8192x256, .f32⟩ : BufTy).Contents (Elt Ideal))⟩, ⟨S8192x256, (a7 : (⟨S8192x256, .f32⟩ : BufTy).Contents (Elt Ideal))⟩, ⟨S8192x128, (a8 : (⟨S8192x128, .f32⟩ : BufTy).Contents (Elt Ideal))⟩] concatenates_S8192x384_S8192x384_S8192x384_S8192x384_S8192x256_S8192x256_S8192x256_S8192x128_S8192x2432_d1 : (⟨S8192x2432, .f32⟩ : BufTy).Contents (Elt Ideal))) a0) transposes_S2432x1024_S1024x2432_1_0

end Cert.DwinReferenceIdeal.Terms

end
-- ==== Proof.Calls.DwinValue.lean ====
/- The value of the weight gradient of the input projection: the sums over sixteen tiles of rows are the sum over all
   rows. -/
module

public import proofs.«01_k».proof.Proof.Calls.DwinTerms
public import proofs.«01_k».proof.Proof.Gen.DwinIdeal.Frame
public import Idealize.ShloMosaic.Lib.Pipeline.ValueKit
public import Idealize.ShloMosaic.Lib.Claim

@[expose] public section

set_option maxRecDepth 16384

noncomputable section

namespace Cert.DwinIdeal.Call

open Idealize.ShloMosaic Idealize.ShloMosaic.TcCoe Idealize.SL.Sem Cert.DwinIdeal Cert.DwinIdeal.Gen

variable (m : (ℓ : Loc nD τ sig) → Buf (Elt Ideal) ℓ) (c : Dev nD)

/-- Where each window's block stands at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![0, 0] :=
  (by decide +kernel : ∀ t : Fin grid0.N, _)

theorem zero_at (j) : k0_pay1 (F := Ideal) j = 0 := by pointwise [k0_pay1]

/-- The entry at a column of eight blocks standing side by side. -/
def pick (f1 : Fin 384 → EReal) (f2 : Fin 384 → EReal) (f3 : Fin 384 → EReal) (f4 : Fin 384 → EReal) (f5 : Fin 256 → EReal) (f6 : Fin 256 → EReal) (f7 : Fin 256 → EReal) (f8 : Fin 128 → EReal) (j : Fin 2432) : EReal :=
  if h0 : j.val < 384 then f1 ⟨j.val, h0⟩ else if h1 : j.val - 384 < 384 then f2 ⟨j.val - 384, h1⟩ else if h2 : j.val - 384 - 384 < 384 then f3 ⟨j.val - 384 - 384, h2⟩ else if h3 : j.val - 384 - 384 - 384 < 384 then f4 ⟨j.val - 384 - 384 - 384, h3⟩ else if h4 : j.val - 384 - 384 - 384 - 384 < 256 then f5 ⟨j.val - 384 - 384 - 384 - 384, h4⟩ else if h5 : j.val - 384 - 384 - 384 - 384 - 256 < 256 then f6 ⟨j.val - 384 - 384 - 384 - 384 - 256, h5⟩ else if h6 : j.val - 384 - 384 - 384 - 384 - 256 - 256 < 256 then f7 ⟨j.val - 384 - 384 - 384 - 384 - 256 - 256, h6⟩ else f8 ⟨j.val - 384 - 384 - 384 - 384 - 256 - 256 - 256, by omega⟩

/-- What one row adds to an entry of the gradient. -/
def row (h : Fin 1024 → EReal) (f1 : Fin 384 → EReal) (f2 : Fin 384 → EReal) (f3 : Fin 384 → EReal) (f4 : Fin 384 → EReal) (f5 : Fin 256 → EReal) (f6 : Fin 256 → EReal) (f7 : Fin 256 → EReal) (f8 : Fin 128 → EReal) (j : S1024x2432.Idx) : EReal :=
  h (j 0) * pick f1 f2 f3 f4 f5 f6 f7 f8 (j 1)

theorem grad_point (acc x0 x1 x2 x3 x4 x5 x6 x7 x8 j) : k0_pay2 (F := Ideal) acc x0 x1 x2 x3 x4 x5 x6 x7 x8 j
    = acc j + ∑ r : Fin 512, row (fun l => x0 (ix2 r l)) (fun l => x1 (ix2 r l)) (fun l => x2 (ix2 r l)) (fun l => x3 (ix2 r l)) (fun l => x4 (ix2 r l)) (fun l => x5 (ix2 r l)) (fun l => x6 (ix2 r l)) (fun l => x7 (ix2 r l)) (fun l => x8 (ix2 r l)) j := by
  pointwise [k0_pay2]
  rfl

theorem grad_ref (x0 x1 x2 x3 x4 x5 x6 x7 x8 j) : DwinReferenceIdeal.Terms.grad x0 x1 x2 x3 x4 x5 x6 x7 x8 j
    = ∑ r : Fin 8192, row (fun l => x0 (ix2 r l)) (fun l => x1 (ix2 r l)) (fun l => x2 (ix2 r l)) (fun l => x3 (ix2 r l)) (fun l => x4 (ix2 r l)) (fun l => x5 (ix2 r l)) (fun l => x6 (ix2 r l)) (fun l => x7 (ix2 r l)) (fun l => x8 (ix2 r l)) j := by
  pointwise [DwinReferenceIdeal.Terms.grad]
  exact Finset.sum_congr rfl fun r _ => mul_comm _ _

theorem index_lt {t : Fin cfg0.N} (r : Fin 512) : 512 * t.val + r.val < 8192 := by
  have h : t.val < 16 := t.isLt
  omega

theorem read0 (t : Fin cfg0.N) (r : Fin 512) (l : Fin 1024) :
    iblk m c 0 t (ix2 r l) = m ((c : Thread nD τ).loc main_arg0) (ix2 ⟨512 * t.val + r.val, index_lt r⟩ l) := by
  blk_point [iblk, V, idx t]

theorem read1 (t : Fin cfg0.N) (r : Fin 512) (l : Fin 384) :
    iblk m c 1 t (ix2 r l) = m ((c : Thread nD τ).loc main_arg1) (ix2 ⟨512 * t.val + r.val, index_lt r⟩ l) := by
  blk_point [iblk, V, idx t]

theorem read2 (t : Fin cfg0.N) (r : Fin 512) (l : Fin 384) :
    iblk m c 2 t (ix2 r l) = m ((c : Thread nD τ).loc main_arg2) (ix2 ⟨512 * t.val + r.val, index_lt r⟩ l) := by
  blk_point [iblk, V, idx t]

theorem read3 (t : Fin cfg0.N) (r : Fin 512) (l : Fin 384) :
    iblk m c 3 t (ix2 r l) = m ((c : Thread nD τ).loc main_arg3) (ix2 ⟨512 * t.val + r.val, index_lt r⟩ l) := by
  blk_point [iblk, V, idx t]

theorem read4 (t : Fin cfg0.N) (r : Fin 512) (l : Fin 384) :
    iblk m c 4 t (ix2 r l) = m ((c : Thread nD τ).loc main_arg4) (ix2 ⟨512 * t.val + r.val, index_lt r⟩ l) := by
  blk_point [iblk, V, idx t]

theorem read5 (t : Fin cfg0.N) (r : Fin 512) (l : Fin 256) :
    iblk m c 5 t (ix2 r l) = m ((c : Thread nD τ).loc main_arg5) (ix2 ⟨512 * t.val + r.val, index_lt r⟩ l) := by
  blk_point [iblk, V, idx t]

theorem read6 (t : Fin cfg0.N) (r : Fin 512) (l : Fin 256) :
    iblk m c 6 t (ix2 r l) = m ((c : Thread nD τ).loc main_arg6) (ix2 ⟨512 * t.val + r.val, index_lt r⟩ l) := by
  blk_point [iblk, V, idx t]

theorem read7 (t : Fin cfg0.N) (r : Fin 512) (l : Fin 256) :
    iblk m c 7 t (ix2 r l) = m ((c : Thread nD τ).loc main_arg7) (ix2 ⟨512 * t.val + r.val, index_lt r⟩ l) := by
  blk_point [iblk, V, idx t]

theorem read8 (t : Fin cfg0.N) (r : Fin 512) (l : Fin 128) :
    iblk m c 8 t (ix2 r l) = m ((c : Thread nD τ).loc main_arg8) (ix2 ⟨512 * t.val + r.val, index_lt r⟩ l) := by
  blk_point [iblk, V, idx t]

/-- What row `r` of grid point `t` adds to an entry. -/
def part (t : Fin cfg0.N) (j : S1024x2432.Idx) : EReal := ∑ r : Fin 512, row (fun l => iblk m c 0 t (ix2 r l)) (fun l => iblk m c 1 t (ix2 r l)) (fun l => iblk m c 2 t (ix2 r l)) (fun l => iblk m c 3 t (ix2 r l)) (fun l => iblk m c 4 t (ix2 r l)) (fun l => iblk m c 5 t (ix2 r l)) (fun l => iblk m c 6 t (ix2 r l)) (fun l => iblk m c 7 t (ix2 r l)) (fun l => iblk m c 8 t (ix2 r l)) j

theorem part_row (t : Fin cfg0.N) (r : Fin 512) (j : S1024x2432.Idx) : row (fun l => iblk m c 0 t (ix2 r l)) (fun l => iblk m c 1 t (ix2 r l)) (fun l => iblk m c 2 t (ix2 r l)) (fun l => iblk m c 3 t (ix2 r l)) (fun l => iblk m c 4 t (ix2 r l)) (fun l => iblk m c 5 t (ix2 r l)) (fun l => iblk m c 6 t (ix2 r l)) (fun l => iblk m c 7 t (ix2 r l)) (fun l => iblk m c 8 t (ix2 r l)) j
    = row (fun l => m ((c : Thread nD τ).loc main_arg0) (ix2 ⟨512 * t.val + r.val, index_lt r⟩ l)) (fun l => m ((c : Thread nD τ).loc main_arg1) (ix2 ⟨512 * t.val + r.val, index_lt r⟩ l)) (fun l => m ((c : Thread nD τ).loc main_arg2) (ix2 ⟨512 * t.val + r.val, index_lt r⟩ l)) (fun l => m ((c : Thread nD τ).loc main_arg3) (ix2 ⟨512 * t.val + r.val, index_lt r⟩ l)) (fun l => m ((c : Thread nD τ).loc main_arg4) (ix2 ⟨512 * t.val + r.val, index_lt r⟩ l)) (fun l => m ((c : Thread nD τ).loc main_arg5) (ix2 ⟨512 * t.val + r.val, index_lt r⟩ l)) (fun l => m ((c : Thread nD τ).loc main_arg6) (ix2 ⟨512 * t.val + r.val, index_lt r⟩ l)) (fun l => m ((c : Thread nD τ).loc main_arg7) (ix2 ⟨512 * t.val + r.val, index_lt r⟩ l)) (fun l => m ((c : Thread nD τ).loc main_arg8) (ix2 ⟨512 * t.val + r.val, index_lt r⟩ l)) j := by
  simp only [read0, read1, read2, read3, read4, read5, read6, read7, read8]

theorem row_congr {R : Fin 8192 → S1024x2432.Idx → EReal} {r r' : Fin 8192} {j j' : S1024x2432.Idx} (hr : r.val = r'.val) (hj : j = j') :
    R r j = R r' j' := by
  rw [Fin.ext hr, hj]

theorem grad_final : (dats m 0 c).arrAt 9 (cfgs 0).N
    = DwinReferenceIdeal.Terms.grad (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t hf y => ?_
  blk_simp
  rw [after0_9, Pipeline.eq_sum_fin_of_reset_step_apply_of_flush (fun n h => outsAt0 m c n h) 16 (fun _ => 0) (fun t j => part m c t j)
    (fun t h j => by rw [outsAt0_A m c t h]; frame_out; rw [grad_point, zero_at]; rfl)
    (fun t h j => by rw [outsAt0_B m c t h]; frame_out; rw [grad_point]; rfl)
    t ((flush0_9 t).mp hf) _, zero_add, grad_ref]
  refine Fin.sum_mul_add_congr fun s r hl => ?_
  refine (part_row m c _ r _).trans (row_congr (R := fun r j => row (fun l => m ((c : Thread nD τ).loc main_arg0) (ix2 r l)) (fun l => m ((c : Thread nD τ).loc main_arg1) (ix2 r l)) (fun l => m ((c : Thread nD τ).loc main_arg2) (ix2 r l)) (fun l => m ((c : Thread nD τ).loc main_arg3) (ix2 r l)) (fun l => m ((c : Thread nD τ).loc main_arg4) (ix2 r l)) (fun l => m ((c : Thread nD τ).loc main_arg5) (ix2 r l)) (fun l => m ((c : Thread nD τ).loc main_arg6) (ix2 r l)) (fun l => m ((c : Thread nD τ).loc main_arg7) (ix2 r l)) (fun l => m ((c : Thread nD τ).loc main_arg8) (ix2 r l)) j) ?_ ?_)
  · have h : t.val < 16 := t.isLt
    show 512 * (16 * (t.val / 16) + s.val) + r.val = s.val * 512 + r.val
    omega
  · blk_ext [idx t]

end Cert.DwinIdeal.Call

end
-- ==== Proof.Calls.DwinAlgebraic.lean ====
/- The value claim of the weight gradient of the input projection: its array ends holding the reference's result. -/
module

public import proofs.«01_k».proof.Defs
public import proofs.«01_k».proof.Proof.Gen.DwinIdeal.Value
public import proofs.«01_k».proof.Proof.Calls.DwinValue

@[expose] public section

set_option maxRecDepth 16384

noncomputable section

namespace Cert.DwinIdeal.Call

open Idealize.ShloMosaic Idealize.ShloMosaic.TcCoe Idealize.SL.Sem

theorem algebraic : Cert.algebraic_DwinIdeal_DwinReferenceIdeal := by
  intro m g m' g' _ hagree
  refine ⟨fun c => Cert.DwinReferenceIdeal.Terms.grad (m ((c.tc : Thread Cert.DwinIdeal.nD Cert.DwinIdeal.τ).loc Cert.DwinIdeal.main_arg0)) (m ((c.tc : Thread Cert.DwinIdeal.nD Cert.DwinIdeal.τ).loc Cert.DwinIdeal.main_arg1)) (m ((c.tc : Thread Cert.DwinIdeal.nD Cert.DwinIdeal.τ).loc Cert.DwinIdeal.main_arg2)) (m ((c.tc : Thread Cert.DwinIdeal.nD Cert.DwinIdeal.τ).loc Cert.DwinIdeal.main_arg3)) (m ((c.tc : Thread Cert.DwinIdeal.nD Cert.DwinIdeal.τ).loc Cert.DwinIdeal.main_arg4)) (m ((c.tc : Thread Cert.DwinIdeal.nD Cert.DwinIdeal.τ).loc Cert.DwinIdeal.main_arg5)) (m ((c.tc : Thread Cert.DwinIdeal.nD Cert.DwinIdeal.τ).loc Cert.DwinIdeal.main_arg6)) (m ((c.tc : Thread Cert.DwinIdeal.nD Cert.DwinIdeal.τ).loc Cert.DwinIdeal.main_arg7)) (m ((c.tc : Thread Cert.DwinIdeal.nD Cert.DwinIdeal.τ).loc Cert.DwinIdeal.main_arg8)), ?_, ?_⟩
  · refine (θ_run _ _ _).mono (fun r h c => ?_) (Cert.DwinIdeal.Value.run_blocks (F := Ideal) m g)
    exact ⟨(h c).1.trans (Cert.DwinIdeal.Call.grad_final m c), (h c).2⟩
  · refine (θ_run _ _ _).mono (fun r h c => ?_) (Cert.DwinReferenceIdeal.Value.run (F := Ideal) m' g')
    obtain ⟨a0, a1, a2, a3, a4, a5, a6, a7, a8⟩ := hagree c
    refine ⟨(h c).1.trans ?_, (h c).2⟩
    · show Cert.DwinReferenceIdeal.Terms.grad _ _ _ _ _ _ _ _ _ = Cert.DwinReferenceIdeal.Terms.grad _ _ _ _ _ _ _ _ _
      rw [a0, a1, a2, a3, a4, a5, a6, a7, a8]

end Cert.DwinIdeal.Call

end
-- ==== Proof.Calls.InTerms.lean ====
/- The two results of the input projection's reference, as terms of its arguments. -/
module

public import proofs.«01_k».proof.Proof.Gen.InReferenceIdeal.Run
public import Idealize.ShloMosaic.PureOps.Ideal

@[expose] public section

set_option maxRecDepth 16384

noncomputable section

namespace Cert.InReferenceIdeal.Terms

open Idealize.ShloMosaic Idealize.ShloMosaic.TcCoe Cert.InReferenceIdeal Cert.InReferenceIdeal.Gen

/-- The reference's term for the normalized rows. -/
abbrev rows (a0 : FVec Ideal S8192x1024 .f32) (a1 : FVec Ideal S4x1024 .f32) : FVec Ideal S8192x1024 .bf16 :=
  truncf .bf16 (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ (extractStridedSlice S1x1024 ![1, 0] a1 slices_S4x1024_S1x1024_1_0) shapeCasts_S1x1024_S1024)))) bitsLt_bf16_f32

/-- The reference's term for their projection. -/
abbrev proj (a0 : FVec Ideal S8192x1024 .f32) (a1 : FVec Ideal S4x1024 .f32) (a2 : FVec Ideal S4x1024x2432 .f32) : FVec Ideal S8192x2432 .f32 :=
  Host.dotGeneral dot_S8192x1024_S1024x2432_S8192x2432_1_0_0_1_n_n none (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ (extractStridedSlice S1x1024 ![1, 0] a1 slices_S4x1024_S1x1024_1_0) shapeCasts_S1x1024_S1024)))) (shapeCast _ (extractStridedSlice S1x1024x2432 ![1, 0, 0] a2 slices_S4x1024x2432_S1x1024x2432_1_0_0) shapeCasts_S1x1024x2432_S1024x2432)

end Cert.InReferenceIdeal.Terms

end
-- ==== Proof.Calls.InValue.lean ====
/- The value of the input projection: a block of rows of either result is that block of the reference's array. -/
module

public import proofs.«01_k».proof.Proof.Calls.InTerms
public import proofs.«01_k».proof.Proof.Gen.InIdeal.Frame
public import Idealize.ShloMosaic.Lib.Pipeline.ValueKit
public import Idealize.ShloMosaic.Lib.Claim

@[expose] public section

set_option maxRecDepth 16384

noncomputable section

namespace Cert.InIdeal.Call

open Idealize.ShloMosaic Idealize.ShloMosaic.TcCoe Idealize.SL.Sem Cert.InIdeal Cert.InIdeal.Gen

variable (m : (ℓ : Loc nD τ sig) → Buf (Elt Ideal) ℓ) (c : Dev nD)

/-- Where each window's block stands at a grid point. -/
theorem idx : ∀ t : Fin cfg0.N, win0_0.index t = ![t.val, 0] ∧ win0_1.index t = ![1, 0, 0] ∧ win0_2.index t = ![1, 0, 0]
    ∧ win0_3.index t = ![t.val, 0] ∧ win0_4.index t = ![t.val, 0] :=
  (by decide +kernel : ∀ t : Fin grid0.N, _)

theorem rows_point (t : Fin cfg0.N) (y) : k0_pay1 (iblk m c 0 t) (iblk m c 1 t) y
    = InReferenceIdeal.Terms.rows (m ((c : Thread nD τ).loc main_arg0)) (m ((c : Thread nD τ).loc main_arg1))
        (((cfg0.win 3).blk t).view.emb y) := by
  pointwise [k0_pay1, InReferenceIdeal.Terms.rows]
  blk_point [iblk, V, idx t]

theorem proj_point (t : Fin cfg0.N) (y) : k0_pay2 (iblk m c 0 t) (iblk m c 1 t) (iblk m c 2 t) y
    = InReferenceIdeal.Terms.proj (m ((c : Thread nD τ).loc main_arg0)) (m ((c : Thread nD τ).loc main_arg1))
        (m ((c : Thread nD τ).loc main_arg2)) (((cfg0.win 4).blk t).view.emb y) := by
  pointwise [k0_pay2, k0_pay1, InReferenceIdeal.Terms.proj]
  blk_point [iblk, V, idx t]

theorem rows_final : (dats m 0 c).arrAt 3 (cfgs 0).N
    = InReferenceIdeal.Terms.rows (m ((c : Thread nD τ).loc main_arg0)) (m ((c : Thread nD τ).loc main_arg1)) := by
  refine (dats m 0 c).arrAt_eq_of_covers 3 _ (by decide +kernel) fun t _ y => ?_
  blk_simp
  rw [after0_3]
  frame_out
  exact rows_point m c t y

theorem proj_final : (dats m 0 c).arrAt 4 (cfgs 0).N
    = InReferenceIdeal.Terms.proj (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp
  rw [after0_4]
  frame_out
  exact proj_point m c t y

end Cert.InIdeal.Call

end
-- ==== Proof.Calls.InAlgebraic.lean ====
/- The value claim of the input projection: its two arrays end holding the reference's two results. -/
module

public import proofs.«01_k».proof.Defs
public import proofs.«01_k».proof.Proof.Gen.InIdeal.Value
public import proofs.«01_k».proof.Proof.Calls.InValue

@[expose] public section

set_option maxRecDepth 16384

noncomputable section

namespace Cert.InIdeal.Call

open Idealize.ShloMosaic Idealize.ShloMosaic.TcCoe Idealize.SL.Sem

theorem algebraic : Cert.algebraic_InIdeal_InReferenceIdeal := by
  intro m g m' g' _ hagree
  refine ⟨fun c => Cert.InReferenceIdeal.Terms.rows (m ((c.tc : Thread Cert.InIdeal.nD Cert.InIdeal.τ).loc Cert.InIdeal.main_arg0)) (m ((c.tc : Thread Cert.InIdeal.nD Cert.InIdeal.τ).loc Cert.InIdeal.main_arg1)),
    fun c => Cert.InReferenceIdeal.Terms.proj (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)), ?_, ?_⟩
  · refine (θ_run _ _ _).mono (fun r h c => ?_) (Cert.InIdeal.Value.run_blocks (F := Ideal) m g)
    exact ⟨(h c).1.trans (Cert.InIdeal.Call.rows_final m c), (h c).2.1.trans (Cert.InIdeal.Call.proj_final m c), (h c).2.2⟩
  · refine (θ_run _ _ _).mono (fun r h c => ?_) (Cert.InReferenceIdeal.Value.run (F := Ideal) m' g')
    obtain ⟨a0, a1, a2⟩ := hagree c
    refine ⟨(h c).1.trans ?_, (h c).2.1.trans ?_, (h c).2.2⟩
    · show Cert.InReferenceIdeal.Terms.rows _ _ = Cert.InReferenceIdeal.Terms.rows _ _
      rw [a0, a1]
    · show Cert.InReferenceIdeal.Terms.proj _ _ _ = Cert.InReferenceIdeal.Terms.proj _ _ _
      rw [a0, a1, a2]

end Cert.InIdeal.Call

end
-- ==== Proof.Calls.OutTerms.lean ====
/- The result of the output projection's reference, as a term of its arguments. -/
module

public import proofs.«01_k».proof.Proof.Gen.OutReferenceIdeal.Run
public import Idealize.ShloMosaic.PureOps.Ideal

@[expose] public section

set_option maxRecDepth 16384

noncomputable section

namespace Cert.OutReferenceIdeal.Terms

open Idealize.ShloMosaic Idealize.ShloMosaic.TcCoe Cert.OutReferenceIdeal Cert.OutReferenceIdeal.Gen

/-- The reference's term for the rows after the output projection. -/
abbrev mixed (a0 : FVec Ideal S8192x1024 .f32) (a1 : FVec Ideal S8192x384 .f32) (a2 : FVec Ideal S8192x384 .f32) (a3 : FVec Ideal S8192x256 .f32) (a4 : FVec Ideal S4x1024x1024 .f32) : FVec Ideal S8192x1024 .f32 :=
  addf a0 (Host.dotGeneral (φ₁ := .f32) (φ₂ := .f32) dot_S8192x1024_S1024x1024_S8192x1024_1_0_0_1_n_n none ((concatenate S8192x1024 1 [⟨S8192x384, (a1 : (⟨S8192x384, .f32⟩ : BufTy).Contents (Elt Ideal))⟩, ⟨S8192x384, (a2 : (⟨S8192x384, .f32⟩ : BufTy).Contents (Elt Ideal))⟩, ⟨S8192x256, (a3 : (⟨S8192x256, .f32⟩ : BufTy).Contents (Elt Ideal))⟩] concatenates_S8192x384_S8192x384_S8192x256_S8192x1024_d1 : (⟨S8192x1024, .f32⟩ : BufTy).Contents (Elt Ideal))) (shapeCast _ (extractStridedSlice S1x1024x1024 ![1, 0, 0] a4 slices_S4x1024x1024_S1x1024x1024_1_0_0) shapeCasts_S1x1024x1024_S1024x1024))

end Cert.OutReferenceIdeal.Terms

end
-- ==== Proof.Calls.OutValue.lean ====
/- The value of the output projection: the three products over parts of the contraction are the product with the
   concatenated rows. -/
module

public import proofs.«01_k».proof.Proof.Calls.OutTerms
public import proofs.«01_k».proof.Proof.Gen.OutIdeal.Frame
public import Idealize.ShloMosaic.Lib.Pipeline.ValueKit
public import Idealize.ShloMosaic.Lib.Claim

@[expose] public section

set_option maxRecDepth 16384

noncomputable section

namespace Cert.OutIdeal.Call

open Idealize.ShloMosaic Idealize.ShloMosaic.TcCoe Idealize.SL.Sem Cert.OutIdeal Cert.OutIdeal.Gen

variable (m : (ℓ : Loc nD τ sig) → Buf (Elt Ideal) ℓ) (c : Dev nD)

/-- Where each window's block stands at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![1, 0, 0] ∧ win0_5.index t = ![1, 1, 0] ∧ win0_6.index t = ![1, 3, 0]
    ∧ win0_7.index t = ![t.val, 0] :=
  (by decide +kernel : ∀ t : Fin grid0.N, _)

/-- A sum over the concatenated columns, part by part. -/
theorem sum_parts (f : Fin 384 → EReal) (g : Fin 384 → EReal) (h : Fin 256 → EReal) (w : Fin 1024 → EReal) :
    (∑ x : Fin 1024, (if h0 : x.val < 384 then f ⟨x.val, h0⟩ else if h1 : x.val - 384 < 384 then g ⟨x.val - 384, h1⟩
        else h ⟨x.val - 384 - 384, by omega⟩) * w x)
      = (∑ x : Fin 384, f x * w ⟨x.val, by omega⟩) + ((∑ x : Fin 384, g x * w ⟨384 + x.val, by omega⟩)
        + ∑ x : Fin 256, h x * w ⟨768 + x.val, by omega⟩) := by
  refine (Fin.sum_univ_add (a := 384) (b := 640) _).trans (congrArg₂ (· + ·) ?_ ((Fin.sum_univ_add (a := 384) (b := 256) _).trans (congrArg₂ (· + ·) ?_ ?_)))
  · refine Finset.sum_congr rfl fun x _ => congrArg₂ (· * ·) ?_ rfl
    exact dif_pos x.isLt
  · refine Finset.sum_congr rfl fun x _ => congrArg₂ (· * ·) ?_ rfl
    refine (dif_neg (by simp)).trans ((dif_pos (by simp)).trans (congrArg g (Fin.ext (by simp))))
  · refine Finset.sum_congr rfl fun x _ => congrArg₂ (· * ·) ?_ (congrArg w (Fin.ext (by simp; omega)))
    refine (dif_neg (by simp)).trans ((dif_neg (by simp)).trans (congrArg h (Fin.ext (by simp))))

theorem mixed_at (x ya yb yc w y) : OutReferenceIdeal.Terms.mixed x ya yb yc w y
    = x y + ((∑ k : Fin 384, ya (ix2 (y 0) k) * w (ix3 1 ⟨k.val, by omega⟩ (y 1)))
      + ((∑ k : Fin 384, yb (ix2 (y 0) k) * w (ix3 1 ⟨384 + k.val, by omega⟩ (y 1)))
        + ∑ k : Fin 256, yc (ix2 (y 0) k) * w (ix3 1 ⟨768 + k.val, by omega⟩ (y 1)))) := by
  pointwise [OutReferenceIdeal.Terms.mixed]
  exact congrArg (x y + ·) (sum_parts (fun k => ya (ix2 (y 0) k)) (fun k => yb (ix2 (y 0) k)) (fun k => yc (ix2 (y 0) k))
    (fun k => w (ix3 1 k (y 1))))

theorem weights : V m c main_v3 = m ((c : Thread nD τ).loc main_arg4) := by
  entry_read
  rfl

theorem part4 (t : Fin cfg0.N) (k : Fin 384) (j : Fin 1024) :
    X0_4 m c t (ix3 0 k j) = m ((c : Thread nD τ).loc main_arg4) (ix3 1 ⟨k.val, by omega⟩ j) := by
  unfold X0_4 Pipeline.Window.fill
  rw [dif_pos (moved0_4 t _)]
  rw [← weights m c]
  blk_simp [iblk]
  blk_ext [idx t]
theorem part5 (t : Fin cfg0.N) (k : Fin 384) (j : Fin 1024) :
    X0_5 m c t (ix3 0 k j) = m ((c : Thread nD τ).loc main_arg4) (ix3 1 ⟨384 + k.val, by omega⟩ j) := by
  unfold X0_5 Pipeline.Window.fill
  rw [dif_pos (moved0_5 t _)]
  rw [← weights m c]
  blk_simp [iblk]
  blk_ext [idx t]

theorem mixed_final : (dats m 0 c).arrAt 7 (cfgs 0).N
    = OutReferenceIdeal.Terms.mixed (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  unfold outsAt0
  frame_out
  rw [mixed_at]
  pointwise [k0_pay1]
  rw [← add_assoc, ← add_assoc]
  refine congrArg₂ (· + ·) (congrArg₂ (· + ·) (congrArg₂ (· + ·) ?_ (Finset.sum_congr rfl fun x _ => congrArg₂ (· * ·) ?_ ((part4 m c t x _).trans ?_)))
    (Finset.sum_congr rfl fun x _ => congrArg₂ (· * ·) ?_ ((part5 m c t x _).trans ?_))) ?_ <;> blk_point [iblk, V, idx t]

end Cert.OutIdeal.Call

end
-- ==== Proof.Calls.OutAlgebraic.lean ====
/- The value claim of the output projection: its array ends holding the reference's result. -/
module

public import proofs.«01_k».proof.Defs
public import proofs.«01_k».proof.Proof.Gen.OutIdeal.Value
public import proofs.«01_k».proof.Proof.Calls.OutValue

@[expose] public section

set_option maxRecDepth 16384

noncomputable section

namespace Cert.OutIdeal.Call

open Idealize.ShloMosaic Idealize.ShloMosaic.TcCoe Idealize.SL.Sem

theorem algebraic : Cert.algebraic_OutIdeal_OutReferenceIdeal := by
  intro m g m' g' _ hagree
  refine ⟨fun c => Cert.OutReferenceIdeal.Terms.mixed (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)), ?_, ?_⟩
  · refine (θ_run _ _ _).mono (fun r h c => ?_) (Cert.OutIdeal.Value.run_blocks (F := Ideal) m g)
    exact ⟨(h c).1.trans (Cert.OutIdeal.Call.mixed_final m c), (h c).2⟩
  · refine (θ_run _ _ _).mono (fun r h c => ?_) (Cert.OutReferenceIdeal.Value.run (F := Ideal) m' g')
    obtain ⟨a0, a1, a2, a3, a4⟩ := hagree c
    refine ⟨(h c).1.trans ?_, (h c).2⟩
    · show Cert.OutReferenceIdeal.Terms.mixed _ _ _ _ _ = Cert.OutReferenceIdeal.Terms.mixed _ _ _ _ _
      rw [a0, a1, a2, a3, a4]

end Cert.OutIdeal.Call

end
-- ==== Proof.Calls.DxTerms.lean ====
/- The two results of the reference for the input gradient of the input projection, as terms of its arguments. -/
module

public import proofs.«01_k».proof.Proof.Gen.DxReferenceIdeal.Run
public import Idealize.ShloMosaic.PureOps.Ideal

@[expose] public section

set_option maxRecDepth 16384

noncomputable section

namespace Cert.DxReferenceIdeal.Terms

open Idealize.ShloMosaic Idealize.ShloMosaic.TcCoe Cert.DxReferenceIdeal Cert.DxReferenceIdeal.Gen

/-- The reference's term for the gradient in the layer's input. -/
abbrev dx (a0 : FVec Ideal S8192x1024 .f32) (a1 : FVec Ideal S4x1024 .f32) (a2 : FVec Ideal S4x1024x2432 .f32) (a3 : FVec Ideal S8192x1024 .f32) (a4 : FVec Ideal S8192x384 .f32) (a5 : FVec Ideal S8192x384 .f32) (a6 : FVec Ideal S8192x384 .f32) (a7 : FVec Ideal S8192x384 .f32) (a8 : FVec Ideal S8192x256 .f32) (a9 : FVec Ideal S8192x256 .f32) (a10 : FVec Ideal S8192x256 .f32) (a11 : FVec Ideal S8192x128 .f32) : FVec Ideal S8192x1024 .f32 :=
  addf (addf (addf a3 (mulf (mulf (Host.dotGeneral (φ₁ := .f32) (φ₂ := .f32) dot_S8192x2432_S1024x2432_S8192x1024_1_1_0_0_n_n none ((concatenate S8192x2432 1 [⟨S8192x384, (a4 : (⟨S8192x384, .f32⟩ : BufTy).Contents (Elt Ideal))⟩, ⟨S8192x384, (a5 : (⟨S8192x384, .f32⟩ : BufTy).Contents (Elt Ideal))⟩, ⟨S8192x384, (a6 : (⟨S8192x384, .f32⟩ : BufTy).Contents (Elt Ideal))⟩, ⟨S8192x384, (a7 : (⟨S8192x384, .f32⟩ : BufTy).Contents (Elt Ideal))⟩, ⟨S8192x256, (a8 : (⟨S8192x256, .f32⟩ : BufTy).Contents (Elt Ideal))⟩, ⟨S8192x256, (a9 : (⟨S8192x256, .f32⟩ : BufTy).Contents (Elt Ideal))⟩, ⟨S8192x256, (a10 : (⟨S8192x256, .f32⟩ : BufTy).Contents (Elt Ideal))⟩, ⟨S8192x128, (a11 : (⟨S8192x128, .f32⟩ : BufTy).Contents (Elt Ideal))⟩] concatenates_S8192x384_S8192x384_S8192x384_S8192x384_S8192x256_S8192x256_S8192x256_S8192x128_S8192x2432_d1 : (⟨S8192x2432, .f32⟩ : BufTy).Contents (Elt Ideal))) (shapeCast _ (extractStridedSlice S1x1024x2432 ![1, 0, 0] a2 slices_S4x1024x2432_S1x1024x2432_1_0_0) shapeCasts_S1x1024x2432_S1024x2432)) (broadcastInDim S8192x1024 ![0, 1] bcast_S1x1024_S8192x1024_0_1 (broadcastInDim S1x1024 ![1] bcast_S1024_S1x1024_1 (shapeCast _ (extractStridedSlice S1x1024 ![1, 0] a1 slices_S4x1024_S1x1024_1_0) shapeCasts_S1x1024_S1024)))) (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))) (mulf a0 (broadcastInDim S8192x1024 ![0] bcast_S8192_S8192x1024_0 (Host.reduceAdd (Host.divf (mulf (shapeCast _ (Host.reduceAdd (mulf a0 (mulf (Host.dotGeneral (φ₁ := .f32) (φ₂ := .f32) dot_S8192x2432_S1024x2432_S8192x1024_1_1_0_0_n_n none ((concatenate S8192x2432 1 [⟨S8192x384, (a4 : (⟨S8192x384, .f32⟩ : BufTy).Contents (Elt Ideal))⟩, ⟨S8192x384, (a5 : (⟨S8192x384, .f32⟩ : BufTy).Contents (Elt Ideal))⟩, ⟨S8192x384, (a6 : (⟨S8192x384, .f32⟩ : BufTy).Contents (Elt Ideal))⟩, ⟨S8192x384, (a7 : (⟨S8192x384, .f32⟩ : BufTy).Contents (Elt Ideal))⟩, ⟨S8192x256, (a8 : (⟨S8192x256, .f32⟩ : BufTy).Contents (Elt Ideal))⟩, ⟨S8192x256, (a9 : (⟨S8192x256, .f32⟩ : BufTy).Contents (Elt Ideal))⟩, ⟨S8192x256, (a10 : (⟨S8192x256, .f32⟩ : BufTy).Contents (Elt Ideal))⟩, ⟨S8192x128, (a11 : (⟨S8192x128, .f32⟩ : BufTy).Contents (Elt Ideal))⟩] concatenates_S8192x384_S8192x384_S8192x384_S8192x384_S8192x256_S8192x256_S8192x256_S8192x128_S8192x2432_d1 : (⟨S8192x2432, .f32⟩ : BufTy).Contents (Elt Ideal))) (shapeCast _ (extractStridedSlice S1x1024x2432 ![1, 0, 0] a2 slices_S4x1024x2432_S1x1024x2432_1_0_0) shapeCasts_S1x1024x2432_S1024x2432)) (broadcastInDim S8192x1024 ![0, 1] bcast_S1x1024_S8192x1024_0_1 (broadcastInDim S1x1024 ![1] bcast_S1024_S1x1024_1 (shapeCast _ (extractStridedSlice S1x1024 ![1, 0] a1 slices_S4x1024_S1x1024_1_0) shapeCasts_S1x1024_S1024))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf a0 (mulf (Host.dotGeneral (φ₁ := .f32) (φ₂ := .f32) dot_S8192x2432_S1024x2432_S8192x1024_1_1_0_0_n_n none ((concatenate S8192x2432 1 [⟨S8192x384, (a4 : (⟨S8192x384, .f32⟩ : BufTy).Contents (Elt Ideal))⟩, ⟨S8192x384, (a5 : (⟨S8192x384, .f32⟩ : BufTy).Contents (Elt Ideal))⟩, ⟨S8192x384, (a6 : (⟨S8192x384, .f32⟩ : BufTy).Contents (Elt Ideal))⟩, ⟨S8192x384, (a7 : (⟨S8192x384, .f32⟩ : BufTy).Contents (Elt Ideal))⟩, ⟨S8192x256, (a8 : (⟨S8192x256, .f32⟩ : BufTy).Contents (Elt Ideal))⟩, ⟨S8192x256, (a9 : (⟨S8192x256, .f32⟩ : BufTy).Contents (Elt Ideal))⟩, ⟨S8192x256, (a10 : (⟨S8192x256, .f32⟩ : BufTy).Contents (Elt Ideal))⟩, ⟨S8192x128, (a11 : (⟨S8192x128, .f32⟩ : BufTy).Contents (Elt Ideal))⟩] concatenates_S8192x384_S8192x384_S8192x384_S8192x384_S8192x256_S8192x256_S8192x256_S8192x128_S8192x2432_d1 : (⟨S8192x2432, .f32⟩ : BufTy).Contents (Elt Ideal))) (shapeCast _ (extractStridedSlice S1x1024x2432 ![1, 0, 0] a2 slices_S4x1024x2432_S1x1024x2432_1_0_0) shapeCasts_S1x1024x2432_S1024x2432)) (broadcastInDim S8192x1024 ![0, 1] bcast_S1x1024_S8192x1024_0_1 (broadcastInDim S1x1024 ![1] bcast_S1024_S1x1024_1 (shapeCast _ (extractStridedSlice S1x1024 ![1, 0] a1 slices_S4x1024_S1x1024_1_0) shapeCasts_S1x1024_S1024))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) a0)

/-- The reference's term for the gradient in the gain. -/
abbrev dg (a0 : FVec Ideal S8192x1024 .f32) (a2 : FVec Ideal S4x1024x2432 .f32) (a4 : FVec Ideal S8192x384 .f32) (a5 : FVec Ideal S8192x384 .f32) (a6 : FVec Ideal S8192x384 .f32) (a7 : FVec Ideal S8192x384 .f32) (a8 : FVec Ideal S8192x256 .f32) (a9 : FVec Ideal S8192x256 .f32) (a10 : FVec Ideal S8192x256 .f32) (a11 : FVec Ideal S8192x128 .f32) : FVec Ideal S1x1024 .f32 :=
  broadcastInDim S1x1024 ![1] bcast_S1024_S1x1024_1 (Host.reduceAdd (shapeCast _ (Host.reduceAdd (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (Host.dotGeneral (φ₁ := .f32) (φ₂ := .f32) dot_S8192x2432_S1024x2432_S8192x1024_1_1_0_0_n_n none ((concatenate S8192x2432 1 [⟨S8192x384, (a4 : (⟨S8192x384, .f32⟩ : BufTy).Contents (Elt Ideal))⟩, ⟨S8192x384, (a5 : (⟨S8192x384, .f32⟩ : BufTy).Contents (Elt Ideal))⟩, ⟨S8192x384, (a6 : (⟨S8192x384, .f32⟩ : BufTy).Contents (Elt Ideal))⟩, ⟨S8192x384, (a7 : (⟨S8192x384, .f32⟩ : BufTy).Contents (Elt Ideal))⟩, ⟨S8192x256, (a8 : (⟨S8192x256, .f32⟩ : BufTy).Contents (Elt Ideal))⟩, ⟨S8192x256, (a9 : (⟨S8192x256, .f32⟩ : BufTy).Contents (Elt Ideal))⟩, ⟨S8192x256, (a10 : (⟨S8192x256, .f32⟩ : BufTy).Contents (Elt Ideal))⟩, ⟨S8192x128, (a11 : (⟨S8192x128, .f32⟩ : BufTy).Contents (Elt Ideal))⟩] concatenates_S8192x384_S8192x384_S8192x384_S8192x384_S8192x256_S8192x256_S8192x256_S8192x128_S8192x2432_d1 : (⟨S8192x2432, .f32⟩ : BufTy).Contents (Elt Ideal))) (shapeCast _ (extractStridedSlice S1x1024x2432 ![1, 0, 0] a2 slices_S4x1024x2432_S1x1024x2432_1_0_0) shapeCasts_S1x1024x2432_S1024x2432))) (constant S_ .f32 0x00000000#32) reducesTo_S8192x1024_S1024_d0 h_S_) shapeCasts_S1024_S1x1024) (constant S_ .f32 0x00000000#32) reducesTo_S1x1024_S1024_d0 h_S_)

end Cert.DxReferenceIdeal.Terms

end
-- ==== Proof.Calls.Norm.lean ====
/- The gradient of a root-mean-square norm, written two ways: the two agree on all extended reals. -/
module

public import proofs.«01_k».proof.Proof.Value.RowEq

@[expose] public section

noncomputable section

namespace Cert.Norm

open Idealize.ShloMosaic Cert.Attn

/-- The row's width, a float constant. -/
def width : EReal := Ideal.ofBits .f32 0x44800000#32
/-- The norm's offset, a float constant. -/
def eps : EReal := Ideal.ofBits .f32 0x358637BD#32
/-- The exponent of the reciprocal root, a float constant. -/
def negHalf : EReal := Ideal.ofBits .f32 0xBF000000#32

theorem width_real : width = ((1024 : ℝ) : EReal) := by
  simp only [width, Ideal.ofBits, Ideal.ieee]
  simp
  rw [← EReal.coe_mul]
  norm_num

theorem eps_real : ∃ e : ℝ, 0 < e ∧ eps = (e : EReal) := by
  refine ⟨8796093 * (2 ^ 43)⁻¹, by positivity, ?_⟩
  simp only [eps, Ideal.ofBits, Ideal.ieee]
  simp

theorem negHalf_real : negHalf = ((-(1 / 2) : ℝ) : EReal) := by
  simp only [negHalf, Ideal.ofBits, Ideal.ieee]
  simp
  norm_num [← EReal.coe_mul, ← EReal.coe_neg]

/-- The mean of a row's squares, and the offset. -/
def var (X : Fin 1024 → EReal) : EReal := Ideal.div (∑ k, X k * X k) width + eps

/-- The gradient in the row as the normalised row has it. -/
def byRow (X D : Fin 1024 → EReal) (j : Fin 1024) : EReal :=
  Ideal.rsqrt (var X) * (D j - X j * Ideal.rsqrt (var X) * Ideal.div (∑ k, D k * (X k * Ideal.rsqrt (var X))) width)

/-- A square's share of the gradient through the reciprocal root. -/
def share (X D : Fin 1024 → EReal) : EReal :=
  Ideal.div ((∑ k, X k * D k) * (negHalf * Ideal.div (Ideal.rsqrt (var X)) (var X))) width

theorem root_real (x : Fin 1024 → ℝ) : ∃ v s : ℝ, 0 < v ∧ 0 ≤ s ∧ s * s = 1 / v ∧ var (fun k => (x k : EReal)) = (v : EReal)
    ∧ Ideal.rsqrt (var fun k => (x k : EReal)) = (s : EReal) := by
  obtain ⟨e, he, hE⟩ := eps_real
  have hv : var (fun k => (x k : EReal)) = (((∑ k, x k * x k) / 1024 + e : ℝ) : EReal) := by
    simp only [var, hE, width_real, ← EReal.coe_mul, coe_sum]
    rw [div_real _ _ (by norm_num), ← EReal.coe_add]
  have hp : 0 < (∑ k, x k * x k) / 1024 + e :=
    add_pos_of_nonneg_of_pos (div_nonneg (Finset.sum_nonneg fun k _ => mul_self_nonneg _) (by norm_num)) he
  refine ⟨_, (Real.sqrt ((∑ k, x k * x k) / 1024 + e))⁻¹, hp, inv_nonneg.2 (Real.sqrt_nonneg _), ?_, hv, ?_⟩
  · rw [← mul_inv, Real.mul_self_sqrt hp.le, one_div]
  · rw [hv, Ideal.rsqrt_coe, if_neg (not_lt.mpr hp.le), if_neg hp.ne']

/-- A nonnegative real factor goes into a sum. -/
theorem sum_mul_real (f : Fin 1024 → EReal) (s : ℝ) (hs : 0 ≤ s) : ∑ k, f k * (s : EReal) = (∑ k, f k) * (s : EReal) := by
  induction (Finset.univ : Finset (Fin 1024)) using Finset.induction_on with
  | empty => simp
  | insert k t hk ih =>
    rw [Finset.sum_insert hk, Finset.sum_insert hk, ih,
      EReal.right_distrib_of_nonneg_of_ne_top (by exact_mod_cast hs) (EReal.coe_ne_top s)]

theorem add_self (e : EReal) : e + e = ((2 : ℝ) : EReal) * e := by
  induction e using EReal.rec with
  | bot => rw [EReal.coe_mul_bot_of_pos two_pos]; rfl
  | coe r => rw [← EReal.coe_add, ← EReal.coe_mul, two_mul]
  | top => rw [EReal.coe_mul_top_of_pos two_pos]; rfl

/-- On a row of real numbers the two ways agree, whatever the gradient. -/
theorem byRow_real (x : Fin 1024 → ℝ) (D : Fin 1024 → EReal) (a : EReal) (j : Fin 1024) :
    a + byRow (fun k => (x k : EReal)) D j
      = a + D j * Ideal.rsqrt (var fun k => (x k : EReal)) + (x j : EReal) * share (fun k => (x k : EReal)) D
        + share (fun k => (x k : EReal)) D * (x j : EReal) := by
  obtain ⟨v, s, hv, hp, hs, eV, eS⟩ := root_real x
  simp only [byRow, share, eS]
  rw [eV]
  simp only [width_real, negHalf_real]
  rw [div_real s v hv.ne']
  simp only [Ideal.div_coe (by norm_num : (1024 : ℝ) ≠ 0), ← EReal.coe_mul]
  have e1 : ∑ k, D k * ((x k * s : ℝ) : EReal) = (∑ k, (x k : EReal) * D k) * (s : EReal) := by
    rw [← sum_mul_real _ s hp]
    exact Finset.sum_congr rfl fun k _ => by rw [EReal.coe_mul, ← mul_assoc, mul_comm (D k)]
  rw [e1]
  generalize (∑ k, (x k : EReal) * D k) = S
  have e2 : s / v = s * (s * s) := by rw [hs]; ring
  rw [e2, add_assoc, add_assoc, mul_comm _ (x j : EReal), add_self, sub_eq_add_neg,
    EReal.left_distrib_of_nonneg_of_ne_top (by exact_mod_cast hp) (EReal.coe_ne_top s), mul_comm (s : EReal) (D j)]
  congr 2
  rw [← EReal.neg_mul, ← EReal.coe_neg]
  have e3 : ∀ p q r u : ℝ, (p : EReal) * ((q : EReal) * (S * (r : EReal) * (u : EReal))) = S * ((p * q * r * u : ℝ) : EReal) := by
    intro p q r u
    simp only [EReal.coe_mul]
    ac_rfl
  rw [e3, e3]
  congr 2
  ring

theorem var_top (X : Fin 1024 → EReal) (k : Fin 1024) (h : X k * X k = ⊤) : var X = ⊤ := by
  obtain ⟨e, he, hE⟩ := eps_real
  have h0 : ∀ i, 0 ≤ X i * X i := fun i => by
    rcases le_total 0 (X i) with hi | hi
    · exact EReal.mul_nonneg hi hi
    · exact EReal.mul_nonneg_iff.2 (.inr ⟨hi, hi⟩)
  have hS : ∑ i, X i * X i = ⊤ := top_le_iff.1 (h ▸ Finset.single_le_sum (f := fun i => X i * X i) (fun i _ => h0 i) (Finset.mem_univ k))
  rw [var, hS, width_real, Ideal.div_coe (by norm_num), EReal.top_mul_coe_of_pos (by norm_num), hE]
  rfl

/-- On a row that holds an infinity the two ways agree: the reciprocal root is zero. -/
theorem byRow_top (X D : Fin 1024 → EReal) (a : EReal) (j : Fin 1024) (h : var X = ⊤) :
    a + byRow X D j = a + D j * Ideal.rsqrt (var X) + X j * share X D + share X D * X j := by
  simp only [byRow, share, h, Ideal.rsqrt_top, zero_mul, mul_zero, add_zero]
  have e : Ideal.div 0 ⊤ = 0 := by rw [Ideal.div, if_neg EReal.top_ne_zero, zero_mul]
  rw [e, mul_zero, mul_zero, width_real, Ideal.div_coe (by norm_num), zero_mul, mul_zero, zero_mul, add_zero, add_zero]

/-- The two ways of writing the gradient agree on every row. -/
theorem byRow_eq (X D : Fin 1024 → EReal) (a : EReal) (j : Fin 1024) :
    a + byRow X D j = a + D j * Ideal.rsqrt (var X) + X j * share X D + share X D * X j := by
  by_cases h : ∀ k, ∃ r : ℝ, X k = (r : EReal)
  · choose x hx using h
    obtain rfl : X = fun k => (x k : EReal) := funext hx
    exact byRow_real x D a j
  · obtain ⟨k, hk⟩ := not_forall.1 h
    refine byRow_top X D a j (var_top X k ?_)
    generalize X k = y at hk
    induction y using EReal.rec with
    | bot => rfl
    | coe r => exact absurd ⟨r, rfl⟩ hk
    | top => rfl

end Cert.Norm

end
-- ==== Proof.Calls.DxPoint.lean ====
/- Entries of the kernel's values of a grid point and of the reference's arrays, in terms of rows. -/
module

public import proofs.«01_k».proof.Proof.Calls.DxTerms
public import proofs.«01_k».proof.Proof.Calls.Norm
public import proofs.«01_k».proof.Proof.Gen.DxIdeal.Frame
public import Idealize.ShloMosaic.Lib.Pipeline.ValueKit
public import Idealize.ShloMosaic.Lib.Claim

@[expose] public section

set_option maxRecDepth 16384

noncomputable section

namespace Cert.DxIdeal.Call

open Idealize.ShloMosaic Idealize.ShloMosaic.TcCoe Idealize.SL.Sem Cert.DxIdeal Cert.DxIdeal.Gen

/-- The entry at a column of eight blocks standing side by side. -/
def pick (f1 : Fin 384 → EReal) (f2 : Fin 384 → EReal) (f3 : Fin 384 → EReal) (f4 : Fin 384 → EReal) (f5 : Fin 256 → EReal) (f6 : Fin 256 → EReal) (f7 : Fin 256 → EReal) (f8 : Fin 128 → EReal) (j : Fin 2432) : EReal :=
  if h0 : j.val < 384 then f1 ⟨j.val, h0⟩ else if h1 : j.val - 384 < 384 then f2 ⟨j.val - 384, h1⟩ else if h2 : j.val - 384 - 384 < 384 then f3 ⟨j.val - 384 - 384, h2⟩ else if h3 : j.val - 384 - 384 - 384 < 384 then f4 ⟨j.val - 384 - 384 - 384, h3⟩ else if h4 : j.val - 384 - 384 - 384 - 384 < 256 then f5 ⟨j.val - 384 - 384 - 384 - 384, h4⟩ else if h5 : j.val - 384 - 384 - 384 - 384 - 256 < 256 then f6 ⟨j.val - 384 - 384 - 384 - 384 - 256, h5⟩ else if h6 : j.val - 384 - 384 - 384 - 384 - 256 - 256 < 256 then f7 ⟨j.val - 384 - 384 - 384 - 384 - 256 - 256, h6⟩ else f8 ⟨j.val - 384 - 384 - 384 - 384 - 256 - 256 - 256, by omega⟩

/-- An entry of the gradient in the normalised and scaled rows: a row of the parts times a row of the weights. -/
def back (f1 : Fin 384 → EReal) (f2 : Fin 384 → EReal) (f3 : Fin 384 → EReal) (f4 : Fin 384 → EReal) (f5 : Fin 256 → EReal) (f6 : Fin 256 → EReal) (f7 : Fin 256 → EReal) (f8 : Fin 128 → EReal) (w : Fin 2432 → EReal) : EReal := ∑ k : Fin 2432, pick f1 f2 f3 f4 f5 f6 f7 f8 k * w k

theorem back_point (p1 p2 p3 p4 p5 p6 p7 p8 w j) : k0_pay6 (F := Ideal) p1 p2 p3 p4 p5 p6 p7 p8 w j
    = back (fun l => p1 (ix2 (j 0) l)) (fun l => p2 (ix2 (j 0) l)) (fun l => p3 (ix2 (j 0) l)) (fun l => p4 (ix2 (j 0) l)) (fun l => p5 (ix2 (j 0) l)) (fun l => p6 (ix2 (j 0) l)) (fun l => p7 (ix2 (j 0) l)) (fun l => p8 (ix2 (j 0) l)) (fun k => w (ix3 0 (j 1) k)) := by
  pointwise [k0_pay6]
  rfl

theorem var_point (x j) : k0_pay7 (F := Ideal) x j = Norm.var (fun k => x (ix2 (j 0) k)) := by
  pointwise [k0_pay7]
  rfl

theorem zero_point (j) : k0_pay5 (F := Ideal) j = 0 := by pointwise [k0_pay5]

/-- A row of the gradient in the normalised rows. -/
def scaled (f1 : Fin 384 → EReal) (f2 : Fin 384 → EReal) (f3 : Fin 384 → EReal) (f4 : Fin 384 → EReal) (f5 : Fin 256 → EReal) (f6 : Fin 256 → EReal) (f7 : Fin 256 → EReal) (f8 : Fin 128 → EReal) (w : Fin 1024 → Fin 2432 → EReal) (g : Fin 1024 → EReal) (k : Fin 1024) : EReal :=
  back f1 f2 f3 f4 f5 f6 f7 f8 (w k) * g k

/-- What a row adds to the gradient in the gain. -/
def gain (X : Fin 1024 → EReal) (f1 : Fin 384 → EReal) (f2 : Fin 384 → EReal) (f3 : Fin 384 → EReal) (f4 : Fin 384 → EReal) (f5 : Fin 256 → EReal) (f6 : Fin 256 → EReal) (f7 : Fin 256 → EReal) (f8 : Fin 128 → EReal) (w : Fin 1024 → Fin 2432 → EReal) (k : Fin 1024) : EReal :=
  back f1 f2 f3 f4 f5 f6 f7 f8 (w k) * (X k * Ideal.rsqrt (Norm.var X))

/-- An entry of the gradient in the layer's input. -/
def entry (a : EReal) (X : Fin 1024 → EReal) (f1 : Fin 384 → EReal) (f2 : Fin 384 → EReal) (f3 : Fin 384 → EReal) (f4 : Fin 384 → EReal) (f5 : Fin 256 → EReal) (f6 : Fin 256 → EReal) (f7 : Fin 256 → EReal) (f8 : Fin 128 → EReal) (w : Fin 1024 → Fin 2432 → EReal) (g : Fin 1024 → EReal) (k : Fin 1024) : EReal :=
  a + Norm.byRow X (scaled f1 f2 f3 f4 f5 f6 f7 f8 w g) k

theorem dx_point (p1 p2 p3 p4 p5 p6 p7 p8 w x g a j) : k0_pay4 (F := Ideal) (k0_pay6 p1 p2 p3 p4 p5 p6 p7 p8 w) x (k0_pay7 x) g a j
    = entry (a j) (fun k => x (ix2 (j 0) k)) (fun l => p1 (ix2 (j 0) l)) (fun l => p2 (ix2 (j 0) l)) (fun l => p3 (ix2 (j 0) l)) (fun l => p4 (ix2 (j 0) l)) (fun l => p5 (ix2 (j 0) l)) (fun l => p6 (ix2 (j 0) l)) (fun l => p7 (ix2 (j 0) l)) (fun l => p8 (ix2 (j 0) l)) (fun k l => w (ix3 0 k l)) (fun k => g (ix3 0 0 k)) (j 1) := by
  pointwise [k0_pay4, k0_pay2, k0_pay1]
  simp only [back_point, var_point]
  rw [show x j = x (ix2 (j 0) (j 1)) from congrArg x (ValueIdx.eq_ix2 j)]
  rfl

theorem dg_point (p1 p2 p3 p4 p5 p6 p7 p8 w x a j) : k0_pay3 (F := Ideal) (k0_pay6 p1 p2 p3 p4 p5 p6 p7 p8 w) x (k0_pay7 x) a j
    = a j + ∑ r : Fin 512, gain (fun k => x (ix2 r k)) (fun l => p1 (ix2 r l)) (fun l => p2 (ix2 r l)) (fun l => p3 (ix2 r l)) (fun l => p4 (ix2 r l)) (fun l => p5 (ix2 r l)) (fun l => p6 (ix2 r l)) (fun l => p7 (ix2 r l)) (fun l => p8 (ix2 r l)) (fun k l => w (ix3 0 k l)) (j 1) := by
  pointwise [k0_pay3, k0_pay2, k0_pay1]
  simp only [back_point, var_point]
  rfl

theorem dx_ref (x g w a p1 p2 p3 p4 p5 p6 p7 p8 j) : DxReferenceIdeal.Terms.dx x g w a p1 p2 p3 p4 p5 p6 p7 p8 j
    = a j + scaled (fun l => p1 (ix2 (j 0) l)) (fun l => p2 (ix2 (j 0) l)) (fun l => p3 (ix2 (j 0) l)) (fun l => p4 (ix2 (j 0) l)) (fun l => p5 (ix2 (j 0) l)) (fun l => p6 (ix2 (j 0) l)) (fun l => p7 (ix2 (j 0) l)) (fun l => p8 (ix2 (j 0) l)) (fun k l => w (ix3 1 k l)) (fun k => g (ix2 1 k)) (j 1) * Ideal.rsqrt (Norm.var (fun k => x (ix2 (j 0) k)))
      + x j * Norm.share (fun k => x (ix2 (j 0) k)) (scaled (fun l => p1 (ix2 (j 0) l)) (fun l => p2 (ix2 (j 0) l)) (fun l => p3 (ix2 (j 0) l)) (fun l => p4 (ix2 (j 0) l)) (fun l => p5 (ix2 (j 0) l)) (fun l => p6 (ix2 (j 0) l)) (fun l => p7 (ix2 (j 0) l)) (fun l => p8 (ix2 (j 0) l)) (fun k l => w (ix3 1 k l)) (fun k => g (ix2 1 k)))
      + Norm.share (fun k => x (ix2 (j 0) k)) (scaled (fun l => p1 (ix2 (j 0) l)) (fun l => p2 (ix2 (j 0) l)) (fun l => p3 (ix2 (j 0) l)) (fun l => p4 (ix2 (j 0) l)) (fun l => p5 (ix2 (j 0) l)) (fun l => p6 (ix2 (j 0) l)) (fun l => p7 (ix2 (j 0) l)) (fun l => p8 (ix2 (j 0) l)) (fun k l => w (ix3 1 k l)) (fun k => g (ix2 1 k))) * x j := by
  pointwise [DxReferenceIdeal.Terms.dx]
  refine congrArg₂ (· + ·) (congrArg₂ (· + ·) rfl (congrArg₂ (· * ·) rfl ?_)) (congrArg₂ (· * ·) ?_ rfl)
  · exact Fin.sum_univ_one _
  · exact Fin.sum_univ_one _

/-- The reference's entry, with the norm's gradient written as the kernel writes it. -/
theorem dx_entry (x g w a p1 p2 p3 p4 p5 p6 p7 p8 i q) : DxReferenceIdeal.Terms.dx x g w a p1 p2 p3 p4 p5 p6 p7 p8 (ix2 i q)
    = entry (a (ix2 i q)) (fun k => x (ix2 i k)) (fun l => p1 (ix2 i l)) (fun l => p2 (ix2 i l)) (fun l => p3 (ix2 i l)) (fun l => p4 (ix2 i l)) (fun l => p5 (ix2 i l)) (fun l => p6 (ix2 i l)) (fun l => p7 (ix2 i l)) (fun l => p8 (ix2 i l)) (fun k l => w (ix3 1 k l)) (fun k => g (ix2 1 k)) q := by
  rw [dx_ref]
  exact (Norm.byRow_eq (fun k => x (ix2 i k)) (scaled (fun l => p1 (ix2 i l)) (fun l => p2 (ix2 i l)) (fun l => p3 (ix2 i l)) (fun l => p4 (ix2 i l)) (fun l => p5 (ix2 i l)) (fun l => p6 (ix2 i l)) (fun l => p7 (ix2 i l)) (fun l => p8 (ix2 i l)) (fun k l => w (ix3 1 k l)) (fun k => g (ix2 1 k))) (a (ix2 i q)) q).symm

theorem dg_ref (x w p1 p2 p3 p4 p5 p6 p7 p8 j) : DxReferenceIdeal.Terms.dg x w p1 p2 p3 p4 p5 p6 p7 p8 j
    = ∑ r : Fin 8192, gain (fun k => x (ix2 r k)) (fun l => p1 (ix2 r l)) (fun l => p2 (ix2 r l)) (fun l => p3 (ix2 r l)) (fun l => p4 (ix2 r l)) (fun l => p5 (ix2 r l)) (fun l => p6 (ix2 r l)) (fun l => p7 (ix2 r l)) (fun l => p8 (ix2 r l)) (fun k l => w (ix3 1 k l)) (j 1) := by
  pointwise [DxReferenceIdeal.Terms.dg]
  refine (Fin.sum_univ_one _).trans (Finset.sum_congr rfl fun r _ => ?_)
  exact mul_comm _ _

end Cert.DxIdeal.Call

end
-- ==== Proof.Calls.DxValue.lean ====
/- The values of the input gradient of the input projection: each tile's rows are its rows of the reference's array, and
   the sums over sixteen tiles of rows are the sum over all rows. -/
module

public import proofs.«01_k».proof.Proof.Calls.DxPoint
public import proofs.«01_k».proof.Proof.Gen.DxIdeal.Frame
public import Idealize.ShloMosaic.Lib.Pipeline.ValueKit
public import Idealize.ShloMosaic.Lib.Claim

@[expose] public section

set_option maxRecDepth 16384

noncomputable section

namespace Cert.DxIdeal.Call

open Idealize.ShloMosaic Idealize.ShloMosaic.TcCoe Idealize.SL.Sem Cert.DxIdeal Cert.DxIdeal.Gen

variable (m : (ℓ : Loc nD τ sig) → Buf (Elt Ideal) ℓ) (c : Dev nD)

/-- Where each window's block stands at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![1, 0, 0] ∧ win0_9.index t = ![t.val, 0] ∧ win0_10.index t = ![1, 0, 0]
    ∧ win0_11.index t = ![t.val, 0] ∧ win0_12.index t = ![t.val, 0] ∧ win0_13.index t = ![0, 0] :=
  (by decide +kernel : ∀ t : Fin grid0.N, _)

theorem index_lt {t : Fin cfg0.N} (r : Fin 512) : 512 * t.val + r.val < 8192 := by
  have h : t.val < 16 := t.isLt
  omega

theorem read0 (t : Fin cfg0.N) (r : Fin 512) (l : Fin 384) :
    iblk m c 0 t (ix2 r l) = m ((c : Thread nD τ).loc main_arg4) (ix2 ⟨512 * t.val + r.val, index_lt r⟩ l) := by
  blk_point [iblk, V, idx t]

theorem read1 (t : Fin cfg0.N) (r : Fin 512) (l : Fin 384) :
    iblk m c 1 t (ix2 r l) = m ((c : Thread nD τ).loc main_arg5) (ix2 ⟨512 * t.val + r.val, index_lt r⟩ l) := by
  blk_point [iblk, V, idx t]

theorem read2 (t : Fin cfg0.N) (r : Fin 512) (l : Fin 384) :
    iblk m c 2 t (ix2 r l) = m ((c : Thread nD τ).loc main_arg6) (ix2 ⟨512 * t.val + r.val, index_lt r⟩ l) := by
  blk_point [iblk, V, idx t]

theorem read3 (t : Fin cfg0.N) (r : Fin 512) (l : Fin 384) :
    iblk m c 3 t (ix2 r l) = m ((c : Thread nD τ).loc main_arg7) (ix2 ⟨512 * t.val + r.val, index_lt r⟩ l) := by
  blk_point [iblk, V, idx t]

theorem read4 (t : Fin cfg0.N) (r : Fin 512) (l : Fin 256) :
    iblk m c 4 t (ix2 r l) = m ((c : Thread nD τ).loc main_arg8) (ix2 ⟨512 * t.val + r.val, index_lt r⟩ l) := by
  blk_point [iblk, V, idx t]

theorem read5 (t : Fin cfg0.N) (r : Fin 512) (l : Fin 256) :
    iblk m c 5 t (ix2 r l) = m ((c : Thread nD τ).loc main_arg9) (ix2 ⟨512 * t.val + r.val, index_lt r⟩ l) := by
  blk_point [iblk, V, idx t]

theorem read6 (t : Fin cfg0.N) (r : Fin 512) (l : Fin 256) :
    iblk m c 6 t (ix2 r l) = m ((c : Thread nD τ).loc main_arg10) (ix2 ⟨512 * t.val + r.val, index_lt r⟩ l) := by
  blk_point [iblk, V, idx t]

theorem read7 (t : Fin cfg0.N) (r : Fin 512) (l : Fin 128) :
    iblk m c 7 t (ix2 r l) = m ((c : Thread nD τ).loc main_arg11) (ix2 ⟨512 * t.val + r.val, index_lt r⟩ l) := by
  blk_point [iblk, V, idx t]

theorem read9 (t : Fin cfg0.N) (r : Fin 512) (l : Fin 1024) :
    iblk m c 9 t (ix2 r l) = m ((c : Thread nD τ).loc main_arg0) (ix2 ⟨512 * t.val + r.val, index_lt r⟩ l) := by
  blk_point [iblk, V, idx t]

theorem read11 (t : Fin cfg0.N) (r : Fin 512) (l : Fin 1024) :
    iblk m c 11 t (ix2 r l) = m ((c : Thread nD τ).loc main_arg3) (ix2 ⟨512 * t.val + r.val, index_lt r⟩ l) := by
  blk_point [iblk, V, idx t]

theorem read8 (t : Fin cfg0.N) (k : Fin 1024) (l : Fin 2432) : iblk m c 8 t (ix3 0 k l) = m ((c : Thread nD τ).loc main_arg2) (ix3 1 k l) := by
  blk_point [iblk, V, idx t]

theorem read10 (t : Fin cfg0.N) (k : Fin 1024) : iblk m c 10 t (ix3 0 0 k) = m ((c : Thread nD τ).loc main_arg1) (ix2 1 k) := by
  blk_point [iblk, V, idx t]

theorem dx_at (t : Fin cfg0.N) (r : Fin 512) (q : Fin 1024) :
    entry (iblk m c 11 t (ix2 r q)) (fun k => iblk m c 9 t (ix2 r k)) (fun l => iblk m c 0 t (ix2 r l)) (fun l => iblk m c 1 t (ix2 r l)) (fun l => iblk m c 2 t (ix2 r l)) (fun l => iblk m c 3 t (ix2 r l)) (fun l => iblk m c 4 t (ix2 r l)) (fun l => iblk m c 5 t (ix2 r l)) (fun l => iblk m c 6 t (ix2 r l)) (fun l => iblk m c 7 t (ix2 r l)) (fun k l => iblk m c 8 t (ix3 0 k l)) (fun k => iblk m c 10 t (ix3 0 0 k)) q
    = DxReferenceIdeal.Terms.dx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix2 ⟨512 * t.val + r.val, index_lt r⟩ q) := by
  refine Eq.trans ?_ (dx_entry _ _ _ _ _ _ _ _ _ _ _ _ _ _).symm
  simp only [read0 m c t, read1 m c t, read2 m c t, read3 m c t, read4 m c t, read5 m c t, read6 m c t, read7 m c t, read8 m c t, read9 m c t, read10 m c t, read11 m c t]

theorem dx_final : (dats m 0 c).arrAt 12 (cfgs 0).N
    = DxReferenceIdeal.Terms.dx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 12 _ (by decide +kernel) fun t hf y => ?_
  blk_simp
  rw [after0_12]
  by_cases h0 : t.val % 16 = 0
  · rw [outsAt0_A m c t h0]
    frame_out
    rw [dx_point]
    refine (congrArg (fun b => entry b _ _ _ _ _ _ _ _ _ _ _ _) (congrArg (iblk m c 11 t) (ValueIdx.eq_ix2 y))).trans
      ((dx_at m c t (y 0) (y 1)).trans (congrArg (DxReferenceIdeal.Terms.dx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) ?_))
    blk_ext [idx t]
  · rw [outsAt0_B m c t h0]
    frame_out
    rw [dx_point]
    refine (congrArg (fun b => entry b _ _ _ _ _ _ _ _ _ _ _ _) (congrArg (iblk m c 11 t) (ValueIdx.eq_ix2 y))).trans
      ((dx_at m c t (y 0) (y 1)).trans (congrArg (DxReferenceIdeal.Terms.dx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) ?_))
    blk_ext [idx t]

/-- What the rows of grid point `t` add to an entry of the gradient in the gain. -/
def part (t : Fin cfg0.N) (j : S1x1024.Idx) : EReal :=
  ∑ r : Fin 512, gain (fun k => iblk m c 9 t (ix2 r k)) (fun l => iblk m c 0 t (ix2 r l)) (fun l => iblk m c 1 t (ix2 r l)) (fun l => iblk m c 2 t (ix2 r l)) (fun l => iblk m c 3 t (ix2 r l)) (fun l => iblk m c 4 t (ix2 r l)) (fun l => iblk m c 5 t (ix2 r l)) (fun l => iblk m c 6 t (ix2 r l)) (fun l => iblk m c 7 t (ix2 r l)) (fun k l => iblk m c 8 t (ix3 0 k l)) (j 1)

theorem part_row (t : Fin cfg0.N) (r : Fin 512) (q : Fin 1024) : gain (fun k => iblk m c 9 t (ix2 r k)) (fun l => iblk m c 0 t (ix2 r l)) (fun l => iblk m c 1 t (ix2 r l)) (fun l => iblk m c 2 t (ix2 r l)) (fun l => iblk m c 3 t (ix2 r l)) (fun l => iblk m c 4 t (ix2 r l)) (fun l => iblk m c 5 t (ix2 r l)) (fun l => iblk m c 6 t (ix2 r l)) (fun l => iblk m c 7 t (ix2 r l)) (fun k l => iblk m c 8 t (ix3 0 k l)) q
    = gain (fun k => m ((c : Thread nD τ).loc main_arg0) (ix2 ⟨512 * t.val + r.val, index_lt r⟩ k)) (fun l => m ((c : Thread nD τ).loc main_arg4) (ix2 ⟨512 * t.val + r.val, index_lt r⟩ l)) (fun l => m ((c : Thread nD τ).loc main_arg5) (ix2 ⟨512 * t.val + r.val, index_lt r⟩ l)) (fun l => m ((c : Thread nD τ).loc main_arg6) (ix2 ⟨512 * t.val + r.val, index_lt r⟩ l)) (fun l => m ((c : Thread nD τ).loc main_arg7) (ix2 ⟨512 * t.val + r.val, index_lt r⟩ l)) (fun l => m ((c : Thread nD τ).loc main_arg8) (ix2 ⟨512 * t.val + r.val, index_lt r⟩ l)) (fun l => m ((c : Thread nD τ).loc main_arg9) (ix2 ⟨512 * t.val + r.val, index_lt r⟩ l)) (fun l => m ((c : Thread nD τ).loc main_arg10) (ix2 ⟨512 * t.val + r.val, index_lt r⟩ l)) (fun l => m ((c : Thread nD τ).loc main_arg11) (ix2 ⟨512 * t.val + r.val, index_lt r⟩ l)) (fun k l => m ((c : Thread nD τ).loc main_arg2) (ix3 1 k l)) q := by
  simp only [read0 m c t, read1 m c t, read2 m c t, read3 m c t, read4 m c t, read5 m c t, read6 m c t, read7 m c t, read8 m c t, read9 m c t]

theorem row_congr {R : Fin 8192 → Fin 1024 → EReal} {r r' : Fin 8192} {j j' : Fin 1024} (hr : r.val = r'.val) (hj : j.val = j'.val) :
    R r j = R r' j' := by
  rw [Fin.ext hr, Fin.ext hj]

theorem dg_final : (dats m 0 c).arrAt 13 (cfgs 0).N
    = DxReferenceIdeal.Terms.dg (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 13 _ (by decide +kernel) fun t hf y => ?_
  blk_simp
  rw [after0_13, Pipeline.eq_sum_fin_of_reset_step_apply_of_flush (fun n h => (outsAt0 m c n h).2) 16 (fun _ => 0) (fun t j => part m c t j)
    (fun t h j => by rw [outsAt0_A m c t h]; frame_out; rw [dg_point, zero_point]; rfl)
    (fun t h j => by rw [outsAt0_B m c t h]; frame_out; rw [dg_point]; rfl)
    t ((flush0_13 t).mp hf) _, zero_add, dg_ref]
  refine Fin.sum_mul_add_congr fun s r hl => ?_
  refine (part_row m c _ r _).trans (row_congr (R := fun i q => gain (fun k => m ((c : Thread nD τ).loc main_arg0) (ix2 i k)) (fun l => m ((c : Thread nD τ).loc main_arg4) (ix2 i l)) (fun l => m ((c : Thread nD τ).loc main_arg5) (ix2 i l)) (fun l => m ((c : Thread nD τ).loc main_arg6) (ix2 i l)) (fun l => m ((c : Thread nD τ).loc main_arg7) (ix2 i l)) (fun l => m ((c : Thread nD τ).loc main_arg8) (ix2 i l)) (fun l => m ((c : Thread nD τ).loc main_arg9) (ix2 i l)) (fun l => m ((c : Thread nD τ).loc main_arg10) (ix2 i l)) (fun l => m ((c : Thread nD τ).loc main_arg11) (ix2 i l)) (fun k l => m ((c : Thread nD τ).loc main_arg2) (ix3 1 k l)) q) ?_ ?_)
  · have h : t.val < 16 := t.isLt
    show 512 * (16 * (t.val / 16) + s.val) + r.val = s.val * 512 + r.val
    omega
  · blk_simp
    simp [idx t]

end Cert.DxIdeal.Call

end
-- ==== Proof.Calls.DxAlgebraic.lean ====
/- The value claim of the input gradient of the input projection. -/
module

public import proofs.«01_k».proof.Defs
public import proofs.«01_k».proof.Proof.Gen.DxIdeal.Value
public import proofs.«01_k».proof.Proof.Calls.DxValue

@[expose] public section

set_option maxRecDepth 16384

noncomputable section

namespace Cert.DxIdeal.Call

open Idealize.ShloMosaic Idealize.ShloMosaic.TcCoe Idealize.SL.Sem

theorem algebraic : Cert.algebraic_DxIdeal_DxReferenceIdeal := by
  intro m g m' g' _ hagree
  refine ⟨fun c => Cert.DxReferenceIdeal.Terms.dx (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9)) (m ((c.tc : Thread Cert.DxIdeal.nD Cert.DxIdeal.τ).loc Cert.DxIdeal.main_arg10)) (m ((c.tc : Thread Cert.DxIdeal.nD Cert.DxIdeal.τ).loc Cert.DxIdeal.main_arg11)),
    fun c => Cert.DxReferenceIdeal.Terms.dg (m ((c.tc : Thread Cert.DxIdeal.nD Cert.DxIdeal.τ).loc Cert.DxIdeal.main_arg0)) (m ((c.tc : Thread Cert.DxIdeal.nD Cert.DxIdeal.τ).loc Cert.DxIdeal.main_arg2)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9)) (m ((c.tc : Thread Cert.DxIdeal.nD Cert.DxIdeal.τ).loc Cert.DxIdeal.main_arg10)) (m ((c.tc : Thread Cert.DxIdeal.nD Cert.DxIdeal.τ).loc Cert.DxIdeal.main_arg11)), ?_, ?_⟩
  · refine (θ_run _ _ _).mono (fun r h c => ?_) (Cert.DxIdeal.Value.run_blocks (F := Ideal) m g)
    exact ⟨(h c).1.trans (Cert.DxIdeal.Call.dx_final m c), (h c).2.1.trans (Cert.DxIdeal.Call.dg_final m c), (h c).2.2⟩
  · refine (θ_run _ _ _).mono (fun r h c => ?_) (Cert.DxReferenceIdeal.Value.run (F := Ideal) m' g')
    obtain ⟨a0, a1, a2, a3, a4, a5, a6, a7, a8, a9, a10, a11⟩ := hagree c
    refine ⟨(h c).1.trans ?_, (h c).2.1.trans ?_, (h c).2.2⟩
    · show Cert.DxReferenceIdeal.Terms.dx _ _ _ _ _ _ _ _ _ _ _ _ = Cert.DxReferenceIdeal.Terms.dx _ _ _ _ _ _ _ _ _ _ _ _
      rw [a0, a1, a2, a3, a4, a5, a6, a7, a8, a9, a10, a11]
    · show Cert.DxReferenceIdeal.Terms.dg _ _ _ _ _ _ _ _ _ _ = Cert.DxReferenceIdeal.Terms.dg _ _ _ _ _ _ _ _ _ _
      rw [a0, a2, a4, a5, a6, a7, a8, a9, a10, a11]

end Cert.DxIdeal.Call

end
-- ==== Proof.Calls.DyTerms.lean ====
/- The six results of the reference for the gradient of the output projection, as terms of its arguments. -/
module

public import proofs.«01_k».proof.Proof.Gen.DyReferenceIdeal.Run
public import Idealize.ShloMosaic.PureOps.Ideal

@[expose] public section

set_option maxRecDepth 16384

noncomputable section

namespace Cert.DyReferenceIdeal.Terms

open Idealize.ShloMosaic Idealize.ShloMosaic.TcCoe Cert.DyReferenceIdeal Cert.DyReferenceIdeal.Gen

/-- The reference's term for the gradient in the first mixer's output. -/
abbrev dya (a0 : FVec Ideal S8192x1024 .f32) (a5 : FVec Ideal S4x1024x1024 .f32) : FVec Ideal S8192x384 .f32 :=
  extractStridedSlice S8192x384 ![0, 0] (Host.dotGeneral (φ₁ := .f32) (φ₂ := .f32) dot_S8192x1024_S1024x1024_S8192x1024_1_1_0_0_n_n none a0 (shapeCast _ (extractStridedSlice S1x1024x1024 ![1, 0, 0] a5 slices_S4x1024x1024_S1x1024x1024_1_0_0) shapeCasts_S1x1024x1024_S1024x1024)) slices_S8192x1024_S8192x384_0_0

/-- The reference's term for the gradient in the third mixer's output. -/
abbrev dyc (a0 : FVec Ideal S8192x1024 .f32) (a5 : FVec Ideal S4x1024x1024 .f32) : FVec Ideal S8192x256 .f32 :=
  extractStridedSlice S8192x256 ![0, 768] (Host.dotGeneral (φ₁ := .f32) (φ₂ := .f32) dot_S8192x1024_S1024x1024_S8192x1024_1_1_0_0_n_n none a0 (shapeCast _ (extractStridedSlice S1x1024x1024 ![1, 0, 0] a5 slices_S4x1024x1024_S1x1024x1024_1_0_0) shapeCasts_S1x1024x1024_S1024x1024)) slices_S8192x1024_S8192x256_0_768

/-- The reference's term for the gradient in the attention's output. -/
abbrev dout (a0 : FVec Ideal S8192x1024 .f32) (a4 : FVec Ideal S8192x2432 .f32) (a5 : FVec Ideal S4x1024x1024 .f32) : FVec Ideal S8192x384 .bf16 :=
  truncf .bf16 (mulf (extractStridedSlice S8192x384 ![0, 384] (Host.dotGeneral (φ₁ := .f32) (φ₂ := .f32) dot_S8192x1024_S1024x1024_S8192x1024_1_1_0_0_n_n none a0 (shapeCast _ (extractStridedSlice S1x1024x1024 ![1, 0, 0] a5 slices_S4x1024x1024_S1x1024x1024_1_0_0) shapeCasts_S1x1024x1024_S1024x1024)) slices_S8192x1024_S8192x384_0_384) (mulf (extractStridedSlice S8192x384 ![0, 1152] a4 slices_S8192x2432_S8192x384_0_1152) (Host.divf (broadcastInDim S8192x384 ![] bcast_S_S8192x384 (constant S_ .f32 0x3F800000#32)) (addf (broadcastInDim S8192x384 ![] bcast_S_S8192x384 (constant S_ .f32 0x3F800000#32)) (Host.exp (Host.negf (extractStridedSlice S8192x384 ![0, 1152] a4 slices_S8192x2432_S8192x384_0_1152))))))) bitsLt_bf16_f32

/-- The reference's term for the gradient in the gate. -/
abbrev dgate (a0 : FVec Ideal S8192x1024 .f32) (a2 : FVec Ideal S8192x384 .f32) (a4 : FVec Ideal S8192x2432 .f32) (a5 : FVec Ideal S4x1024x1024 .f32) : FVec Ideal S8192x384 .bf16 :=
  truncf .bf16 (addf (mulf (mulf a2 (extractStridedSlice S8192x384 ![0, 384] (Host.dotGeneral (φ₁ := .f32) (φ₂ := .f32) dot_S8192x1024_S1024x1024_S8192x1024_1_1_0_0_n_n none a0 (shapeCast _ (extractStridedSlice S1x1024x1024 ![1, 0, 0] a5 slices_S4x1024x1024_S1x1024x1024_1_0_0) shapeCasts_S1x1024x1024_S1024x1024)) slices_S8192x1024_S8192x384_0_384)) (Host.divf (broadcastInDim S8192x384 ![] bcast_S_S8192x384 (constant S_ .f32 0x3F800000#32)) (addf (broadcastInDim S8192x384 ![] bcast_S_S8192x384 (constant S_ .f32 0x3F800000#32)) (Host.exp (Host.negf (extractStridedSlice S8192x384 ![0, 1152] a4 slices_S8192x2432_S8192x384_0_1152)))))) (mulf (mulf (extractStridedSlice S8192x384 ![0, 1152] a4 slices_S8192x2432_S8192x384_0_1152) (mulf a2 (extractStridedSlice S8192x384 ![0, 384] (Host.dotGeneral (φ₁ := .f32) (φ₂ := .f32) dot_S8192x1024_S1024x1024_S8192x1024_1_1_0_0_n_n none a0 (shapeCast _ (extractStridedSlice S1x1024x1024 ![1, 0, 0] a5 slices_S4x1024x1024_S1x1024x1024_1_0_0) shapeCasts_S1x1024x1024_S1024x1024)) slices_S8192x1024_S8192x384_0_384))) (mulf (Host.divf (broadcastInDim S8192x384 ![] bcast_S_S8192x384 (constant S_ .f32 0x3F800000#32)) (addf (broadcastInDim S8192x384 ![] bcast_S_S8192x384 (constant S_ .f32 0x3F800000#32)) (Host.exp (Host.negf (extractStridedSlice S8192x384 ![0, 1152] a4 slices_S8192x2432_S8192x384_0_1152))))) (subf (broadcastInDim S8192x384 ![] bcast_S_S8192x384 (constant S_ .f32 0x3F800000#32)) (Host.divf (broadcastInDim S8192x384 ![] bcast_S_S8192x384 (constant S_ .f32 0x3F800000#32)) (addf (broadcastInDim S8192x384 ![] bcast_S_S8192x384 (constant S_ .f32 0x3F800000#32)) (Host.exp (Host.negf (extractStridedSlice S8192x384 ![0, 1152] a4 slices_S8192x2432_S8192x384_0_1152))))))))) bitsLt_bf16_f32

/-- The reference's term for the sum over a head's lanes. -/
abbrev delta (a0 : FVec Ideal S8192x1024 .f32) (a2 : FVec Ideal S8192x384 .f32) (a4 : FVec Ideal S8192x2432 .f32) (a5 : FVec Ideal S4x1024x1024 .f32) : FVec Ideal S3x16x8x512 .f32 :=
  pad S3x16x8x512 ![0, 0, 0, 0] ![0, 0, 6, 0] ![0, 0, 0, 0] (transpose S3x16x2x512 [2, 1, 3, 0] (transpose S512x16x3x2 [1, 0, 2, 3] (Host.reduceAdd (shapeCast _ (mulf (mulf (extractStridedSlice S8192x384 ![0, 384] (Host.dotGeneral (φ₁ := .f32) (φ₂ := .f32) dot_S8192x1024_S1024x1024_S8192x1024_1_1_0_0_n_n none a0 (shapeCast _ (extractStridedSlice S1x1024x1024 ![1, 0, 0] a5 slices_S4x1024x1024_S1x1024x1024_1_0_0) shapeCasts_S1x1024x1024_S1024x1024)) slices_S8192x1024_S8192x384_0_384) (mulf (extractStridedSlice S8192x384 ![0, 1152] a4 slices_S8192x2432_S8192x384_0_1152) (Host.divf (broadcastInDim S8192x384 ![] bcast_S_S8192x384 (constant S_ .f32 0x3F800000#32)) (addf (broadcastInDim S8192x384 ![] bcast_S_S8192x384 (constant S_ .f32 0x3F800000#32)) (Host.exp (Host.negf (extractStridedSlice S8192x384 ![0, 1152] a4 slices_S8192x2432_S8192x384_0_1152))))))) a2) shapeCasts_S8192x384_S16x512x3x2x64) (constant S_ .f32 0x00000000#32) reducesTo_S16x512x3x2x64_S16x512x3x2_d4 h_S_) transposes_S16x512x3x2_S512x16x3x2_1_0_2_3) transposes_S512x16x3x2_S3x16x2x512_2_1_3_0) (sitofp .f32 (constantI S_ 32 0#32)) pads_S3x16x2x512_S3x16x8x512_000_000_060_000 h_S_

/-- The reference's term for the gradient in the weights. -/
abbrev dw (a0 : FVec Ideal S8192x1024 .f32) (a1 : FVec Ideal S8192x384 .f32) (a2 : FVec Ideal S8192x384 .f32) (a3 : FVec Ideal S8192x256 .f32) (a4 : FVec Ideal S8192x2432 .f32) : FVec Ideal S1024x1024 .f32 :=
  transpose S1024x1024 [1, 0] (Host.dotGeneral (φ₁ := .f32) (φ₂ := .f32) dot_S8192x1024_S8192x1024_S1024x1024_0_0_1_1_n_n none a0 ((concatenate S8192x1024 1 [⟨S8192x384, (a1 : (⟨S8192x384, .f32⟩ : BufTy).Contents (Elt Ideal))⟩, ⟨S8192x384, ((mulf a2 (mulf (extractStridedSlice S8192x384 ![0, 1152] a4 slices_S8192x2432_S8192x384_0_1152) (Host.divf (broadcastInDim S8192x384 ![] bcast_S_S8192x384 (constant S_ .f32 0x3F800000#32)) (addf (broadcastInDim S8192x384 ![] bcast_S_S8192x384 (constant S_ .f32 0x3F800000#32)) (Host.exp (Host.negf (extractStridedSlice S8192x384 ![0, 1152] a4 slices_S8192x2432_S8192x384_0_1152))))))) : (⟨S8192x384, .f32⟩ : BufTy).Contents (Elt Ideal))⟩, ⟨S8192x256, (a3 : (⟨S8192x256, .f32⟩ : BufTy).Contents (Elt Ideal))⟩] concatenates_S8192x384_S8192x384_S8192x256_S8192x1024_d1 : (⟨S8192x1024, .f32⟩ : BufTy).Contents (Elt Ideal)))) transposes_S1024x1024_S1024x1024_1_0

end Cert.DyReferenceIdeal.Terms

end
-- ==== Proof.Calls.Gate.lean ====
/- The gate's sigmoid, written through the hyperbolic tangent and through the exponential, and the gate's gradient. -/
module

public import proofs.«01_k».proof.Proof.Value.RowEq

@[expose] public section

noncomputable section

namespace Cert.Gate

open Idealize.ShloMosaic Cert.Attn

/-- A half, a float constant. -/
def half : EReal := Ideal.ofBits .f32 0x3F000000#32
/-- One, a float constant. -/
def one : EReal := Ideal.ofBits .f32 0x3F800000#32

theorem half_real : half = ((1 / 2 : ℝ) : EReal) := by
  simp only [half, Ideal.ofBits, Ideal.ieee]
  simp
  norm_num [← EReal.coe_mul]

theorem one_real : one = ((1 : ℝ) : EReal) := by
  simp only [one, Ideal.ofBits, Ideal.ieee]
  simp
  norm_num [← EReal.coe_mul]

/-- The sigmoid through the hyperbolic tangent. -/
def sig (g : EReal) : EReal := half * Ideal.tanh (half * g) + half

theorem real_sig (x : ℝ) : 1 / 2 * Real.tanh (1 / 2 * x) + 1 / 2 = 1 / (1 + Real.exp (-x)) := by
  have ha := Real.exp_pos (1 / 2 * x)
  have hb := Real.exp_pos (-(1 / 2 * x))
  have h1 : Real.exp (1 / 2 * x) * Real.exp (-(1 / 2 * x)) = 1 := by rw [← Real.exp_add]; simp
  have h2 : Real.exp (-x) = Real.exp (-(1 / 2 * x)) * Real.exp (-(1 / 2 * x)) := by rw [← Real.exp_add]; congr 1; ring
  rw [Real.tanh_eq_sinh_div_cosh, Real.sinh_eq, Real.cosh_eq, h2]
  generalize Real.exp (1 / 2 * x) = a at *
  generalize Real.exp (-(1 / 2 * x)) = b at *
  obtain rfl : a = 1 / b := by rw [eq_div_iff hb.ne']; exact h1
  field_simp
  ring

theorem sig_top : sig ⊤ = ((1 : ℝ) : EReal) := by
  rw [sig, half_real, EReal.coe_mul_top_of_pos (by norm_num)]
  show ((1 / 2 : ℝ) : EReal) * 1 + ((1 / 2 : ℝ) : EReal) = _
  rw [mul_one, ← EReal.coe_add]
  norm_num

theorem sig_bot : sig ⊥ = ((0 : ℝ) : EReal) := by
  rw [sig, half_real, EReal.coe_mul_bot_of_pos (by norm_num)]
  show ((1 / 2 : ℝ) : EReal) * ((-1 : ℝ) : EReal) + ((1 / 2 : ℝ) : EReal) = _
  rw [← EReal.coe_mul, ← EReal.coe_add]
  norm_num

theorem sig_coe (x : ℝ) : sig x = ((1 / (1 + Real.exp (-x)) : ℝ) : EReal) := by
  rw [sig, half_real, ← EReal.coe_mul]
  show ((1 / 2 : ℝ) : EReal) * ((Real.tanh (1 / 2 * x) : ℝ) : EReal) + ((1 / 2 : ℝ) : EReal) = _
  rw [← EReal.coe_mul, ← EReal.coe_add, real_sig]

/-- The two ways of writing the sigmoid agree. -/
theorem sig_eq_one (g : EReal) : sig g = Ideal.div one (one + Ideal.exp (-g)) := by
  induction g using EReal.rec with
  | bot =>
    rw [sig_bot, EReal.neg_bot, Ideal.exp_top, one_real, EReal.coe_add_top, Ideal.div, if_neg EReal.top_ne_zero, EReal.inv_top, mul_zero]
    rfl
  | coe x =>
    rw [sig_coe, ← EReal.coe_neg, Ideal.exp_coe, one_real, ← EReal.coe_add, div_real _ _ (by positivity)]
  | top =>
    rw [sig_top, EReal.neg_top, Ideal.exp_bot, one_real, add_zero, div_real _ _ one_ne_zero, div_one]

/-- The gate's gradient, written two ways, on a real product of the output and its gradient. -/
theorem grad_eq_one (p : ℝ) (g : EReal) : (p : EReal) * (sig g * (one + g * (one - sig g)))
    = (p : EReal) * sig g + g * (p : EReal) * (sig g * (one - sig g)) := by
  induction g using EReal.rec with
  | bot => rw [sig_bot, EReal.coe_zero, zero_mul, zero_mul, mul_zero, mul_zero, add_zero]
  | coe x =>
    rw [sig_coe, one_real]
    simp only [← EReal.coe_sub, ← EReal.coe_mul, ← EReal.coe_add]
    congr 1
    ring
  | top =>
    rw [sig_top, one_real, ← EReal.coe_sub, sub_self, EReal.coe_zero, EReal.coe_one, mul_zero, mul_zero, mul_zero, add_zero, add_zero, mul_one]

theorem one_eq : one = 1 := one_real.trans EReal.coe_one

theorem sig_eq (g : EReal) : sig g = Ideal.div 1 (1 + Ideal.exp (-g)) := by
  have h := sig_eq_one g
  rwa [one_eq] at h

theorem grad_eq (p : ℝ) (g : EReal) : (p : EReal) * (sig g * (1 + g * (1 - sig g)))
    = (p : EReal) * sig g + g * (p : EReal) * (sig g * (1 - sig g)) := by
  have h := grad_eq_one p g
  rwa [one_eq] at h

end Cert.Gate

end
-- ==== Proof.Calls.DyMask.lean ====
/- Which lanes the kernel adds up into each row of `delta`: the lanes of the row's head. -/
module

public import proofs.«01_k».proof.Proof.Gen.DyIdeal.Skeleton
public import Idealize.ShloMosaic.Lib.Pipeline.ValueKit
public import Idealize.ShloMosaic.Lib.Claim

@[expose] public section

set_option maxRecDepth 16384

noncomputable section

namespace Cert.DyIdeal.Call

open Idealize.ShloMosaic Idealize.ShloMosaic.TcCoe Idealize.SL.Sem Cert.DyIdeal Cert.DyIdeal.Gen

/-- The rows' numbers. -/
abbrev rows : IVec S24x384 32 := iota .tc S24x384 32 [0] iota_S24x384_d0_w32

/-- The mask that the payload computes from a row's head, the row's number within its eight and a lane. -/
def mask (v100 : IVec S24x384 32) (v102 : BitVec 32) (v104 : IVec S24x384 32) (v106 : IVec S24x384 1) : IVec S24x384 32 :=
  have v107 : IVec S24x384 32 := broadcast S24x384 0#32
  have v108 : IVec S24x384 1 := cmpi .slt v104 v107
  let v109 : BitVec 1 := Scalar.cmpi .slt v102 0#32
  have v110 : IVec S24x384 1 := broadcast S24x384 v109
  have v111 : IVec S24x384 1 := broadcastTo S24x384 v110 broadcasts_S24x384_S24x384
  have v112 : IVec S24x384 1 := xori v108 v111
  have v113 : IVec S24x384 1 := andi v112 v106
  have v114 : IVec S24x384 32 := broadcast S24x384 v102
  have v115 : IVec S24x384 32 := addi v104 v114
  have v116 : IVec S24x384 32 := select v113 v115 v104
  have v117 : IVec S24x384 32 := broadcast S24x384 2#32
  have v118 : IVec S24x384 1 := cmpi .slt v116 v117
  have v119 : IVec S24x384 32 := iota .tc S24x384 32 [1] iota_S24x384_d1_w32
  have v120 : IVec S24x384 32 := broadcast S24x384 64#32
  have v121 : IVec S24x384 32 := divsi v119 v120
  have v122 : IVec S24x384 32 := broadcast S24x384 0#32
  have v123 : IVec S24x384 1 := cmpi .sgt v119 v122
  have v124 : IVec S24x384 32 := extui 32 v123 natLt_1_32
  have v125 : IVec S24x384 32 := broadcast S24x384 0#32
  have v126 : IVec S24x384 1 := cmpi .slt v119 v125
  have v127 : IVec S24x384 32 := extui 32 v126 natLt_1_32
  have v128 : IVec S24x384 32 := subi v124 v127
  let v129 : BitVec 1 := Scalar.cmpi .sgt 64#32 0#32
  let v130 : BitVec 32 := Scalar.extui v129
  let v131 : BitVec 1 := Scalar.cmpi .slt 64#32 0#32
  let v132 : BitVec 32 := Scalar.extui v131
  let v133 : BitVec 32 := Scalar.subi v130 v132
  have v134 : IVec S24x384 32 := broadcast S24x384 v133
  have v135 : IVec S24x384 1 := cmpi .ne v128 v134
  have v136 : IVec S24x384 32 := broadcast S24x384 64#32
  have v137 : IVec S24x384 32 := remsi v119 v136
  have v138 : IVec S24x384 32 := broadcast S24x384 0#32
  have v139 : IVec S24x384 1 := cmpi .ne v137 v138
  have v140 : IVec S24x384 1 := andi v135 v139
  have v141 : IVec S24x384 32 := broadcast S24x384 1#32
  have v142 : IVec S24x384 32 := subi v121 v141
  have v143 : IVec S24x384 32 := select v140 v142 v121
  have v144 : IVec S24x384 1 := cmpi .eq v143 v100
  have v145 : IVec S24x384 1 := andi v118 v144
  have v146 : IVec S24x384 32 := extui 32 v145 natLt_1_32
  v146

/-- Row `i` belongs to pair `i / 8`, and is one of its two heads when it is the first or second of its eight. -/
theorem mask_at : ∀ (i : Fin 24) (l : Fin 384),
    mask (k0_pay19 rows 8#32 k0_pay17 k0_pay18) (Scalar.select (Scalar.cmpi .eq 8#32 0#32) 1#32 8#32) (k0_pay20 rows) (k0_pay21 rows) (ix2 i l)
      = if i.val % 8 < 2 ∧ l.val / 64 = i.val / 8 * 2 + i.val % 8 then 1#32 else 0#32 := by
  decide +kernel

/-- The lanes of one head. -/
theorem sum_head (f : Fin 384 → EReal) (h : ℕ) (hh : h < 6) :
    (∑ l : Fin 384, if l.val / 64 = h then f l else 0) = ∑ k : Fin 64, f ⟨64 * h + k.val, by omega⟩ := by
  rw [← Finset.sum_filter]
  refine (Finset.sum_nbij' (fun k : Fin 64 => (⟨64 * h + k.val, by omega⟩ : Fin 384)) (fun l : Fin 384 => (⟨l.val % 64, by omega⟩ : Fin 64))
    ?_ ?_ ?_ ?_ ?_).symm
  · intro k _
    simp only [Finset.mem_filter, Finset.mem_univ, true_and]
    have := k.isLt
    omega
  · intro l _
    exact Finset.mem_univ _
  · intro k _
    apply Fin.ext
    show (64 * h + k.val) % 64 = k.val
    have := k.isLt
    omega
  · intro l hl
    simp only [Finset.mem_filter, Finset.mem_univ, true_and] at hl
    apply Fin.ext
    show 64 * h + l.val % 64 = l.val
    omega
  · intro k _
    rfl

theorem delta_point (ov dout v100 v102 v104 v106) (i : Fin 24) (r : Fin 512) : k0_pay22 (F := Ideal) ov dout v100 v102 v104 v106 (ix2 i r)
    = ∑ l : Fin 384, ((((mask v100 v102 v104 v106 (ix2 i l)).toInt : ℝ)) : EReal) * (dout (ix2 r l) * ov (ix2 r l)) := by
  show matmul dot_S24x384_S512x384_S24x512_1_1_0_0_n_n (some .fp32) (sitofp .f32 (mask v100 v102 v104 v106)) (mulf dout ov) (constant S24x512 .f32 0x00000000#32) (ix2 i r) = _
  pointwise
  rfl

end Cert.DyIdeal.Call

end
-- ==== Proof.Calls.DyPoint.lean ====
/- Entries of the kernel's values of a grid point and of the reference's arrays, in terms of rows. -/
module

public import proofs.«01_k».proof.Proof.Calls.DyTerms
public import proofs.«01_k».proof.Proof.Calls.Gate
public import proofs.«01_k».proof.Proof.Calls.DyMask
public import Idealize.ShloMosaic.Lib.Pipeline.ValueKit
public import Idealize.ShloMosaic.Lib.Claim

@[expose] public section

set_option maxRecDepth 16384

noncomputable section

namespace Cert.DyIdeal.Call

open Idealize.ShloMosaic Idealize.ShloMosaic.TcCoe Idealize.SL.Sem Cert.DyIdeal Cert.DyIdeal.Gen

/-- An entry of the gradient in the three mixers' outputs. -/
def back (d w : Fin 1024 → EReal) : EReal := ∑ k : Fin 1024, d k * w k

/-- An entry of the gradient in the attention's output, from the gradient in the gated output and the gate. -/
def opened (b g : EReal) : EReal := b * (g * Gate.sig g)

/-- An entry of the gradient in the gate. -/
def gate (b o g : EReal) : EReal := b * o * (Gate.sig g * (1 + g * (1 - Gate.sig g)))

/-- A real product makes the two ways of writing the gate's gradient agree. -/
theorem gate_eq (b o g : EReal) (h : ∃ p : ℝ, b * o = (p : EReal)) :
    gate b o g = o * b * Gate.sig g + g * (o * b) * (Gate.sig g * (1 - Gate.sig g)) := by
  obtain ⟨p, hp⟩ := h
  rw [gate, mul_comm o b, hp]
  exact Gate.grad_eq p g

theorem back_point (x w j) : k0_pay6 (F := Ideal) x w j = back (fun k => x (ix2 (j 0) k)) (fun k => w (ix3 0 (j 1) k)) := by
  pointwise [k0_pay6, k0_pay5]
  rfl

theorem dya_point (x w) (r : Fin 512) (q : Fin 384) : k0_pay10 (F := Ideal) (k0_pay6 x w) (ix2 r q)
    = back (fun k => x (ix2 r k)) (fun k => w (ix3 0 ⟨0 + q.val, by omega⟩ k)) := by
  pointwise [k0_pay10]
  exact back_point _ _ _

theorem dyc_point (x w) (r : Fin 512) (q : Fin 256) : k0_pay11 (F := Ideal) (k0_pay6 x w) (ix2 r q)
    = back (fun k => x (ix2 r k)) (fun k => w (ix3 0 ⟨768 + q.val, by omega⟩ k)) := by
  pointwise [k0_pay11]
  exact back_point _ _ _

theorem dyb_point (x w) (r : Fin 512) (q : Fin 384) : k0_pay12 (F := Ideal) (k0_pay6 x w) (ix2 r q)
    = back (fun k => x (ix2 r k)) (fun k => w (ix3 0 ⟨384 + q.val, by omega⟩ k)) := by
  pointwise [k0_pay12]
  exact back_point _ _ _

theorem sig_point (g j) : k0_pay13 (F := Ideal) g j = Gate.sig (g j) := by
  pointwise [k0_pay13]
  rfl

theorem open_point (x w g) (r : Fin 512) (q : Fin 384) : k0_pay14 (F := Ideal) (k0_pay6 x w) g (ix2 r q)
    = opened (back (fun k => x (ix2 r k)) (fun k => w (ix3 0 ⟨384 + q.val, by omega⟩ k))) (g (ix2 r q)) := by
  show k0_pay12 (F := Ideal) (k0_pay6 x w) (ix2 r q) * (g (ix2 r q) * k0_pay13 (F := Ideal) g (ix2 r q)) = _
  rw [dyb_point, sig_point]
  rfl

theorem gate_point (x w g o) (r : Fin 512) (q : Fin 384) : k0_pay16 (F := Ideal) (k0_pay6 x w) g o (ix2 r q)
    = gate (back (fun k => x (ix2 r k)) (fun k => w (ix3 0 ⟨384 + q.val, by omega⟩ k))) (o (ix2 r q)) (g (ix2 r q)) := by
  pointwise [k0_pay16]
  rw [dyb_point, sig_point]
  rfl

/-- What one row adds to an entry of the gradient in the weights. -/
def outer (a b : EReal) : EReal := a * b

theorem dw0_point (x acc y) (p : Fin 384) (q : Fin 1024) : k0_pay7 (F := Ideal) x acc y (ix2 p q)
    = acc (ix2 p q) + ∑ r : Fin 512, outer (y (ix2 r p)) (x (ix2 r q)) := by
  pointwise [k0_pay7, k0_pay5]
  rfl

theorem dw1_point (x acc y) (p : Fin 384) (q : Fin 1024) : k0_pay8 (F := Ideal) x acc y (ix2 p q)
    = acc (ix2 p q) + ∑ r : Fin 512, outer (y (ix2 r p)) (x (ix2 r q)) := by
  pointwise [k0_pay8, k0_pay5]
  rfl

theorem dw2_point (x acc y) (p : Fin 256) (q : Fin 1024) : k0_pay9 (F := Ideal) x acc y (ix2 p q)
    = acc (ix2 p q) + ∑ r : Fin 512, outer (y (ix2 r p)) (x (ix2 r q)) := by
  pointwise [k0_pay9, k0_pay5]
  rfl

theorem zero_point (j) : k0_pay4 (F := Ideal) j = 0 := by pointwise [k0_pay4]

theorem dl1_point (v) (a b : Fin 1) (s : Fin 8) (r : Fin 512) : k0_pay2 (F := Ideal) v (ix4 a b s r) = v (ix2 ⟨8 + s.val, by omega⟩ r) := by
  pointwise [k0_pay2]

theorem dl2_point (v) (a b : Fin 1) (s : Fin 8) (r : Fin 512) : k0_pay3 (F := Ideal) v (ix4 a b s r) = v (ix2 ⟨16 + s.val, by omega⟩ r) := by
  pointwise [k0_pay3]

theorem dl0_point (v) (a b : Fin 1) (s : Fin 8) (r : Fin 512) : k0_pay1 (F := Ideal) v (ix4 a b s r) = v (ix2 s r) := by
  pointwise [k0_pay1]

theorem back_ref (d w) (i : Fin 8192) (q : Fin 1024) : Host.dotGeneral (F := Ideal) (φ₁ := .f32) (φ₂ := .f32) DyReferenceIdeal.dot_S8192x1024_S1024x1024_S8192x1024_1_1_0_0_n_n none d
      (shapeCast _ (extractStridedSlice DyReferenceIdeal.S1x1024x1024 ![1, 0, 0] w DyReferenceIdeal.Gen.slices_S4x1024x1024_S1x1024x1024_1_0_0) DyReferenceIdeal.Gen.shapeCasts_S1x1024x1024_S1024x1024) (ix2 i q)
    = back (fun k => d (ix2 i k)) (fun k => w (ix3 1 q k)) := by
  pointwise
  rfl

theorem dya_ref (d w) (i : Fin 8192) (q : Fin 384) : DyReferenceIdeal.Terms.dya d w (ix2 i q)
    = back (fun k => d (ix2 i k)) (fun k => w (ix3 1 ⟨0 + q.val, by omega⟩ k)) := by
  pointwise [DyReferenceIdeal.Terms.dya]
  rfl

theorem dyc_ref (d w) (i : Fin 8192) (q : Fin 256) : DyReferenceIdeal.Terms.dyc d w (ix2 i q)
    = back (fun k => d (ix2 i k)) (fun k => w (ix3 1 ⟨768 + q.val, by omega⟩ k)) := by
  pointwise [DyReferenceIdeal.Terms.dyc]
  rfl

theorem dout_ref (d z w) (i : Fin 8192) (q : Fin 384) : DyReferenceIdeal.Terms.dout d z w (ix2 i q)
    = opened (back (fun k => d (ix2 i k)) (fun k => w (ix3 1 ⟨384 + q.val, by omega⟩ k))) (z (ix2 i ⟨1152 + q.val, by omega⟩)) := by
  pointwise [DyReferenceIdeal.Terms.dout]
  rw [opened, Gate.sig_eq]
  rfl

theorem gate_ref (d o z w) (i : Fin 8192) (q : Fin 384)
    (h : ∃ p : ℝ, back (fun k => d (ix2 i k)) (fun k => w (ix3 1 ⟨384 + q.val, by omega⟩ k)) * o (ix2 i q) = (p : EReal)) :
    DyReferenceIdeal.Terms.dgate d o z w (ix2 i q)
    = gate (back (fun k => d (ix2 i k)) (fun k => w (ix3 1 ⟨384 + q.val, by omega⟩ k))) (o (ix2 i q)) (z (ix2 i ⟨1152 + q.val, by omega⟩)) := by
  rw [gate_eq _ _ _ h, Gate.sig_eq]
  pointwise [DyReferenceIdeal.Terms.dgate]
  rfl

/-- A head's sum over its 64 lanes, and zero where a row of `delta` belongs to no head. -/
def heads (f : Fin 384 → EReal) (p : Fin 3) (s : Fin 8) : EReal :=
  if h : s.val < 2 then ∑ x : Fin 64, f ⟨p.val * 128 + s.val * 64 + x.val, by omega⟩ else 0

theorem heads_pos (f p) (s : Fin 8) (h : s.val < 2) : heads f p s = ∑ x : Fin 64, f ⟨p.val * 128 + s.val * 64 + x.val, by omega⟩ := dif_pos h

theorem heads_neg (f p) (s : Fin 8) (h : ¬s.val < 2) : heads f p s = 0 := dif_neg h

theorem head_point (ov dout) (i : Fin 24) (r : Fin 512) (p : Fin 3) (s : Fin 8) (hi : i.val = 8 * p.val + s.val) :
    k0_pay22 (F := Ideal) ov dout (k0_pay19 rows 8#32 k0_pay17 k0_pay18) (Scalar.select (Scalar.cmpi .eq 8#32 0#32) 1#32 8#32) (k0_pay20 rows) (k0_pay21 rows) (ix2 i r)
    = heads (fun l => dout (ix2 r l) * ov (ix2 r l)) p s := by
  have h8 : i.val % 8 = s.val := by omega
  have h9 : i.val / 8 = p.val := by omega
  have hp := p.isLt
  rw [delta_point, heads]
  by_cases hs : s.val < 2
  · rw [dif_pos hs]
    refine Eq.trans ?_ ((sum_head (fun l => dout (ix2 r l) * ov (ix2 r l)) (p.val * 2 + s.val) (by omega)).trans
      (Finset.sum_congr rfl fun x _ => congrArg (fun l : Fin 384 => dout (ix2 r l) * ov (ix2 r l)) (Fin.ext ?_)))
    · refine Finset.sum_congr rfl fun l _ => ?_
      rw [mask_at, h8, h9]
      by_cases hl : l.val / 64 = p.val * 2 + s.val
      · rw [if_pos ⟨hs, hl⟩, if_pos hl]
        show (((1#32 : BitVec 32).toInt : ℝ) : EReal) * _ = _
        rw [show (1#32 : BitVec 32).toInt = 1 from rfl, Int.cast_one, EReal.coe_one, one_mul]
      · rw [if_neg (fun h => hl h.2), if_neg hl]
        show (((0#32 : BitVec 32).toInt : ℝ) : EReal) * _ = _
        rw [show (0#32 : BitVec 32).toInt = 0 from rfl, Int.cast_zero, EReal.coe_zero, zero_mul]
    · show 64 * (p.val * 2 + s.val) + x.val = p.val * 128 + s.val * 64 + x.val
      omega
  · rw [dif_neg hs]
    refine Finset.sum_eq_zero fun l _ => ?_
    rw [mask_at, h8, if_neg (fun h => hs h.1)]
    show (((0#32 : BitVec 32).toInt : ℝ) : EReal) * _ = _
    rw [show (0#32 : BitVec 32).toInt = 0 from rfl, Int.cast_zero, EReal.coe_zero, zero_mul]

/-- A lane's share of `delta`: the gradient in the attention's output times that output. -/
def lane (d : Fin 1024 → EReal) (w : Fin 1024 → Fin 1024 → EReal) (z o : Fin 384 → EReal) (l : Fin 384) : EReal :=
  opened (back d (w ⟨384 + l.val, by omega⟩)) (z l) * o l

set_option maxHeartbeats 1600000 in
theorem delta_ref (d o z w) (p : Fin 3) (t : Fin 16) (s : Fin 8) (r : Fin 512) : DyReferenceIdeal.Terms.delta d o z w (ix4 p t s r)
    = heads (lane (fun k => d (ix2 ⟨t.val * 512 + r.val, by omega⟩ k)) (fun q k => w (ix3 1 q k))
      (fun l => z (ix2 ⟨t.val * 512 + r.val, by omega⟩ ⟨1152 + l.val, by omega⟩)) (fun l => o (ix2 ⟨t.val * 512 + r.val, by omega⟩ l))) p s := by
  pointwise [DyReferenceIdeal.Terms.delta]
  by_cases hs : s.val < 2
  · rw [dif_pos hs, heads_pos _ _ _ hs]
    refine Finset.sum_congr rfl fun x _ => ?_
    unfold lane opened back
    rw [Gate.sig_eq]
  · rw [dif_neg hs, heads_neg _ _ _ hs]
    show (((0#32 : BitVec 32).toInt : ℝ) : EReal) = 0
    rw [show (0#32 : BitVec 32).toInt = 0 from rfl, Int.cast_zero, EReal.coe_zero]

/-- The entry at a column of the three mixers' outputs standing side by side. -/
def mix (a b : Fin 384 → EReal) (c : Fin 256 → EReal) (p : Fin 1024) : EReal :=
  if h : p.val < 384 then a ⟨p.val, h⟩ else if h' : p.val - 384 < 384 then b ⟨p.val - 384, h'⟩ else c ⟨p.val - 384 - 384, by omega⟩

/-- An entry of the gated output, as the forward pass has it. -/
def gated (o g : EReal) : EReal := o * (g * Ideal.div 1 (1 + Ideal.exp (-g)))

/-- What one row adds to an entry of the gradient in the weights. -/
def row (d : Fin 1024 → EReal) (a b : Fin 384 → EReal) (c : Fin 256 → EReal) (p q : Fin 1024) : EReal := outer (mix a b c p) (d q)

theorem dw_ref (d a o c z) (p q : Fin 1024) : DyReferenceIdeal.Terms.dw d a o c z (ix2 p q)
    = ∑ i : Fin 8192, row (fun k => d (ix2 i k)) (fun l => a (ix2 i l)) (fun l => gated (o (ix2 i l)) (z (ix2 i ⟨1152 + l.val, by omega⟩)))
      (fun l => c (ix2 i l)) p q := by
  pointwise [DyReferenceIdeal.Terms.dw]
  exact Finset.sum_congr rfl fun x _ => mul_comm _ _

end Cert.DyIdeal.Call

end
-- ==== Proof.Calls.DyTiles.lean ====
/- A block stored in three parts, read back at an index, and the block of zeros that the first grid point stores before. -/
module

public import proofs.«01_k».proof.Proof.Calls.DyPoint
public import Idealize.ShloMosaic.Lib.Pipeline.ValueKit
public import Idealize.ShloMosaic.Lib.Claim

@[expose] public section

set_option maxRecDepth 16384

noncomputable section

namespace Cert.DyIdeal.Call

open Idealize.ShloMosaic Idealize.ShloMosaic.TcCoe Idealize.SL.Sem Cert.DyIdeal Cert.DyIdeal.Gen

/-- Under the last store, the block holds what was stored. -/
theorem hit {S : Shape} (off size : Fin S.rank → ℕ) (inb : ∀ a, off a + size a ≤ S.size a) (w : (Rect.unit off size inb).shape.Idx → EReal)
    (L : List (View.Piece (Elt Ideal) S .f32)) (y : S.Idx) (x : (Rect.unit off size inb).shape.Idx) (h : ∀ a, (y a).val = off a + (x a).val) :
    View.canon ((⟨Rect.unit off size inb, w⟩ : View.Piece (Elt Ideal) S .f32) :: L) y = w x := by
  have e : y = (Rect.unit off size inb).emb x := funext fun a => Fin.ext (by
    rw [h a, Rect.emb_apply]
    show _ = off a + 1 * (x a).val
    omega)
  rw [e]
  exact View.canon_cons_emb _ w L x

/-- Off the last store, the block holds what the earlier stores left. -/
theorem miss {S : Shape} (off size : Fin S.rank → ℕ) (inb : ∀ a, off a + size a ≤ S.size a) (w : (Rect.unit off size inb).shape.Idx → EReal)
    (L : List (View.Piece (Elt Ideal) S .f32)) (y : S.Idx) (a : Fin S.rank) (h : (y a).val < off a ∨ off a + size a ≤ (y a).val) :
    View.canon ((⟨Rect.unit off size inb, w⟩ : View.Piece (Elt Ideal) S .f32) :: L) y = View.canon L y := by
  refine View.canon_cons_of_not_mem _ _ fun hm => ?_
  obtain ⟨x, hx⟩ := (Rect.unit off size inb).exists_idx_of_mem hm
  have h1 := Rect.idx_unit_val off size inb x a
  have h2 : (x a).val < size a := (x a).isLt
  rw [hx] at h1
  omega

section Parts

variable (i0 : ∀ a, (![0, 0] : Fin 2 → ℕ) a + (![384, 1024] : Fin 2 → ℕ) a ≤ S1024x1024.size a)
  (i1 : ∀ a, (![384, 0] : Fin 2 → ℕ) a + (![384, 1024] : Fin 2 → ℕ) a ≤ S1024x1024.size a)
  (i2 : ∀ a, (![768, 0] : Fin 2 → ℕ) a + (![256, 1024] : Fin 2 → ℕ) a ≤ S1024x1024.size a)
  (w0 w1 : S384x1024.Idx → EReal) (w2 : S256x1024.Idx → EReal) (L : List (View.Piece (Elt Ideal) S1024x1024 .f32)) (p q : Fin 1024)

theorem part2 (h : ¬p.val < 384) (h' : ¬p.val - 384 < 384) :
    View.canon ((⟨Rect.unit ![768, 0] ![256, 1024] i2, w2⟩ : View.Piece (Elt Ideal) S1024x1024 .f32) :: L) (ix2 p q)
    = w2 (ix2 ⟨p.val - 384 - 384, by omega⟩ q) := by
  refine hit (S := S1024x1024) ![768, 0] ![256, 1024] i2 w2 L (ix2 p q) (ix2 ⟨p.val - 384 - 384, by omega⟩ q) fun a => ?_
  fin_cases a
  · show p.val = 768 + (p.val - 384 - 384)
    omega
  · show q.val = 0 + q.val
    omega

theorem part1 (h : ¬p.val < 384) (h' : p.val - 384 < 384) :
    View.canon ((⟨Rect.unit ![768, 0] ![256, 1024] i2, w2⟩ : View.Piece (Elt Ideal) S1024x1024 .f32) :: ⟨Rect.unit ![384, 0] ![384, 1024] i1, w1⟩ :: L) (ix2 p q)
    = w1 (ix2 ⟨p.val - 384, h'⟩ q) := by
  refine (miss (S := S1024x1024) ![768, 0] ![256, 1024] i2 w2 _ (ix2 p q) 0 (.inl ?_)).trans ?_
  · show p.val < 768
    omega
  refine hit (S := S1024x1024) ![384, 0] ![384, 1024] i1 w1 L (ix2 p q) (ix2 ⟨p.val - 384, h'⟩ q) fun a => ?_
  fin_cases a
  · show p.val = 384 + (p.val - 384)
    omega
  · show q.val = 0 + q.val
    omega

theorem part0 (h : p.val < 384) :
    View.canon ((⟨Rect.unit ![768, 0] ![256, 1024] i2, w2⟩ : View.Piece (Elt Ideal) S1024x1024 .f32) :: ⟨Rect.unit ![384, 0] ![384, 1024] i1, w1⟩
      :: ⟨Rect.unit ![0, 0] ![384, 1024] i0, w0⟩ :: L) (ix2 p q)
    = w0 (ix2 ⟨p.val, h⟩ q) := by
  refine (miss (S := S1024x1024) ![768, 0] ![256, 1024] i2 w2 _ (ix2 p q) 0 (.inl ?_)).trans ?_
  · show p.val < 768
    omega
  refine (miss (S := S1024x1024) ![384, 0] ![384, 1024] i1 w1 _ (ix2 p q) 0 (.inl ?_)).trans ?_
  · show p.val < 384
    exact h
  refine hit (S := S1024x1024) ![0, 0] ![384, 1024] i0 w0 L (ix2 p q) (ix2 ⟨p.val, h⟩ q) fun a => ?_
  fin_cases a
  · show p.val = 0 + p.val
    omega
  · show q.val = 0 + q.val
    omega

variable (i : ∀ a, (![0, 0] : Fin 2 → ℕ) a + (![1024, 1024] : Fin 2 → ℕ) a ≤ S1024x1024.size a)

/-- The block of zeros. -/
theorem zeros (y : S1024x1024.Idx) :
    View.canon [(⟨Rect.unit ![0, 0] ![1024, 1024] i, k0_pay4 (F := Ideal)⟩ : View.Piece (Elt Ideal) S1024x1024 .f32)] y = 0 := by
  refine (hit (S := S1024x1024) ![0, 0] ![1024, 1024] i (k0_pay4 (F := Ideal)) [] y y fun a => ?_).trans (zero_point y)
  fin_cases a
  · show (y 0).val = 0 + (y 0).val
    omega
  · show (y 1).val = 0 + (y 1).val
    omega

variable {κ : Kind} {sp : Space} (v : View sig κ sp S1024x1024 .f32)

theorem load0 (x) : v.readCov [(⟨Rect.unit ![0, 0] ![1024, 1024] i, k0_pay4 (F := Ideal)⟩ : View.Piece (Elt Ideal) S1024x1024 .f32)]
    (Rect.unit ![0, 0] ![384, 1024] i0).toLoadRect x = 0 := by
  rw [View.readCov_eq_canon']
  exact zeros i _

theorem load1 (x) : v.readCov [(⟨Rect.unit ![0, 0] ![384, 1024] i0, w0⟩ : View.Piece (Elt Ideal) S1024x1024 .f32),
    ⟨Rect.unit ![0, 0] ![1024, 1024] i, k0_pay4 (F := Ideal)⟩] (Rect.unit ![384, 0] ![384, 1024] i1).toLoadRect x = 0 := by
  rw [View.readCov_eq_canon']
  refine (miss (S := S1024x1024) ![0, 0] ![384, 1024] i0 w0 _ _ 0 (.inr ?_)).trans (zeros i _)
  show 0 + 384 ≤ 384 + 1 * (x 0).val
  omega

theorem load2 (x) : v.readCov [(⟨Rect.unit ![384, 0] ![384, 1024] i1, w1⟩ : View.Piece (Elt Ideal) S1024x1024 .f32),
    ⟨Rect.unit ![0, 0] ![384, 1024] i0, w0⟩, ⟨Rect.unit ![0, 0] ![1024, 1024] i, k0_pay4 (F := Ideal)⟩]
    (Rect.unit ![768, 0] ![256, 1024] i2).toLoadRect x = 0 := by
  rw [View.readCov_eq_canon']
  refine (miss (S := S1024x1024) ![384, 0] ![384, 1024] i1 w1 _ _ 0 (.inr ?_)).trans
    ((miss (S := S1024x1024) ![0, 0] ![384, 1024] i0 w0 _ _ 0 (.inr ?_)).trans (zeros i _))
  · show 384 + 384 ≤ 768 + 1 * (x 0).val
    omega
  · show 0 + 384 ≤ 768 + 1 * (x 0).val
    omega

end Parts

theorem mix_first {a b c} {p : Fin 1024} (h : p.val < 384) : mix a b c p = a ⟨p.val, h⟩ := dif_pos h

theorem mix_second {a b c} {p : Fin 1024} (h : ¬p.val < 384) (h' : p.val - 384 < 384) : mix a b c p = b ⟨p.val - 384, h'⟩ :=
  (dif_neg h).trans (dif_pos h')

theorem mix_third {a b c} {p : Fin 1024} (h : ¬p.val < 384) (h' : ¬p.val - 384 < 384) : mix a b c p = c ⟨p.val - 384 - 384, by omega⟩ :=
  (dif_neg h).trans (dif_neg h')

end Cert.DyIdeal.Call

end
-- ==== Proof.Calls.DyReads.lean ====
/- What each block of the output projection's backward holds, by row and column. -/
module

public import proofs.«01_k».proof.Proof.Calls.DyTiles
public import proofs.«01_k».proof.Proof.Gen.DyIdeal.Frame
public import Idealize.ShloMosaic.Lib.Pipeline.ValueKit
public import Idealize.ShloMosaic.Lib.Claim

@[expose] public section

set_option maxRecDepth 16384

noncomputable section

namespace Cert.DyIdeal.Call

open Idealize.ShloMosaic Idealize.ShloMosaic.TcCoe Idealize.SL.Sem Cert.DyIdeal Cert.DyIdeal.Gen

variable (m : (ℓ : Loc nD τ sig) → Buf (Elt Ideal) ℓ) (c : Dev nD)

/-- Where each window's block stands at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 3] ∧ win0_6.index t = ![1, 0, 0]
    ∧ win0_7.index t = ![t.val, 0] ∧ win0_8.index t = ![t.val, 0] ∧ win0_9.index t = ![t.val, 0] ∧ win0_10.index t = ![t.val, 0]
    ∧ win0_11.index t = ![0, t.val, 0, 0] ∧ win0_12.index t = ![0, 0] :=
  (by decide +kernel : ∀ t : Fin grid0.N, _)

theorem index_lt {t : Fin cfg0.N} (r : Fin 512) : 512 * t.val + r.val < 8192 := by
  have h : t.val < 16 := t.isLt
  omega

theorem read0 (t : Fin cfg0.N) (r : Fin 512) (l : Fin 1024) :
    iblk m c 0 t (ix2 r l) = m ((c : Thread nD τ).loc main_arg0) (ix2 ⟨512 * t.val + r.val, index_lt r⟩ l) := by
  blk_point [iblk, V, idx t]

theorem read1 (t : Fin cfg0.N) (r : Fin 512) (l : Fin 384) :
    iblk m c 1 t (ix2 r l) = m ((c : Thread nD τ).loc main_arg1) (ix2 ⟨512 * t.val + r.val, index_lt r⟩ l) := by
  blk_point [iblk, V, idx t]

theorem read3 (t : Fin cfg0.N) (r : Fin 512) (l : Fin 256) :
    iblk m c 3 t (ix2 r l) = m ((c : Thread nD τ).loc main_arg3) (ix2 ⟨512 * t.val + r.val, index_lt r⟩ l) := by
  blk_point [iblk, V, idx t]

theorem read4 (t : Fin cfg0.N) (r : Fin 512) (l : Fin 384) :
    iblk m c 4 t (ix2 r l) = m ((c : Thread nD τ).loc main_arg2) (ix2 ⟨512 * t.val + r.val, index_lt r⟩ l) := by
  blk_point [iblk, V, idx t]

theorem read6 (t : Fin cfg0.N) (p k : Fin 1024) : iblk m c 6 t (ix3 0 p k) = m ((c : Thread nD τ).loc main_arg5) (ix3 1 p k) := by
  blk_point [iblk, V, idx t]

/-- The gated output, as it stands before the kernel starts. -/
theorem gatedAll : V m c main_v4 = fun j : S8192x384.Idx => gated ((m ((c : Thread nD τ).loc main_arg2)) (ix2 (j 0) (j 1))) ((m ((c : Thread nD τ).loc main_arg4)) (ix2 (j 0) ⟨1152 + (j 1).val, by have : (j 1).val < 384 := (j 1).isLt; omega⟩)) := by
  simp only [V, hostOps0, hostOps0_1, hostOps0_2, List.flatten_cons, List.flatten_nil, List.append_nil, List.cons_append, List.nil_append]
  after_results
  simp only [StableHlo.TRef.toBuf, StableHlo.TRef.ofBuf, cast_eq]
  funext j
  pointwise
  rfl

theorem read2 (t : Fin cfg0.N) (r : Fin 512) (l : Fin 384) :
    iblk m c 2 t (ix2 r l) = gated ((m ((c : Thread nD τ).loc main_arg2)) (ix2 ⟨512 * t.val + r.val, index_lt r⟩ l))
      ((m ((c : Thread nD τ).loc main_arg4)) (ix2 ⟨512 * t.val + r.val, index_lt r⟩ ⟨1152 + l.val, by omega⟩)) := by
  refine Eq.trans ?_ (congrFun (gatedAll m c) (ix2 ⟨512 * t.val + r.val, index_lt r⟩ l))
  blk_simp [iblk]
  blk_ext [idx t]

theorem read5 (t : Fin cfg0.N) (r : Fin 512) (l : Fin 384) :
    X0_5 m c t (ix2 r l) = (m ((c : Thread nD τ).loc main_arg4)) (ix2 ⟨512 * t.val + r.val, index_lt r⟩ ⟨1152 + l.val, by omega⟩) := by
  unfold X0_5 Pipeline.Window.fill
  rw [dif_pos (moved0_5 t _)]
  refine Eq.trans ?_ (congrFun (V_main_arg4 m c) _)
  blk_simp [iblk]
  blk_ext [idx t]

end Cert.DyIdeal.Call

end
-- ==== Proof.Calls.DyValue.lean ====
/- Four of the arrays the output projection's backward leaves, in terms of its arguments. -/
module

public import proofs.«01_k».proof.Proof.Calls.DyReads
public import Idealize.ShloMosaic.Lib.Pipeline.ValueKit
public import Idealize.ShloMosaic.Lib.Claim

@[expose] public section

set_option maxRecDepth 16384

noncomputable section

namespace Cert.DyIdeal.Call

open Idealize.ShloMosaic Idealize.ShloMosaic.TcCoe Idealize.SL.Sem Cert.DyIdeal Cert.DyIdeal.Gen

variable (m : (ℓ : Loc nD τ sig) → Buf (Elt Ideal) ℓ) (c : Dev nD)

theorem dya_at (t : Fin cfg0.N) (r : Fin 512) (q : Fin 384) :
    k0_pay10 (F := Ideal) (k0_pay6 (iblk m c 0 t) (iblk m c 6 t)) (ix2 r q)
    = DyReferenceIdeal.Terms.dya (m ((c : Thread nD τ).loc main_arg0)) (m ((c : Thread nD τ).loc main_arg5)) (ix2 ⟨512 * t.val + r.val, index_lt r⟩ q) := by
  refine (dya_point _ _ _ _).trans (Eq.trans ?_ (dya_ref _ _ _ _).symm)
  simp only [read0 m c t, read1 m c t, read2 m c t, read3 m c t, read4 m c t, read5 m c t, read6 m c t]

theorem dya_final : (dats m 0 c).arrAt 7 (cfgs 0).N = DyReferenceIdeal.Terms.dya (m ((c : Thread nD τ).loc main_arg0)) (m ((c : Thread nD τ).loc main_arg5)) := by
  refine (dats m 0 c).arrAt_eq_of_covers 7 _ (by decide +kernel) fun t hf y => ?_
  blk_simp
  rw [after0_7]
  have e (j : S512x384.Idx) : k0_pay10 (F := Ideal) (k0_pay6 (iblk m c 0 t) (iblk m c 6 t)) j = DyReferenceIdeal.Terms.dya (m ((c : Thread nD τ).loc main_arg0)) (m ((c : Thread nD τ).loc main_arg5)) (ix2 ⟨512 * t.val + (j 0).val, index_lt (j 0)⟩ (j 1)) :=
    (congrArg (k0_pay10 (F := Ideal) (k0_pay6 (iblk m c 0 t) (iblk m c 6 t))) (ValueIdx.eq_ix2 j)).trans (dya_at m c t (j 0) (j 1))
  by_cases h0 : t.val % 16 = 0
  · rw [outsAt0_A m c t h0]
    frame_out
    refine (e y).trans (congrArg (DyReferenceIdeal.Terms.dya (m ((c : Thread nD τ).loc main_arg0)) (m ((c : Thread nD τ).loc main_arg5))) ?_)
    blk_ext [idx t]
  · rw [outsAt0_B m c t h0]
    frame_out
    refine (e y).trans (congrArg (DyReferenceIdeal.Terms.dya (m ((c : Thread nD τ).loc main_arg0)) (m ((c : Thread nD τ).loc main_arg5))) ?_)
    blk_ext [idx t]

theorem dyc_at (t : Fin cfg0.N) (r : Fin 512) (q : Fin 256) :
    k0_pay11 (F := Ideal) (k0_pay6 (iblk m c 0 t) (iblk m c 6 t)) (ix2 r q)
    = DyReferenceIdeal.Terms.dyc (m ((c : Thread nD τ).loc main_arg0)) (m ((c : Thread nD τ).loc main_arg5)) (ix2 ⟨512 * t.val + r.val, index_lt r⟩ q) := by
  refine (dyc_point _ _ _ _).trans (Eq.trans ?_ (dyc_ref _ _ _ _).symm)
  simp only [read0 m c t, read1 m c t, read2 m c t, read3 m c t, read4 m c t, read5 m c t, read6 m c t]

theorem dyc_final : (dats m 0 c).arrAt 8 (cfgs 0).N = DyReferenceIdeal.Terms.dyc (m ((c : Thread nD τ).loc main_arg0)) (m ((c : Thread nD τ).loc main_arg5)) := by
  refine (dats m 0 c).arrAt_eq_of_covers 8 _ (by decide +kernel) fun t hf y => ?_
  blk_simp
  rw [after0_8]
  have e (j : S512x256.Idx) : k0_pay11 (F := Ideal) (k0_pay6 (iblk m c 0 t) (iblk m c 6 t)) j = DyReferenceIdeal.Terms.dyc (m ((c : Thread nD τ).loc main_arg0)) (m ((c : Thread nD τ).loc main_arg5)) (ix2 ⟨512 * t.val + (j 0).val, index_lt (j 0)⟩ (j 1)) :=
    (congrArg (k0_pay11 (F := Ideal) (k0_pay6 (iblk m c 0 t) (iblk m c 6 t))) (ValueIdx.eq_ix2 j)).trans (dyc_at m c t (j 0) (j 1))
  by_cases h0 : t.val % 16 = 0
  · rw [outsAt0_A m c t h0]
    frame_out
    refine (e y).trans (congrArg (DyReferenceIdeal.Terms.dyc (m ((c : Thread nD τ).loc main_arg0)) (m ((c : Thread nD τ).loc main_arg5))) ?_)
    blk_ext [idx t]
  · rw [outsAt0_B m c t h0]
    frame_out
    refine (e y).trans (congrArg (DyReferenceIdeal.Terms.dyc (m ((c : Thread nD τ).loc main_arg0)) (m ((c : Thread nD τ).loc main_arg5))) ?_)
    blk_ext [idx t]

theorem dout_at (t : Fin cfg0.N) (r : Fin 512) (q : Fin 384) :
    k0_pay14 (F := Ideal) (k0_pay6 (iblk m c 0 t) (iblk m c 6 t)) (X0_5 m c t) (ix2 r q)
    = DyReferenceIdeal.Terms.dout (m ((c : Thread nD τ).loc main_arg0)) (m ((c : Thread nD τ).loc main_arg4)) (m ((c : Thread nD τ).loc main_arg5)) (ix2 ⟨512 * t.val + r.val, index_lt r⟩ q) := by
  refine (open_point _ _ _ _ _).trans (Eq.trans ?_ (dout_ref _ _ _ _ _).symm)
  simp only [read0 m c t, read1 m c t, read2 m c t, read3 m c t, read4 m c t, read5 m c t, read6 m c t]

theorem dout_final : (dats m 0 c).arrAt 9 (cfgs 0).N = DyReferenceIdeal.Terms.dout (m ((c : Thread nD τ).loc main_arg0)) (m ((c : Thread nD τ).loc main_arg4)) (m ((c : Thread nD τ).loc main_arg5)) := by
  refine (dats m 0 c).arrAt_eq_of_covers 9 _ (by decide +kernel) fun t hf y => ?_
  blk_simp
  rw [after0_9]
  have e (j : S512x384.Idx) : k0_pay14 (F := Ideal) (k0_pay6 (iblk m c 0 t) (iblk m c 6 t)) (X0_5 m c t) j = DyReferenceIdeal.Terms.dout (m ((c : Thread nD τ).loc main_arg0)) (m ((c : Thread nD τ).loc main_arg4)) (m ((c : Thread nD τ).loc main_arg5)) (ix2 ⟨512 * t.val + (j 0).val, index_lt (j 0)⟩ (j 1)) :=
    (congrArg (k0_pay14 (F := Ideal) (k0_pay6 (iblk m c 0 t) (iblk m c 6 t)) (X0_5 m c t)) (ValueIdx.eq_ix2 j)).trans (dout_at m c t (j 0) (j 1))
  by_cases h0 : t.val % 16 = 0
  · rw [outsAt0_A m c t h0]
    frame_out
    refine (e y).trans (congrArg (DyReferenceIdeal.Terms.dout (m ((c : Thread nD τ).loc main_arg0)) (m ((c : Thread nD τ).loc main_arg4)) (m ((c : Thread nD τ).loc main_arg5))) ?_)
    blk_ext [idx t]
  · rw [outsAt0_B m c t h0]
    frame_out
    refine (e y).trans (congrArg (DyReferenceIdeal.Terms.dout (m ((c : Thread nD τ).loc main_arg0)) (m ((c : Thread nD τ).loc main_arg4)) (m ((c : Thread nD τ).loc main_arg5))) ?_)
    blk_ext [idx t]

theorem dgate_at (h : ∀ (i : Fin 8192) (q : Fin 384), ∃ p : ℝ,
      back (fun k => (m ((c : Thread nD τ).loc main_arg0)) (ix2 i k)) (fun k => (m ((c : Thread nD τ).loc main_arg5)) (ix3 1 ⟨384 + q.val, by omega⟩ k)) * (m ((c : Thread nD τ).loc main_arg2)) (ix2 i q) = (p : EReal)) (t : Fin cfg0.N) (r : Fin 512) (q : Fin 384) :
    k0_pay16 (F := Ideal) (k0_pay6 (iblk m c 0 t) (iblk m c 6 t)) (X0_5 m c t) (iblk m c 4 t) (ix2 r q)
    = DyReferenceIdeal.Terms.dgate (m ((c : Thread nD τ).loc main_arg0)) (m ((c : Thread nD τ).loc main_arg2)) (m ((c : Thread nD τ).loc main_arg4)) (m ((c : Thread nD τ).loc main_arg5)) (ix2 ⟨512 * t.val + r.val, index_lt r⟩ q) := by
  refine (gate_point _ _ _ _ _ _).trans (Eq.trans ?_ (gate_ref _ _ _ _ _ _ (h _ _)).symm)
  simp only [read0 m c t, read1 m c t, read2 m c t, read3 m c t, read4 m c t, read5 m c t, read6 m c t]

theorem dgate_final (h : ∀ (i : Fin 8192) (q : Fin 384), ∃ p : ℝ,
      back (fun k => (m ((c : Thread nD τ).loc main_arg0)) (ix2 i k)) (fun k => (m ((c : Thread nD τ).loc main_arg5)) (ix3 1 ⟨384 + q.val, by omega⟩ k)) * (m ((c : Thread nD τ).loc main_arg2)) (ix2 i q) = (p : EReal)) : (dats m 0 c).arrAt 10 (cfgs 0).N = DyReferenceIdeal.Terms.dgate (m ((c : Thread nD τ).loc main_arg0)) (m ((c : Thread nD τ).loc main_arg2)) (m ((c : Thread nD τ).loc main_arg4)) (m ((c : Thread nD τ).loc main_arg5)) := by
  refine (dats m 0 c).arrAt_eq_of_covers 10 _ (by decide +kernel) fun t hf y => ?_
  blk_simp
  rw [after0_10]
  have e (j : S512x384.Idx) : k0_pay16 (F := Ideal) (k0_pay6 (iblk m c 0 t) (iblk m c 6 t)) (X0_5 m c t) (iblk m c 4 t) j = DyReferenceIdeal.Terms.dgate (m ((c : Thread nD τ).loc main_arg0)) (m ((c : Thread nD τ).loc main_arg2)) (m ((c : Thread nD τ).loc main_arg4)) (m ((c : Thread nD τ).loc main_arg5)) (ix2 ⟨512 * t.val + (j 0).val, index_lt (j 0)⟩ (j 1)) :=
    (congrArg (k0_pay16 (F := Ideal) (k0_pay6 (iblk m c 0 t) (iblk m c 6 t)) (X0_5 m c t) (iblk m c 4 t)) (ValueIdx.eq_ix2 j)).trans (dgate_at m c h t (j 0) (j 1))
  by_cases h0 : t.val % 16 = 0
  · rw [outsAt0_A m c t h0]
    frame_out
    refine (e y).trans (congrArg (DyReferenceIdeal.Terms.dgate (m ((c : Thread nD τ).loc main_arg0)) (m ((c : Thread nD τ).loc main_arg2)) (m ((c : Thread nD τ).loc main_arg4)) (m ((c : Thread nD τ).loc main_arg5))) ?_)
    blk_ext [idx t]
  · rw [outsAt0_B m c t h0]
    frame_out
    refine (e y).trans (congrArg (DyReferenceIdeal.Terms.dgate (m ((c : Thread nD τ).loc main_arg0)) (m ((c : Thread nD τ).loc main_arg2)) (m ((c : Thread nD τ).loc main_arg4)) (m ((c : Thread nD τ).loc main_arg5))) ?_)
    blk_ext [idx t]

end Cert.DyIdeal.Call

end
-- ==== Proof.Calls.DyDelta.lean ====
/- The row sums `delta` that the output projection's backward leaves. -/
module

public import proofs.«01_k».proof.Proof.Calls.DyReads
public import Idealize.ShloMosaic.Lib.Pipeline.ValueKit
public import Idealize.ShloMosaic.Lib.Claim

@[expose] public section

set_option maxRecDepth 16384

noncomputable section

namespace Cert.DyIdeal.Call

open Idealize.ShloMosaic Idealize.ShloMosaic.TcCoe Idealize.SL.Sem Cert.DyIdeal Cert.DyIdeal.Gen

variable (m : (ℓ : Loc nD τ sig) → Buf (Elt Ideal) ℓ) (c : Dev nD)

/-- A block of three stores, one for each pair of heads, read at an index. -/
theorem tiles (i0 : ∀ a, (![0, 0, 0, 0] : Fin 4 → ℕ) a + (![1, 1, 8, 512] : Fin 4 → ℕ) a ≤ S3x1x8x512.size a)
    (i1 : ∀ a, (![1, 0, 0, 0] : Fin 4 → ℕ) a + (![1, 1, 8, 512] : Fin 4 → ℕ) a ≤ S3x1x8x512.size a)
    (i2 : ∀ a, (![2, 0, 0, 0] : Fin 4 → ℕ) a + (![1, 1, 8, 512] : Fin 4 → ℕ) a ≤ S3x1x8x512.size a)
    (w0 w1 w2 : S1x1x8x512.Idx → EReal) (G : Fin 3 → Fin 8 → Fin 512 → EReal)
    (h0 : ∀ s r, w0 (ix4 0 0 s r) = G 0 s r) (h1 : ∀ s r, w1 (ix4 0 0 s r) = G 1 s r) (h2 : ∀ s r, w2 (ix4 0 0 s r) = G 2 s r)
    (p : Fin 3) (b : Fin 1) (s : Fin 8) (r : Fin 512) :
    View.canon [(⟨Rect.unit ![2, 0, 0, 0] ![1, 1, 8, 512] i2, w2⟩ : View.Piece (Elt Ideal) S3x1x8x512 .f32),
      ⟨Rect.unit ![1, 0, 0, 0] ![1, 1, 8, 512] i1, w1⟩, ⟨Rect.unit ![0, 0, 0, 0] ![1, 1, 8, 512] i0, w0⟩] (ix4 p b s r) = G p s r := by
  have hb := b.isLt
  match p with
  | 0 =>
    refine (miss (S := S3x1x8x512) _ _ i2 w2 _ _ 0 (.inl (by show 0 < 2; omega))).trans
      ((miss (S := S3x1x8x512) _ _ i1 w1 _ _ 0 (.inl (by show 0 < 1; omega))).trans
      ((hit (S := S3x1x8x512) _ _ i0 w0 _ _ (ix4 0 0 s r) fun a => ?_).trans (h0 s r)))
    fin_cases a
    · rfl
    · show b.val = 0
      omega
    · show s.val = 0 + s.val
      omega
    · show r.val = 0 + r.val
      omega
  | 1 =>
    refine (miss (S := S3x1x8x512) _ _ i2 w2 _ _ 0 (.inl (by show 1 < 2; omega))).trans
      ((hit (S := S3x1x8x512) _ _ i1 w1 _ _ (ix4 0 0 s r) fun a => ?_).trans (h1 s r))
    fin_cases a
    · rfl
    · show b.val = 0
      omega
    · show s.val = 0 + s.val
      omega
    · show r.val = 0 + r.val
      omega
  | 2 =>
    refine (hit (S := S3x1x8x512) _ _ i2 w2 _ _ (ix4 0 0 s r) fun a => ?_).trans (h2 s r)
    fin_cases a
    · rfl
    · show b.val = 0
      omega
    · show s.val = 0 + s.val
      omega
    · show r.val = 0 + r.val
      omega

theorem first_point (ov dout a b e f) (s : Fin 8) (r : Fin 512) : k0_pay23 (F := Ideal) ov dout a b e f (ix2 s r) = k0_pay22 (F := Ideal) ov dout a b e f (ix2 ⟨0 + s.val, by omega⟩ r) := by
  pointwise [k0_pay23]

theorem delta_at (t : Fin cfg0.N) (p : Fin 3) (s : Fin 8) (r : Fin 512) :
    heads (fun l => k0_pay14 (F := Ideal) (k0_pay6 (iblk m c 0 t) (iblk m c 6 t)) (X0_5 m c t) (ix2 r l) * iblk m c 4 t (ix2 r l)) p s
    = DyReferenceIdeal.Terms.delta (m ((c : Thread nD τ).loc main_arg0)) (m ((c : Thread nD τ).loc main_arg2)) (m ((c : Thread nD τ).loc main_arg4)) (m ((c : Thread nD τ).loc main_arg5)) (ix4 p ⟨t.val, t.isLt⟩ s r) := by
  refine Eq.trans ?_ (delta_ref _ _ _ _ _ _ _ _).symm
  refine congrArg (fun f => heads f p s) (funext fun l => ?_)
  have e : (⟨t.val * 512 + r.val, by have := index_lt (t := t) r; omega⟩ : Fin 8192) = ⟨512 * t.val + r.val, index_lt r⟩ := Fin.ext (by show t.val * 512 + r.val = 512 * t.val + r.val; omega)
  rw [open_point]
  unfold lane
  simp only [e]
  simp only [read0 m c t, read1 m c t, read2 m c t, read3 m c t, read4 m c t, read5 m c t, read6 m c t]

theorem delta_block (t : Fin cfg0.N) (y : S3x1x8x512.Idx) (i0 i1 i2) :
    View.canon [(⟨Rect.unit ![2, 0, 0, 0] ![1, 1, 8, 512] i2, k0_pay3 (F := Ideal) (k0_pay22 (iblk m c 4 t) (k0_pay14 (F := Ideal) (k0_pay6 (iblk m c 0 t) (iblk m c 6 t)) (X0_5 m c t)) (k0_pay19 rows 8#32 k0_pay17 k0_pay18) 8#32 (k0_pay20 rows) (k0_pay21 rows))⟩ : View.Piece (Elt Ideal) S3x1x8x512 .f32),
      ⟨Rect.unit ![1, 0, 0, 0] ![1, 1, 8, 512] i1, k0_pay2 (F := Ideal) (k0_pay22 (iblk m c 4 t) (k0_pay14 (F := Ideal) (k0_pay6 (iblk m c 0 t) (iblk m c 6 t)) (X0_5 m c t)) (k0_pay19 rows 8#32 k0_pay17 k0_pay18) 8#32 (k0_pay20 rows) (k0_pay21 rows))⟩,
      ⟨Rect.unit ![0, 0, 0, 0] ![1, 1, 8, 512] i0, k0_pay1 (F := Ideal) (k0_pay23 (iblk m c 4 t) (k0_pay14 (F := Ideal) (k0_pay6 (iblk m c 0 t) (iblk m c 6 t)) (X0_5 m c t)) (k0_pay19 rows 8#32 k0_pay17 k0_pay18) 8#32 (k0_pay20 rows) (k0_pay21 rows))⟩] y
    = DyReferenceIdeal.Terms.delta (m ((c : Thread nD τ).loc main_arg0)) (m ((c : Thread nD τ).loc main_arg2)) (m ((c : Thread nD τ).loc main_arg4)) (m ((c : Thread nD τ).loc main_arg5)) (ix4 (y 0) ⟨t.val, t.isLt⟩ (y 2) (y 3)) := by
  refine (congrArg (View.canon _) (ValueIdx.eq_ix4 y)).trans ((tiles i0 i1 i2 _ _ _ (fun p s r => heads (fun l => k0_pay14 (F := Ideal) (k0_pay6 (iblk m c 0 t) (iblk m c 6 t)) (X0_5 m c t) (ix2 r l) * iblk m c 4 t (ix2 r l)) p s)
    (fun s r => ?_) (fun s r => ?_) (fun s r => ?_) (y 0) (y 1) (y 2) (y 3)).trans (delta_at m c t (y 0) (y 2) (y 3)))
  · exact (dl0_point _ _ _ _ _).trans ((first_point _ _ _ _ _ _ _ _).trans (head_point _ _ _ _ 0 s (by show 0 + s.val = 8 * 0 + s.val; omega)))
  · exact (dl1_point _ _ _ _ _).trans (head_point _ _ _ _ 1 s (by show 8 + s.val = 8 * 1 + s.val; omega))
  · exact (dl2_point _ _ _ _ _).trans (head_point _ _ _ _ 2 s (by show 16 + s.val = 8 * 2 + s.val; omega))

theorem delta_final : (dats m 0 c).arrAt 11 (cfgs 0).N = DyReferenceIdeal.Terms.delta (m ((c : Thread nD τ).loc main_arg0)) (m ((c : Thread nD τ).loc main_arg2)) (m ((c : Thread nD τ).loc main_arg4)) (m ((c : Thread nD τ).loc main_arg5)) := by
  refine (dats m 0 c).arrAt_eq_of_covers 11 _ (by decide +kernel) fun t hf y => ?_
  blk_simp
  rw [after0_11]
  by_cases h0 : t.val % 16 = 0
  · rw [outsAt0_A m c t h0]
    frame_out
    refine (delta_block m c t y _ _ _).trans (congrArg (DyReferenceIdeal.Terms.delta (m ((c : Thread nD τ).loc main_arg0)) (m ((c : Thread nD τ).loc main_arg2)) (m ((c : Thread nD τ).loc main_arg4)) (m ((c : Thread nD τ).loc main_arg5))) ?_)
    blk_ext [idx t]
  · rw [outsAt0_B m c t h0]
    frame_out
    refine (delta_block m c t y _ _ _).trans (congrArg (DyReferenceIdeal.Terms.delta (m ((c : Thread nD τ).loc main_arg0)) (m ((c : Thread nD τ).loc main_arg2)) (m ((c : Thread nD τ).loc main_arg4)) (m ((c : Thread nD τ).loc main_arg5))) ?_)
    blk_ext [idx t]

end Cert.DyIdeal.Call

end
-- ==== Proof.Calls.DyWeights.lean ====
/- The gradient in the weights that the output projection's backward adds up over the grid. -/
module

public import proofs.«01_k».proof.Proof.Calls.DyReads
public import Idealize.ShloMosaic.Lib.Pipeline.ValueKit
public import Idealize.ShloMosaic.Lib.Claim

@[expose] public section

set_option maxRecDepth 16384

noncomputable section

namespace Cert.DyIdeal.Call

open Idealize.ShloMosaic Idealize.ShloMosaic.TcCoe Idealize.SL.Sem Cert.DyIdeal Cert.DyIdeal.Gen

variable (m : (ℓ : Loc nD τ sig) → Buf (Elt Ideal) ℓ) (c : Dev nD)

/-- What the rows of grid point `t` add to an entry of the gradient in the weights. -/
def part (t : Fin cfg0.N) (p q : Fin 1024) : EReal :=
  ∑ r : Fin 512, row (fun k => iblk m c 0 t (ix2 r k)) (fun l => iblk m c 1 t (ix2 r l)) (fun l => iblk m c 2 t (ix2 r l)) (fun l => iblk m c 3 t (ix2 r l)) p q

theorem part_row (t : Fin cfg0.N) (r : Fin 512) (p q : Fin 1024) : row (fun k => iblk m c 0 t (ix2 r k)) (fun l => iblk m c 1 t (ix2 r l)) (fun l => iblk m c 2 t (ix2 r l)) (fun l => iblk m c 3 t (ix2 r l)) p q
    = row (fun k => (m ((c : Thread nD τ).loc main_arg0)) (ix2 ⟨512 * t.val + r.val, index_lt r⟩ k)) (fun l => (m ((c : Thread nD τ).loc main_arg1)) (ix2 ⟨512 * t.val + r.val, index_lt r⟩ l)) (fun l => gated ((m ((c : Thread nD τ).loc main_arg2)) (ix2 ⟨512 * t.val + r.val, index_lt r⟩ l)) ((m ((c : Thread nD τ).loc main_arg4)) (ix2 ⟨512 * t.val + r.val, index_lt r⟩ ⟨1152 + l.val, by omega⟩))) (fun l => (m ((c : Thread nD τ).loc main_arg3)) (ix2 ⟨512 * t.val + r.val, index_lt r⟩ l)) p q := by
  simp only [read0 m c t, read1 m c t, read2 m c t, read3 m c t, read4 m c t, read5 m c t, read6 m c t]

theorem dw_A (t : Fin cfg0.N) (h0 : t.val % 16 = 0) (p q : Fin 1024) :
    (outsAt0 m c t.val t.isLt).2.2.2.2.2 (ix2 p q) = 0 + part m c t p q := by
  rw [outsAt0_A m c t h0]
  frame_out
  by_cases h : p.val < 384
  · exact (part0 _ _ _ _ _ _ _ _ _ h).trans ((dw0_point _ _ _ _ _).trans (congrArg₂ (fun a b : EReal => a + b) (load0 _ _ _ _)
      (Finset.sum_congr rfl fun r _ => congrArg (fun v => outer v _) (mix_first (a := fun l => iblk m c 1 t (ix2 r l)) (b := fun l => iblk m c 2 t (ix2 r l)) (c := fun l => iblk m c 3 t (ix2 r l)) h).symm)))
  by_cases h' : p.val - 384 < 384
  · exact (part1 _ _ _ _ _ _ _ h h').trans ((dw1_point _ _ _ _ _).trans (congrArg₂ (fun a b : EReal => a + b) (load1 _ _ _ _ _ _)
      (Finset.sum_congr rfl fun r _ => congrArg (fun v => outer v _) (mix_second (a := fun l => iblk m c 1 t (ix2 r l)) (b := fun l => iblk m c 2 t (ix2 r l)) (c := fun l => iblk m c 3 t (ix2 r l)) h h').symm)))
  · exact (part2 _ _ _ _ _ h h').trans ((dw2_point _ _ _ _ _).trans (congrArg₂ (fun a b : EReal => a + b) (load2 _ _ _ _ _ _ _ _)
      (Finset.sum_congr rfl fun r _ => congrArg (fun v => outer v _) (mix_third (a := fun l => iblk m c 1 t (ix2 r l)) (b := fun l => iblk m c 2 t (ix2 r l)) (c := fun l => iblk m c 3 t (ix2 r l)) h h').symm)))

theorem dw_B (t : Fin cfg0.N) (h0 : ¬t.val % 16 = 0) (p q : Fin 1024) :
    (outsAt0 m c t.val t.isLt).2.2.2.2.2 (ix2 p q)
    = (outsAt0 m c (t.val - 1) (Nat.lt_of_le_of_lt (Nat.sub_le _ _) t.isLt)).2.2.2.2.2 (ix2 p q) + part m c t p q := by
  rw [outsAt0_B m c t h0]
  frame_out
  by_cases h : p.val < 384
  · refine (part0 _ _ _ _ _ _ _ _ _ h).trans ((dw0_point _ _ _ _ _).trans (congrArg₂ (fun a b : EReal => a + b)
      (View.ld_unit_apply_of _ _ _ _ _ (ix2 p q) fun a => ?_) (Finset.sum_congr rfl fun r _ => congrArg (fun v => outer v _) (mix_first (a := fun l => iblk m c 1 t (ix2 r l)) (b := fun l => iblk m c 2 t (ix2 r l)) (c := fun l => iblk m c 3 t (ix2 r l)) h).symm)))
    fin_cases a
    · show p.val = 0 + p.val
      omega
    · show q.val = 0 + q.val
      omega
  by_cases h' : p.val - 384 < 384
  · refine (part1 _ _ _ _ _ _ _ h h').trans ((dw1_point _ _ _ _ _).trans (congrArg₂ (fun a b : EReal => a + b)
      (View.ld_unit_apply_of _ _ _ _ _ (ix2 p q) fun a => ?_) (Finset.sum_congr rfl fun r _ => congrArg (fun v => outer v _) (mix_second (a := fun l => iblk m c 1 t (ix2 r l)) (b := fun l => iblk m c 2 t (ix2 r l)) (c := fun l => iblk m c 3 t (ix2 r l)) h h').symm)))
    fin_cases a
    · show p.val = 384 + (p.val - 384)
      omega
    · show q.val = 0 + q.val
      omega
  · refine (part2 _ _ _ _ _ h h').trans ((dw2_point _ _ _ _ _).trans (congrArg₂ (fun a b : EReal => a + b)
      (View.ld_unit_apply_of _ _ _ _ _ (ix2 p q) fun a => ?_) (Finset.sum_congr rfl fun r _ => congrArg (fun v => outer v _) (mix_third (a := fun l => iblk m c 1 t (ix2 r l)) (b := fun l => iblk m c 2 t (ix2 r l)) (c := fun l => iblk m c 3 t (ix2 r l)) h h').symm)))
    fin_cases a
    · show p.val = 768 + (p.val - 384 - 384)
      omega
    · show q.val = 0 + q.val
      omega

theorem row_congr {R : Fin 8192 → Fin 1024 → Fin 1024 → EReal} {r r' : Fin 8192} {p p' q q' : Fin 1024} (hr : r.val = r'.val)
    (hp : p.val = p'.val) (hq : q.val = q'.val) : R r p q = R r' p' q' := by
  rw [Fin.ext hr, Fin.ext hp, Fin.ext hq]

theorem dw_entry (d a o z e) (j : S1024x1024.Idx) : DyReferenceIdeal.Terms.dw d a o e z j
    = ∑ i : Fin 8192, row (fun k => d (ix2 i k)) (fun l => a (ix2 i l)) (fun l => gated (o (ix2 i l)) (z (ix2 i ⟨1152 + l.val, by omega⟩)))
      (fun l => e (ix2 i l)) (j 0) (j 1) :=
  (congrArg (DyReferenceIdeal.Terms.dw d a o e z) (ValueIdx.eq_ix2 j)).trans (dw_ref d a o e z (j 0) (j 1))

theorem dw_final : (dats m 0 c).arrAt 12 (cfgs 0).N = DyReferenceIdeal.Terms.dw (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 12 _ (by decide +kernel) fun t hf y => ?_
  blk_simp
  rw [after0_12, Pipeline.eq_sum_fin_of_reset_step_apply_of_flush (fun n h => (outsAt0 m c n h).2.2.2.2.2) 16 (fun _ => 0) (fun t j => part m c t (j 0) (j 1))
    (fun t h j => (congrArg _ (ValueIdx.eq_ix2 j)).trans (dw_A m c t h (j 0) (j 1)))
    (fun t h j => (congrArg _ (ValueIdx.eq_ix2 j)).trans ((dw_B m c t h (j 0) (j 1)).trans
      (congrArg (fun i => (outsAt0 m c (t.val - 1) (Nat.lt_of_le_of_lt (Nat.sub_le _ _) t.isLt)).2.2.2.2.2 i + part m c t (j 0) (j 1)) (ValueIdx.eq_ix2 j).symm)))
    t ((flush0_12 t).mp hf) _, zero_add, dw_entry]
  refine Fin.sum_mul_add_congr fun s r hl => ?_
  refine (part_row m c _ r _ _).trans (row_congr (R := fun i p q => row (fun k => (m ((c : Thread nD τ).loc main_arg0)) (ix2 i k)) (fun l => (m ((c : Thread nD τ).loc main_arg1)) (ix2 i l)) (fun l => gated ((m ((c : Thread nD τ).loc main_arg2)) (ix2 i l)) ((m ((c : Thread nD τ).loc main_arg4)) (ix2 i ⟨1152 + l.val, by omega⟩))) (fun l => (m ((c : Thread nD τ).loc main_arg3)) (ix2 i l)) p q) ?_ ?_ ?_)
  · have h : t.val < 16 := t.isLt
    show 512 * (16 * (t.val / 16) + s.val) + r.val = s.val * 512 + r.val
    omega
  · blk_simp
    simp [idx t]
  · blk_simp
    simp [idx t]

end Cert.DyIdeal.Call

end
-- ==== Proof.Calls.DyFinite.lean ====
/- What the output projection's precondition says: the gradient, the attention's output and the weights are real numbers. -/
module

public import proofs.«01_k».proof.Defs
public import proofs.«01_k».proof.Proof.Gen.Pre_finite_dy
public import proofs.«01_k».proof.Proof.Value.Finite
public import proofs.«01_k».proof.Proof.Value.RowEq
public import proofs.«01_k».proof.Proof.Calls.DyPoint
public import Idealize.ShloMosaic.Lib.Pipeline.ValueKit
public import Idealize.ShloMosaic.Lib.Claim

@[expose] public section

set_option maxRecDepth 16384

noncomputable section

namespace Cert.DyIdeal.Call

open Idealize.ShloMosaic Idealize.ShloMosaic.TcCoe Idealize.SL.Sem Cert.DyIdeal Cert.DyIdeal.Gen

theorem back_real (d w : Fin 1024 → EReal) (hd : ∀ k, ∃ r : ℝ, d k = (r : EReal)) (hw : ∀ k, ∃ r : ℝ, w k = (r : EReal)) (o : EReal)
    (ho : ∃ r : ℝ, o = (r : EReal)) : ∃ p : ℝ, back d w * o = (p : EReal) := by
  choose d' hd using hd
  choose w' hw using hw
  obtain ⟨o', rfl⟩ := ho
  refine ⟨(∑ k, d' k * w' k) * o', ?_⟩
  rw [back]
  simp only [hd, hw, ← EReal.coe_mul, Cert.Attn.coe_sum]

/-- The precondition makes every element of the three arguments real. -/
theorem real_of_finite (a0 : FVec Ideal Cert.Pre_finite_dy.S8192x1024 .f32) (a1 a2 : FVec Ideal Cert.Pre_finite_dy.S8192x384 .f32)
    (a3 : FVec Ideal Cert.Pre_finite_dy.S8192x256 .f32) (a4 : FVec Ideal Cert.Pre_finite_dy.S8192x2432 .f32) (a5 : FVec Ideal Cert.Pre_finite_dy.S4x1024x1024 .f32)
    (h : Cert.Pre_finite_dy.fn (F := Ideal) a0 a1 a2 a3 a4 a5 = fun _ => 1#1) :
    (∀ i, ∃ r : ℝ, (a0 i : EReal) = (r : EReal)) ∧ (∀ i, ∃ r : ℝ, (a2 i : EReal) = (r : EReal)) ∧ (∀ i, ∃ r : ℝ, (a5 i : EReal) = (r : EReal)) := by
  have : Subsingleton Cert.Pre_finite_dy.S_.Idx := ⟨fun x y => funext fun k => k.elim0⟩
  have e := congrFun h (fun k => k.elim0)
  obtain ⟨e01, e2⟩ := IntOp.andi_eq_one.1 e
  obtain ⟨ec0, e1⟩ := IntOp.andi_eq_one.1 e01
  obtain ⟨_, e0⟩ := IntOp.andi_eq_one.1 ec0
  exact ⟨Cert.Finite.real_of_all _ _ (fun _ => Cert.Finite.ofBits_top) _ _ _ _ e0, Cert.Finite.real_of_all _ _ (fun _ => Cert.Finite.ofBits_top) _ _ _ _ e1,
    Cert.Finite.real_of_all _ _ (fun _ => Cert.Finite.ofBits_top) _ _ _ _ e2⟩

theorem real_of_pre (m : (ℓ : Loc nD τ sig) → Buf (Elt Ideal) ℓ) (hpre : Cert.Pre_DyIdeal_finite_dy m) (c : Dev nD) (i : Fin 8192) (q : Fin 384) :
    ∃ p : ℝ, back (fun k => (m ((c : Thread nD τ).loc main_arg0)) (ix2 i k)) (fun k => (m ((c : Thread nD τ).loc main_arg5)) (ix3 1 ⟨384 + q.val, by omega⟩ k)) * (m ((c : Thread nD τ).loc main_arg2)) (ix2 i q) = (p : EReal) := by
  obtain ⟨hd, ho, hw⟩ := real_of_finite _ _ _ _ _ _ (hpre c)
  exact back_real _ _ (fun k => hd _) (fun k => hw _) _ (ho _)

end Cert.DyIdeal.Call

end
-- ==== Proof.Calls.DyAlgebraic.lean ====
/- The value claim of the backward of the output projection. -/
module

public import proofs.«01_k».proof.Defs
public import proofs.«01_k».proof.Proof.Gen.DyIdeal.Value
public import proofs.«01_k».proof.Proof.Calls.DyValue
public import proofs.«01_k».proof.Proof.Calls.DyDelta
public import proofs.«01_k».proof.Proof.Calls.DyWeights
public import proofs.«01_k».proof.Proof.Calls.DyFinite

@[expose] public section

set_option maxRecDepth 16384

noncomputable section

namespace Cert.DyIdeal.Call

open Idealize.ShloMosaic Idealize.ShloMosaic.TcCoe Idealize.SL.Sem

theorem algebraic : Cert.algebraic_DyIdeal_DyReferenceIdeal_pre_finite_dy := by
  intro m g m' g' hpre hagree
  refine ⟨fun c => Cert.DyReferenceIdeal.Terms.dya (m ((c.tc : Thread Cert.DyIdeal.nD Cert.DyIdeal.τ).loc Cert.DyIdeal.main_arg0)) (m ((c.tc : Thread Cert.DyIdeal.nD Cert.DyIdeal.τ).loc Cert.DyIdeal.main_arg5)),
    fun c => Cert.DyReferenceIdeal.Terms.dyc (m ((c.tc : Thread Cert.DyIdeal.nD Cert.DyIdeal.τ).loc Cert.DyIdeal.main_arg0)) (m ((c.tc : Thread Cert.DyIdeal.nD Cert.DyIdeal.τ).loc Cert.DyIdeal.main_arg5)),
    fun c => Cert.DyReferenceIdeal.Terms.dout (m ((c.tc : Thread Cert.DyIdeal.nD Cert.DyIdeal.τ).loc Cert.DyIdeal.main_arg0)) (m ((c.tc : Thread Cert.DyIdeal.nD Cert.DyIdeal.τ).loc Cert.DyIdeal.main_arg4)) (m ((c.tc : Thread Cert.DyIdeal.nD Cert.DyIdeal.τ).loc Cert.DyIdeal.main_arg5)),
    fun c => Cert.DyReferenceIdeal.Terms.dgate (m ((c.tc : Thread Cert.DyIdeal.nD Cert.DyIdeal.τ).loc Cert.DyIdeal.main_arg0)) (m ((c.tc : Thread Cert.DyIdeal.nD Cert.DyIdeal.τ).loc Cert.DyIdeal.main_arg2)) (m ((c.tc : Thread Cert.DyIdeal.nD Cert.DyIdeal.τ).loc Cert.DyIdeal.main_arg4)) (m ((c.tc : Thread Cert.DyIdeal.nD Cert.DyIdeal.τ).loc Cert.DyIdeal.main_arg5)),
    fun c => Cert.DyReferenceIdeal.Terms.delta (m ((c.tc : Thread Cert.DyIdeal.nD Cert.DyIdeal.τ).loc Cert.DyIdeal.main_arg0)) (m ((c.tc : Thread Cert.DyIdeal.nD Cert.DyIdeal.τ).loc Cert.DyIdeal.main_arg2)) (m ((c.tc : Thread Cert.DyIdeal.nD Cert.DyIdeal.τ).loc Cert.DyIdeal.main_arg4)) (m ((c.tc : Thread Cert.DyIdeal.nD Cert.DyIdeal.τ).loc Cert.DyIdeal.main_arg5)),
    fun c => Cert.DyReferenceIdeal.Terms.dw (m ((c.tc : Thread Cert.DyIdeal.nD Cert.DyIdeal.τ).loc Cert.DyIdeal.main_arg0)) (m ((c.tc : Thread Cert.DyIdeal.nD Cert.DyIdeal.τ).loc Cert.DyIdeal.main_arg1)) (m ((c.tc : Thread Cert.DyIdeal.nD Cert.DyIdeal.τ).loc Cert.DyIdeal.main_arg2)) (m ((c.tc : Thread Cert.DyIdeal.nD Cert.DyIdeal.τ).loc Cert.DyIdeal.main_arg3)) (m ((c.tc : Thread Cert.DyIdeal.nD Cert.DyIdeal.τ).loc Cert.DyIdeal.main_arg4)), ?_, ?_⟩
  · refine (θ_run _ _ _).mono (fun r h c => ?_) (Cert.DyIdeal.Value.run_blocks (F := Ideal) m g)
    have hreal := Cert.DyIdeal.Call.real_of_pre m hpre c
    exact ⟨(h c).1.trans (Cert.DyIdeal.Call.dya_final m c), (h c).2.1.trans (Cert.DyIdeal.Call.dyc_final m c), (h c).2.2.1.trans (Cert.DyIdeal.Call.dout_final m c), (h c).2.2.2.1.trans (Cert.DyIdeal.Call.dgate_final m c hreal), (h c).2.2.2.2.1.trans (Cert.DyIdeal.Call.delta_final m c), (h c).2.2.2.2.2.1.trans (Cert.DyIdeal.Call.dw_final m c), (h c).2.2.2.2.2.2⟩
  · refine (θ_run _ _ _).mono (fun r h c => ?_) (Cert.DyReferenceIdeal.Value.run (F := Ideal) m' g')
    obtain ⟨a0, a1, a2, a3, a4, a5⟩ := hagree c
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
    · show Cert.DyReferenceIdeal.Terms.dya _ _ = Cert.DyReferenceIdeal.Terms.dya _ _
      rw [a0, a5]
    · show Cert.DyReferenceIdeal.Terms.dyc _ _ = Cert.DyReferenceIdeal.Terms.dyc _ _
      rw [a0, a5]
    · show Cert.DyReferenceIdeal.Terms.dout _ _ _ = Cert.DyReferenceIdeal.Terms.dout _ _ _
      rw [a0, a4, a5]
    · show Cert.DyReferenceIdeal.Terms.dgate _ _ _ _ = Cert.DyReferenceIdeal.Terms.dgate _ _ _ _
      rw [a0, a2, a4, a5]
    · show Cert.DyReferenceIdeal.Terms.delta _ _ _ _ = Cert.DyReferenceIdeal.Terms.delta _ _ _ _
      rw [a0, a2, a4, a5]
    · show Cert.DyReferenceIdeal.Terms.dw _ _ _ _ _ = Cert.DyReferenceIdeal.Terms.dw _ _ _ _ _
      rw [a0, a1, a2, a3, a4]

end Cert.DyIdeal.Call

end
-- ==== Proof.lean ====
module

public import proofs.«01_k».proof.Defs
public import proofs.«01_k».proof.Proof.Frames
public import proofs.«01_k».proof.Proof.Value.Algebraic
public import proofs.«01_k».proof.Proof.Calls.Frames
public import proofs.«01_k».proof.Proof.Calls.DwinAlgebraic
public import proofs.«01_k».proof.Proof.Calls.InAlgebraic
public import proofs.«01_k».proof.Proof.Calls.OutAlgebraic
public import proofs.«01_k».proof.Proof.Calls.DxAlgebraic
public import proofs.«01_k».proof.Proof.Calls.DyAlgebraic

@[expose] public section

noncomputable section

namespace Cert.Proof

theorem claim : Cert.Claim := by
  refine ⟨Cert.Kernel.Gen.facts, Cert.KernelIdeal.Gen.facts, Cert.ReferenceIdeal.Gen.facts,
    Cert.Dwin.Gen.facts, Cert.DwinIdeal.Gen.facts, Cert.DwinReferenceIdeal.Gen.facts,
    Cert.In.Gen.facts, Cert.InIdeal.Gen.facts, Cert.InReferenceIdeal.Gen.facts,
    Cert.Out.Gen.facts, Cert.OutIdeal.Gen.facts, Cert.OutReferenceIdeal.Gen.facts,
    Cert.Dx.Gen.facts, Cert.DxIdeal.Gen.facts, Cert.DxReferenceIdeal.Gen.facts,
    Cert.Dy.Gen.facts, Cert.DyIdeal.Gen.facts, Cert.DyReferenceIdeal.Gen.facts,
    Cert.Pre_finite.Gen.facts, Cert.Pre_finite_dy.Gen.facts, ?_⟩
  exact ⟨Cert.Frames.kernel, Cert.Frames.kernelIdeal, Cert.Frames.kernelIdeal_finite, Cert.Frames.referenceIdeal,
    Cert.Frames.referenceIdeal_finite,
    Cert.Calls.dwin_kernel, Cert.Calls.dwin_ideal, Cert.Calls.dwin_reference,
    Cert.Calls.in_kernel, Cert.Calls.in_ideal, Cert.Calls.in_reference,
    Cert.Calls.out_kernel, Cert.Calls.out_ideal, Cert.Calls.out_reference,
    Cert.Calls.dx_kernel, Cert.Calls.dx_ideal, Cert.Calls.dx_reference,
    Cert.Calls.dy_kernel, Cert.Calls.dy_ideal, Cert.Calls.dy_ideal_finite, Cert.Calls.dy_reference, Cert.Calls.dy_reference_finite,
    Cert.Frames.preserves, Cert.Algebraic.algebraic,
    trivial, Cert.DwinIdeal.Call.algebraic,
    trivial, Cert.InIdeal.Call.algebraic,
    trivial, Cert.OutIdeal.Call.algebraic,
    trivial, Cert.DxIdeal.Call.algebraic,
    trivial, Cert.DyIdeal.Call.algebraic⟩

end Cert.Proof

end
